-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite_ffn [hPre_finite_ffn : Cert.Pre_finite_ffn.Facts] (m : (ℓ : Loc Cert.FfnIdeal.nD Cert.FfnIdeal.τ Cert.FfnIdeal.sig) → Buf (Elt Ideal) ℓ) : Prop :=
  ∀ c : Dev Cert.FfnIdeal.nD,
    (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))) = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_finite_ffn [hPre_finite_ffn : Cert.Pre_finite_ffn.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_finite_ffn.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4))) = (fun _ => 1#1)

def Pre_Pair (m : (ℓ : Loc Cert.Pair.nD Cert.Pair.τ Cert.Pair.sig) → Buf (Elt Bits) ℓ) : Prop :=
  True

def Pre_PairIdeal (m : (ℓ : Loc Cert.PairIdeal.nD Cert.PairIdeal.τ Cert.PairIdeal.sig) → Buf (Elt Ideal) ℓ) : Prop :=
  True

def Pre_PairReferenceIdeal (m : (ℓ : Loc Cert.PairReferenceIdeal.nD Cert.PairReferenceIdeal.τ Cert.PairReferenceIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InIdeal_finite_in [hPre_finite_in : Cert.Pre_finite_in.Facts] (m : (ℓ : Loc Cert.InIdeal.nD Cert.InIdeal.τ Cert.InIdeal.sig) → Buf (Elt Ideal) ℓ) : Prop :=
  ∀ c : Dev Cert.InIdeal.nD,
    (Cert.Pre_finite_in.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2))) = (fun _ => 1#1)

def Pre_InReferenceIdeal (m : (ℓ : Loc Cert.InReferenceIdeal.nD Cert.InReferenceIdeal.τ Cert.InReferenceIdeal.sig) → Buf (Elt Ideal) ℓ) : Prop :=
  True

def Pre_InReferenceIdeal_finite_in [hPre_finite_in : Cert.Pre_finite_in.Facts] (m : (ℓ : Loc Cert.InReferenceIdeal.nD Cert.InReferenceIdeal.τ Cert.InReferenceIdeal.sig) → Buf (Elt Ideal) ℓ) : Prop :=
  ∀ c : Dev Cert.InReferenceIdeal.nD,
    (Cert.Pre_finite_in.fn (F := Ideal) (m ((c.tc : Thread Cert.InReferenceIdeal.nD Cert.InReferenceIdeal.τ).loc Cert.InReferenceIdeal.main_arg0)) (m ((c.tc : Thread Cert.InReferenceIdeal.nD Cert.InReferenceIdeal.τ).loc Cert.InReferenceIdeal.main_arg1)) (m ((c.tc : Thread Cert.InReferenceIdeal.nD Cert.InReferenceIdeal.τ).loc Cert.InReferenceIdeal.main_arg2))) = (fun _ => 1#1)

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_DownW (m : (ℓ : Loc Cert.DownW.nD Cert.DownW.τ Cert.DownW.sig) → Buf (Elt Bits) ℓ) : Prop :=
  True

def Pre_DownWIdeal (m : (ℓ : Loc Cert.DownWIdeal.nD Cert.DownWIdeal.τ Cert.DownWIdeal.sig) → Buf (Elt Ideal) ℓ) : Prop :=
  True

def Pre_DownWReferenceIdeal (m : (ℓ : Loc Cert.DownWReferenceIdeal.nD Cert.DownWReferenceIdeal.τ Cert.DownWReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_OutX (m : (ℓ : Loc Cert.OutX.nD Cert.OutX.τ Cert.OutX.sig) → Buf (Elt Bits) ℓ) : Prop :=
  True

def Pre_OutXIdeal (m : (ℓ : Loc Cert.OutXIdeal.nD Cert.OutXIdeal.τ Cert.OutXIdeal.sig) → Buf (Elt Ideal) ℓ) : Prop :=
  True

def Pre_OutXReferenceIdeal (m : (ℓ : Loc Cert.OutXReferenceIdeal.nD Cert.OutXReferenceIdeal.τ Cert.OutXReferenceIdeal.sig) → Buf (Elt Ideal) ℓ) : Prop :=
  True

def Pre_OutW (m : (ℓ : Loc Cert.OutW.nD Cert.OutW.τ Cert.OutW.sig) → Buf (Elt Bits) ℓ) : Prop :=
  True

def Pre_OutWIdeal (m : (ℓ : Loc Cert.OutWIdeal.nD Cert.OutWIdeal.τ Cert.OutWIdeal.sig) → Buf (Elt Ideal) ℓ) : Prop :=
  True

def Pre_OutWReferenceIdeal (m : (ℓ : Loc Cert.OutWReferenceIdeal.nD Cert.OutWReferenceIdeal.τ Cert.OutWReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_ProjX (m : (ℓ : Loc Cert.ProjX.nD Cert.ProjX.τ Cert.ProjX.sig) → Buf (Elt Bits) ℓ) : Prop :=
  True

def Pre_ProjXIdeal (m : (ℓ : Loc Cert.ProjXIdeal.nD Cert.ProjXIdeal.τ Cert.ProjXIdeal.sig) → Buf (Elt Ideal) ℓ) : Prop :=
  True

def Pre_ProjXReferenceIdeal (m : (ℓ : Loc Cert.ProjXReferenceIdeal.nD Cert.ProjXReferenceIdeal.τ Cert.ProjXReferenceIdeal.sig) → Buf (Elt Ideal) ℓ) : Prop :=
  True

def Pre_ProjW (m : (ℓ : Loc Cert.ProjW.nD Cert.ProjW.τ Cert.ProjW.sig) → Buf (Elt Bits) ℓ) : Prop :=
  True

def Pre_ProjWIdeal (m : (ℓ : Loc Cert.ProjWIdeal.nD Cert.ProjWIdeal.τ Cert.ProjWIdeal.sig) → Buf (Elt Ideal) ℓ) : Prop :=
  True

def Pre_ProjWReferenceIdeal (m : (ℓ : Loc Cert.ProjWReferenceIdeal.nD Cert.ProjWReferenceIdeal.τ Cert.ProjWReferenceIdeal.sig) → Buf (Elt Ideal) ℓ) : Prop :=
  True

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdIdeal_finite_fwd [hPre_finite_fwd : Cert.Pre_finite_fwd.Facts] (m : (ℓ : Loc Cert.FwdIdeal.nD Cert.FwdIdeal.τ Cert.FwdIdeal.sig) → Buf (Elt Ideal) ℓ) : Prop :=
  ∀ c : Dev Cert.FwdIdeal.nD,
    (Cert.Pre_finite_fwd.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2))) = (fun _ => 1#1)

def Pre_FwdReferenceIdeal (m : (ℓ : Loc Cert.FwdReferenceIdeal.nD Cert.FwdReferenceIdeal.τ Cert.FwdReferenceIdeal.sig) → Buf (Elt Ideal) ℓ) : Prop :=
  True

def Pre_FwdReferenceIdeal_finite_fwd [hPre_finite_fwd : Cert.Pre_finite_fwd.Facts] (m : (ℓ : Loc Cert.FwdReferenceIdeal.nD Cert.FwdReferenceIdeal.τ Cert.FwdReferenceIdeal.sig) → Buf (Elt Ideal) ℓ) : Prop :=
  ∀ c : Dev Cert.FwdReferenceIdeal.nD,
    (Cert.Pre_finite_fwd.fn (F := Ideal) (m ((c.tc : Thread Cert.FwdReferenceIdeal.nD Cert.FwdReferenceIdeal.τ).loc Cert.FwdReferenceIdeal.main_arg0)) (m ((c.tc : Thread Cert.FwdReferenceIdeal.nD Cert.FwdReferenceIdeal.τ).loc Cert.FwdReferenceIdeal.main_arg1)) (m ((c.tc : Thread Cert.FwdReferenceIdeal.nD Cert.FwdReferenceIdeal.τ).loc Cert.FwdReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnIdeal_pre_finite_ffn [hFfnIdeal : Cert.FfnIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite_ffn m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_FfnReferenceIdeal_pre_finite_ffn [hFfnReferenceIdeal : Cert.FfnReferenceIdeal.Facts] [hPre_finite_ffn : Cert.Pre_finite_ffn.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_finite_ffn m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_Pair [hPair : Cert.Pair.Facts] : Prop :=
  ∀ (m : (ℓ : Loc Cert.Pair.nD Cert.Pair.τ Cert.Pair.sig) → Buf (Elt Bits) ℓ) (g : Dev Cert.Pair.nD → PrngReg), Pre_Pair m →
    θ_run (Cert.Pair.defs (F := Bits)) (onTc (τ := Cert.Pair.τ) (Cert.Pair.main (F := Bits))) ⟨m, fun _ => 0, g⟩ (fun r => (∀ c : Dev Cert.Pair.nD,
      r.2.mem ((c.tc : Thread Cert.Pair.nD Cert.Pair.τ).loc Cert.Pair.main_arg0) = m ((c.tc : Thread Cert.Pair.nD Cert.Pair.τ).loc Cert.Pair.main_arg0)
      ∧ r.2.mem ((c.tc : Thread Cert.Pair.nD Cert.Pair.τ).loc Cert.Pair.main_arg1) = m ((c.tc : Thread Cert.Pair.nD Cert.Pair.τ).loc Cert.Pair.main_arg1)
      ∧ r.2.mem ((c.tc : Thread Cert.Pair.nD Cert.Pair.τ).loc Cert.Pair.main_arg2) = m ((c.tc : Thread Cert.Pair.nD Cert.Pair.τ).loc Cert.Pair.main_arg2))
      ∧ r.2.sem = fun _ => 0)

def quiescent_PairIdeal [hPairIdeal : Cert.PairIdeal.Facts] : Prop :=
  ∀ (m : (ℓ : Loc Cert.PairIdeal.nD Cert.PairIdeal.τ Cert.PairIdeal.sig) → Buf (Elt Ideal) ℓ) (g : Dev Cert.PairIdeal.nD → PrngReg), Pre_PairIdeal m →
    θ_run (Cert.PairIdeal.defs (F := Ideal)) (onTc (τ := Cert.PairIdeal.τ) (Cert.PairIdeal.main (F := Ideal))) ⟨m, fun _ => 0, g⟩ (fun r => (∀ c : Dev Cert.PairIdeal.nD,
      r.2.mem ((c.tc : Thread Cert.PairIdeal.nD Cert.PairIdeal.τ).loc Cert.PairIdeal.main_arg0) = m ((c.tc : Thread Cert.PairIdeal.nD Cert.PairIdeal.τ).loc Cert.PairIdeal.main_arg0)
      ∧ r.2.mem ((c.tc : Thread Cert.PairIdeal.nD Cert.PairIdeal.τ).loc Cert.PairIdeal.main_arg1) = m ((c.tc : Thread Cert.PairIdeal.nD Cert.PairIdeal.τ).loc Cert.PairIdeal.main_arg1)
      ∧ r.2.mem ((c.tc : Thread Cert.PairIdeal.nD Cert.PairIdeal.τ).loc Cert.PairIdeal.main_arg2) = m ((c.tc : Thread Cert.PairIdeal.nD Cert.PairIdeal.τ).loc Cert.PairIdeal.main_arg2))
      ∧ r.2.sem = fun _ => 0)

def quiescent_PairReferenceIdeal [hPairReferenceIdeal : Cert.PairReferenceIdeal.Facts] : Prop :=
  ∀ (m : (ℓ : Loc Cert.PairReferenceIdeal.nD Cert.PairReferenceIdeal.τ Cert.PairReferenceIdeal.sig) → Buf (Elt Ideal) ℓ) (g : Dev Cert.PairReferenceIdeal.nD → PrngReg), Pre_PairReferenceIdeal m →
    θ_run (Cert.PairReferenceIdeal.defs (F := Ideal)) (onTc (τ := Cert.PairReferenceIdeal.τ) (Cert.PairReferenceIdeal.main (F := Ideal))) ⟨m, fun _ => 0, g⟩ (fun r => (∀ c : Dev Cert.PairReferenceIdeal.nD,
      r.2.mem ((c.tc : Thread Cert.PairReferenceIdeal.nD Cert.PairReferenceIdeal.τ).loc Cert.PairReferenceIdeal.main_arg0) = m ((c.tc : Thread Cert.PairReferenceIdeal.nD Cert.PairReferenceIdeal.τ).loc Cert.PairReferenceIdeal.main_arg0)
      ∧ r.2.mem ((c.tc : Thread Cert.PairReferenceIdeal.nD Cert.PairReferenceIdeal.τ).loc Cert.PairReferenceIdeal.main_arg1) = m ((c.tc : Thread Cert.PairReferenceIdeal.nD Cert.PairReferenceIdeal.τ).loc Cert.PairReferenceIdeal.main_arg1)
      ∧ r.2.mem ((c.tc : Thread Cert.PairReferenceIdeal.nD Cert.PairReferenceIdeal.τ).loc Cert.PairReferenceIdeal.main_arg2) = m ((c.tc : Thread Cert.PairReferenceIdeal.nD Cert.PairReferenceIdeal.τ).loc Cert.PairReferenceIdeal.main_arg2))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2))
      ∧ r.2.sem = fun _ => 0)

def quiescent_InIdeal_pre_finite_in [hInIdeal : Cert.InIdeal.Facts] [hPre_finite_in : Cert.Pre_finite_in.Facts] : Prop :=
  ∀ (m : (ℓ : Loc Cert.InIdeal.nD Cert.InIdeal.τ Cert.InIdeal.sig) → Buf (Elt Ideal) ℓ) (g : Dev Cert.InIdeal.nD → PrngReg), Pre_InIdeal_finite_in m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2))
      ∧ r.2.sem = fun _ => 0)

def quiescent_InReferenceIdeal_pre_finite_in [hInReferenceIdeal : Cert.InReferenceIdeal.Facts] [hPre_finite_in : Cert.Pre_finite_in.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal_finite_in m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1))
      ∧ r.2.sem = fun _ => 0)

def quiescent_DownW [hDownW : Cert.DownW.Facts] : Prop :=
  ∀ (m : (ℓ : Loc Cert.DownW.nD Cert.DownW.τ Cert.DownW.sig) → Buf (Elt Bits) ℓ) (g : Dev Cert.DownW.nD → PrngReg), Pre_DownW m →
    θ_run (Cert.DownW.defs (F := Bits)) (onTc (τ := Cert.DownW.τ) (Cert.DownW.main (F := Bits))) ⟨m, fun _ => 0, g⟩ (fun r => (∀ c : Dev Cert.DownW.nD,
      r.2.mem ((c.tc : Thread Cert.DownW.nD Cert.DownW.τ).loc Cert.DownW.main_arg0) = m ((c.tc : Thread Cert.DownW.nD Cert.DownW.τ).loc Cert.DownW.main_arg0)
      ∧ r.2.mem ((c.tc : Thread Cert.DownW.nD Cert.DownW.τ).loc Cert.DownW.main_arg1) = m ((c.tc : Thread Cert.DownW.nD Cert.DownW.τ).loc Cert.DownW.main_arg1))
      ∧ r.2.sem = fun _ => 0)

def quiescent_DownWIdeal [hDownWIdeal : Cert.DownWIdeal.Facts] : Prop :=
  ∀ (m : (ℓ : Loc Cert.DownWIdeal.nD Cert.DownWIdeal.τ Cert.DownWIdeal.sig) → Buf (Elt Ideal) ℓ) (g : Dev Cert.DownWIdeal.nD → PrngReg), Pre_DownWIdeal m →
    θ_run (Cert.DownWIdeal.defs (F := Ideal)) (onTc (τ := Cert.DownWIdeal.τ) (Cert.DownWIdeal.main (F := Ideal))) ⟨m, fun _ => 0, g⟩ (fun r => (∀ c : Dev Cert.DownWIdeal.nD,
      r.2.mem ((c.tc : Thread Cert.DownWIdeal.nD Cert.DownWIdeal.τ).loc Cert.DownWIdeal.main_arg0) = m ((c.tc : Thread Cert.DownWIdeal.nD Cert.DownWIdeal.τ).loc Cert.DownWIdeal.main_arg0)
      ∧ r.2.mem ((c.tc : Thread Cert.DownWIdeal.nD Cert.DownWIdeal.τ).loc Cert.DownWIdeal.main_arg1) = m ((c.tc : Thread Cert.DownWIdeal.nD Cert.DownWIdeal.τ).loc Cert.DownWIdeal.main_arg1))
      ∧ r.2.sem = fun _ => 0)

def quiescent_DownWReferenceIdeal [hDownWReferenceIdeal : Cert.DownWReferenceIdeal.Facts] : Prop :=
  ∀ (m : (ℓ : Loc Cert.DownWReferenceIdeal.nD Cert.DownWReferenceIdeal.τ Cert.DownWReferenceIdeal.sig) → Buf (Elt Ideal) ℓ) (g : Dev Cert.DownWReferenceIdeal.nD → PrngReg), Pre_DownWReferenceIdeal m →
    θ_run (Cert.DownWReferenceIdeal.defs (F := Ideal)) (onTc (τ := Cert.DownWReferenceIdeal.τ) (Cert.DownWReferenceIdeal.main (F := Ideal))) ⟨m, fun _ => 0, g⟩ (fun r => (∀ c : Dev Cert.DownWReferenceIdeal.nD,
      r.2.mem ((c.tc : Thread Cert.DownWReferenceIdeal.nD Cert.DownWReferenceIdeal.τ).loc Cert.DownWReferenceIdeal.main_arg0) = m ((c.tc : Thread Cert.DownWReferenceIdeal.nD Cert.DownWReferenceIdeal.τ).loc Cert.DownWReferenceIdeal.main_arg0)
      ∧ r.2.mem ((c.tc : Thread Cert.DownWReferenceIdeal.nD Cert.DownWReferenceIdeal.τ).loc Cert.DownWReferenceIdeal.main_arg1) = m ((c.tc : Thread Cert.DownWReferenceIdeal.nD Cert.DownWReferenceIdeal.τ).loc Cert.DownWReferenceIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1))
      ∧ r.2.sem = fun _ => 0)

def quiescent_OutX [hOutX : Cert.OutX.Facts] : Prop :=
  ∀ (m : (ℓ : Loc Cert.OutX.nD Cert.OutX.τ Cert.OutX.sig) → Buf (Elt Bits) ℓ) (g : Dev Cert.OutX.nD → PrngReg), Pre_OutX m →
    θ_run (Cert.OutX.defs (F := Bits)) (onTc (τ := Cert.OutX.τ) (Cert.OutX.main (F := Bits))) ⟨m, fun _ => 0, g⟩ (fun r => (∀ c : Dev Cert.OutX.nD,
      r.2.mem ((c.tc : Thread Cert.OutX.nD Cert.OutX.τ).loc Cert.OutX.main_arg0) = m ((c.tc : Thread Cert.OutX.nD Cert.OutX.τ).loc Cert.OutX.main_arg0)
      ∧ r.2.mem ((c.tc : Thread Cert.OutX.nD Cert.OutX.τ).loc Cert.OutX.main_arg1) = m ((c.tc : Thread Cert.OutX.nD Cert.OutX.τ).loc Cert.OutX.main_arg1))
      ∧ r.2.sem = fun _ => 0)

def quiescent_OutXIdeal [hOutXIdeal : Cert.OutXIdeal.Facts] : Prop :=
  ∀ (m : (ℓ : Loc Cert.OutXIdeal.nD Cert.OutXIdeal.τ Cert.OutXIdeal.sig) → Buf (Elt Ideal) ℓ) (g : Dev Cert.OutXIdeal.nD → PrngReg), Pre_OutXIdeal m →
    θ_run (Cert.OutXIdeal.defs (F := Ideal)) (onTc (τ := Cert.OutXIdeal.τ) (Cert.OutXIdeal.main (F := Ideal))) ⟨m, fun _ => 0, g⟩ (fun r => (∀ c : Dev Cert.OutXIdeal.nD,
      r.2.mem ((c.tc : Thread Cert.OutXIdeal.nD Cert.OutXIdeal.τ).loc Cert.OutXIdeal.main_arg0) = m ((c.tc : Thread Cert.OutXIdeal.nD Cert.OutXIdeal.τ).loc Cert.OutXIdeal.main_arg0)
      ∧ r.2.mem ((c.tc : Thread Cert.OutXIdeal.nD Cert.OutXIdeal.τ).loc Cert.OutXIdeal.main_arg1) = m ((c.tc : Thread Cert.OutXIdeal.nD Cert.OutXIdeal.τ).loc Cert.OutXIdeal.main_arg1))
      ∧ r.2.sem = fun _ => 0)

def quiescent_OutXReferenceIdeal [hOutXReferenceIdeal : Cert.OutXReferenceIdeal.Facts] : Prop :=
  ∀ (m : (ℓ : Loc Cert.OutXReferenceIdeal.nD Cert.OutXReferenceIdeal.τ Cert.OutXReferenceIdeal.sig) → Buf (Elt Ideal) ℓ) (g : Dev Cert.OutXReferenceIdeal.nD → PrngReg), Pre_OutXReferenceIdeal m →
    θ_run (Cert.OutXReferenceIdeal.defs (F := Ideal)) (onTc (τ := Cert.OutXReferenceIdeal.τ) (Cert.OutXReferenceIdeal.main (F := Ideal))) ⟨m, fun _ => 0, g⟩ (fun r => (∀ c : Dev Cert.OutXReferenceIdeal.nD,
      r.2.mem ((c.tc : Thread Cert.OutXReferenceIdeal.nD Cert.OutXReferenceIdeal.τ).loc Cert.OutXReferenceIdeal.main_arg0) = m ((c.tc : Thread Cert.OutXReferenceIdeal.nD Cert.OutXReferenceIdeal.τ).loc Cert.OutXReferenceIdeal.main_arg0)
      ∧ r.2.mem ((c.tc : Thread Cert.OutXReferenceIdeal.nD Cert.OutXReferenceIdeal.τ).loc Cert.OutXReferenceIdeal.main_arg1) = m ((c.tc : Thread Cert.OutXReferenceIdeal.nD Cert.OutXReferenceIdeal.τ).loc Cert.OutXReferenceIdeal.main_arg1))
      ∧ r.2.sem = fun _ => 0)

def quiescent_OutW [hOutW : Cert.OutW.Facts] : Prop :=
  ∀ (m : (ℓ : Loc Cert.OutW.nD Cert.OutW.τ Cert.OutW.sig) → Buf (Elt Bits) ℓ) (g : Dev Cert.OutW.nD → PrngReg), Pre_OutW m →
    θ_run (Cert.OutW.defs (F := Bits)) (onTc (τ := Cert.OutW.τ) (Cert.OutW.main (F := Bits))) ⟨m, fun _ => 0, g⟩ (fun r => (∀ c : Dev Cert.OutW.nD,
      r.2.mem ((c.tc : Thread Cert.OutW.nD Cert.OutW.τ).loc Cert.OutW.main_arg0) = m ((c.tc : Thread Cert.OutW.nD Cert.OutW.τ).loc Cert.OutW.main_arg0)
      ∧ r.2.mem ((c.tc : Thread Cert.OutW.nD Cert.OutW.τ).loc Cert.OutW.main_arg1) = m ((c.tc : Thread Cert.OutW.nD Cert.OutW.τ).loc Cert.OutW.main_arg1))
      ∧ r.2.sem = fun _ => 0)

def quiescent_OutWIdeal [hOutWIdeal : Cert.OutWIdeal.Facts] : Prop :=
  ∀ (m : (ℓ : Loc Cert.OutWIdeal.nD Cert.OutWIdeal.τ Cert.OutWIdeal.sig) → Buf (Elt Ideal) ℓ) (g : Dev Cert.OutWIdeal.nD → PrngReg), Pre_OutWIdeal m →
    θ_run (Cert.OutWIdeal.defs (F := Ideal)) (onTc (τ := Cert.OutWIdeal.τ) (Cert.OutWIdeal.main (F := Ideal))) ⟨m, fun _ => 0, g⟩ (fun r => (∀ c : Dev Cert.OutWIdeal.nD,
      r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
      ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1))
      ∧ r.2.sem = fun _ => 0)

def quiescent_OutWReferenceIdeal [hOutWReferenceIdeal : Cert.OutWReferenceIdeal.Facts] : Prop :=
  ∀ (m : (ℓ : Loc Cert.OutWReferenceIdeal.nD Cert.OutWReferenceIdeal.τ Cert.OutWReferenceIdeal.sig) → Buf (Elt Ideal) ℓ) (g : Dev Cert.OutWReferenceIdeal.nD → PrngReg), Pre_OutWReferenceIdeal m →
    θ_run (Cert.OutWReferenceIdeal.defs (F := Ideal)) (onTc (τ := Cert.OutWReferenceIdeal.τ) (Cert.OutWReferenceIdeal.main (F := Ideal))) ⟨m, fun _ => 0, g⟩ (fun r => (∀ c : Dev Cert.OutWReferenceIdeal.nD,
      r.2.mem ((c.tc : Thread Cert.OutWReferenceIdeal.nD Cert.OutWReferenceIdeal.τ).loc Cert.OutWReferenceIdeal.main_arg0) = m ((c.tc : Thread Cert.OutWReferenceIdeal.nD Cert.OutWReferenceIdeal.τ).loc Cert.OutWReferenceIdeal.main_arg0)
      ∧ r.2.mem ((c.tc : Thread Cert.OutWReferenceIdeal.nD Cert.OutWReferenceIdeal.τ).loc Cert.OutWReferenceIdeal.main_arg1) = m ((c.tc : Thread Cert.OutWReferenceIdeal.nD Cert.OutWReferenceIdeal.τ).loc Cert.OutWReferenceIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1))
      ∧ r.2.sem = fun _ => 0)

def quiescent_ProjX [hProjX : Cert.ProjX.Facts] : Prop :=
  ∀ (m : (ℓ : Loc Cert.ProjX.nD Cert.ProjX.τ Cert.ProjX.sig) → Buf (Elt Bits) ℓ) (g : Dev Cert.ProjX.nD → PrngReg), Pre_ProjX m →
    θ_run (Cert.ProjX.defs (F := Bits)) (onTc (τ := Cert.ProjX.τ) (Cert.ProjX.main (F := Bits))) ⟨m, fun _ => 0, g⟩ (fun r => (∀ c : Dev Cert.ProjX.nD,
      r.2.mem ((c.tc : Thread Cert.ProjX.nD Cert.ProjX.τ).loc Cert.ProjX.main_arg0) = m ((c.tc : Thread Cert.ProjX.nD Cert.ProjX.τ).loc Cert.ProjX.main_arg0)
      ∧ r.2.mem ((c.tc : Thread Cert.ProjX.nD Cert.ProjX.τ).loc Cert.ProjX.main_arg1) = m ((c.tc : Thread Cert.ProjX.nD Cert.ProjX.τ).loc Cert.ProjX.main_arg1))
      ∧ r.2.sem = fun _ => 0)

def quiescent_ProjXIdeal [hProjXIdeal : Cert.ProjXIdeal.Facts] : Prop :=
  ∀ (m : (ℓ : Loc Cert.ProjXIdeal.nD Cert.ProjXIdeal.τ Cert.ProjXIdeal.sig) → Buf (Elt Ideal) ℓ) (g : Dev Cert.ProjXIdeal.nD → PrngReg), Pre_ProjXIdeal m →
    θ_run (Cert.ProjXIdeal.defs (F := Ideal)) (onTc (τ := Cert.ProjXIdeal.τ) (Cert.ProjXIdeal.main (F := Ideal))) ⟨m, fun _ => 0, g⟩ (fun r => (∀ c : Dev Cert.ProjXIdeal.nD,
      r.2.mem ((c.tc : Thread Cert.ProjXIdeal.nD Cert.ProjXIdeal.τ).loc Cert.ProjXIdeal.main_arg0) = m ((c.tc : Thread Cert.ProjXIdeal.nD Cert.ProjXIdeal.τ).loc Cert.ProjXIdeal.main_arg0)
      ∧ r.2.mem ((c.tc : Thread Cert.ProjXIdeal.nD Cert.ProjXIdeal.τ).loc Cert.ProjXIdeal.main_arg1) = m ((c.tc : Thread Cert.ProjXIdeal.nD Cert.ProjXIdeal.τ).loc Cert.ProjXIdeal.main_arg1))
      ∧ r.2.sem = fun _ => 0)

def quiescent_ProjXReferenceIdeal [hProjXReferenceIdeal : Cert.ProjXReferenceIdeal.Facts] : Prop :=
  ∀ (m : (ℓ : Loc Cert.ProjXReferenceIdeal.nD Cert.ProjXReferenceIdeal.τ Cert.ProjXReferenceIdeal.sig) → Buf (Elt Ideal) ℓ) (g : Dev Cert.ProjXReferenceIdeal.nD → PrngReg), Pre_ProjXReferenceIdeal m →
    θ_run (Cert.ProjXReferenceIdeal.defs (F := Ideal)) (onTc (τ := Cert.ProjXReferenceIdeal.τ) (Cert.ProjXReferenceIdeal.main (F := Ideal))) ⟨m, fun _ => 0, g⟩ (fun r => (∀ c : Dev Cert.ProjXReferenceIdeal.nD,
      r.2.mem ((c.tc : Thread Cert.ProjXReferenceIdeal.nD Cert.ProjXReferenceIdeal.τ).loc Cert.ProjXReferenceIdeal.main_arg0) = m ((c.tc : Thread Cert.ProjXReferenceIdeal.nD Cert.ProjXReferenceIdeal.τ).loc Cert.ProjXReferenceIdeal.main_arg0)
      ∧ r.2.mem ((c.tc : Thread Cert.ProjXReferenceIdeal.nD Cert.ProjXReferenceIdeal.τ).loc Cert.ProjXReferenceIdeal.main_arg1) = m ((c.tc : Thread Cert.ProjXReferenceIdeal.nD Cert.ProjXReferenceIdeal.τ).loc Cert.ProjXReferenceIdeal.main_arg1))
      ∧ r.2.sem = fun _ => 0)

def quiescent_ProjW [hProjW : Cert.ProjW.Facts] : Prop :=
  ∀ (m : (ℓ : Loc Cert.ProjW.nD Cert.ProjW.τ Cert.ProjW.sig) → Buf (Elt Bits) ℓ) (g : Dev Cert.ProjW.nD → PrngReg), Pre_ProjW m →
    θ_run (Cert.ProjW.defs (F := Bits)) (onTc (τ := Cert.ProjW.τ) (Cert.ProjW.main (F := Bits))) ⟨m, fun _ => 0, g⟩ (fun r => (∀ c : Dev Cert.ProjW.nD,
      r.2.mem ((c.tc : Thread Cert.ProjW.nD Cert.ProjW.τ).loc Cert.ProjW.main_arg0) = m ((c.tc : Thread Cert.ProjW.nD Cert.ProjW.τ).loc Cert.ProjW.main_arg0)
      ∧ r.2.mem ((c.tc : Thread Cert.ProjW.nD Cert.ProjW.τ).loc Cert.ProjW.main_arg1) = m ((c.tc : Thread Cert.ProjW.nD Cert.ProjW.τ).loc Cert.ProjW.main_arg1))
      ∧ r.2.sem = fun _ => 0)

def quiescent_ProjWIdeal [hProjWIdeal : Cert.ProjWIdeal.Facts] : Prop :=
  ∀ (m : (ℓ : Loc Cert.ProjWIdeal.nD Cert.ProjWIdeal.τ Cert.ProjWIdeal.sig) → Buf (Elt Ideal) ℓ) (g : Dev Cert.ProjWIdeal.nD → PrngReg), Pre_ProjWIdeal m →
    θ_run (Cert.ProjWIdeal.defs (F := Ideal)) (onTc (τ := Cert.ProjWIdeal.τ) (Cert.ProjWIdeal.main (F := Ideal))) ⟨m, fun _ => 0, g⟩ (fun r => (∀ c : Dev Cert.ProjWIdeal.nD,
      r.2.mem ((c.tc : Thread Cert.ProjWIdeal.nD Cert.ProjWIdeal.τ).loc Cert.ProjWIdeal.main_arg0) = m ((c.tc : Thread Cert.ProjWIdeal.nD Cert.ProjWIdeal.τ).loc Cert.ProjWIdeal.main_arg0)
      ∧ r.2.mem ((c.tc : Thread Cert.ProjWIdeal.nD Cert.ProjWIdeal.τ).loc Cert.ProjWIdeal.main_arg1) = m ((c.tc : Thread Cert.ProjWIdeal.nD Cert.ProjWIdeal.τ).loc Cert.ProjWIdeal.main_arg1))
      ∧ r.2.sem = fun _ => 0)

def quiescent_ProjWReferenceIdeal [hProjWReferenceIdeal : Cert.ProjWReferenceIdeal.Facts] : Prop :=
  ∀ (m : (ℓ : Loc Cert.ProjWReferenceIdeal.nD Cert.ProjWReferenceIdeal.τ Cert.ProjWReferenceIdeal.sig) → Buf (Elt Ideal) ℓ) (g : Dev Cert.ProjWReferenceIdeal.nD → PrngReg), Pre_ProjWReferenceIdeal m →
    θ_run (Cert.ProjWReferenceIdeal.defs (F := Ideal)) (onTc (τ := Cert.ProjWReferenceIdeal.τ) (Cert.ProjWReferenceIdeal.main (F := Ideal))) ⟨m, fun _ => 0, g⟩ (fun r => (∀ c : Dev Cert.ProjWReferenceIdeal.nD,
      r.2.mem ((c.tc : Thread Cert.ProjWReferenceIdeal.nD Cert.ProjWReferenceIdeal.τ).loc Cert.ProjWReferenceIdeal.main_arg0) = m ((c.tc : Thread Cert.ProjWReferenceIdeal.nD Cert.ProjWReferenceIdeal.τ).loc Cert.ProjWReferenceIdeal.main_arg0)
      ∧ r.2.mem ((c.tc : Thread Cert.ProjWReferenceIdeal.nD Cert.ProjWReferenceIdeal.τ).loc Cert.ProjWReferenceIdeal.main_arg1) = m ((c.tc : Thread Cert.ProjWReferenceIdeal.nD Cert.ProjWReferenceIdeal.τ).loc Cert.ProjWReferenceIdeal.main_arg1))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ r.2.sem = fun _ => 0)

def quiescent_FwdIdeal_pre_finite_fwd [hFwdIdeal : Cert.FwdIdeal.Facts] [hPre_finite_fwd : Cert.Pre_finite_fwd.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal_finite_fwd m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ r.2.sem = fun _ => 0)

def quiescent_FwdReferenceIdeal [hFwdReferenceIdeal : Cert.FwdReferenceIdeal.Facts] : Prop :=
  ∀ (m : (ℓ : Loc Cert.FwdReferenceIdeal.nD Cert.FwdReferenceIdeal.τ Cert.FwdReferenceIdeal.sig) → Buf (Elt Ideal) ℓ) (g : Dev Cert.FwdReferenceIdeal.nD → PrngReg), Pre_FwdReferenceIdeal m →
    θ_run (Cert.FwdReferenceIdeal.defs (F := Ideal)) (onTc (τ := Cert.FwdReferenceIdeal.τ) (Cert.FwdReferenceIdeal.main (F := Ideal))) ⟨m, fun _ => 0, g⟩ (fun r => (∀ c : Dev Cert.FwdReferenceIdeal.nD,
      r.2.mem ((c.tc : Thread Cert.FwdReferenceIdeal.nD Cert.FwdReferenceIdeal.τ).loc Cert.FwdReferenceIdeal.main_arg0) = m ((c.tc : Thread Cert.FwdReferenceIdeal.nD Cert.FwdReferenceIdeal.τ).loc Cert.FwdReferenceIdeal.main_arg0)
      ∧ r.2.mem ((c.tc : Thread Cert.FwdReferenceIdeal.nD Cert.FwdReferenceIdeal.τ).loc Cert.FwdReferenceIdeal.main_arg1) = m ((c.tc : Thread Cert.FwdReferenceIdeal.nD Cert.FwdReferenceIdeal.τ).loc Cert.FwdReferenceIdeal.main_arg1)
      ∧ r.2.mem ((c.tc : Thread Cert.FwdReferenceIdeal.nD Cert.FwdReferenceIdeal.τ).loc Cert.FwdReferenceIdeal.main_arg2) = m ((c.tc : Thread Cert.FwdReferenceIdeal.nD Cert.FwdReferenceIdeal.τ).loc Cert.FwdReferenceIdeal.main_arg2))
      ∧ r.2.sem = fun _ => 0)

def quiescent_FwdReferenceIdeal_pre_finite_fwd [hFwdReferenceIdeal : Cert.FwdReferenceIdeal.Facts] [hPre_finite_fwd : Cert.Pre_finite_fwd.Facts] : Prop :=
  ∀ (m : (ℓ : Loc Cert.FwdReferenceIdeal.nD Cert.FwdReferenceIdeal.τ Cert.FwdReferenceIdeal.sig) → Buf (Elt Ideal) ℓ) (g : Dev Cert.FwdReferenceIdeal.nD → PrngReg), Pre_FwdReferenceIdeal_finite_fwd m →
    θ_run (Cert.FwdReferenceIdeal.defs (F := Ideal)) (onTc (τ := Cert.FwdReferenceIdeal.τ) (Cert.FwdReferenceIdeal.main (F := Ideal))) ⟨m, fun _ => 0, g⟩ (fun r => (∀ c : Dev Cert.FwdReferenceIdeal.nD,
      r.2.mem ((c.tc : Thread Cert.FwdReferenceIdeal.nD Cert.FwdReferenceIdeal.τ).loc Cert.FwdReferenceIdeal.main_arg0) = m ((c.tc : Thread Cert.FwdReferenceIdeal.nD Cert.FwdReferenceIdeal.τ).loc Cert.FwdReferenceIdeal.main_arg0)
      ∧ r.2.mem ((c.tc : Thread Cert.FwdReferenceIdeal.nD Cert.FwdReferenceIdeal.τ).loc Cert.FwdReferenceIdeal.main_arg1) = m ((c.tc : Thread Cert.FwdReferenceIdeal.nD Cert.FwdReferenceIdeal.τ).loc Cert.FwdReferenceIdeal.main_arg1)
      ∧ r.2.mem ((c.tc : Thread Cert.FwdReferenceIdeal.nD Cert.FwdReferenceIdeal.τ).loc Cert.FwdReferenceIdeal.main_arg2) = m ((c.tc : Thread Cert.FwdReferenceIdeal.nD Cert.FwdReferenceIdeal.τ).loc Cert.FwdReferenceIdeal.main_arg2))
      ∧ r.2.sem = fun _ => 0)

def preserves_Kernel_KernelIdeal : Prop :=
  IdealRules.named_const.Statement Cert.KernelIdeal.κ "ln2" .f32 0x3F317218#32 ((Real.log 2 : ℝ) : EReal)
  ∧ IdealRules.named_const.Statement Cert.KernelIdeal.κ "qscale" .f32 0x3DD53B95#32 (((Real.log 2)⁻¹ * (Real.sqrt 192)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v55_0)) (v1 : (c : Dev Cert.KernelIdeal.nD) → Buf (Elt Ideal) ((c.tc : Thread Cert.KernelIdeal.nD Cert.KernelIdeal.τ).loc Cert.KernelIdeal.main_v55_1)) (v2 : (c : Dev Cert.KernelIdeal.nD) → Buf (Elt Ideal) ((c.tc : Thread Cert.KernelIdeal.nD Cert.KernelIdeal.τ).loc Cert.KernelIdeal.main_v55_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55_0) = v0 c
          ∧ r.2.mem ((c.tc : Thread Cert.KernelIdeal.nD Cert.KernelIdeal.τ).loc Cert.KernelIdeal.main_v55_1) = v1 c
          ∧ r.2.mem ((c.tc : Thread Cert.KernelIdeal.nD Cert.KernelIdeal.τ).loc Cert.KernelIdeal.main_v55_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_v69) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Ffn_FfnIdeal : Prop :=
  True

def algebraic_FfnIdeal_FfnReferenceIdeal_pre_finite_ffn [hFfnIdeal : Cert.FfnIdeal.Facts] [hFfnReferenceIdeal : Cert.FfnReferenceIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal_finite_ffn m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v16_0)) (v1 : (c : Dev Cert.FfnIdeal.nD) → Buf (Elt Ideal) ((c.tc : Thread Cert.FfnIdeal.nD Cert.FfnIdeal.τ).loc Cert.FfnIdeal.main_v16_1)) (v2 : (c : Dev Cert.FfnIdeal.nD) → Buf (Elt Ideal) ((c.tc : Thread Cert.FfnIdeal.nD Cert.FfnIdeal.τ).loc Cert.FfnIdeal.main_v16_2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v16_0) = v0 c
          ∧ r.2.mem ((c.tc : Thread Cert.FfnIdeal.nD Cert.FfnIdeal.τ).loc Cert.FfnIdeal.main_v16_1) = v1 c
          ∧ r.2.mem ((c.tc : Thread Cert.FfnIdeal.nD Cert.FfnIdeal.τ).loc Cert.FfnIdeal.main_v16_2) = v2 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v21) = v0 c
          ∧ r.2.mem ((c.tc : Thread Cert.FfnReferenceIdeal.nD Cert.FfnReferenceIdeal.τ).loc Cert.FfnReferenceIdeal.main_v22) = v1 c
          ∧ r.2.mem ((c.tc : Thread Cert.FfnReferenceIdeal.nD Cert.FfnReferenceIdeal.τ).loc Cert.FfnReferenceIdeal.main_v23) = v2 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_Pair_PairIdeal : Prop :=
  True

def algebraic_PairIdeal_PairReferenceIdeal [hPairIdeal : Cert.PairIdeal.Facts] [hPairReferenceIdeal : Cert.PairReferenceIdeal.Facts] : Prop :=
  ∀ (m : (ℓ : Loc Cert.PairIdeal.nD Cert.PairIdeal.τ Cert.PairIdeal.sig) → Buf (Elt Ideal) ℓ) (g : Dev Cert.PairIdeal.nD → PrngReg)
    (m' : (ℓ : Loc Cert.PairReferenceIdeal.nD Cert.PairReferenceIdeal.τ Cert.PairReferenceIdeal.sig) → Buf (Elt Ideal) ℓ) (g' : Dev Cert.PairReferenceIdeal.nD → PrngReg), Pre_PairIdeal m →
    (∀ c : Dev Cert.PairIdeal.nD,
      m' ((c.tc : Thread Cert.PairReferenceIdeal.nD Cert.PairReferenceIdeal.τ).loc Cert.PairReferenceIdeal.main_arg0) = m ((c.tc : Thread Cert.PairIdeal.nD Cert.PairIdeal.τ).loc Cert.PairIdeal.main_arg0)
      ∧ m' ((c.tc : Thread Cert.PairReferenceIdeal.nD Cert.PairReferenceIdeal.τ).loc Cert.PairReferenceIdeal.main_arg1) = m ((c.tc : Thread Cert.PairIdeal.nD Cert.PairIdeal.τ).loc Cert.PairIdeal.main_arg1)
      ∧ m' ((c.tc : Thread Cert.PairReferenceIdeal.nD Cert.PairReferenceIdeal.τ).loc Cert.PairReferenceIdeal.main_arg2) = m ((c.tc : Thread Cert.PairIdeal.nD Cert.PairIdeal.τ).loc Cert.PairIdeal.main_arg2)) →
    ∃ (v0 : (c : Dev Cert.PairIdeal.nD) → Buf (Elt Ideal) ((c.tc : Thread Cert.PairIdeal.nD Cert.PairIdeal.τ).loc Cert.PairIdeal.main_v3_0)) (v1 : (c : Dev Cert.PairIdeal.nD) → Buf (Elt Ideal) ((c.tc : Thread Cert.PairIdeal.nD Cert.PairIdeal.τ).loc Cert.PairIdeal.main_v3_1)),
      θ_run (Cert.PairIdeal.defs (F := Ideal)) (onTc (τ := Cert.PairIdeal.τ) (Cert.PairIdeal.main (F := Ideal))) ⟨m, fun _ => 0, g⟩ (fun r => ∀ c : Dev Cert.PairIdeal.nD,
          r.2.mem ((c.tc : Thread Cert.PairIdeal.nD Cert.PairIdeal.τ).loc Cert.PairIdeal.main_v3_0) = v0 c
          ∧ r.2.mem ((c.tc : Thread Cert.PairIdeal.nD Cert.PairIdeal.τ).loc Cert.PairIdeal.main_v3_1) = v1 c
          ∧ r.2.mem ((c.tc : Thread Cert.PairIdeal.nD Cert.PairIdeal.τ).loc Cert.PairIdeal.main_arg0) = m ((c.tc : Thread Cert.PairIdeal.nD Cert.PairIdeal.τ).loc Cert.PairIdeal.main_arg0)
          ∧ r.2.mem ((c.tc : Thread Cert.PairIdeal.nD Cert.PairIdeal.τ).loc Cert.PairIdeal.main_arg1) = m ((c.tc : Thread Cert.PairIdeal.nD Cert.PairIdeal.τ).loc Cert.PairIdeal.main_arg1)
          ∧ r.2.mem ((c.tc : Thread Cert.PairIdeal.nD Cert.PairIdeal.τ).loc Cert.PairIdeal.main_arg2) = m ((c.tc : Thread Cert.PairIdeal.nD Cert.PairIdeal.τ).loc Cert.PairIdeal.main_arg2))
      ∧ θ_run (Cert.PairReferenceIdeal.defs (F := Ideal)) (onTc (τ := Cert.PairReferenceIdeal.τ) (Cert.PairReferenceIdeal.main (F := Ideal))) ⟨m', fun _ => 0, g'⟩ (fun r => ∀ c : Dev Cert.PairReferenceIdeal.nD,
          r.2.mem ((c.tc : Thread Cert.PairReferenceIdeal.nD Cert.PairReferenceIdeal.τ).loc Cert.PairReferenceIdeal.main_v5) = v0 c
          ∧ r.2.mem ((c.tc : Thread Cert.PairReferenceIdeal.nD Cert.PairReferenceIdeal.τ).loc Cert.PairReferenceIdeal.main_v10) = v1 c
          ∧ r.2.mem ((c.tc : Thread Cert.PairReferenceIdeal.nD Cert.PairReferenceIdeal.τ).loc Cert.PairReferenceIdeal.main_arg0) = m' ((c.tc : Thread Cert.PairReferenceIdeal.nD Cert.PairReferenceIdeal.τ).loc Cert.PairReferenceIdeal.main_arg0)
          ∧ r.2.mem ((c.tc : Thread Cert.PairReferenceIdeal.nD Cert.PairReferenceIdeal.τ).loc Cert.PairReferenceIdeal.main_arg1) = m' ((c.tc : Thread Cert.PairReferenceIdeal.nD Cert.PairReferenceIdeal.τ).loc Cert.PairReferenceIdeal.main_arg1)
          ∧ r.2.mem ((c.tc : Thread Cert.PairReferenceIdeal.nD Cert.PairReferenceIdeal.τ).loc Cert.PairReferenceIdeal.main_arg2) = m' ((c.tc : Thread Cert.PairReferenceIdeal.nD Cert.PairReferenceIdeal.τ).loc Cert.PairReferenceIdeal.main_arg2))

def preserves_In_InIdeal : Prop :=
  True

def algebraic_InIdeal_InReferenceIdeal_pre_finite_in [hInIdeal : Cert.InIdeal.Facts] [hInReferenceIdeal : Cert.InReferenceIdeal.Facts] [hPre_finite_in : Cert.Pre_finite_in.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InIdeal_finite_in m →
    (∀ c : Dev Cert.InIdeal.nD,
      m' ((c.tc : Thread Cert.InReferenceIdeal.nD Cert.InReferenceIdeal.τ).loc Cert.InReferenceIdeal.main_arg0) = m ((c.tc : Thread Cert.InIdeal.nD Cert.InIdeal.τ).loc Cert.InIdeal.main_arg0)
      ∧ m' ((c.tc : Thread Cert.InReferenceIdeal.nD Cert.InReferenceIdeal.τ).loc Cert.InReferenceIdeal.main_arg1) = m ((c.tc : Thread Cert.InIdeal.nD Cert.InIdeal.τ).loc Cert.InIdeal.main_arg1)
      ∧ m' ((c.tc : Thread Cert.InReferenceIdeal.nD Cert.InReferenceIdeal.τ).loc Cert.InReferenceIdeal.main_arg2) = m ((c.tc : Thread Cert.InIdeal.nD Cert.InIdeal.τ).loc Cert.InIdeal.main_arg2)) →
    ∃ (v0 : (c : Dev Cert.InIdeal.nD) → Buf (Elt Ideal) ((c.tc : Thread Cert.InIdeal.nD Cert.InIdeal.τ).loc Cert.InIdeal.main_v5_0)) (v1 : (c : Dev Cert.InIdeal.nD) → Buf (Elt Ideal) ((c.tc : Thread Cert.InIdeal.nD Cert.InIdeal.τ).loc Cert.InIdeal.main_v5_1)) (v2 : (c : Dev Cert.InIdeal.nD) → Buf (Elt Ideal) ((c.tc : Thread Cert.InIdeal.nD Cert.InIdeal.τ).loc Cert.InIdeal.main_v5_2)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v5_0) = v0 c
          ∧ r.2.mem ((c.tc : Thread Cert.InIdeal.nD Cert.InIdeal.τ).loc Cert.InIdeal.main_v5_1) = v1 c
          ∧ r.2.mem ((c.tc : Thread Cert.InIdeal.nD Cert.InIdeal.τ).loc Cert.InIdeal.main_v5_2) = v2 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v8) = v0 c
          ∧ r.2.mem ((c.tc : Thread Cert.InReferenceIdeal.nD Cert.InReferenceIdeal.τ).loc Cert.InReferenceIdeal.main_v9) = v1 c
          ∧ r.2.mem ((c.tc : Thread Cert.InReferenceIdeal.nD Cert.InReferenceIdeal.τ).loc Cert.InReferenceIdeal.main_v10) = v2 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v1) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1))

def preserves_DownW_DownWIdeal : Prop :=
  True

def algebraic_DownWIdeal_DownWReferenceIdeal [hDownWIdeal : Cert.DownWIdeal.Facts] [hDownWReferenceIdeal : Cert.DownWReferenceIdeal.Facts] : Prop :=
  ∀ (m : (ℓ : Loc Cert.DownWIdeal.nD Cert.DownWIdeal.τ Cert.DownWIdeal.sig) → Buf (Elt Ideal) ℓ) (g : Dev Cert.DownWIdeal.nD → PrngReg)
    (m' : (ℓ : Loc Cert.DownWReferenceIdeal.nD Cert.DownWReferenceIdeal.τ Cert.DownWReferenceIdeal.sig) → Buf (Elt Ideal) ℓ) (g' : Dev Cert.DownWReferenceIdeal.nD → PrngReg), Pre_DownWIdeal m →
    (∀ c : Dev Cert.DownWIdeal.nD,
      m' ((c.tc : Thread Cert.DownWReferenceIdeal.nD Cert.DownWReferenceIdeal.τ).loc Cert.DownWReferenceIdeal.main_arg0) = m ((c.tc : Thread Cert.DownWIdeal.nD Cert.DownWIdeal.τ).loc Cert.DownWIdeal.main_arg0)
      ∧ m' ((c.tc : Thread Cert.DownWReferenceIdeal.nD Cert.DownWReferenceIdeal.τ).loc Cert.DownWReferenceIdeal.main_arg1) = m ((c.tc : Thread Cert.DownWIdeal.nD Cert.DownWIdeal.τ).loc Cert.DownWIdeal.main_arg1)) →
    ∃ (v0 : (c : Dev Cert.DownWIdeal.nD) → Buf (Elt Ideal) ((c.tc : Thread Cert.DownWIdeal.nD Cert.DownWIdeal.τ).loc Cert.DownWIdeal.main_v2)),
      θ_run (Cert.DownWIdeal.defs (F := Ideal)) (onTc (τ := Cert.DownWIdeal.τ) (Cert.DownWIdeal.main (F := Ideal))) ⟨m, fun _ => 0, g⟩ (fun r => ∀ c : Dev Cert.DownWIdeal.nD,
          r.2.mem ((c.tc : Thread Cert.DownWIdeal.nD Cert.DownWIdeal.τ).loc Cert.DownWIdeal.main_v2) = v0 c
          ∧ r.2.mem ((c.tc : Thread Cert.DownWIdeal.nD Cert.DownWIdeal.τ).loc Cert.DownWIdeal.main_arg0) = m ((c.tc : Thread Cert.DownWIdeal.nD Cert.DownWIdeal.τ).loc Cert.DownWIdeal.main_arg0)
          ∧ r.2.mem ((c.tc : Thread Cert.DownWIdeal.nD Cert.DownWIdeal.τ).loc Cert.DownWIdeal.main_arg1) = m ((c.tc : Thread Cert.DownWIdeal.nD Cert.DownWIdeal.τ).loc Cert.DownWIdeal.main_arg1))
      ∧ θ_run (Cert.DownWReferenceIdeal.defs (F := Ideal)) (onTc (τ := Cert.DownWReferenceIdeal.τ) (Cert.DownWReferenceIdeal.main (F := Ideal))) ⟨m', fun _ => 0, g'⟩ (fun r => ∀ c : Dev Cert.DownWReferenceIdeal.nD,
          r.2.mem ((c.tc : Thread Cert.DownWReferenceIdeal.nD Cert.DownWReferenceIdeal.τ).loc Cert.DownWReferenceIdeal.main_v4) = v0 c
          ∧ r.2.mem ((c.tc : Thread Cert.DownWReferenceIdeal.nD Cert.DownWReferenceIdeal.τ).loc Cert.DownWReferenceIdeal.main_arg0) = m' ((c.tc : Thread Cert.DownWReferenceIdeal.nD Cert.DownWReferenceIdeal.τ).loc Cert.DownWReferenceIdeal.main_arg0)
          ∧ r.2.mem ((c.tc : Thread Cert.DownWReferenceIdeal.nD Cert.DownWReferenceIdeal.τ).loc Cert.DownWReferenceIdeal.main_arg1) = m' ((c.tc : Thread Cert.DownWReferenceIdeal.nD Cert.DownWReferenceIdeal.τ).loc Cert.DownWReferenceIdeal.main_arg1))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v1) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1))

def preserves_OutX_OutXIdeal : Prop :=
  True

def algebraic_OutXIdeal_OutXReferenceIdeal [hOutXIdeal : Cert.OutXIdeal.Facts] [hOutXReferenceIdeal : Cert.OutXReferenceIdeal.Facts] : Prop :=
  ∀ (m : (ℓ : Loc Cert.OutXIdeal.nD Cert.OutXIdeal.τ Cert.OutXIdeal.sig) → Buf (Elt Ideal) ℓ) (g : Dev Cert.OutXIdeal.nD → PrngReg)
    (m' : (ℓ : Loc Cert.OutXReferenceIdeal.nD Cert.OutXReferenceIdeal.τ Cert.OutXReferenceIdeal.sig) → Buf (Elt Ideal) ℓ) (g' : Dev Cert.OutXReferenceIdeal.nD → PrngReg), Pre_OutXIdeal m →
    (∀ c : Dev Cert.OutXIdeal.nD,
      m' ((c.tc : Thread Cert.OutXReferenceIdeal.nD Cert.OutXReferenceIdeal.τ).loc Cert.OutXReferenceIdeal.main_arg0) = m ((c.tc : Thread Cert.OutXIdeal.nD Cert.OutXIdeal.τ).loc Cert.OutXIdeal.main_arg0)
      ∧ m' ((c.tc : Thread Cert.OutXReferenceIdeal.nD Cert.OutXReferenceIdeal.τ).loc Cert.OutXReferenceIdeal.main_arg1) = m ((c.tc : Thread Cert.OutXIdeal.nD Cert.OutXIdeal.τ).loc Cert.OutXIdeal.main_arg1)) →
    ∃ (v0 : (c : Dev Cert.OutXIdeal.nD) → Buf (Elt Ideal) ((c.tc : Thread Cert.OutXIdeal.nD Cert.OutXIdeal.τ).loc Cert.OutXIdeal.main_v2)),
      θ_run (Cert.OutXIdeal.defs (F := Ideal)) (onTc (τ := Cert.OutXIdeal.τ) (Cert.OutXIdeal.main (F := Ideal))) ⟨m, fun _ => 0, g⟩ (fun r => ∀ c : Dev Cert.OutXIdeal.nD,
          r.2.mem ((c.tc : Thread Cert.OutXIdeal.nD Cert.OutXIdeal.τ).loc Cert.OutXIdeal.main_v2) = v0 c
          ∧ r.2.mem ((c.tc : Thread Cert.OutXIdeal.nD Cert.OutXIdeal.τ).loc Cert.OutXIdeal.main_arg0) = m ((c.tc : Thread Cert.OutXIdeal.nD Cert.OutXIdeal.τ).loc Cert.OutXIdeal.main_arg0)
          ∧ r.2.mem ((c.tc : Thread Cert.OutXIdeal.nD Cert.OutXIdeal.τ).loc Cert.OutXIdeal.main_arg1) = m ((c.tc : Thread Cert.OutXIdeal.nD Cert.OutXIdeal.τ).loc Cert.OutXIdeal.main_arg1))
      ∧ θ_run (Cert.OutXReferenceIdeal.defs (F := Ideal)) (onTc (τ := Cert.OutXReferenceIdeal.τ) (Cert.OutXReferenceIdeal.main (F := Ideal))) ⟨m', fun _ => 0, g'⟩ (fun r => ∀ c : Dev Cert.OutXReferenceIdeal.nD,
          r.2.mem ((c.tc : Thread Cert.OutXReferenceIdeal.nD Cert.OutXReferenceIdeal.τ).loc Cert.OutXReferenceIdeal.main_v3) = v0 c
          ∧ r.2.mem ((c.tc : Thread Cert.OutXReferenceIdeal.nD Cert.OutXReferenceIdeal.τ).loc Cert.OutXReferenceIdeal.main_arg0) = m' ((c.tc : Thread Cert.OutXReferenceIdeal.nD Cert.OutXReferenceIdeal.τ).loc Cert.OutXReferenceIdeal.main_arg0)
          ∧ r.2.mem ((c.tc : Thread Cert.OutXReferenceIdeal.nD Cert.OutXReferenceIdeal.τ).loc Cert.OutXReferenceIdeal.main_arg1) = m' ((c.tc : Thread Cert.OutXReferenceIdeal.nD Cert.OutXReferenceIdeal.τ).loc Cert.OutXReferenceIdeal.main_arg1))

def preserves_OutW_OutWIdeal : Prop :=
  True

def algebraic_OutWIdeal_OutWReferenceIdeal [hOutWIdeal : Cert.OutWIdeal.Facts] [hOutWReferenceIdeal : Cert.OutWReferenceIdeal.Facts] : Prop :=
  ∀ (m : (ℓ : Loc Cert.OutWIdeal.nD Cert.OutWIdeal.τ Cert.OutWIdeal.sig) → Buf (Elt Ideal) ℓ) (g : Dev Cert.OutWIdeal.nD → PrngReg)
    (m' : (ℓ : Loc Cert.OutWReferenceIdeal.nD Cert.OutWReferenceIdeal.τ Cert.OutWReferenceIdeal.sig) → Buf (Elt Ideal) ℓ) (g' : Dev Cert.OutWReferenceIdeal.nD → PrngReg), Pre_OutWIdeal m →
    (∀ c : Dev Cert.OutWIdeal.nD,
      m' ((c.tc : Thread Cert.OutWReferenceIdeal.nD Cert.OutWReferenceIdeal.τ).loc Cert.OutWReferenceIdeal.main_arg0) = m ((c.tc : Thread Cert.OutWIdeal.nD Cert.OutWIdeal.τ).loc Cert.OutWIdeal.main_arg0)
      ∧ m' ((c.tc : Thread Cert.OutWReferenceIdeal.nD Cert.OutWReferenceIdeal.τ).loc Cert.OutWReferenceIdeal.main_arg1) = m ((c.tc : Thread Cert.OutWIdeal.nD Cert.OutWIdeal.τ).loc Cert.OutWIdeal.main_arg1)) →
    ∃ (v0 : (c : Dev Cert.OutWIdeal.nD) → Buf (Elt Ideal) ((c.tc : Thread Cert.OutWIdeal.nD Cert.OutWIdeal.τ).loc Cert.OutWIdeal.main_v2)),
      θ_run (Cert.OutWIdeal.defs (F := Ideal)) (onTc (τ := Cert.OutWIdeal.τ) (Cert.OutWIdeal.main (F := Ideal))) ⟨m, fun _ => 0, g⟩ (fun r => ∀ c : Dev Cert.OutWIdeal.nD,
          r.2.mem ((c.tc : Thread Cert.OutWIdeal.nD Cert.OutWIdeal.τ).loc Cert.OutWIdeal.main_v2) = v0 c
          ∧ r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
          ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1))
      ∧ θ_run (Cert.OutWReferenceIdeal.defs (F := Ideal)) (onTc (τ := Cert.OutWReferenceIdeal.τ) (Cert.OutWReferenceIdeal.main (F := Ideal))) ⟨m', fun _ => 0, g'⟩ (fun r => ∀ c : Dev Cert.OutWReferenceIdeal.nD,
          r.2.mem ((c.tc : Thread Cert.OutWReferenceIdeal.nD Cert.OutWReferenceIdeal.τ).loc Cert.OutWReferenceIdeal.main_v4) = v0 c
          ∧ r.2.mem ((c.tc : Thread Cert.OutWReferenceIdeal.nD Cert.OutWReferenceIdeal.τ).loc Cert.OutWReferenceIdeal.main_arg0) = m' ((c.tc : Thread Cert.OutWReferenceIdeal.nD Cert.OutWReferenceIdeal.τ).loc Cert.OutWReferenceIdeal.main_arg0)
          ∧ r.2.mem ((c.tc : Thread Cert.OutWReferenceIdeal.nD Cert.OutWReferenceIdeal.τ).loc Cert.OutWReferenceIdeal.main_arg1) = m' ((c.tc : Thread Cert.OutWReferenceIdeal.nD Cert.OutWReferenceIdeal.τ).loc Cert.OutWReferenceIdeal.main_arg1))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v10)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v10) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v8) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1))

def preserves_ProjX_ProjXIdeal : Prop :=
  True

def algebraic_ProjXIdeal_ProjXReferenceIdeal [hProjXIdeal : Cert.ProjXIdeal.Facts] [hProjXReferenceIdeal : Cert.ProjXReferenceIdeal.Facts] : Prop :=
  ∀ (m : (ℓ : Loc Cert.ProjXIdeal.nD Cert.ProjXIdeal.τ Cert.ProjXIdeal.sig) → Buf (Elt Ideal) ℓ) (g : Dev Cert.ProjXIdeal.nD → PrngReg)
    (m' : (ℓ : Loc Cert.ProjXReferenceIdeal.nD Cert.ProjXReferenceIdeal.τ Cert.ProjXReferenceIdeal.sig) → Buf (Elt Ideal) ℓ) (g' : Dev Cert.ProjXReferenceIdeal.nD → PrngReg), Pre_ProjXIdeal m →
    (∀ c : Dev Cert.ProjXIdeal.nD,
      m' ((c.tc : Thread Cert.ProjXReferenceIdeal.nD Cert.ProjXReferenceIdeal.τ).loc Cert.ProjXReferenceIdeal.main_arg0) = m ((c.tc : Thread Cert.ProjXIdeal.nD Cert.ProjXIdeal.τ).loc Cert.ProjXIdeal.main_arg0)
      ∧ m' ((c.tc : Thread Cert.ProjXReferenceIdeal.nD Cert.ProjXReferenceIdeal.τ).loc Cert.ProjXReferenceIdeal.main_arg1) = m ((c.tc : Thread Cert.ProjXIdeal.nD Cert.ProjXIdeal.τ).loc Cert.ProjXIdeal.main_arg1)) →
    ∃ (v0 : (c : Dev Cert.ProjXIdeal.nD) → Buf (Elt Ideal) ((c.tc : Thread Cert.ProjXIdeal.nD Cert.ProjXIdeal.τ).loc Cert.ProjXIdeal.main_v19)),
      θ_run (Cert.ProjXIdeal.defs (F := Ideal)) (onTc (τ := Cert.ProjXIdeal.τ) (Cert.ProjXIdeal.main (F := Ideal))) ⟨m, fun _ => 0, g⟩ (fun r => ∀ c : Dev Cert.ProjXIdeal.nD,
          r.2.mem ((c.tc : Thread Cert.ProjXIdeal.nD Cert.ProjXIdeal.τ).loc Cert.ProjXIdeal.main_v19) = v0 c
          ∧ r.2.mem ((c.tc : Thread Cert.ProjXIdeal.nD Cert.ProjXIdeal.τ).loc Cert.ProjXIdeal.main_arg0) = m ((c.tc : Thread Cert.ProjXIdeal.nD Cert.ProjXIdeal.τ).loc Cert.ProjXIdeal.main_arg0)
          ∧ r.2.mem ((c.tc : Thread Cert.ProjXIdeal.nD Cert.ProjXIdeal.τ).loc Cert.ProjXIdeal.main_arg1) = m ((c.tc : Thread Cert.ProjXIdeal.nD Cert.ProjXIdeal.τ).loc Cert.ProjXIdeal.main_arg1))
      ∧ θ_run (Cert.ProjXReferenceIdeal.defs (F := Ideal)) (onTc (τ := Cert.ProjXReferenceIdeal.τ) (Cert.ProjXReferenceIdeal.main (F := Ideal))) ⟨m', fun _ => 0, g'⟩ (fun r => ∀ c : Dev Cert.ProjXReferenceIdeal.nD,
          r.2.mem ((c.tc : Thread Cert.ProjXReferenceIdeal.nD Cert.ProjXReferenceIdeal.τ).loc Cert.ProjXReferenceIdeal.main_v3) = v0 c
          ∧ r.2.mem ((c.tc : Thread Cert.ProjXReferenceIdeal.nD Cert.ProjXReferenceIdeal.τ).loc Cert.ProjXReferenceIdeal.main_arg0) = m' ((c.tc : Thread Cert.ProjXReferenceIdeal.nD Cert.ProjXReferenceIdeal.τ).loc Cert.ProjXReferenceIdeal.main_arg0)
          ∧ r.2.mem ((c.tc : Thread Cert.ProjXReferenceIdeal.nD Cert.ProjXReferenceIdeal.τ).loc Cert.ProjXReferenceIdeal.main_arg1) = m' ((c.tc : Thread Cert.ProjXReferenceIdeal.nD Cert.ProjXReferenceIdeal.τ).loc Cert.ProjXReferenceIdeal.main_arg1))

def preserves_ProjW_ProjWIdeal : Prop :=
  True

def algebraic_ProjWIdeal_ProjWReferenceIdeal [hProjWIdeal : Cert.ProjWIdeal.Facts] [hProjWReferenceIdeal : Cert.ProjWReferenceIdeal.Facts] : Prop :=
  ∀ (m : (ℓ : Loc Cert.ProjWIdeal.nD Cert.ProjWIdeal.τ Cert.ProjWIdeal.sig) → Buf (Elt Ideal) ℓ) (g : Dev Cert.ProjWIdeal.nD → PrngReg)
    (m' : (ℓ : Loc Cert.ProjWReferenceIdeal.nD Cert.ProjWReferenceIdeal.τ Cert.ProjWReferenceIdeal.sig) → Buf (Elt Ideal) ℓ) (g' : Dev Cert.ProjWReferenceIdeal.nD → PrngReg), Pre_ProjWIdeal m →
    (∀ c : Dev Cert.ProjWIdeal.nD,
      m' ((c.tc : Thread Cert.ProjWReferenceIdeal.nD Cert.ProjWReferenceIdeal.τ).loc Cert.ProjWReferenceIdeal.main_arg0) = m ((c.tc : Thread Cert.ProjWIdeal.nD Cert.ProjWIdeal.τ).loc Cert.ProjWIdeal.main_arg0)
      ∧ m' ((c.tc : Thread Cert.ProjWReferenceIdeal.nD Cert.ProjWReferenceIdeal.τ).loc Cert.ProjWReferenceIdeal.main_arg1) = m ((c.tc : Thread Cert.ProjWIdeal.nD Cert.ProjWIdeal.τ).loc Cert.ProjWIdeal.main_arg1)) →
    ∃ (v0 : (c : Dev Cert.ProjWIdeal.nD) → Buf (Elt Ideal) ((c.tc : Thread Cert.ProjWIdeal.nD Cert.ProjWIdeal.τ).loc Cert.ProjWIdeal.main_v11)),
      θ_run (Cert.ProjWIdeal.defs (F := Ideal)) (onTc (τ := Cert.ProjWIdeal.τ) (Cert.ProjWIdeal.main (F := Ideal))) ⟨m, fun _ => 0, g⟩ (fun r => ∀ c : Dev Cert.ProjWIdeal.nD,
          r.2.mem ((c.tc : Thread Cert.ProjWIdeal.nD Cert.ProjWIdeal.τ).loc Cert.ProjWIdeal.main_v11) = v0 c
          ∧ r.2.mem ((c.tc : Thread Cert.ProjWIdeal.nD Cert.ProjWIdeal.τ).loc Cert.ProjWIdeal.main_arg0) = m ((c.tc : Thread Cert.ProjWIdeal.nD Cert.ProjWIdeal.τ).loc Cert.ProjWIdeal.main_arg0)
          ∧ r.2.mem ((c.tc : Thread Cert.ProjWIdeal.nD Cert.ProjWIdeal.τ).loc Cert.ProjWIdeal.main_arg1) = m ((c.tc : Thread Cert.ProjWIdeal.nD Cert.ProjWIdeal.τ).loc Cert.ProjWIdeal.main_arg1))
      ∧ θ_run (Cert.ProjWReferenceIdeal.defs (F := Ideal)) (onTc (τ := Cert.ProjWReferenceIdeal.τ) (Cert.ProjWReferenceIdeal.main (F := Ideal))) ⟨m', fun _ => 0, g'⟩ (fun r => ∀ c : Dev Cert.ProjWReferenceIdeal.nD,
          r.2.mem ((c.tc : Thread Cert.ProjWReferenceIdeal.nD Cert.ProjWReferenceIdeal.τ).loc Cert.ProjWReferenceIdeal.main_v12) = v0 c
          ∧ r.2.mem ((c.tc : Thread Cert.ProjWReferenceIdeal.nD Cert.ProjWReferenceIdeal.τ).loc Cert.ProjWReferenceIdeal.main_arg0) = m' ((c.tc : Thread Cert.ProjWReferenceIdeal.nD Cert.ProjWReferenceIdeal.τ).loc Cert.ProjWReferenceIdeal.main_arg0)
          ∧ r.2.mem ((c.tc : Thread Cert.ProjWReferenceIdeal.nD Cert.ProjWReferenceIdeal.τ).loc Cert.ProjWReferenceIdeal.main_arg1) = m' ((c.tc : Thread Cert.ProjWReferenceIdeal.nD Cert.ProjWReferenceIdeal.τ).loc Cert.ProjWReferenceIdeal.main_arg1))

def preserves_Fwd_FwdIdeal : Prop :=
  IdealRules.named_const.Statement Cert.FwdIdeal.κ "mask" .f32 0xF149F2CA#32 ⊥
  ∧ IdealRules.named_const.Statement Cert.FwdIdeal.κ "invln2" .f32 0x3FB8AA3B#32 (((Real.log 2)⁻¹ : ℝ) : EReal)

def algebraic_FwdIdeal_FwdReferenceIdeal_pre_finite_fwd [hFwdIdeal : Cert.FwdIdeal.Facts] [hFwdReferenceIdeal : Cert.FwdReferenceIdeal.Facts] [hPre_finite_fwd : Cert.Pre_finite_fwd.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdReferenceIdeal.nD Cert.FwdReferenceIdeal.τ Cert.FwdReferenceIdeal.sig) → Buf (Elt Ideal) ℓ) (g' : Dev Cert.FwdReferenceIdeal.nD → PrngReg), Pre_FwdIdeal_finite_fwd m →
    (∀ c : Dev Cert.FwdIdeal.nD,
      m' ((c.tc : Thread Cert.FwdReferenceIdeal.nD Cert.FwdReferenceIdeal.τ).loc Cert.FwdReferenceIdeal.main_arg0) = m ((c.tc : Thread Cert.FwdIdeal.nD Cert.FwdIdeal.τ).loc Cert.FwdIdeal.main_arg0)
      ∧ m' ((c.tc : Thread Cert.FwdReferenceIdeal.nD Cert.FwdReferenceIdeal.τ).loc Cert.FwdReferenceIdeal.main_arg1) = m ((c.tc : Thread Cert.FwdIdeal.nD Cert.FwdIdeal.τ).loc Cert.FwdIdeal.main_arg1)
      ∧ m' ((c.tc : Thread Cert.FwdReferenceIdeal.nD Cert.FwdReferenceIdeal.τ).loc Cert.FwdReferenceIdeal.main_arg2) = m ((c.tc : Thread Cert.FwdIdeal.nD Cert.FwdIdeal.τ).loc Cert.FwdIdeal.main_arg2)) →
    ∃ (v0 : (c : Dev Cert.FwdIdeal.nD) → Buf (Elt Ideal) ((c.tc : Thread Cert.FwdIdeal.nD Cert.FwdIdeal.τ).loc Cert.FwdIdeal.main_v14_0)) (v1 : (c : Dev Cert.FwdIdeal.nD) → Buf (Elt Ideal) ((c.tc : Thread Cert.FwdIdeal.nD Cert.FwdIdeal.τ).loc Cert.FwdIdeal.main_v14_1)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v14_0) = v0 c
          ∧ r.2.mem ((c.tc : Thread Cert.FwdIdeal.nD Cert.FwdIdeal.τ).loc Cert.FwdIdeal.main_v14_1) = v1 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ θ_run (Cert.FwdReferenceIdeal.defs (F := Ideal)) (onTc (τ := Cert.FwdReferenceIdeal.τ) (Cert.FwdReferenceIdeal.main (F := Ideal))) ⟨m', fun _ => 0, g'⟩ (fun r => ∀ c : Dev Cert.FwdReferenceIdeal.nD,
          r.2.mem ((c.tc : Thread Cert.FwdReferenceIdeal.nD Cert.FwdReferenceIdeal.τ).loc Cert.FwdReferenceIdeal.main_v52) = v0 c
          ∧ r.2.mem ((c.tc : Thread Cert.FwdReferenceIdeal.nD Cert.FwdReferenceIdeal.τ).loc Cert.FwdReferenceIdeal.main_v55) = v1 c
          ∧ r.2.mem ((c.tc : Thread Cert.FwdReferenceIdeal.nD Cert.FwdReferenceIdeal.τ).loc Cert.FwdReferenceIdeal.main_arg0) = m' ((c.tc : Thread Cert.FwdReferenceIdeal.nD Cert.FwdReferenceIdeal.τ).loc Cert.FwdReferenceIdeal.main_arg0)
          ∧ r.2.mem ((c.tc : Thread Cert.FwdReferenceIdeal.nD Cert.FwdReferenceIdeal.τ).loc Cert.FwdReferenceIdeal.main_arg1) = m' ((c.tc : Thread Cert.FwdReferenceIdeal.nD Cert.FwdReferenceIdeal.τ).loc Cert.FwdReferenceIdeal.main_arg1)
          ∧ r.2.mem ((c.tc : Thread Cert.FwdReferenceIdeal.nD Cert.FwdReferenceIdeal.τ).loc Cert.FwdReferenceIdeal.main_arg2) = m' ((c.tc : Thread Cert.FwdReferenceIdeal.nD Cert.FwdReferenceIdeal.τ).loc Cert.FwdReferenceIdeal.main_arg2))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hPair : Cert.Pair.Facts) (hPairIdeal : Cert.PairIdeal.Facts) (hPairReferenceIdeal : Cert.PairReferenceIdeal.Facts) (hIn : Cert.In.Facts) (hInIdeal : Cert.InIdeal.Facts) (hInReferenceIdeal : Cert.InReferenceIdeal.Facts) (hDown : Cert.Down.Facts) (hDownIdeal : Cert.DownIdeal.Facts) (hDownReferenceIdeal : Cert.DownReferenceIdeal.Facts) (hDownW : Cert.DownW.Facts) (hDownWIdeal : Cert.DownWIdeal.Facts) (hDownWReferenceIdeal : Cert.DownWReferenceIdeal.Facts) (hOut : Cert.Out.Facts) (hOutIdeal : Cert.OutIdeal.Facts) (hOutReferenceIdeal : Cert.OutReferenceIdeal.Facts) (hOutX : Cert.OutX.Facts) (hOutXIdeal : Cert.OutXIdeal.Facts) (hOutXReferenceIdeal : Cert.OutXReferenceIdeal.Facts) (hOutW : Cert.OutW.Facts) (hOutWIdeal : Cert.OutWIdeal.Facts) (hOutWReferenceIdeal : Cert.OutWReferenceIdeal.Facts) (hProj : Cert.Proj.Facts) (hProjIdeal : Cert.ProjIdeal.Facts) (hProjReferenceIdeal : Cert.ProjReferenceIdeal.Facts) (hProjX : Cert.ProjX.Facts) (hProjXIdeal : Cert.ProjXIdeal.Facts) (hProjXReferenceIdeal : Cert.ProjXReferenceIdeal.Facts) (hProjW : Cert.ProjW.Facts) (hProjWIdeal : Cert.ProjWIdeal.Facts) (hProjWReferenceIdeal : Cert.ProjWReferenceIdeal.Facts) (hFwd : Cert.Fwd.Facts) (hFwdIdeal : Cert.FwdIdeal.Facts) (hFwdReferenceIdeal : Cert.FwdReferenceIdeal.Facts) (hPre_finite : Cert.Pre_finite.Facts) (hPre_finite_ffn : Cert.Pre_finite_ffn.Facts) (hPre_finite_in : Cert.Pre_finite_in.Facts) (hPre_finite_fwd : Cert.Pre_finite_fwd.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnIdeal_pre_finite_ffn (hFfnIdeal := hFfnIdeal) (hPre_finite_ffn := hPre_finite_ffn)
    ∧ quiescent_FfnReferenceIdeal (hFfnReferenceIdeal := hFfnReferenceIdeal)
    ∧ quiescent_FfnReferenceIdeal_pre_finite_ffn (hFfnReferenceIdeal := hFfnReferenceIdeal) (hPre_finite_ffn := hPre_finite_ffn)
    ∧ quiescent_Pair (hPair := hPair)
    ∧ quiescent_PairIdeal (hPairIdeal := hPairIdeal)
    ∧ quiescent_PairReferenceIdeal (hPairReferenceIdeal := hPairReferenceIdeal)
    ∧ quiescent_In (hIn := hIn)
    ∧ quiescent_InIdeal (hInIdeal := hInIdeal)
    ∧ quiescent_InIdeal_pre_finite_in (hInIdeal := hInIdeal) (hPre_finite_in := hPre_finite_in)
    ∧ quiescent_InReferenceIdeal (hInReferenceIdeal := hInReferenceIdeal)
    ∧ quiescent_InReferenceIdeal_pre_finite_in (hInReferenceIdeal := hInReferenceIdeal) (hPre_finite_in := hPre_finite_in)
    ∧ quiescent_Down (hDown := hDown)
    ∧ quiescent_DownIdeal (hDownIdeal := hDownIdeal)
    ∧ quiescent_DownReferenceIdeal (hDownReferenceIdeal := hDownReferenceIdeal)
    ∧ quiescent_DownW (hDownW := hDownW)
    ∧ quiescent_DownWIdeal (hDownWIdeal := hDownWIdeal)
    ∧ quiescent_DownWReferenceIdeal (hDownWReferenceIdeal := hDownWReferenceIdeal)
    ∧ quiescent_Out (hOut := hOut)
    ∧ quiescent_OutIdeal (hOutIdeal := hOutIdeal)
    ∧ quiescent_OutReferenceIdeal (hOutReferenceIdeal := hOutReferenceIdeal)
    ∧ quiescent_OutX (hOutX := hOutX)
    ∧ quiescent_OutXIdeal (hOutXIdeal := hOutXIdeal)
    ∧ quiescent_OutXReferenceIdeal (hOutXReferenceIdeal := hOutXReferenceIdeal)
    ∧ quiescent_OutW (hOutW := hOutW)
    ∧ quiescent_OutWIdeal (hOutWIdeal := hOutWIdeal)
    ∧ quiescent_OutWReferenceIdeal (hOutWReferenceIdeal := hOutWReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_ProjX (hProjX := hProjX)
    ∧ quiescent_ProjXIdeal (hProjXIdeal := hProjXIdeal)
    ∧ quiescent_ProjXReferenceIdeal (hProjXReferenceIdeal := hProjXReferenceIdeal)
    ∧ quiescent_ProjW (hProjW := hProjW)
    ∧ quiescent_ProjWIdeal (hProjWIdeal := hProjWIdeal)
    ∧ quiescent_ProjWReferenceIdeal (hProjWReferenceIdeal := hProjWReferenceIdeal)
    ∧ quiescent_Fwd (hFwd := hFwd)
    ∧ quiescent_FwdIdeal (hFwdIdeal := hFwdIdeal)
    ∧ quiescent_FwdIdeal_pre_finite_fwd (hFwdIdeal := hFwdIdeal) (hPre_finite_fwd := hPre_finite_fwd)
    ∧ quiescent_FwdReferenceIdeal (hFwdReferenceIdeal := hFwdReferenceIdeal)
    ∧ quiescent_FwdReferenceIdeal_pre_finite_fwd (hFwdReferenceIdeal := hFwdReferenceIdeal) (hPre_finite_fwd := hPre_finite_fwd)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnReferenceIdeal_pre_finite_ffn (hFfnIdeal := hFfnIdeal) (hFfnReferenceIdeal := hFfnReferenceIdeal) (hPre_finite_ffn := hPre_finite_ffn)
    ∧ preserves_Pair_PairIdeal
    ∧ algebraic_PairIdeal_PairReferenceIdeal (hPairIdeal := hPairIdeal) (hPairReferenceIdeal := hPairReferenceIdeal)
    ∧ preserves_In_InIdeal
    ∧ algebraic_InIdeal_InReferenceIdeal_pre_finite_in (hInIdeal := hInIdeal) (hInReferenceIdeal := hInReferenceIdeal) (hPre_finite_in := hPre_finite_in)
    ∧ preserves_Down_DownIdeal
    ∧ algebraic_DownIdeal_DownReferenceIdeal (hDownIdeal := hDownIdeal) (hDownReferenceIdeal := hDownReferenceIdeal)
    ∧ preserves_DownW_DownWIdeal
    ∧ algebraic_DownWIdeal_DownWReferenceIdeal (hDownWIdeal := hDownWIdeal) (hDownWReferenceIdeal := hDownWReferenceIdeal)
    ∧ preserves_Out_OutIdeal
    ∧ algebraic_OutIdeal_OutReferenceIdeal (hOutIdeal := hOutIdeal) (hOutReferenceIdeal := hOutReferenceIdeal)
    ∧ preserves_OutX_OutXIdeal
    ∧ algebraic_OutXIdeal_OutXReferenceIdeal (hOutXIdeal := hOutXIdeal) (hOutXReferenceIdeal := hOutXReferenceIdeal)
    ∧ preserves_OutW_OutWIdeal
    ∧ algebraic_OutWIdeal_OutWReferenceIdeal (hOutWIdeal := hOutWIdeal) (hOutWReferenceIdeal := hOutWReferenceIdeal)
    ∧ preserves_Proj_ProjIdeal
    ∧ algebraic_ProjIdeal_ProjReferenceIdeal (hProjIdeal := hProjIdeal) (hProjReferenceIdeal := hProjReferenceIdeal)
    ∧ preserves_ProjX_ProjXIdeal
    ∧ algebraic_ProjXIdeal_ProjXReferenceIdeal (hProjXIdeal := hProjXIdeal) (hProjXReferenceIdeal := hProjXReferenceIdeal)
    ∧ preserves_ProjW_ProjWIdeal
    ∧ algebraic_ProjWIdeal_ProjWReferenceIdeal (hProjWIdeal := hProjWIdeal) (hProjWReferenceIdeal := hProjWReferenceIdeal)
    ∧ preserves_Fwd_FwdIdeal
    ∧ algebraic_FwdIdeal_FwdReferenceIdeal_pre_finite_fwd (hFwdIdeal := hFwdIdeal) (hFwdReferenceIdeal := hFwdReferenceIdeal) (hPre_finite_fwd := hPre_finite_fwd)
-- ==== Pre_finite.lean ====
abbrev S4096x4x192 : Shape := ⟨3, ![4096, 4, 192]⟩
abbrev S4096x4x128 : Shape := ⟨3, ![4096, 4, 128]⟩
abbrev S_ : Shape := ⟨0, ![]⟩

class Facts : Prop where
  bcast_S_S4096x4x192 : S_.BroadcastsInDim S4096x4x192 (![] : Fin 0 → Fin S4096x4x192.rank)
  reducesTo_S4096x4x192_S_d0_1_2 : S4096x4x192.ReducesTo [0, 1, 2] S_
  h_S_ : 0 < S_.numel
  bcast_S_S4096x4x128 : S_.BroadcastsInDim S4096x4x128 (![] : Fin 0 → Fin S4096x4x128.rank)
  reducesTo_S4096x4x128_S_d0_1_2 : S4096x4x128.ReducesTo [0, 1, 2] S_

variable [Facts]

def fn_part1 {F : FTy → Type} [FloatOps F] (main_v13 : IVec S_ 1) (main_v16 : IVec S4096x4x128 1) : IVec S_ 1 :=
  let main_c_5 : IVec S_ 1 := constantI S_ 1 1#1
  let main_v17 : IVec S_ 1 := (fun x v => Host.reduce IntOp.andi x v reducesTo_S4096x4x128_S_d0_1_2 h_S_) main_v16 main_c_5
  let main_v18 : IVec S_ 1 := andi main_v13 main_v17
  main_v18

def fn {F : FTy → Type} [FloatOps F] (main_arg0 : FVec F S4096x4x192 .f32) (main_arg1 : FVec F S4096x4x192 .f32) (main_arg2 : FVec F S4096x4x128 .f32) (main_arg3 : FVec F S4096x4x128 .f32) : IVec S_ 1 :=
  let main_v0 : FVec F S4096x4x192 .f32 := Host.absf main_arg0
  let main_cst : FVec F S_ .f32 := constant S_ .f32 0x7F800000#32
  let main_v1 : FVec F S4096x4x192 .f32 := broadcastInDim S4096x4x192 ![] bcast_S_S4096x4x192 main_cst
  let main_v2 : IVec S4096x4x192 1 := cmpf .olt main_v0 main_v1
  let main_c : IVec S_ 1 := constantI S_ 1 1#1
  let main_v3 : IVec S_ 1 := (fun x v => Host.reduce IntOp.andi x v reducesTo_S4096x4x192_S_d0_1_2 h_S_) main_v2 main_c
  let main_v4 : FVec F S4096x4x192 .f32 := Host.absf main_arg1
  let main_cst_0 : FVec F S_ .f32 := constant S_ .f32 0x7F800000#32
  let main_v5 : FVec F S4096x4x192 .f32 := broadcastInDim S4096x4x192 ![] bcast_S_S4096x4x192 main_cst_0
  let main_v6 : IVec S4096x4x192 1 := cmpf .olt main_v4 main_v5
  let main_c_1 : IVec S_ 1 := constantI S_ 1 1#1
  let main_v7 : IVec S_ 1 := (fun x v => Host.reduce IntOp.andi x v reducesTo_S4096x4x192_S_d0_1_2 h_S_) main_v6 main_c_1
  let main_v8 : IVec S_ 1 := andi main_v3 main_v7
  let main_v9 : FVec F S4096x4x128 .f32 := Host.absf main_arg2
  let main_cst_2 : FVec F S_ .f32 := constant S_ .f32 0x7F800000#32
  let main_v10 : FVec F S4096x4x128 .f32 := broadcastInDim S4096x4x128 ![] bcast_S_S4096x4x128 main_cst_2
  let main_v11 : IVec S4096x4x128 1 := cmpf .olt main_v9 main_v10
  let main_c_3 : IVec S_ 1 := constantI S_ 1 1#1
  let main_v12 : IVec S_ 1 := (fun x v => Host.reduce IntOp.andi x v reducesTo_S4096x4x128_S_d0_1_2 h_S_) main_v11 main_c_3
  let main_v13 : IVec S_ 1 := andi main_v8 main_v12
  let main_v14 : FVec F S4096x4x128 .f32 := Host.absf main_arg3
  let main_cst_4 : FVec F S_ .f32 := constant S_ .f32 0x7F800000#32
  let main_v15 : FVec F S4096x4x128 .f32 := broadcastInDim S4096x4x128 ![] bcast_S_S4096x4x128 main_cst_4
  let main_v16 : IVec S4096x4x128 1 := cmpf .olt main_v14 main_v15
  fn_part1 (F := F) main_v13 main_v16
-- ==== Pre_finite_ffn.lean ====
abbrev S4096x1024 : Shape := ⟨2, ![4096, 1024]⟩
abbrev S1024x2816 : Shape := ⟨2, ![1024, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S4096x1024 .f32) (main_v13 : IVec S_ 1) (main_v16 : IVec S2816x1024 1) : IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  main_v23

def fn {F : FTy → Type} [FloatOps F] (main_arg0 : FVec F S4096x1024 .f32) (main_arg1 : FVec F S1024x2816 .f32) (main_arg2 : FVec F S1024x2816 .f32) (main_arg3 : FVec F S2816x1024 .f32) (main_arg4 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x2816 .f32 := Host.absf main_arg1
  let main_cst_0 : FVec F S_ .f32 := constant S_ .f32 0x7F800000#32
  let main_v5 : FVec F S1024x2816 .f32 := broadcastInDim S1024x2816 ![] bcast_S_S1024x2816 main_cst_0
  let main_v6 : IVec S1024x2816 1 := cmpf .olt main_v4 main_v5
  let main_c_1 : IVec S_ 1 := constantI S_ 1 1#1
  let main_v7 : IVec S_ 1 := (fun x v => Host.reduce IntOp.andi x v reducesTo_S1024x2816_S_d0_1 h_S_) main_v6 main_c_1
  let main_v8 : IVec S_ 1 := andi main_v3 main_v7
  let main_v9 : FVec F S1024x2816 .f32 := Host.absf main_arg2
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S2816x1024 .f32 := Host.absf main_arg3
  let main_cst_4 : FVec F S_ .f32 := constant S_ .f32 0x7F800000#32
  let main_v15 : FVec F S2816x1024 .f32 := broadcastInDim S2816x1024 ![] bcast_S_S2816x1024 main_cst_4
  let main_v16 : IVec S2816x1024 1 := cmpf .olt main_v14 main_v15
  fn_part1 (F := F) main_arg4 main_v13 main_v16
-- ==== Pre_finite_fwd.lean ====
abbrev S4096x4x192 : Shape := ⟨3, ![4096, 4, 192]⟩
abbrev S4096x4x128 : Shape := ⟨3, ![4096, 4, 128]⟩
abbrev S_ : Shape := ⟨0, ![]⟩

class Facts : Prop where
  bcast_S_S4096x4x192 : S_.BroadcastsInDim S4096x4x192 (![] : Fin 0 → Fin S4096x4x192.rank)
  reducesTo_S4096x4x192_S_d0_1_2 : S4096x4x192.ReducesTo [0, 1, 2] S_
  h_S_ : 0 < S_.numel
  bcast_S_S4096x4x128 : S_.BroadcastsInDim S4096x4x128 (![] : Fin 0 → Fin S4096x4x128.rank)
  reducesTo_S4096x4x128_S_d0_1_2 : S4096x4x128.ReducesTo [0, 1, 2] S_

variable [Facts]

def fn {F : FTy → Type} [FloatOps F] (main_arg0 : FVec F S4096x4x192 .f32) (main_arg1 : FVec F S4096x4x192 .f32) (main_arg2 : FVec F S4096x4x128 .f32) : IVec S_ 1 :=
  let main_v0 : FVec F S4096x4x192 .f32 := Host.absf main_arg0
  let main_cst : FVec F S_ .f32 := constant S_ .f32 0x7F800000#32
  let main_v1 : FVec F S4096x4x192 .f32 := broadcastInDim S4096x4x192 ![] bcast_S_S4096x4x192 main_cst
  let main_v2 : IVec S4096x4x192 1 := cmpf .olt main_v0 main_v1
  let main_c : IVec S_ 1 := constantI S_ 1 1#1
  let main_v3 : IVec S_ 1 := (fun x v => Host.reduce IntOp.andi x v reducesTo_S4096x4x192_S_d0_1_2 h_S_) main_v2 main_c
  let main_v4 : FVec F S4096x4x192 .f32 := Host.absf main_arg1
  let main_cst_0 : FVec F S_ .f32 := constant S_ .f32 0x7F800000#32
  let main_v5 : FVec F S4096x4x192 .f32 := broadcastInDim S4096x4x192 ![] bcast_S_S4096x4x192 main_cst_0
  let main_v6 : IVec S4096x4x192 1 := cmpf .olt main_v4 main_v5
  let main_c_1 : IVec S_ 1 := constantI S_ 1 1#1
  let main_v7 : IVec S_ 1 := (fun x v => Host.reduce IntOp.andi x v reducesTo_S4096x4x192_S_d0_1_2 h_S_) main_v6 main_c_1
  let main_v8 : IVec S_ 1 := andi main_v3 main_v7
  let main_v9 : FVec F S4096x4x128 .f32 := Host.absf main_arg2
  let main_cst_2 : FVec F S_ .f32 := constant S_ .f32 0x7F800000#32
  let main_v10 : FVec F S4096x4x128 .f32 := broadcastInDim S4096x4x128 ![] bcast_S_S4096x4x128 main_cst_2
  let main_v11 : IVec S4096x4x128 1 := cmpf .olt main_v9 main_v10
  let main_c_3 : IVec S_ 1 := constantI S_ 1 1#1
  let main_v12 : IVec S_ 1 := (fun x v => Host.reduce IntOp.andi x v reducesTo_S4096x4x128_S_d0_1_2 h_S_) main_v11 main_c_3
  let main_v13 : IVec S_ 1 := andi main_v8 main_v12
  main_v13
-- ==== Pre_finite_in.lean ====
abbrev S4096x1024 : Shape := ⟨2, ![4096, 1024]⟩
abbrev S1024x2816 : Shape := ⟨2, ![1024, 2816]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_

variable [Facts]

def fn {F : FTy → Type} [FloatOps F] (main_arg0 : FVec F S4096x1024 .f32) (main_arg1 : FVec F S1024x2816 .f32) (main_arg2 : FVec F S1024x2816 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x2816 .f32 := Host.absf main_arg1
  let main_cst_0 : FVec F S_ .f32 := constant S_ .f32 0x7F800000#32
  let main_v5 : FVec F S1024x2816 .f32 := broadcastInDim S1024x2816 ![] bcast_S_S1024x2816 main_cst_0
  let main_v6 : IVec S1024x2816 1 := cmpf .olt main_v4 main_v5
  let main_c_1 : IVec S_ 1 := constantI S_ 1 1#1
  let main_v7 : IVec S_ 1 := (fun x v => Host.reduce IntOp.andi x v reducesTo_S1024x2816_S_d0_1 h_S_) main_v6 main_c_1
  let main_v8 : IVec S_ 1 := andi main_v3 main_v7
  let main_v9 : FVec F S1024x2816 .f32 := Host.absf main_arg2
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  main_v13
-- ==== Kernel.lean ====
abbrev S4096x4x192 : Shape := ⟨3, ![4096, 4, 192]⟩
abbrev S4096x4x128 : Shape := ⟨3, ![4096, 4, 128]⟩
abbrev S4x4096x4096 : Shape := ⟨3, ![4, 4096, 4096]⟩
abbrev S_ : Shape := ⟨0, ![]⟩
abbrev S4096 : Shape := ⟨1, ![4096]⟩
abbrev S1x1x4096 : Shape := ⟨3, ![1, 1, 4096]⟩
abbrev S1x4096x1 : Shape := ⟨3, ![1, 4096, 1]⟩
abbrev S1x4096x4096 : Shape := ⟨3, ![1, 4096, 4096]⟩
abbrev S4x4096 : Shape := ⟨2, ![4, 4096]⟩
abbrev S4x4096x1 : Shape := ⟨3, ![4, 4096, 1]⟩
abbrev S4x128x4096 : Shape := ⟨3, ![4, 128, 4096]⟩
abbrev S4096x4 : Shape := ⟨2, ![4096, 4]⟩
abbrev S4096x4x256 : Shape := ⟨3, ![4096, 4, 256]⟩
abbrev S4096x1024 : Shape := ⟨2, ![4096, 1024]⟩
abbrev S4096x512 : Shape := ⟨2, ![4096, 512]⟩
abbrev S4096x4x1 : Shape := ⟨3, ![4096, 4, 1]⟩
abbrev S4096x256 : Shape := ⟨2, ![4096, 256]⟩
abbrev S1024x256 : Shape := ⟨2, ![1024, 256]⟩
abbrev S1024x128 : Shape := ⟨2, ![1024, 128]⟩
abbrev S4096x128 : Shape := ⟨2, ![4096, 128]⟩
abbrev S512x256 : Shape := ⟨2, ![512, 256]⟩
abbrev S512x128 : Shape := ⟨2, ![512, 128]⟩
abbrev S512x512 : Shape := ⟨2, ![512, 512]⟩
abbrev S512x1 : Shape := ⟨2, ![512, 1]⟩
abbrev S512x1024 : Shape := ⟨2, ![512, 1024]⟩

abbrev nBuf : Space → Nat
  | .hbm => 80
  | .vmem => 18
  | .smem => 0
  | _ => 0

abbrev bufTy : (tb : Table) → Fin (tcTables nBuf tb) → BufTy
  | .hbm, ⟨0, _⟩ => ⟨S4096x4x192, .f32⟩
  | .hbm, ⟨1, _⟩ => ⟨S4096x4x192, .f32⟩
  | .hbm, ⟨2, _⟩ => ⟨S4096x4x128, .f32⟩
  | .hbm, ⟨3, _⟩ => ⟨S4096x4x128, .f32⟩
  | .hbm, ⟨4, _⟩ => ⟨S4x4096x4096, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4x4096x4096, .f32⟩
  | .hbm, ⟨10, _⟩ => ⟨S4x4096x4096, .f32⟩
  | .hbm, ⟨11, _⟩ => ⟨S4096, .i32⟩
  | .hbm, ⟨12, _⟩ => ⟨S1x1x4096, .i32⟩
  | .hbm, ⟨13, _⟩ => ⟨S1x4096x1, .i32⟩
  | .hbm, ⟨14, _⟩ => ⟨S1x4096x4096, .i32⟩
  | .hbm, ⟨15, _⟩ => ⟨S1x4096x4096, .i32⟩
  | .hbm, ⟨16, _⟩ => ⟨S1x4096x4096, .i1⟩
  | .hbm, ⟨17, _⟩ => ⟨S_, .f32⟩
  | .hbm, ⟨18, _⟩ => ⟨S_, .f32⟩
  | .hbm, ⟨19, _⟩ => ⟨S4x4096x4096, .i1⟩
  | .hbm, ⟨20, _⟩ => ⟨S4x4096x4096, .f32⟩
  | .hbm, ⟨21, _⟩ => ⟨S4x4096x4096, .f32⟩
  | .hbm, ⟨22, _⟩ => ⟨S_, .f32⟩
  | .hbm, ⟨23, _⟩ => ⟨S4x4096, .f32⟩
  | .hbm, ⟨24, _⟩ => ⟨S4x4096x1, .f32⟩
  | .hbm, ⟨25, _⟩ => ⟨S4x4096x4096, .f32⟩
  | .hbm, ⟨26, _⟩ => ⟨S4x4096x4096, .f32⟩
  | .hbm, ⟨27, _⟩ => ⟨S4x4096x4096, .f32⟩
  | .hbm, ⟨28, _⟩ => ⟨S_, .f32⟩
  | .hbm, ⟨29, _⟩ => ⟨S4x4096, .f32⟩
  | .hbm, ⟨30, _⟩ => ⟨S4x4096x1, .f32⟩
  | .hbm, ⟨31, _⟩ => ⟨S4x4096x4096, .f32⟩
  | .hbm, ⟨32, _⟩ => ⟨S4x4096x4096, .f32⟩
  | .hbm, ⟨33, _⟩ => ⟨S4x128x4096, .f32⟩
  | .hbm, ⟨34, _⟩ => ⟨S4096x4x128, .f32⟩
  | .hbm, ⟨35, _⟩ => ⟨S4x4096x1, .f32⟩
  | .hbm, ⟨36, _⟩ => ⟨S4x4096x1, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S4x4096x1, .f32⟩
  | .hbm, ⟨42, _⟩ => ⟨S4x4096x1, .f32⟩
  | .hbm, ⟨43, _⟩ => ⟨S4x4096, .f32⟩
  | .hbm, ⟨44, _⟩ => ⟨S4096x4, .f32⟩
  | .hbm, ⟨45, _⟩ => ⟨S4096x4x128, .f32⟩
  | .hbm, ⟨46, _⟩ => ⟨S_, .f32⟩
  | .hbm, ⟨47, _⟩ => ⟨S4096x4, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S4096x4x192, .f32⟩
  | .hbm, ⟨56, _⟩ => ⟨S4096x4x192, .f32⟩
  | .hbm, ⟨57, _⟩ => ⟨S_, .i32⟩
  | .hbm, ⟨58, _⟩ => ⟨S_, .f32⟩
  | .hbm, ⟨59, _⟩ => ⟨S4096x4x256, .f32⟩
  | .hbm, ⟨60, _⟩ => ⟨S4096x1024, .f32⟩
  | .hbm, ⟨61, _⟩ => ⟨S4096x1024, .bf16⟩
  | .hbm, ⟨62, _⟩ => ⟨S_, .i32⟩
  | .hbm, ⟨63, _⟩ => ⟨S_, .f32⟩
  | .hbm, ⟨64, _⟩ => ⟨S4096x4x256, .f32⟩
  | .hbm, ⟨65, _⟩ => ⟨S4096x1024, .f32⟩
  | .hbm, ⟨66, _⟩ => ⟨S4096x1024, .bf16⟩
  | .hbm, ⟨67, _⟩ => ⟨S4096x512, .f32⟩
  | .hbm, ⟨68, _⟩ => ⟨S4096x512, .bf16⟩
  | .hbm, ⟨69, _⟩ => ⟨S4096x512, .f32⟩
  | .hbm, ⟨70, _⟩ => ⟨S4096x512, .bf16⟩
  | .hbm, ⟨71, _⟩ => ⟨S4096x4x1, .f32⟩
  | .hbm, ⟨72, _⟩ => ⟨S4096x4x128, .f32⟩
  | .hbm, ⟨73, _⟩ => ⟨S4096x512, .f32⟩
  | .hbm, ⟨74, _⟩ => ⟨S4096x4x1, .f32⟩
  | .hbm, ⟨75, _⟩ => ⟨S4096x4x128, .f32⟩
  | .hbm, ⟨76, _⟩ => ⟨S4096x512, .f32⟩
  | .hbm, ⟨77, _⟩ => ⟨S4096x1024, .f32⟩
  | .hbm, ⟨78, _⟩ => ⟨S4096x1024, .f32⟩
  | .hbm, ⟨79, _⟩ => ⟨S4096x512, .f32⟩
  | .local _ .vmem, ⟨0, _⟩ => ⟨S4096x256, .bf16⟩
  | .local _ .vmem, ⟨1, _⟩ => ⟨S4096x256, .bf16⟩
  | .local _ .vmem, ⟨2, _⟩ => ⟨S1024x256, .bf16⟩
  | .local _ .vmem, ⟨3, _⟩ => ⟨S1024x256, .bf16⟩
  | .local _ .vmem, ⟨4, _⟩ => ⟨S1024x128, .bf16⟩
  | .local _ .vmem, ⟨5, _⟩ => ⟨S1024x128, .bf16⟩
  | .local _ .vmem, ⟨6, _⟩ => ⟨S4096x128, .bf16⟩
  | .local _ .vmem, ⟨7, _⟩ => ⟨S4096x128, .bf16⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | .local _ .vmem, ⟨12, _⟩ => ⟨S4096x256, .f32⟩
  | .local _ .vmem, ⟨13, _⟩ => ⟨S4096x256, .f32⟩
  | .local _ .vmem, ⟨14, _⟩ => ⟨S1024x256, .f32⟩
  | .local _ .vmem, ⟨15, _⟩ => ⟨S1024x256, .f32⟩
  | .local _ .vmem, ⟨16, _⟩ => ⟨S1024x128, .f32⟩
  | .local _ .vmem, ⟨17, _⟩ => ⟨S1024x128, .f32⟩
  | _, _ => ⟨S4096x4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_cst_8 : Ref sig .tc := ⟨.hbm, 50, rfl⟩
abbrev main_v34 : Ref sig .tc := ⟨.hbm, 51, rfl⟩
abbrev main_cst_9 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_c : Ref sig .tc := ⟨.hbm, 57, rfl⟩
abbrev main_call1_v0 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_c_10 : Ref sig .tc := ⟨.hbm, 62, rfl⟩
abbrev main_call2_v0 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55_0 : Ref sig .tc := ⟨.hbm, 77, rfl⟩
abbrev main_v55_1 : Ref sig .tc := ⟨.hbm, 78, rfl⟩
abbrev main_v55_2 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c1024_i32 : BitVec 32 := 1024#32
  let v9 : BitVec 32 := Scalar.muli arg1 c1024_i32
  let c0_i32_5 : BitVec 32 := 0#32
  let v10 : BitVec 32 := Scalar.addi v9 c0_i32_5
  v10
def k0_off1 (i : grid0.Coords) (c0_i32_5 : BitVec 32) : Fin 2 → Nat :=
  let arg1 : BitVec 32 := BitVec.ofNat 32 (i 1).val
  let c1024_i32 : BitVec 32 := 1024#32
  let v9 : BitVec 32 := Scalar.muli arg1 c1024_i32
  let v10 : BitVec 32 := Scalar.addi v9 c0_i32_5
  let v11 : BitVec 32 := v10
  let v12 : Index := Scalar.indexCast v11
  let c0_6 : Index := 0#32
  ![v12.toNat, 0]
def k0_off2 (i : grid0.Coords) (c0_i32_5 : BitVec 32) : Fin 2 → Nat :=
  let arg1 : BitVec 32 := BitVec.ofNat 32 (i 1).val
  let c1024_i32 : BitVec 32 := 1024#32
  let v9 : BitVec 32 := Scalar.muli arg1 c1024_i32
  let v10 : BitVec 32 := Scalar.addi v9 c0_i32_5
  let v11 : BitVec 32 := v10
  let v15 : Index := Scalar.indexCast v11
  let c0_7 : Index := 0#32
  ![v15.toNat, 0]
def k0_off3 (i : grid0.Coords) (c0_i32_5 : BitVec 32) : Fin 2 → Nat :=
  let arg1 : BitVec 32 := BitVec.ofNat 32 (i 1).val
  let c1024_i32 : BitVec 32 := 1024#32
  let v9 : BitVec 32 := Scalar.muli arg1 c1024_i32
  let v10 : BitVec 32 := Scalar.addi v9 c0_i32_5
  let v11 : BitVec 32 := v10
  let v21 : Index := Scalar.indexCast v11
  let c0_9 : Index := 0#32
  ![v21.toNat, 0]
def k0_mult2 (i : grid0.Coords) : BitVec 32 :=
  let arg1 : BitVec 32 := BitVec.ofNat 32 (i 1).val
  let c1024_i32_19 : BitVec 32 := 1024#32
  let v63 : BitVec 32 := Scalar.muli arg1 c1024_i32_19
  let c512_i32 : BitVec 32 := 512#32
  let v64 : BitVec 32 := Scalar.addi v63 c512_i32
  v64
@[reducible] def k0_t1_loop (i : grid0.Coords) : Scf.Loop 32 :=
  let arg1 : BitVec 32 := BitVec.ofNat 32 (i 1).val
  let c1_i32 : BitVec 32 := 1#32
  let v109 : BitVec 32 := Scalar.addi arg1 c1_i32
  let c4_i32 : BitVec 32 := 4#32
  let v110 : BitVec 32 := Scalar.subi c4_i32 v109
  let c1_i32_33 : BitVec 32 := 1#32
  let v112 : BitVec 32 := Scalar.divsi v110 c1_i32_33
  let v113 : BitVec 32 := Scalar.muli v112 c1_i32_33
  let v114 : BitVec 32 := Scalar.addi v109 v113
  let c1_i32_34 : BitVec 32 := 1#32
  ⟨v109, v114, c1_i32_34⟩
def k0_mult3 (i : grid0.Coords) (k0_t1 : Fin (k0_t1_loop i).trips) : BitVec 32 :=
  let arg1 : BitVec 32 := BitVec.ofNat 32 (i 1).val
  let c1_i32 : BitVec 32 := 1#32
  let v109 : BitVec 32 := Scalar.addi arg1 c1_i32
  let c1_i32_34 : BitVec 32 := 1#32
  let arg11 : BitVec 32 := Scf.iv v109 c1_i32_34 k0_t1
  let c1024_i32_42 : BitVec 32 := 1024#32
  let v124 : BitVec 32 := Scalar.muli arg11 c1024_i32_42
  let c0_i32_43 : BitVec 32 := 0#32
  let v125 : BitVec 32 := Scalar.addi v124 c0_i32_43
  v125
def k0_off4 (i : grid0.Coords) (k0_t1 : Fin (k0_t1_loop i).trips) (c0_i32_43 : BitVec 32) : Fin 2 → Nat :=
  let arg1 : BitVec 32 := BitVec.ofNat 32 (i 1).val
  let c1_i32 : BitVec 32 := 1#32
  let v109 : BitVec 32 := Scalar.addi arg1 c1_i32
  let c1_i32_34 : BitVec 32 := 1#32
  let arg11 : BitVec 32 := Scf.iv v109 c1_i32_34 k0_t1
  let c1024_i32_42 : BitVec 32 := 1024#32
  let v124 : BitVec 32 := Scalar.muli arg11 c1024_i32_42
  let v125 : BitVec 32 := Scalar.addi v124 c0_i32_43
  let v126 : BitVec 32 := v125
  let v127 : Index := Scalar.indexCast v126
  let c0_44 : Index := 0#32
  ![v127.toNat, 0]
def k0_off5 (i : grid0.Coords) (k0_t1 : Fin (k0_t1_loop i).trips) (c0_i32_43 : BitVec 32) : Fin 2 → Nat :=
  let arg1 : BitVec 32 := BitVec.ofNat 32 (i 1).val
  let c1_i32 : BitVec 32 := 1#32
  let v109 : BitVec 32 := Scalar.addi arg1 c1_i32
  let c1_i32_34 : BitVec 32 := 1#32
  let arg11 : BitVec 32 := Scf.iv v109 c1_i32_34 k0_t1
  let c1024_i32_42 : BitVec 32 := 1024#32
  let v124 : BitVec 32 := Scalar.muli arg11 c1024_i32_42
  let v125 : BitVec 32 := Scalar.addi v124 c0_i32_43
  let v126 : BitVec 32 := v125
  let v130 : Index := Scalar.indexCast v126
  let c0_45 : Index := 0#32
  ![v130.toNat, 0]
def k0_off6 (i : grid0.Coords) (k0_t1 : Fin (k0_t1_loop i).trips) (c0_i32_43 : BitVec 32) : Fin 2 → Nat :=
  let arg1 : BitVec 32 := BitVec.ofNat 32 (i 1).val
  let c1_i32 : BitVec 32 := 1#32
  let v109 : BitVec 32 := Scalar.addi arg1 c1_i32
  let c1_i32_34 : BitVec 32 := 1#32
  let arg11 : BitVec 32 := Scf.iv v109 c1_i32_34 k0_t1
  let c1024_i32_42 : BitVec 32 := 1024#32
  let v124 : BitVec 32 := Scalar.muli arg11 c1024_i32_42
  let v125 : BitVec 32 := Scalar.addi v124 c0_i32_43
  let v126 : BitVec 32 := v125
  let v134 : Index := Scalar.indexCast v126
  let c0_47 : Index := 0#32
  ![v134.toNat, 0]
def k0_mult4 (i : grid0.Coords) (k0_t1 : Fin (k0_t1_loop i).trips) : BitVec 32 :=
  let arg1 : BitVec 32 := BitVec.ofNat 32 (i 1).val
  let c1_i32 : BitVec 32 := 1#32
  let v109 : BitVec 32 := Scalar.addi arg1 c1_i32
  let c1_i32_34 : BitVec 32 := 1#32
  let arg11 : BitVec 32 := Scf.iv v109 c1_i32_34 k0_t1
  let c1024_i32_55 : BitVec 32 := 1024#32
  let v160 : BitVec 32 := Scalar.muli arg11 c1024_i32_55
  let c512_i32_56 : BitVec 32 := 512#32
  let v161 : BitVec 32 := Scalar.addi v160 c512_i32_56
  v161
@[reducible] def k0_t2_loop (i : grid0.Coords) : Scf.Loop 32 :=
  let arg1 : BitVec 32 := BitVec.ofNat 32 (i 1).val
  let c1_i32 : BitVec 32 := 1#32
  let v109 : BitVec 32 := Scalar.addi arg1 c1_i32
  let c4_i32 : BitVec 32 := 4#32
  let v110 : BitVec 32 := Scalar.subi c4_i32 v109
  let c1_i32_33 : BitVec 32 := 1#32
  let v112 : BitVec 32 := Scalar.divsi v110 c1_i32_33
  let v113 : BitVec 32 := Scalar.muli v112 c1_i32_33
  let v114 : BitVec 32 := Scalar.addi v109 v113
  let v111 : BitVec 32 := Scalar.addi v109 v110
  let c1_i32_35 : BitVec 32 := 1#32
  ⟨v114, v111, c1_i32_35⟩
def k0_mult5 (i : grid0.Coords) (k0_t2 : Fin (k0_t2_loop i).trips) : BitVec 32 :=
  let arg1 : BitVec 32 := BitVec.ofNat 32 (i 1).val
  let c1_i32 : BitVec 32 := 1#32
  let v109 : BitVec 32 := Scalar.addi arg1 c1_i32
  let c4_i32 : BitVec 32 := 4#32
  let v110 : BitVec 32 := Scalar.subi c4_i32 v109
  let c1_i32_33 : BitVec 32 := 1#32
  let v112 : BitVec 32 := Scalar.divsi v110 c1_i32_33
  let v113 : BitVec 32 := Scalar.muli v112 c1_i32_33
  let v114 : BitVec 32 := Scalar.addi v109 v113
  let c1_i32_35 : BitVec 32 := 1#32
  let arg11 : BitVec 32 := Scf.iv v114 c1_i32_35 k0_t2
  let c1024_i32_42 : BitVec 32 := 1024#32
  let v124 : BitVec 32 := Scalar.muli arg11 c1024_i32_42
  let c0_i32_43 : BitVec 32 := 0#32
  let v125 : BitVec 32 := Scalar.addi v124 c0_i32_43
  v125
def k0_off7 (i : grid0.Coords) (k0_t2 : Fin (k0_t2_loop i).trips) (c0_i32_43 : BitVec 32) : Fin 2 → Nat :=
  let arg1 : BitVec 32 := BitVec.ofNat 32 (i 1).val
  let c1_i32 : BitVec 32 := 1#32
  let v109 : BitVec 32 := Scalar.addi arg1 c1_i32
  let c4_i32 : BitVec 32 := 4#32
  let v110 : BitVec 32 := Scalar.subi c4_i32 v109
  let c1_i32_33 : BitVec 32 := 1#32
  let v112 : BitVec 32 := Scalar.divsi v110 c1_i32_33
  let v113 : BitVec 32 := Scalar.muli v112 c1_i32_33
  let v114 : BitVec 32 := Scalar.addi v109 v113
  let c1_i32_35 : BitVec 32 := 1#32
  let arg11 : BitVec 32 := Scf.iv v114 c1_i32_35 k0_t2
  let c1024_i32_42 : BitVec 32 := 1024#32
  let v124 : BitVec 32 := Scalar.muli arg11 c1024_i32_42
  let v125 : BitVec 32 := Scalar.addi v124 c0_i32_43
  let v126 : BitVec 32 := v125
  let v127 : Index := Scalar.indexCast v126
  let c0_44 : Index := 0#32
  ![v127.toNat, 0]
def k0_off8 (i : grid0.Coords) (k0_t2 : Fin (k0_t2_loop i).trips) (c0_i32_43 : BitVec 32) : Fin 2 → Nat :=
  let arg1 : BitVec 32 := BitVec.ofNat 32 (i 1).val
  let c1_i32 : BitVec 32 := 1#32
  let v109 : BitVec 32 := Scalar.addi arg1 c1_i32
  let c4_i32 : BitVec 32 := 4#32
  let v110 : BitVec 32 := Scalar.subi c4_i32 v109
  let c1_i32_33 : BitVec 32 := 1#32
  let v112 : BitVec 32 := Scalar.divsi v110 c1_i32_33
  let v113 : BitVec 32 := Scalar.muli v112 c1_i32_33
  let v114 : BitVec 32 := Scalar.addi v109 v113
  let c1_i32_35 : BitVec 32 := 1#32
  let arg11 : BitVec 32 := Scf.iv v114 c1_i32_35 k0_t2
  let c1024_i32_42 : BitVec 32 := 1024#32
  let v124 : BitVec 32 := Scalar.muli arg11 c1024_i32_42
  let v125 : BitVec 32 := Scalar.addi v124 c0_i32_43
  let v126 : BitVec 32 := v125
  let v130 : Index := Scalar.indexCast v126
  let c0_45 : Index := 0#32
  ![v130.toNat, 0]
def k0_off9 (i : grid0.Coords) (k0_t2 : Fin (k0_t2_loop i).trips) (c0_i32_43 : BitVec 32) : Fin 2 → Nat :=
  let arg1 : BitVec 32 := BitVec.ofNat 32 (i 1).val
  let c1_i32 : BitVec 32 := 1#32
  let v109 : BitVec 32 := Scalar.addi arg1 c1_i32
  let c4_i32 : BitVec 32 := 4#32
  let v110 : BitVec 32 := Scalar.subi c4_i32 v109
  let c1_i32_33 : BitVec 32 := 1#32
  let v112 : BitVec 32 := Scalar.divsi v110 c1_i32_33
  let v113 : BitVec 32 := Scalar.muli v112 c1_i32_33
  let v114 : BitVec 32 := Scalar.addi v109 v113
  let c1_i32_35 : BitVec 32 := 1#32
  let arg11 : BitVec 32 := Scf.iv v114 c1_i32_35 k0_t2
  let c1024_i32_42 : BitVec 32 := 1024#32
  let v124 : BitVec 32 := Scalar.muli arg11 c1024_i32_42
  let v125 : BitVec 32 := Scalar.addi v124 c0_i32_43
  let v126 : BitVec 32 := v125
  let v134 : Index := Scalar.indexCast v126
  let c0_47 : Index := 0#32
  ![v134.toNat, 0]
def k0_mult6 (i : grid0.Coords) (k0_t2 : Fin (k0_t2_loop i).trips) : BitVec 32 :=
  let arg1 : BitVec 32 := BitVec.ofNat 32 (i 1).val
  let c1_i32 : BitVec 32 := 1#32
  let v109 : BitVec 32 := Scalar.addi arg1 c1_i32
  let c4_i32 : BitVec 32 := 4#32
  let v110 : BitVec 32 := Scalar.subi c4_i32 v109
  let c1_i32_33 : BitVec 32 := 1#32
  let v112 : BitVec 32 := Scalar.divsi v110 c1_i32_33
  let v113 : BitVec 32 := Scalar.muli v112 c1_i32_33
  let v114 : BitVec 32 := Scalar.addi v109 v113
  let c1_i32_35 : BitVec 32 := 1#32
  let arg11 : BitVec 32 := Scf.iv v114 c1_i32_35 k0_t2
  let c1024_i32_55 : BitVec 32 := 1024#32
  let v160 : BitVec 32 := Scalar.muli arg11 c1024_i32_55
  let c512_i32_56 : BitVec 32 := 512#32
  let v161 : BitVec 32 := Scalar.addi v160 c512_i32_56
  v161
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4096x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "ln2" => some ((Real.log 2 : ℝ) : EReal)
  | "qscale" => some (((Real.log 2)⁻¹ * (Real.sqrt 192)⁻¹ : ℝ) : EReal)
  | _ => none
-- ==== ReferenceIdeal.lean ====
abbrev S4096x4x192 : Shape := ⟨3, ![4096, 4, 192]⟩
abbrev S4096x4x128 : Shape := ⟨3, ![4096, 4, 128]⟩
abbrev S4x4096x4096 : Shape := ⟨3, ![4, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x4096 : Shape := ⟨2, ![4, 4096]⟩
abbrev S4x4096x1 : Shape := ⟨3, ![4, 4096, 1]⟩
abbrev S4x128x4096 : Shape := ⟨3, ![4, 128, 4096]⟩
abbrev S4x4096x192 : Shape := ⟨3, ![4, 4096, 192]⟩
abbrev S4096x4x256 : Shape := ⟨3, ![4096, 4, 256]⟩
abbrev S4096x1024 : Shape := ⟨2, ![4096, 1024]⟩
abbrev S4096x512 : Shape := ⟨2, ![4096, 512]⟩

abbrev nBuf : Space → Nat
  | .hbm => 100
  | .vmem => 0
  | .smem => 0
  | _ => 0

abbrev bufTy : (tb : Table) → Fin (tcTables nBuf tb) → BufTy
  | .hbm, ⟨0, _⟩ => ⟨S4096x4x192, .f32⟩
  | .hbm, ⟨1, _⟩ => ⟨S4096x4x192, .f32⟩
  | .hbm, ⟨2, _⟩ => ⟨S4096x4x128, .f32⟩
  | .hbm, ⟨3, _⟩ => ⟨S4096x4x128, .f32⟩
  | .hbm, ⟨4, _⟩ => ⟨S4x4096x4096, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4x4096x4096, .f32⟩
  | .hbm, ⟨10, _⟩ => ⟨S4x4096x4096, .f32⟩
  | .hbm, ⟨11, _⟩ => ⟨S4096, .i32⟩
  | .hbm, ⟨12, _⟩ => ⟨S1x4096, .i32⟩
  | .hbm, ⟨13, _⟩ => ⟨S4096x1, .i32⟩
  | .hbm, ⟨14, _⟩ => ⟨S4096x4096, .i32⟩
  | .hbm, ⟨15, _⟩ => ⟨S4096x4096, .i32⟩
  | .hbm, ⟨16, _⟩ => ⟨S4096x4096, .i1⟩
  | .hbm, ⟨17, _⟩ => ⟨S_, .f32⟩
  | .hbm, ⟨18, _⟩ => ⟨S_, .f32⟩
  | .hbm, ⟨19, _⟩ => ⟨S4x4096x4096, .i1⟩
  | .hbm, ⟨20, _⟩ => ⟨S4x4096x4096, .f32⟩
  | .hbm, ⟨21, _⟩ => ⟨S4x4096x4096, .f32⟩
  | .hbm, ⟨22, _⟩ => ⟨S_, .f32⟩
  | .hbm, ⟨23, _⟩ => ⟨S4x4096x4096, .f32⟩
  | .hbm, ⟨24, _⟩ => ⟨S_, .f32⟩
  | .hbm, ⟨25, _⟩ => ⟨S4x4096, .f32⟩
  | .hbm, ⟨26, _⟩ => ⟨S4x4096x1, .f32⟩
  | .hbm, ⟨27, _⟩ => ⟨S4x4096x4096, .f32⟩
  | .hbm, ⟨28, _⟩ => ⟨S4x4096x4096, .i1⟩
  | .hbm, ⟨29, _⟩ => ⟨S4x4096x4096, .f32⟩
  | .hbm, ⟨30, _⟩ => ⟨S_, .f32⟩
  | .hbm, ⟨31, _⟩ => ⟨S4x4096, .f32⟩
  | .hbm, ⟨32, _⟩ => ⟨S_, .f32⟩
  | .hbm, ⟨33, _⟩ => ⟨S4x4096, .f32⟩
  | .hbm, ⟨34, _⟩ => ⟨S4x4096, .f32⟩
  | .hbm, ⟨35, _⟩ => ⟨S_, .f32⟩
  | .hbm, ⟨36, _⟩ => ⟨S4x4096, .f32⟩
  | .hbm, ⟨37, _⟩ => ⟨S4x4096, .i1⟩
  | .hbm, ⟨38, _⟩ => ⟨S_, .f32⟩
  | .hbm, ⟨39, _⟩ => ⟨S4x4096, .f32⟩
  | .hbm, ⟨40, _⟩ => ⟨S4x4096, .i1⟩
  | .hbm, ⟨41, _⟩ => ⟨S_, .f32⟩
  | .hbm, ⟨42, _⟩ => ⟨S4x4096, .f32⟩
  | .hbm, ⟨43, _⟩ => ⟨S_, .f32⟩
  | .hbm, ⟨44, _⟩ => ⟨S4x4096, .f32⟩
  | .hbm, ⟨45, _⟩ => ⟨S_, .f32⟩
  | .hbm, ⟨46, _⟩ => ⟨S4x4096, .f32⟩
  | .hbm, ⟨47, _⟩ => ⟨S4x4096, .f32⟩
  | .hbm, ⟨48, _⟩ => ⟨S4x4096, .f32⟩
  | .hbm, ⟨49, _⟩ => ⟨S4x4096x1, .f32⟩
  | .hbm, ⟨50, _⟩ => ⟨S4x4096x4096, .f32⟩
  | .hbm, ⟨51, _⟩ => ⟨S4x4096x4096, .f32⟩
  | .hbm, ⟨52, _⟩ => ⟨S4x4096x4096, .f32⟩
  | .hbm, ⟨53, _⟩ => ⟨S_, .f32⟩
  | .hbm, ⟨54, _⟩ => ⟨S4x4096, .f32⟩
  | .hbm, ⟨55, _⟩ => ⟨S4x4096x1, .f32⟩
  | .hbm, ⟨56, _⟩ => ⟨S4x4096x4096, .f32⟩
  | .hbm, ⟨57, _⟩ => ⟨S4x4096x4096, .f32⟩
  | .hbm, ⟨58, _⟩ => ⟨S4x4096x1, .f32⟩
  | .hbm, ⟨59, _⟩ => ⟨S_, .f32⟩
  | .hbm, ⟨60, _⟩ => ⟨S4x4096x1, .f32⟩
  | .hbm, ⟨61, _⟩ => ⟨S4x4096x1, .f32⟩
  | .hbm, ⟨62, _⟩ => ⟨S4x128x4096, .f32⟩
  | .hbm, ⟨63, _⟩ => ⟨S4096x4x128, .f32⟩
  | .hbm, ⟨64, _⟩ => ⟨S4x128x4096, .f32⟩
  | .hbm, ⟨65, _⟩ => ⟨S4x4096x4096, .f32⟩
  | .hbm, ⟨66, _⟩ => ⟨S4x128x4096, .f32⟩
  | .hbm, ⟨67, _⟩ => ⟨S4096x4x128, .f32⟩
  | .hbm, ⟨68, _⟩ => ⟨S4x4096x4096, .f32⟩
  | .hbm, ⟨69, _⟩ => ⟨S4x4096x4096, .f32⟩
  | .hbm, ⟨70, _⟩ => ⟨S4x4096x4096, .f32⟩
  | .hbm, ⟨71, _⟩ => ⟨S_, .f32⟩
  | .hbm, ⟨72, _⟩ => ⟨S4x4096, .f32⟩
  | .hbm, ⟨73, _⟩ => ⟨S4x4096x1, .f32⟩
  | .hbm, ⟨74, _⟩ => ⟨S4x4096x1, .f32⟩
  | .hbm, ⟨75, _⟩ => ⟨S4x4096x4096, .f32⟩
  | .hbm, ⟨76, _⟩ => ⟨S4x4096x4096, .f32⟩
  | .hbm, ⟨77, _⟩ => ⟨S_, .f32⟩
  | .hbm, ⟨78, _⟩ => ⟨S4x4096, .f32⟩
  | .hbm, ⟨79, _⟩ => ⟨S4x4096x4096, .f32⟩
  | .hbm, ⟨80, _⟩ => ⟨S4x4096x4096, .f32⟩
  | .hbm, ⟨81, _⟩ => ⟨S4x4096x4096, .f32⟩
  | .hbm, ⟨82, _⟩ => ⟨S_, .f32⟩
  | .hbm, ⟨83, _⟩ => ⟨S4x4096x4096, .f32⟩
  | .hbm, ⟨84, _⟩ => ⟨S4x4096x4096, .f32⟩
  | .hbm, ⟨85, _⟩ => ⟨S4x4096x4096, .f32⟩
  | .hbm, ⟨86, _⟩ => ⟨S4x4096x4096, .f32⟩
  | .hbm, ⟨87, _⟩ => ⟨S4x4096x192, .f32⟩
  | .hbm, ⟨88, _⟩ => ⟨S4096x4x192, .f32⟩
  | .hbm, ⟨89, _⟩ => ⟨S4x4096x192, .f32⟩
  | .hbm, ⟨90, _⟩ => ⟨S4096x4x192, .f32⟩
  | .hbm, ⟨91, _⟩ => ⟨S_, .i32⟩
  | .hbm, ⟨92, _⟩ => ⟨S_, .f32⟩
  | .hbm, ⟨93, _⟩ => ⟨S4096x4x256, .f32⟩
  | .hbm, ⟨94, _⟩ => ⟨S4096x1024, .f32⟩
  | .hbm, ⟨95, _⟩ => ⟨S_, .i32⟩
  | .hbm, ⟨96, _⟩ => ⟨S_, .f32⟩
  | .hbm, ⟨97, _⟩ => ⟨S4096x4x256, .f32⟩
  | .hbm, ⟨98, _⟩ => ⟨S4096x1024, .f32⟩
  | .hbm, ⟨99, _⟩ => ⟨S4096x512, .f32⟩
  | _, _ => ⟨S4096x4x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_call0_v0 : Ref sig .tc := ⟨.hbm, 18, rfl⟩
abbrev main_v11_1 : Ref sig .tc := ⟨.hbm, 19, rfl⟩
abbrev main_call0_v2 : Ref sig .tc := ⟨.hbm, 20, rfl⟩
abbrev main_v11_0 : Ref sig .tc := ⟨.hbm, 21, rfl⟩
abbrev main_call0_cst : Ref sig .tc := ⟨.hbm, 22, rfl⟩
abbrev main_v11_2 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_v23 : Ref sig .tc := ⟨.hbm, 40, rfl⟩
abbrev main_cst_7 : Ref sig .tc := ⟨.hbm, 41, rfl⟩
abbrev main_v24 : Ref sig .tc := ⟨.hbm, 42, rfl⟩
abbrev main_cst_8 : Ref sig .tc := ⟨.hbm, 43, rfl⟩
abbrev main_v25 : Ref sig .tc := ⟨.hbm, 44, rfl⟩
abbrev main_cst_9 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_10 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_11 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_12 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_13 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_call1_cst : Ref sig .tc := ⟨.hbm, 82, rfl⟩
abbrev main_call1_v0 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_c : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_c_14 : Ref sig .tc := ⟨.hbm, 95, rfl⟩
abbrev main_call3_v0 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩

abbrev nD : Nat := 1
abbrev τ : Topo := Topo.v7x

variable {F : FTy → Type} [FloatOps F]
-- ==== Ffn.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S_ : Shape := ⟨0, ![]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 40
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S_, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x1024, .bf16⟩
  | .hbm, ⟨30, _⟩ => ⟨S2816x1024, .bf16⟩
  | .hbm, ⟨31, _⟩ => ⟨S4096x2816, .bf16⟩
  | .hbm, ⟨32, _⟩ => ⟨S4096x2816, .bf16⟩
  | .hbm, ⟨33, _⟩ => ⟨S2816x1024, .f32⟩
  | .hbm, ⟨34, _⟩ => ⟨S2816x1024, .bf16⟩
  | .hbm, ⟨35, _⟩ => ⟨S2816x1024, .f32⟩
  | .hbm, ⟨36, _⟩ => ⟨S2816x1024, .bf16⟩
  | .hbm, ⟨37, _⟩ => ⟨S4096x2816, .bf16⟩
  | .hbm, ⟨38, _⟩ => ⟨S4096x2816, .bf16⟩
  | .hbm, ⟨39, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S1408x1024, .bf16⟩
  | .local _ .vmem, ⟨9, _⟩ => ⟨S1408x1024, .bf16⟩
  | .local _ .vmem, ⟨10, _⟩ => ⟨S1408x1024, .bf16⟩
  | .local _ .vmem, ⟨11, _⟩ => ⟨S1408x1024, .bf16⟩
  | .local _ .vmem, ⟨12, _⟩ => ⟨S512x1408, .bf16⟩
  | .local _ .vmem, ⟨13, _⟩ => ⟨S512x1408, .bf16⟩
  | .local _ .vmem, ⟨14, _⟩ => ⟨S512x1408, .bf16⟩
  | .local _ .vmem, ⟨15, _⟩ => ⟨S512x1408, .bf16⟩
  | .local _ .vmem, ⟨16, _⟩ => ⟨S512x1024, .bf16⟩
  | .local _ .vmem, ⟨17, _⟩ => ⟨S512x1024, .bf16⟩
  | .local _ .vmem, ⟨18, _⟩ => ⟨S4096x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16_0 : Ref sig .tc := ⟨.hbm, 37, rfl⟩
abbrev main_v16_1 : Ref sig .tc := ⟨.hbm, 38, rfl⟩
abbrev main_v16_2 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_cond1 (i : grid0.Coords) : BitVec 1 :=
  let arg0 : BitVec 32 := BitVec.ofNat 32 (i 0).val
  let c0_i32 : BitVec 32 := 0#32
  let v26 : BitVec 1 := Scalar.cmpi .eq arg0 c0_i32
  let v27 : BitVec 32 := Scalar.extui v26
  let c0_i32_17 : BitVec 32 := 0#32
  let v28 : BitVec 1 := Scalar.cmpi .ne v27 c0_i32_17
  v28

def k0_off1 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v35 : Index := Scalar.indexCast v1
  let c0_21 : Index := 0#32
  ![v35.toNat, 0]
def k0_cond2 (i : grid0.Coords) : BitVec 1 :=
  let arg0 : BitVec 32 := BitVec.ofNat 32 (i 0).val
  let c0_i32_18 : BitVec 32 := 0#32
  let v29 : BitVec 1 := Scalar.cmpi .sgt arg0 c0_i32_18
  let v30 : BitVec 32 := Scalar.extui v29
  let c0_i32_19 : BitVec 32 := 0#32
  let v31 : BitVec 1 := Scalar.cmpi .ne v30 c0_i32_19
  v31

def k0_off2 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v35 : Index := Scalar.indexCast v1
  let c0_21 : Index := 0#32
  ![v35.toNat, 0]
def k0_cond3 (i : grid0.Coords) : BitVec 1 :=
  let arg0 : BitVec 32 := BitVec.ofNat 32 (i 0).val
  let c1_i32 : BitVec 32 := 1#32
  let v32 : BitVec 1 := Scalar.cmpi .eq arg0 c1_i32
  let v33 : BitVec 32 := Scalar.extui v32
  let c0_i32_20 : BitVec 32 := 0#32
  let v34 : BitVec 1 := Scalar.cmpi .ne v33 c0_i32_20
  v34

def k0_off3 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v35 : Index := Scalar.indexCast v1
  let c0_21 : Index := 0#32
  ![v35.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1408x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== FfnReferenceIdeal.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S_ : Shape := ⟨0, ![]⟩

abbrev nBuf : Space → Nat
  | .hbm => 59
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x1024, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S4096x2816, .f32⟩
  | .hbm, ⟨34, _⟩ => ⟨S4096x2816, .f32⟩
  | .hbm, ⟨35, _⟩ => ⟨S_, .f32⟩
  | .hbm, ⟨36, _⟩ => ⟨S4096x2816, .f32⟩
  | .hbm, ⟨37, _⟩ => ⟨S4096x2816, .f32⟩
  | .hbm, ⟨38, _⟩ => ⟨S_, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x1024, .f32⟩
  | .hbm, ⟨46, _⟩ => ⟨S4096x2816, .f32⟩
  | .hbm, ⟨47, _⟩ => ⟨S4096x2816, .f32⟩
  | .hbm, ⟨48, _⟩ => ⟨S4096x2816, .f32⟩
  | .hbm, ⟨49, _⟩ => ⟨S4096x1024, .f32⟩
  | .hbm, ⟨50, _⟩ => ⟨S4096x2816, .f32⟩
  | .hbm, ⟨51, _⟩ => ⟨S4096x2816, .f32⟩
  | .hbm, ⟨52, _⟩ => ⟨S4096x2816, .f32⟩
  | .hbm, ⟨53, _⟩ => ⟨S4096x2816, .f32⟩
  | .hbm, ⟨54, _⟩ => ⟨S4096x1024, .f32⟩
  | .hbm, ⟨55, _⟩ => ⟨S4096x1024, .f32⟩
  | .hbm, ⟨56, _⟩ => ⟨S4096x2816, .bf16⟩
  | .hbm, ⟨57, _⟩ => ⟨S4096x2816, .bf16⟩
  | .hbm, ⟨58, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v8 : Ref sig .tc := ⟨.hbm, 28, rfl⟩
abbrev main_v9 : Ref sig .tc := ⟨.hbm, 29, rfl⟩
abbrev main_call2_v0 : Ref sig .tc := ⟨.hbm, 30, rfl⟩
abbrev main_call2_v1 : Ref sig .tc := ⟨.hbm, 31, rfl⟩
abbrev main_call2_cst : Ref sig .tc := ⟨.hbm, 32, rfl⟩
abbrev main_call2_v2 : Ref sig .tc := ⟨.hbm, 33, rfl⟩
abbrev main_call2_v3 : Ref sig .tc := ⟨.hbm, 34, rfl⟩
abbrev main_call2_cst_0 : Ref sig .tc := ⟨.hbm, 35, rfl⟩
abbrev main_call2_v4 : Ref sig .tc := ⟨.hbm, 36, rfl⟩
abbrev main_v10_2 : Ref sig .tc := ⟨.hbm, 37, rfl⟩
abbrev main_call2_cst_1 : Ref sig .tc := ⟨.hbm, 38, rfl⟩
abbrev main_call2_v6 : Ref sig .tc := ⟨.hbm, 39, rfl⟩
abbrev main_call2_v7 : Ref sig .tc := ⟨.hbm, 40, rfl⟩
abbrev main_v10_1 : Ref sig .tc := ⟨.hbm, 41, rfl⟩
abbrev main_v10_0 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_call3_v0 : Ref sig .tc := ⟨.hbm, 50, rfl⟩
abbrev main_call3_v1 : Ref sig .tc := ⟨.hbm, 51, rfl⟩
abbrev main_call3_v2 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩

abbrev nD : Nat := 1
abbrev τ : Topo := Topo.v7x

variable {F : FTy → Type} [FloatOps F]
-- ==== Pair.lean ====
abbrev S4096x2816 : Shape := ⟨2, ![4096, 2816]⟩
abbrev S4096x1024 : Shape := ⟨2, ![4096, 1024]⟩
abbrev S2816x1024 : Shape := ⟨2, ![2816, 1024]⟩
abbrev S4096x256 : Shape := ⟨2, ![4096, 256]⟩
abbrev S256x1024 : Shape := ⟨2, ![256, 1024]⟩
abbrev S4096x512 : Shape := ⟨2, ![4096, 512]⟩
abbrev S512x1024 : Shape := ⟨2, ![512, 1024]⟩

abbrev nBuf : Space → Nat
  | .hbm => 8
  | .vmem => 9
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S4096x1024, .f32⟩
  | .hbm, ⟨3, _⟩ => ⟨S4096x2816, .bf16⟩
  | .hbm, ⟨4, _⟩ => ⟨S4096x2816, .bf16⟩
  | .hbm, ⟨5, _⟩ => ⟨S4096x1024, .bf16⟩
  | .hbm, ⟨6, _⟩ => ⟨S2816x1024, .bf16⟩
  | .hbm, ⟨7, _⟩ => ⟨S2816x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S4096x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PairReferenceIdeal.lean ====
abbrev S4096x2816 : Shape := ⟨2, ![4096, 2816]⟩
abbrev S4096x1024 : Shape := ⟨2, ![4096, 1024]⟩
abbrev S_ : Shape := ⟨0, ![]⟩
abbrev S1024x2816 : Shape := ⟨2, ![1024, 2816]⟩
abbrev S2816x1024 : Shape := ⟨2, ![2816, 1024]⟩

abbrev nBuf : Space → Nat
  | .hbm => 15
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S4096x1024, .f32⟩
  | .hbm, ⟨3, _⟩ => ⟨S_, .f32⟩
  | .hbm, ⟨4, _⟩ => ⟨S1024x2816, .f32⟩
  | .hbm, ⟨5, _⟩ => ⟨S4096x2816, .f32⟩
  | .hbm, ⟨6, _⟩ => ⟨S2816x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | .hbm, ⟨10, _⟩ => ⟨S4096x2816, .f32⟩
  | .hbm, ⟨11, _⟩ => ⟨S2816x1024, .f32⟩
  | .hbm, ⟨12, _⟩ => ⟨S1024x2816, .f32⟩
  | .hbm, ⟨13, _⟩ => ⟨S2816x1024, .f32⟩
  | .hbm, ⟨14, _⟩ => ⟨S2816x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== In.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 11
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S4096x1024, .bf16⟩
  | .hbm, ⟨4, _⟩ => ⟨S2816x1024, .f32⟩
  | .hbm, ⟨5, _⟩ => ⟨S2816x1024, .bf16⟩
  | .hbm, ⟨6, _⟩ => ⟨S2816x1024, .f32⟩
  | .hbm, ⟨7, _⟩ => ⟨S2816x1024, .bf16⟩
  | .hbm, ⟨8, _⟩ => ⟨S4096x2816, .bf16⟩
  | .hbm, ⟨9, _⟩ => ⟨S4096x2816, .bf16⟩
  | .hbm, ⟨10, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== InReferenceIdeal.lean ====
abbrev S4096x1024 : Shape := ⟨2, ![4096, 1024]⟩
abbrev S1024x2816 : Shape := ⟨2, ![1024, 2816]⟩
abbrev S4096x2816 : Shape := ⟨2, ![4096, 2816]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S_, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S_, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .bf16⟩
  | .hbm, ⟨28, _⟩ => ⟨S4096x2816, .bf16⟩
  | .hbm, ⟨29, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩

abbrev nD : Nat := 1
abbrev τ : Topo := Topo.v7x

variable {F : FTy → Type} [FloatOps F]
-- ==== Down.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x2816, .bf16⟩
  | .hbm, ⟨3, _⟩ => ⟨S2816x1024, .bf16⟩
  | .hbm, ⟨4, _⟩ => ⟨S4096x1024, .bf16⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .bf16⟩
  | .local _ .vmem, ⟨4, _⟩ => ⟨S1024x1024, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownReferenceIdeal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== DownW.lean ====
abbrev S4096x2816 : Shape := ⟨2, ![4096, 2816]⟩
abbrev S4096x1024 : Shape := ⟨2, ![4096, 1024]⟩
abbrev S2816x1024 : Shape := ⟨2, ![2816, 1024]⟩
abbrev S4096x256 : Shape := ⟨2, ![4096, 256]⟩
abbrev S256x1024 : Shape := ⟨2, ![256, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4096x2816, .bf16⟩
  | .hbm, ⟨3, _⟩ => ⟨S4096x1024, .bf16⟩
  | .hbm, ⟨4, _⟩ => ⟨S2816x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownWReferenceIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Out.lean ====
abbrev S4096x1024 : Shape := ⟨2, ![4096, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .bf16⟩
  | .hbm, ⟨3, _⟩ => ⟨S1024x1024, .bf16⟩
  | .hbm, ⟨4, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutReferenceIdeal.lean ====
abbrev S4096x1024 : Shape := ⟨2, ![4096, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== OutX.lean ====
abbrev S4096x1024 : Shape := ⟨2, ![4096, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .bf16⟩
  | .hbm, ⟨3, _⟩ => ⟨S1024x1024, .bf16⟩
  | .hbm, ⟨4, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutXReferenceIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutW.lean ====
abbrev S4096x1024 : Shape := ⟨2, ![4096, 1024]⟩
abbrev S1024x1024 : Shape := ⟨2, ![1024, 1024]⟩
abbrev S4096x512 : Shape := ⟨2, ![4096, 512]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S1024x1024, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .bf16⟩
  | .local _ .vmem, ⟨4, _⟩ => ⟨S1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutWReferenceIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proj.lean ====
abbrev S4096x1024 : Shape := ⟨2, ![4096, 1024]⟩
abbrev S1024x2888 : Shape := ⟨2, ![1024, 2888]⟩
abbrev S2888x1024 : Shape := ⟨2, ![2888, 1024]⟩
abbrev S2048x1024 : Shape := ⟨2, ![2048, 1024]⟩
abbrev S768x1024 : Shape := ⟨2, ![768, 1024]⟩
abbrev S8x1024 : Shape := ⟨2, ![8, 1024]⟩
abbrev S_ : Shape := ⟨0, ![]⟩
abbrev S128x1024 : Shape := ⟨2, ![128, 1024]⟩
abbrev S64x1024 : Shape := ⟨2, ![64, 1024]⟩
abbrev S3072x1024 : Shape := ⟨2, ![3072, 1024]⟩
abbrev S4096x3072 : Shape := ⟨2, ![4096, 3072]⟩
abbrev S1024x1024 : Shape := ⟨2, ![1024, 1024]⟩
abbrev S1536x1024 : Shape := ⟨2, ![1536, 1024]⟩
abbrev S1024x1536 : Shape := ⟨2, ![1024, 1536]⟩

abbrev nBuf : Space → Nat
  | .hbm => 17
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x2888, .f32⟩
  | .hbm, ⟨2, _⟩ => ⟨S4096x1024, .bf16⟩
  | .hbm, ⟨3, _⟩ => ⟨S2888x1024, .f32⟩
  | .hbm, ⟨4, _⟩ => ⟨S2048x1024, .f32⟩
  | .hbm, ⟨5, _⟩ => ⟨S768x1024, .f32⟩
  | .hbm, ⟨6, _⟩ => ⟨S8x1024, .f32⟩
  | .hbm, ⟨7, _⟩ => ⟨S_, .i32⟩
  | .hbm, ⟨8, _⟩ => ⟨S_, .f32⟩
  | .hbm, ⟨9, _⟩ => ⟨S128x1024, .f32⟩
  | .hbm, ⟨10, _⟩ => ⟨S64x1024, .f32⟩
  | .hbm, ⟨11, _⟩ => ⟨S_, .i32⟩
  | .hbm, ⟨12, _⟩ => ⟨S_, .f32⟩
  | .hbm, ⟨13, _⟩ => ⟨S128x1024, .f32⟩
  | .hbm, ⟨14, _⟩ => ⟨S3072x1024, .f32⟩
  | .hbm, ⟨15, _⟩ => ⟨S3072x1024, .bf16⟩
  | .hbm, ⟨16, _⟩ => ⟨S4096x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1536x1024, .bf16⟩
  | .local _ .vmem, ⟨3, _⟩ => ⟨S1536x1024, .bf16⟩
  | .local _ .vmem, ⟨4, _⟩ => ⟨S1024x1536, .bf16⟩
  | .local _ .vmem, ⟨5, _⟩ => ⟨S1024x1536, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_call1_v0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjReferenceIdeal.lean ====
abbrev S4096x1024 : Shape := ⟨2, ![4096, 1024]⟩
abbrev S1024x2888 : Shape := ⟨2, ![1024, 2888]⟩
abbrev S4096x2888 : Shape := ⟨2, ![4096, 2888]⟩
abbrev S4096x8 : Shape := ⟨2, ![4096, 8]⟩
abbrev S4096x64 : Shape := ⟨2, ![4096, 64]⟩
abbrev S4096x2048 : Shape := ⟨2, ![4096, 2048]⟩
abbrev S4096x768 : Shape := ⟨2, ![4096, 768]⟩
abbrev S_ : Shape := ⟨0, ![]⟩
abbrev S4096x120 : Shape := ⟨2, ![4096, 120]⟩
abbrev S4096x3072 : Shape := ⟨2, ![4096, 3072]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2888, .f32⟩
  | .hbm, ⟨2, _⟩ => ⟨S4096x2888, .f32⟩
  | .hbm, ⟨3, _⟩ => ⟨S4096x8, .f32⟩
  | .hbm, ⟨4, _⟩ => ⟨S4096x64, .f32⟩
  | .hbm, ⟨5, _⟩ => ⟨S4096x2048, .f32⟩
  | .hbm, ⟨6, _⟩ => ⟨S4096x768, .f32⟩
  | .hbm, ⟨7, _⟩ => ⟨S_, .f32⟩
  | .hbm, ⟨8, _⟩ => ⟨S4096x120, .f32⟩
  | .hbm, ⟨9, _⟩ => ⟨S_, .f32⟩
  | .hbm, ⟨10, _⟩ => ⟨S4096x64, .f32⟩
  | .hbm, ⟨11, _⟩ => ⟨S4096x3072, .f32⟩
  | .hbm, ⟨12, _⟩ => ⟨S4096x3072, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== ProjX.lean ====
abbrev S4096x2888 : Shape := ⟨2, ![4096, 2888]⟩
abbrev S1024x2888 : Shape := ⟨2, ![1024, 2888]⟩
abbrev S2888x4096 : Shape := ⟨2, ![2888, 4096]⟩
abbrev S2048x4096 : Shape := ⟨2, ![2048, 4096]⟩
abbrev S768x4096 : Shape := ⟨2, ![768, 4096]⟩
abbrev S8x4096 : Shape := ⟨2, ![8, 4096]⟩
abbrev S_ : Shape := ⟨0, ![]⟩
abbrev S128x4096 : Shape := ⟨2, ![128, 4096]⟩
abbrev S64x4096 : Shape := ⟨2, ![64, 4096]⟩
abbrev S3072x4096 : Shape := ⟨2, ![3072, 4096]⟩
abbrev S4096x3072 : Shape := ⟨2, ![4096, 3072]⟩
abbrev S2888x1024 : Shape := ⟨2, ![2888, 1024]⟩
abbrev S2048x1024 : Shape := ⟨2, ![2048, 1024]⟩
abbrev S768x1024 : Shape := ⟨2, ![768, 1024]⟩
abbrev S8x1024 : Shape := ⟨2, ![8, 1024]⟩
abbrev S128x1024 : Shape := ⟨2, ![128, 1024]⟩
abbrev S64x1024 : Shape := ⟨2, ![64, 1024]⟩
abbrev S3072x1024 : Shape := ⟨2, ![3072, 1024]⟩
abbrev S4096x1024 : Shape := ⟨2, ![4096, 1024]⟩
abbrev S1024x3072 : Shape := ⟨2, ![1024, 3072]⟩
abbrev S1024x1024 : Shape := ⟨2, ![1024, 1024]⟩

abbrev nBuf : Space → Nat
  | .hbm => 30
  | .vmem => 5
  | .smem => 0
  | _ => 0

abbrev bufTy : (tb : Table) → Fin (tcTables nBuf tb) → BufTy
  | .hbm, ⟨0, _⟩ => ⟨S4096x2888, .f32⟩
  | .hbm, ⟨1, _⟩ => ⟨S1024x2888, .f32⟩
  | .hbm, ⟨2, _⟩ => ⟨S2888x4096, .f32⟩
  | .hbm, ⟨3, _⟩ => ⟨S2048x4096, .f32⟩
  | .hbm, ⟨4, _⟩ => ⟨S768x4096, .f32⟩
  | .hbm, ⟨5, _⟩ => ⟨S8x4096, .f32⟩
  | .hbm, ⟨6, _⟩ => ⟨S_, .i32⟩
  | .hbm, ⟨7, _⟩ => ⟨S_, .f32⟩
  | .hbm, ⟨8, _⟩ => ⟨S128x4096, .f32⟩
  | .hbm, ⟨9, _⟩ => ⟨S64x4096, .f32⟩
  | .hbm, ⟨10, _⟩ => ⟨S_, .i32⟩
  | .hbm, ⟨11, _⟩ => ⟨S_, .f32⟩
  | .hbm, ⟨12, _⟩ => ⟨S128x4096, .f32⟩
  | .hbm, ⟨13, _⟩ => ⟨S3072x4096, .f32⟩
  | .hbm, ⟨14, _⟩ => ⟨S4096x3072, .f32⟩
  | .hbm, ⟨15, _⟩ => ⟨S4096x3072, .bf16⟩
  | .hbm, ⟨16, _⟩ => ⟨S2888x1024, .f32⟩
  | .hbm, ⟨17, _⟩ => ⟨S2048x1024, .f32⟩
  | .hbm, ⟨18, _⟩ => ⟨S768x1024, .f32⟩
  | .hbm, ⟨19, _⟩ => ⟨S8x1024, .f32⟩
  | .hbm, ⟨20, _⟩ => ⟨S_, .i32⟩
  | .hbm, ⟨21, _⟩ => ⟨S_, .f32⟩
  | .hbm, ⟨22, _⟩ => ⟨S128x1024, .f32⟩
  | .hbm, ⟨23, _⟩ => ⟨S64x1024, .f32⟩
  | .hbm, ⟨24, _⟩ => ⟨S_, .i32⟩
  | .hbm, ⟨25, _⟩ => ⟨S_, .f32⟩
  | .hbm, ⟨26, _⟩ => ⟨S128x1024, .f32⟩
  | .hbm, ⟨27, _⟩ => ⟨S3072x1024, .f32⟩
  | .hbm, ⟨28, _⟩ => ⟨S3072x1024, .bf16⟩
  | .hbm, ⟨29, _⟩ => ⟨S4096x1024, .bf16⟩
  | .local _ .vmem, ⟨0, _⟩ => ⟨S1024x3072, .bf16⟩
  | .local _ .vmem, ⟨1, _⟩ => ⟨S1024x3072, .bf16⟩
  | .local _ .vmem, ⟨2, _⟩ => ⟨S3072x1024, .bf16⟩
  | .local _ .vmem, ⟨3, _⟩ => ⟨S1024x1024, .bf16⟩
  | .local _ .vmem, ⟨4, _⟩ => ⟨S1024x1024, .bf16⟩
  | _, _ => ⟨S4096x2888, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_call1_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_call2_v0 : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_call3_v0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjXReferenceIdeal.lean ====
abbrev S4096x2888 : Shape := ⟨2, ![4096, 2888]⟩
abbrev S1024x2888 : Shape := ⟨2, ![1024, 2888]⟩
abbrev S_ : Shape := ⟨0, ![]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x2888, .f32⟩
  | .hbm, ⟨1, _⟩ => ⟨S1024x2888, .f32⟩
  | .hbm, ⟨2, _⟩ => ⟨S_, .f32⟩
  | .hbm, ⟨3, _⟩ => ⟨S4096x1024, .f32⟩
  | .hbm, ⟨4, _⟩ => ⟨S4096x2888, .f32⟩
  | .hbm, ⟨5, _⟩ => ⟨S4096x1024, .f32⟩
  | .hbm, ⟨6, _⟩ => ⟨S4096x1024, .bf16⟩
  | _, _ => ⟨S4096x2888, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== ProjW.lean ====
abbrev S4096x2888 : Shape := ⟨2, ![4096, 2888]⟩
abbrev S4096x1024 : Shape := ⟨2, ![4096, 1024]⟩
abbrev S2888x4096 : Shape := ⟨2, ![2888, 4096]⟩
abbrev S2048x4096 : Shape := ⟨2, ![2048, 4096]⟩
abbrev S768x4096 : Shape := ⟨2, ![768, 4096]⟩
abbrev S8x4096 : Shape := ⟨2, ![8, 4096]⟩
abbrev S_ : Shape := ⟨0, ![]⟩
abbrev S128x4096 : Shape := ⟨2, ![128, 4096]⟩
abbrev S64x4096 : Shape := ⟨2, ![64, 4096]⟩
abbrev S3072x4096 : Shape := ⟨2, ![3072, 4096]⟩
abbrev S4096x3072 : Shape := ⟨2, ![4096, 3072]⟩
abbrev S3072x1024 : Shape := ⟨2, ![3072, 1024]⟩
abbrev S4096x512 : Shape := ⟨2, ![4096, 512]⟩
abbrev S1024x512 : Shape := ⟨2, ![1024, 512]⟩

abbrev nBuf : Space → Nat
  | .hbm => 18
  | .vmem => 6
  | .smem => 0
  | _ => 0

abbrev bufTy : (tb : Table) → Fin (tcTables nBuf tb) → BufTy
  | .hbm, ⟨0, _⟩ => ⟨S4096x2888, .f32⟩
  | .hbm, ⟨1, _⟩ => ⟨S4096x1024, .f32⟩
  | .hbm, ⟨2, _⟩ => ⟨S2888x4096, .f32⟩
  | .hbm, ⟨3, _⟩ => ⟨S2048x4096, .f32⟩
  | .hbm, ⟨4, _⟩ => ⟨S768x4096, .f32⟩
  | .hbm, ⟨5, _⟩ => ⟨S8x4096, .f32⟩
  | .hbm, ⟨6, _⟩ => ⟨S_, .i32⟩
  | .hbm, ⟨7, _⟩ => ⟨S_, .f32⟩
  | .hbm, ⟨8, _⟩ => ⟨S128x4096, .f32⟩
  | .hbm, ⟨9, _⟩ => ⟨S64x4096, .f32⟩
  | .hbm, ⟨10, _⟩ => ⟨S_, .i32⟩
  | .hbm, ⟨11, _⟩ => ⟨S_, .f32⟩
  | .hbm, ⟨12, _⟩ => ⟨S128x4096, .f32⟩
  | .hbm, ⟨13, _⟩ => ⟨S3072x4096, .f32⟩
  | .hbm, ⟨14, _⟩ => ⟨S4096x3072, .f32⟩
  | .hbm, ⟨15, _⟩ => ⟨S4096x3072, .bf16⟩
  | .hbm, ⟨16, _⟩ => ⟨S4096x1024, .bf16⟩
  | .hbm, ⟨17, _⟩ => ⟨S3072x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | _, _ => ⟨S4096x2888, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_call1_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjWReferenceIdeal.lean ====
abbrev S4096x2888 : Shape := ⟨2, ![4096, 2888]⟩
abbrev S4096x1024 : Shape := ⟨2, ![4096, 1024]⟩
abbrev S_ : Shape := ⟨0, ![]⟩
abbrev S1024x2888 : Shape := ⟨2, ![1024, 2888]⟩
abbrev S2888x1024 : Shape := ⟨2, ![2888, 1024]⟩
abbrev S1024x8 : Shape := ⟨2, ![1024, 8]⟩
abbrev S1024x64 : Shape := ⟨2, ![1024, 64]⟩
abbrev S1024x2048 : Shape := ⟨2, ![1024, 2048]⟩
abbrev S1024x768 : Shape := ⟨2, ![1024, 768]⟩
abbrev S1024x120 : Shape := ⟨2, ![1024, 120]⟩
abbrev S1024x3072 : Shape := ⟨2, ![1024, 3072]⟩
abbrev S3072x1024 : Shape := ⟨2, ![3072, 1024]⟩

abbrev nBuf : Space → Nat
  | .hbm => 18
  | .vmem => 0
  | .smem => 0
  | _ => 0

abbrev bufTy : (tb : Table) → Fin (tcTables nBuf tb) → BufTy
  | .hbm, ⟨0, _⟩ => ⟨S4096x2888, .f32⟩
  | .hbm, ⟨1, _⟩ => ⟨S4096x1024, .f32⟩
  | .hbm, ⟨2, _⟩ => ⟨S_, .f32⟩
  | .hbm, ⟨3, _⟩ => ⟨S1024x2888, .f32⟩
  | .hbm, ⟨4, _⟩ => ⟨S4096x2888, .f32⟩
  | .hbm, ⟨5, _⟩ => ⟨S2888x1024, .f32⟩
  | .hbm, ⟨6, _⟩ => ⟨S1024x2888, .f32⟩
  | .hbm, ⟨7, _⟩ => ⟨S1024x2888, .bf16⟩
  | .hbm, ⟨8, _⟩ => ⟨S1024x8, .bf16⟩
  | .hbm, ⟨9, _⟩ => ⟨S1024x64, .bf16⟩
  | .hbm, ⟨10, _⟩ => ⟨S1024x2048, .bf16⟩
  | .hbm, ⟨11, _⟩ => ⟨S1024x768, .bf16⟩
  | .hbm, ⟨12, _⟩ => ⟨S_, .bf16⟩
  | .hbm, ⟨13, _⟩ => ⟨S1024x120, .bf16⟩
  | .hbm, ⟨14, _⟩ => ⟨S_, .bf16⟩
  | .hbm, ⟨15, _⟩ => ⟨S1024x64, .bf16⟩
  | .hbm, ⟨16, _⟩ => ⟨S1024x3072, .bf16⟩
  | .hbm, ⟨17, _⟩ => ⟨S3072x1024, .bf16⟩
  | _, _ => ⟨S4096x2888, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Fwd.lean ====
abbrev S4096x4x192 : Shape := ⟨3, ![4096, 4, 192]⟩
abbrev S4096x4x128 : Shape := ⟨3, ![4096, 4, 128]⟩
abbrev S_ : Shape := ⟨0, ![]⟩
abbrev S4096x4x256 : Shape := ⟨3, ![4096, 4, 256]⟩
abbrev S4096x1024 : Shape := ⟨2, ![4096, 1024]⟩
abbrev S4096x512 : Shape := ⟨2, ![4096, 512]⟩
abbrev S1024x256 : Shape := ⟨2, ![1024, 256]⟩
abbrev S4096x256 : Shape := ⟨2, ![4096, 256]⟩
abbrev S4096x128 : Shape := ⟨2, ![4096, 128]⟩
abbrev S1024x128 : Shape := ⟨2, ![1024, 128]⟩
abbrev S512x1 : Shape := ⟨2, ![512, 1]⟩
abbrev S512x128 : Shape := ⟨2, ![512, 128]⟩
abbrev S512x256 : Shape := ⟨2, ![512, 256]⟩
abbrev S512x1024 : Shape := ⟨2, ![512, 1024]⟩
abbrev S512 : Shape := ⟨1, ![512]⟩
abbrev S512x512 : Shape := ⟨2, ![512, 512]⟩

abbrev nBuf : Space → Nat
  | .hbm => 26
  | .vmem => 10
  | .smem => 0
  | _ => 0

abbrev bufTy : (tb : Table) → Fin (tcTables nBuf tb) → BufTy
  | .hbm, ⟨0, _⟩ => ⟨S4096x4x192, .f32⟩
  | .hbm, ⟨1, _⟩ => ⟨S4096x4x192, .f32⟩
  | .hbm, ⟨2, _⟩ => ⟨S4096x4x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4096x4x192, .f32⟩
  | .hbm, ⟨11, _⟩ => ⟨S4096x4x192, .f32⟩
  | .hbm, ⟨12, _⟩ => ⟨S_, .i32⟩
  | .hbm, ⟨13, _⟩ => ⟨S_, .f32⟩
  | .hbm, ⟨14, _⟩ => ⟨S4096x4x256, .f32⟩
  | .hbm, ⟨15, _⟩ => ⟨S4096x1024, .f32⟩
  | .hbm, ⟨16, _⟩ => ⟨S4096x1024, .bf16⟩
  | .hbm, ⟨17, _⟩ => ⟨S_, .i32⟩
  | .hbm, ⟨18, _⟩ => ⟨S_, .f32⟩
  | .hbm, ⟨19, _⟩ => ⟨S4096x4x256, .f32⟩
  | .hbm, ⟨20, _⟩ => ⟨S4096x1024, .f32⟩
  | .hbm, ⟨21, _⟩ => ⟨S4096x1024, .bf16⟩
  | .hbm, ⟨22, _⟩ => ⟨S4096x512, .f32⟩
  | .hbm, ⟨23, _⟩ => ⟨S4096x512, .bf16⟩
  | .hbm, ⟨24, _⟩ => ⟨S4096x512, .f32⟩
  | .hbm, ⟨25, _⟩ => ⟨S4096x512, .f32⟩
  | .local _ .vmem, ⟨0, _⟩ => ⟨S1024x256, .bf16⟩
  | .local _ .vmem, ⟨1, _⟩ => ⟨S1024x256, .bf16⟩
  | .local _ .vmem, ⟨2, _⟩ => ⟨S4096x256, .bf16⟩
  | .local _ .vmem, ⟨3, _⟩ => ⟨S4096x256, .bf16⟩
  | .local _ .vmem, ⟨4, _⟩ => ⟨S4096x128, .bf16⟩
  | .local _ .vmem, ⟨5, _⟩ => ⟨S4096x128, .bf16⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | _, _ => ⟨S4096x4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_call1_v0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14_0 : Ref sig .tc := ⟨.hbm, 24, rfl⟩
abbrev main_v14_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

@[reducible] def k0_t1_loop (i : grid0.Coords) : Scf.Loop 32 :=
  let c0_i32_10 : BitVec 32 := 0#32
  let arg1 : BitVec 32 := BitVec.ofNat 32 (i 1).val
  let c1024_i32 : BitVec 32 := 1024#32
  let v0 : BitVec 32 := Scalar.muli arg1 c1024_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c1024_i32_0 : BitVec 32 := 1024#32
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let v1 : BitVec 32 := Scalar.divsi v0 c1024_i32_0
  let c1_i32 : BitVec 32 := 1#32
  let v16 : BitVec 32 := Scalar.subi v1 c1_i32
  let v17 : BitVec 32 := Scalar.select v15 v16 v1
  let v24 : BitVec 32 := Scalar.subi v17 c0_i32_10
  let c1_i32_11 : BitVec 32 := 1#32
  let v26 : BitVec 32 := Scalar.divsi v24 c1_i32_11
  let v27 : BitVec 32 := Scalar.muli v26 c1_i32_11
  let v28 : BitVec 32 := Scalar.addi c0_i32_10 v27
  let c1_i32_12 : BitVec 32 := 1#32
  ⟨c0_i32_10, v28, c1_i32_12⟩
def k0_mult1 (i : grid0.Coords) (k0_t1 : Fin (k0_t1_loop i).trips) : BitVec 32 :=
  let c0_i32_10 : BitVec 32 := 0#32
  let c1_i32_12 : BitVec 32 := 1#32
  let arg7 : BitVec 32 := Scf.iv c0_i32_10 c1_i32_12 k0_t1
  let c1024_i32_45 : BitVec 32 := 1024#32
  let v128 : BitVec 32 := Scalar.muli arg7 c1024_i32_45
  v128
def k0_off1 (i : grid0.Coords) (k0_t1 : Fin (k0_t1_loop i).trips) : Fin 2 → Nat :=
  let c0_i32_10 : BitVec 32 := 0#32
  let c1_i32_12 : BitVec 32 := 1#32
  let arg7 : BitVec 32 := Scf.iv c0_i32_10 c1_i32_12 k0_t1
  let c1024_i32_45 : BitVec 32 := 1024#32
  let v128 : BitVec 32 := Scalar.muli arg7 c1024_i32_45
  let v129 : BitVec 32 := v128
  let v130 : Index := Scalar.indexCast v129
  let c0_46 : Index := 0#32
  ![v130.toNat, 0]
def k0_off2 (i : grid0.Coords) (k0_t1 : Fin (k0_t1_loop i).trips) : Fin 2 → Nat :=
  let c0_i32_10 : BitVec 32 := 0#32
  let c1_i32_12 : BitVec 32 := 1#32
  let arg7 : BitVec 32 := Scf.iv c0_i32_10 c1_i32_12 k0_t1
  let c1024_i32_45 : BitVec 32 := 1024#32
  let v128 : BitVec 32 := Scalar.muli arg7 c1024_i32_45
  let v129 : BitVec 32 := v128
  let v133 : Index := Scalar.indexCast v129
  let c0_47 : Index := 0#32
  ![v133.toNat, 0]
@[reducible] def k0_t2_loop (i : grid0.Coords) : Scf.Loop 32 :=
  let c0_i32_10 : BitVec 32 := 0#32
  let arg1 : BitVec 32 := BitVec.ofNat 32 (i 1).val
  let c1024_i32 : BitVec 32 := 1024#32
  let v0 : BitVec 32 := Scalar.muli arg1 c1024_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c1024_i32_0 : BitVec 32 := 1024#32
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let v1 : BitVec 32 := Scalar.divsi v0 c1024_i32_0
  let c1_i32 : BitVec 32 := 1#32
  let v16 : BitVec 32 := Scalar.subi v1 c1_i32
  let v17 : BitVec 32 := Scalar.select v15 v16 v1
  let v24 : BitVec 32 := Scalar.subi v17 c0_i32_10
  let c1_i32_11 : BitVec 32 := 1#32
  let v26 : BitVec 32 := Scalar.divsi v24 c1_i32_11
  let v27 : BitVec 32 := Scalar.muli v26 c1_i32_11
  let v28 : BitVec 32 := Scalar.addi c0_i32_10 v27
  let v25 : BitVec 32 := Scalar.addi c0_i32_10 v24
  let c1_i32_13 : BitVec 32 := 1#32
  ⟨v28, v25, c1_i32_13⟩
def k0_mult2 (i : grid0.Coords) (k0_t2 : Fin (k0_t2_loop i).trips) : BitVec 32 :=
  let c0_i32_10 : BitVec 32 := 0#32
  let arg1 : BitVec 32 := BitVec.ofNat 32 (i 1).val
  let c1024_i32 : BitVec 32 := 1024#32
  let v0 : BitVec 32 := Scalar.muli arg1 c1024_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c1024_i32_0 : BitVec 32 := 1024#32
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let v1 : BitVec 32 := Scalar.divsi v0 c1024_i32_0
  let c1_i32 : BitVec 32 := 1#32
  let v16 : BitVec 32 := Scalar.subi v1 c1_i32
  let v17 : BitVec 32 := Scalar.select v15 v16 v1
  let v24 : BitVec 32 := Scalar.subi v17 c0_i32_10
  let c1_i32_11 : BitVec 32 := 1#32
  let v26 : BitVec 32 := Scalar.divsi v24 c1_i32_11
  let v27 : BitVec 32 := Scalar.muli v26 c1_i32_11
  let v28 : BitVec 32 := Scalar.addi c0_i32_10 v27
  let c1_i32_13 : BitVec 32 := 1#32
  let arg7 : BitVec 32 := Scf.iv v28 c1_i32_13 k0_t2
  let c1024_i32_45 : BitVec 32 := 1024#32
  let v128 : BitVec 32 := Scalar.muli arg7 c1024_i32_45
  v128
def k0_off3 (i : grid0.Coords) (k0_t2 : Fin (k0_t2_loop i).trips) : Fin 2 → Nat :=
  let c0_i32_10 : BitVec 32 := 0#32
  let arg1 : BitVec 32 := BitVec.ofNat 32 (i 1).val
  let c1024_i32 : BitVec 32 := 1024#32
  let v0 : BitVec 32 := Scalar.muli arg1 c1024_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c1024_i32_0 : BitVec 32 := 1024#32
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let v1 : BitVec 32 := Scalar.divsi v0 c1024_i32_0
  let c1_i32 : BitVec 32 := 1#32
  let v16 : BitVec 32 := Scalar.subi v1 c1_i32
  let v17 : BitVec 32 := Scalar.select v15 v16 v1
  let v24 : BitVec 32 := Scalar.subi v17 c0_i32_10
  let c1_i32_11 : BitVec 32 := 1#32
  let v26 : BitVec 32 := Scalar.divsi v24 c1_i32_11
  let v27 : BitVec 32 := Scalar.muli v26 c1_i32_11
  let v28 : BitVec 32 := Scalar.addi c0_i32_10 v27
  let c1_i32_13 : BitVec 32 := 1#32
  let arg7 : BitVec 32 := Scf.iv v28 c1_i32_13 k0_t2
  let c1024_i32_45 : BitVec 32 := 1024#32
  let v128 : BitVec 32 := Scalar.muli arg7 c1024_i32_45
  let v129 : BitVec 32 := v128
  let v130 : Index := Scalar.indexCast v129
  let c0_46 : Index := 0#32
  ![v130.toNat, 0]
def k0_off4 (i : grid0.Coords) (k0_t2 : Fin (k0_t2_loop i).trips) : Fin 2 → Nat :=
  let c0_i32_10 : BitVec 32 := 0#32
  let arg1 : BitVec 32 := BitVec.ofNat 32 (i 1).val
  let c1024_i32 : BitVec 32 := 1024#32
  let v0 : BitVec 32 := Scalar.muli arg1 c1024_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c1024_i32_0 : BitVec 32 := 1024#32
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let v1 : BitVec 32 := Scalar.divsi v0 c1024_i32_0
  let c1_i32 : BitVec 32 := 1#32
  let v16 : BitVec 32 := Scalar.subi v1 c1_i32
  let v17 : BitVec 32 := Scalar.select v15 v16 v1
  let v24 : BitVec 32 := Scalar.subi v17 c0_i32_10
  let c1_i32_11 : BitVec 32 := 1#32
  let v26 : BitVec 32 := Scalar.divsi v24 c1_i32_11
  let v27 : BitVec 32 := Scalar.muli v26 c1_i32_11
  let v28 : BitVec 32 := Scalar.addi c0_i32_10 v27
  let c1_i32_13 : BitVec 32 := 1#32
  let arg7 : BitVec 32 := Scf.iv v28 c1_i32_13 k0_t2
  let c1024_i32_45 : BitVec 32 := 1024#32
  let v128 : BitVec 32 := Scalar.muli arg7 c1024_i32_45
  let v129 : BitVec 32 := v128
  let v133 : Index := Scalar.indexCast v129
  let c0_47 : Index := 0#32
  ![v133.toNat, 0]
def k0_mult3 (i : grid0.Coords) : BitVec 32 :=
  let arg1 : BitVec 32 := BitVec.ofNat 32 (i 1).val
  let c1024_i32 : BitVec 32 := 1024#32
  let v0 : BitVec 32 := Scalar.muli arg1 c1024_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c1024_i32_0 : BitVec 32 := 1024#32
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let v1 : BitVec 32 := Scalar.divsi v0 c1024_i32_0
  let c1_i32 : BitVec 32 := 1#32
  let v16 : BitVec 32 := Scalar.subi v1 c1_i32
  let v17 : BitVec 32 := Scalar.select v15 v16 v1
  let c0_i32_14 : BitVec 32 := 0#32
  let v31 : BitVec 32 := Scalar.addi v17 c0_i32_14
  let c1024_i32_15 : BitVec 32 := 1024#32
  let v32 : BitVec 32 := Scalar.muli v31 c1024_i32_15
  v32
def k0_off5 (i : grid0.Coords) : Fin 2 → Nat :=
  let arg1 : BitVec 32 := BitVec.ofNat 32 (i 1).val
  let c1024_i32 : BitVec 32 := 1024#32
  let v0 : BitVec 32 := Scalar.muli arg1 c1024_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c1024_i32_0 : BitVec 32 := 1024#32
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let v1 : BitVec 32 := Scalar.divsi v0 c1024_i32_0
  let c1_i32 : BitVec 32 := 1#32
  let v16 : BitVec 32 := Scalar.subi v1 c1_i32
  let v17 : BitVec 32 := Scalar.select v15 v16 v1
  let c0_i32_14 : BitVec 32 := 0#32
  let v31 : BitVec 32 := Scalar.addi v17 c0_i32_14
  let c1024_i32_15 : BitVec 32 := 1024#32
  let v32 : BitVec 32 := Scalar.muli v31 c1024_i32_15
  let v33 : BitVec 32 := v32
  let v34 : Index := Scalar.indexCast v33
  let c0 : Index := 0#32
  ![v34.toNat, 0]
def k0_off6 (i : grid0.Coords) : Fin 2 → Nat :=
  let arg1 : BitVec 32 := BitVec.ofNat 32 (i 1).val
  let c1024_i32 : BitVec 32 := 1024#32
  let v0 : BitVec 32 := Scalar.muli arg1 c1024_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c1024_i32_0 : BitVec 32 := 1024#32
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let v1 : BitVec 32 := Scalar.divsi v0 c1024_i32_0
  let c1_i32 : BitVec 32 := 1#32
  let v16 : BitVec 32 := Scalar.subi v1 c1_i32
  let v17 : BitVec 32 := Scalar.select v15 v16 v1
  let c0_i32_14 : BitVec 32 := 0#32
  let v31 : BitVec 32 := Scalar.addi v17 c0_i32_14
  let c1024_i32_15 : BitVec 32 := 1024#32
  let v32 : BitVec 32 := Scalar.muli v31 c1024_i32_15
  let v33 : BitVec 32 := v32
  let v37 : Index := Scalar.indexCast v33
  let c0_16 : Index := 0#32
  ![v37.toNat, 0]
def k0_off7 (i : grid0.Coords) : Fin 2 → Nat :=
  let arg1 : BitVec 32 := BitVec.ofNat 32 (i 1).val
  let c1024_i32 : BitVec 32 := 1024#32
  let v0 : BitVec 32 := Scalar.muli arg1 c1024_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c1024_i32_0 : BitVec 32 := 1024#32
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let v1 : BitVec 32 := Scalar.divsi v0 c1024_i32_0
  let c1_i32 : BitVec 32 := 1#32
  let v16 : BitVec 32 := Scalar.subi v1 c1_i32
  let v17 : BitVec 32 := Scalar.select v15 v16 v1
  let c0_i32_14 : BitVec 32 := 0#32
  let v31 : BitVec 32 := Scalar.addi v17 c0_i32_14
  let c1024_i32_15 : BitVec 32 := 1024#32
  let v32 : BitVec 32 := Scalar.muli v31 c1024_i32_15
  let v33 : BitVec 32 := v32
  let v71 : Index := Scalar.indexCast v33
  let c0_26 : Index := 0#32
  ![v71.toNat, 0]
def k0_off8 (i : grid0.Coords) : Fin 2 → Nat :=
  let arg1 : BitVec 32 := BitVec.ofNat 32 (i 1).val
  let c1024_i32 : BitVec 32 := 1024#32
  let v0 : BitVec 32 := Scalar.muli arg1 c1024_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c1024_i32_0 : BitVec 32 := 1024#32
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let v1 : BitVec 32 := Scalar.divsi v0 c1024_i32_0
  let c1_i32 : BitVec 32 := 1#32
  let v16 : BitVec 32 := Scalar.subi v1 c1_i32
  let v17 : BitVec 32 := Scalar.select v15 v16 v1
  let c0_i32_14 : BitVec 32 := 0#32
  let v31 : BitVec 32 := Scalar.addi v17 c0_i32_14
  let c1024_i32_15 : BitVec 32 := 1024#32
  let v32 : BitVec 32 := Scalar.muli v31 c1024_i32_15
  let v33 : BitVec 32 := v32
  let v74 : Index := Scalar.indexCast v33
  let c0_27 : Index := 0#32
  ![v74.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FwdIdeal.lean ====
variable {F : FTy → Type} [FloatOps F] [Named F]
def κ : String → Option EReal := fun
  | "invln2" => some (((Real.log 2)⁻¹ : ℝ) : EReal)
  | "mask" => some ⊥
  | _ => none
-- ==== FwdReferenceIdeal.lean ====
abbrev S4096x4x192 : Shape := ⟨3, ![4096, 4, 192]⟩
abbrev S4096x4x128 : Shape := ⟨3, ![4096, 4, 128]⟩
abbrev S4x4096x4096 : Shape := ⟨3, ![4, 4096, 4096]⟩
abbrev S_ : Shape := ⟨0, ![]⟩
abbrev S4096 : Shape := ⟨1, ![4096]⟩
abbrev S1x1x4096 : Shape := ⟨3, ![1, 1, 4096]⟩
abbrev S1x4096x1 : Shape := ⟨3, ![1, 4096, 1]⟩
abbrev S1x4096x4096 : Shape := ⟨3, ![1, 4096, 4096]⟩
abbrev S4x4096 : Shape := ⟨2, ![4, 4096]⟩
abbrev S4x4096x1 : Shape := ⟨3, ![4, 4096, 1]⟩
abbrev S4096x4 : Shape := ⟨2, ![4096, 4]⟩
abbrev S1x4096 : Shape := ⟨2, ![1, 4096]⟩
abbrev S4096x1 : Shape := ⟨2, ![4096, 1]⟩
abbrev S4096x4096 : Shape := ⟨2, ![4096, 4096]⟩
abbrev S4x128x4096 : Shape := ⟨3, ![4, 128, 4096]⟩
abbrev S4096x512 : Shape := ⟨2, ![4096, 512]⟩
abbrev S4096x4x1 : Shape := ⟨3, ![4096, 4, 1]⟩

abbrev nBuf : Space → Nat
  | .hbm => 78
  | .vmem => 0
  | .smem => 0
  | _ => 0

abbrev bufTy : (tb : Table) → Fin (tcTables nBuf tb) → BufTy
  | .hbm, ⟨0, _⟩ => ⟨S4096x4x192, .f32⟩
  | .hbm, ⟨1, _⟩ => ⟨S4096x4x192, .f32⟩
  | .hbm, ⟨2, _⟩ => ⟨S4096x4x128, .f32⟩
  | .hbm, ⟨3, _⟩ => ⟨S4x4096x4096, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4x4096x4096, .f32⟩
  | .hbm, ⟨9, _⟩ => ⟨S4x4096x4096, .f32⟩
  | .hbm, ⟨10, _⟩ => ⟨S4096, .i32⟩
  | .hbm, ⟨11, _⟩ => ⟨S1x1x4096, .i32⟩
  | .hbm, ⟨12, _⟩ => ⟨S1x4096x1, .i32⟩
  | .hbm, ⟨13, _⟩ => ⟨S1x4096x4096, .i32⟩
  | .hbm, ⟨14, _⟩ => ⟨S1x4096x4096, .i32⟩
  | .hbm, ⟨15, _⟩ => ⟨S1x4096x4096, .i1⟩
  | .hbm, ⟨16, _⟩ => ⟨S_, .f32⟩
  | .hbm, ⟨17, _⟩ => ⟨S_, .f32⟩
  | .hbm, ⟨18, _⟩ => ⟨S4x4096x4096, .i1⟩
  | .hbm, ⟨19, _⟩ => ⟨S4x4096x4096, .f32⟩
  | .hbm, ⟨20, _⟩ => ⟨S4x4096x4096, .f32⟩
  | .hbm, ⟨21, _⟩ => ⟨S_, .f32⟩
  | .hbm, ⟨22, _⟩ => ⟨S4x4096, .f32⟩
  | .hbm, ⟨23, _⟩ => ⟨S4x4096x1, .f32⟩
  | .hbm, ⟨24, _⟩ => ⟨S4x4096x4096, .f32⟩
  | .hbm, ⟨25, _⟩ => ⟨S4x4096x4096, .f32⟩
  | .hbm, ⟨26, _⟩ => ⟨S4x4096x4096, .f32⟩
  | .hbm, ⟨27, _⟩ => ⟨S_, .f32⟩
  | .hbm, ⟨28, _⟩ => ⟨S4x4096, .f32⟩
  | .hbm, ⟨29, _⟩ => ⟨S4x4096x1, .f32⟩
  | .hbm, ⟨30, _⟩ => ⟨S4x4096x1, .f32⟩
  | .hbm, ⟨31, _⟩ => ⟨S4x4096x1, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S4x4096x1, .f32⟩
  | .hbm, ⟨37, _⟩ => ⟨S4x4096x1, .f32⟩
  | .hbm, ⟨38, _⟩ => ⟨S4x4096, .f32⟩
  | .hbm, ⟨39, _⟩ => ⟨S4096x4, .f32⟩
  | .hbm, ⟨40, _⟩ => ⟨S4x4096x4096, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S4x4096x4096, .f32⟩
  | .hbm, ⟨46, _⟩ => ⟨S4x4096x4096, .f32⟩
  | .hbm, ⟨47, _⟩ => ⟨S4096, .i32⟩
  | .hbm, ⟨48, _⟩ => ⟨S1x4096, .i32⟩
  | .hbm, ⟨49, _⟩ => ⟨S4096x1, .i32⟩
  | .hbm, ⟨50, _⟩ => ⟨S4096x4096, .i32⟩
  | .hbm, ⟨51, _⟩ => ⟨S4096x4096, .i32⟩
  | .hbm, ⟨52, _⟩ => ⟨S4096x4096, .i1⟩
  | .hbm, ⟨53, _⟩ => ⟨S_, .f32⟩
  | .hbm, ⟨54, _⟩ => ⟨S_, .f32⟩
  | .hbm, ⟨55, _⟩ => ⟨S4x4096x4096, .i1⟩
  | .hbm, ⟨56, _⟩ => ⟨S4x4096x4096, .f32⟩
  | .hbm, ⟨57, _⟩ => ⟨S4x4096x4096, .f32⟩
  | .hbm, ⟨58, _⟩ => ⟨S_, .f32⟩
  | .hbm, ⟨59, _⟩ => ⟨S4x4096, .f32⟩
  | .hbm, ⟨60, _⟩ => ⟨S_, .f32⟩
  | .hbm, ⟨61, _⟩ => ⟨S4x4096, .f32⟩
  | .hbm, ⟨62, _⟩ => ⟨S4x4096, .f32⟩
  | .hbm, ⟨63, _⟩ => ⟨S4x4096x1, .f32⟩
  | .hbm, ⟨64, _⟩ => ⟨S4x4096x4096, .f32⟩
  | .hbm, ⟨65, _⟩ => ⟨S4x4096x4096, .f32⟩
  | .hbm, ⟨66, _⟩ => ⟨S4x4096x4096, .f32⟩
  | .hbm, ⟨67, _⟩ => ⟨S_, .f32⟩
  | .hbm, ⟨68, _⟩ => ⟨S4x4096, .f32⟩
  | .hbm, ⟨69, _⟩ => ⟨S4x4096x1, .f32⟩
  | .hbm, ⟨70, _⟩ => ⟨S4x4096x4096, .f32⟩
  | .hbm, ⟨71, _⟩ => ⟨S4x4096x4096, .f32⟩
  | .hbm, ⟨72, _⟩ => ⟨S4x128x4096, .f32⟩
  | .hbm, ⟨73, _⟩ => ⟨S4096x4x128, .f32⟩
  | .hbm, ⟨74, _⟩ => ⟨S4096x512, .f32⟩
  | .hbm, ⟨75, _⟩ => ⟨S4096x4x1, .f32⟩
  | .hbm, ⟨76, _⟩ => ⟨S4096x4x128, .f32⟩
  | .hbm, ⟨77, _⟩ => ⟨S4096x512, .f32⟩
  | _, _ => ⟨S4096x4x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_cst_10 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_11 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩

abbrev nD : Nat := 1
abbrev τ : Topo := Topo.v7x

variable {F : FTy → Type} [FloatOps F]
-- ==== Proof.Compiled.lean ====
/- The frame of the program as compiled, at any float values: the body keeps its six inputs and leaves its three outputs at
   whatever it stores there, so the call ends with the arguments unchanged and every semaphore at zero. -/
module

public import proofs.«01_k».proof.Proof.Gen.Kernel.Frame
public import proofs.«01_k».proof.Proof.Gen.Kernel.Skeleton
public import proofs.«01_k».proof.Proof.Gen.Kernel.Loops
public import Idealize.ShloMosaic.Lib.Claim

@[expose] public section

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's first conditional: the first key tile. -/
abbrev isFirst (i : grid0.Coords) : Prop := (Scalar.cmpi .ne (Scalar.extui (Scalar.cmpi .eq (BitVec.ofNat 32 (i 1).val) 0#32)) 0#32) = 1#1
/-- The body's second conditional: the last key tile. -/
abbrev isLast (i : grid0.Coords) : Prop := (Scalar.cmpi .ne (Scalar.extui (Scalar.cmpi .eq (BitVec.ofNat 32 (i 1).val) 3#32)) 0#32) = 1#1

set_option maxHeartbeats 4000000 in
/-- The body, whichever way its two conditionals go: it ends with its six inputs as it found them and its three outputs at
    some contents. -/
theorem body (c : Dev nD) (i : grid0.Coords) (arg2 : Memref sig .tc .vmem S4096x256 .bf16) (harg2 : arg2.IsWhole) (arg3 : Memref sig .tc .vmem S1024x256 .bf16) (harg3 : arg3.IsWhole) (arg4 : Memref sig .tc .vmem S1024x128 .bf16) (harg4 : arg4.IsWhole) (arg5 : Memref sig .tc .vmem S4096x128 .bf16) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x256 .f32) (harg8 : arg8.IsWhole) (arg9 : Memref sig .tc .vmem S1024x256 .f32) (harg9 : arg9.IsWhole) (arg10 : Memref sig .tc .vmem S1024x128 .f32) (harg10 : arg10.IsWhole)
    (x0 : Vec F S4096x256 .bf16) (x1 : Vec F S1024x256 .bf16) (x2 : Vec F S1024x128 .bf16) (x3 : Vec F S4096x128 .bf16) (x4 : Vec F S4096x128 .f32) (x5 : Vec F S4096x128 .f32) (E : Set ℕ) (Post : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)) -∗ Post ⟨⟩))
      ⊢ wp Idealize.ShloMosaic.frame (wpE (defs₀ (F := F)) Variants.none c none) E (cc0_attn_bwd i arg2 harg2 arg3 harg3 arg4 harg4 arg5 harg5 arg6 harg6 arg7 harg7 arg8 harg8 arg9 harg9 arg10 harg10) Post := by
  by_cases hc0 : isFirst i <;> by_cases hc1 : isLast i
  all_goals
    simp only [cc0_attn_bwd_eq_skeleton]; unfold cc0_attn_bwd_skel
    simp only [k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    iexists _, _; isplitr; swap; · iexact H8
    ipureintro; rfl

/-- The windows of whose contents nothing is said: the three outputs. -/
def unsaid : Fin 9 → Bool := fun w => w.val == 6 || w.val == 7 || w.val == 8

/-- What the run says of the windows: the arrays as the host lines leave them, each input's block kept, the outputs unsaid. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q _ := fullShare
  owed _ := 0

theorem dats_A (c : Dev nD) (w : Fin cfg0.W) : (dats m 0 c).A w = V m c (Pipeline.arrRef spec0 w) := by
  dsimp only [dats]

theorem left_0 (c : Dev nD) (t : Fin cfg0.N) : (dats m 0 c).after 0 t = iblk m c 0 t := by dsimp only [dats]
theorem found_0 (c : Dev nD) (t : Fin cfg0.N) (d) : (dats m 0 c).before 0 t d = iblk m c 0 t :=
  before0_0_of m (dats m 0 c) (dats_A m c 0) (left_0 m c) t d
theorem left_1 (c : Dev nD) (t : Fin cfg0.N) : (dats m 0 c).after 1 t = iblk m c 1 t := by dsimp only [dats]
theorem found_1 (c : Dev nD) (t : Fin cfg0.N) (d) : (dats m 0 c).before 1 t d = iblk m c 1 t :=
  before0_1_of m (dats m 0 c) (dats_A m c 1) (left_1 m c) t d
theorem left_2 (c : Dev nD) (t : Fin cfg0.N) : (dats m 0 c).after 2 t = iblk m c 2 t := by dsimp only [dats]
theorem found_2 (c : Dev nD) (t : Fin cfg0.N) (d) : (dats m 0 c).before 2 t d = iblk m c 2 t :=
  before0_2_of m (dats m 0 c) (dats_A m c 2) (left_2 m c) t d
theorem left_3 (c : Dev nD) (t : Fin cfg0.N) : (dats m 0 c).after 3 t = iblk m c 3 t := by dsimp only [dats]
theorem found_3 (c : Dev nD) (t : Fin cfg0.N) (d) : (dats m 0 c).before 3 t d = iblk m c 3 t :=
  before0_3_of m (dats m 0 c) (dats_A m c 3) (left_3 m c) t d
theorem left_4 (c : Dev nD) (t : Fin cfg0.N) : (dats m 0 c).after 4 t = iblk m c 4 t := by dsimp only [dats]
theorem found_4 (c : Dev nD) (t : Fin cfg0.N) (d) : (dats m 0 c).before 4 t d = iblk m c 4 t :=
  before0_4_of m (dats m 0 c) (dats_A m c 4) (left_4 m c) t d
theorem left_5 (c : Dev nD) (t : Fin cfg0.N) : (dats m 0 c).after 5 t = iblk m c 5 t := by dsimp only [dats]
theorem found_5 (c : Dev nD) (t : Fin cfg0.N) (d) : (dats m 0 c).before 5 t d = iblk m c 5 t :=
  before0_5_of m (dats m 0 c) (dats_A m c 5) (left_5 m c) t d

/-- What the body is called with at a grid point, -/
def atPoint (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare d)
    ∗ (∃ d, owns (c : Thread nD τ) (win0_7.stage (cfg0.slots t 7)) fullShare d)
    ∗ (∃ d, owns (c : Thread nD τ) (win0_8.stage (cfg0.slots t 8)) fullShare d))

/-- and what it gives back. -/
def donePoint (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ (∃ d, owns (c : Thread nD τ) (win0_6.stage (cfg0.slots t 6)) fullShare d)
    ∗ (∃ d, owns (c : Thread nD τ) (win0_7.stage (cfg0.slots t 7)) fullShare d)
    ∗ (∃ d, owns (c : Thread nD τ) (win0_8.stage (cfg0.slots t 8)) fullShare d))

set_option maxHeartbeats 2400000 in
theorem point (c : Dev nD) (t : Fin cfg0.N) :
    atPoint m c t ⊢ wp Idealize.ShloMosaic.frame (wpE (defs₀ (F := F)) Variants.none c none) Set.univ (bodyAt0 t) (fun _ => donePoint m c t) := by
  unfold atPoint donePoint bodyAt0
  simp only [found_0, found_1, found_2, found_3, found_4, found_5]
  rw [show (dats m 0 c).Φ t.succ = (dats m 0 c).Φ t.castSucc from rfl,
    show (dats m 0 c).owesAt () t.succ = (dats m 0 c).owesAt () t.castSucc from rfl,
    left_0, left_1, left_2, left_3, left_4, left_5]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body c (grid0.coords t) _ _ _ _ _ _ _ _ _ _ _ _ _ _ _ _ _ _ (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem obligation (c : Dev nD) : BodyObligation (dats (F := F) m 0 c) (defs₀ (F := F)) Variants.none () Set.univ unsaid := fun t => by
  rw [bigSep_W0, bigSep_W0, show defs₀ (F := F) .tc cfg0.body (cfg0.bodyArgs t (cfg0.slots t)) = bodyAt0 t by unfold defs₀; rw [Defs.onTc_tc]]
  exact triple_restated (point m c t) rfl .rfl fun _ => .rfl

set_option backward.isDefEq.respectTransparency.types false in
/-- The whole run: nothing is said of the outputs, and every other array ends as the host lines left it. -/
theorem launch : θ_run defs (onTc (τ := τ) (main (F := F))) (s₀ m ρ)
    (fun r => Pipeline.RDat.FramePost (cfgs 0) (fun c => (dats m 0 c).toRForget unsaid) (V m) r ∧ r.2.sem = fun _ => 0) :=
  Pipeline.θ_run_frame_forget (Q' := _) cfgs (dats m) (0 : Fin 1) launch0 defs₀ Variants.none unsaid m ρ main
    (hbody := fun c => (obligation m c).loose) (hshare := fun c => (dats m 0 c).share_full fun _ => rfl)
    (howed := fun _ _ => rfl) (V := V m) (hmain := hmain m Variants.none) (hA := dats_A m) (hΦ := fun _ _ => rfl)

/-- The frame of the kernel: it ends, with its arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩) (launch m ρ)

end Cert.Kernel.Attn

end
-- ==== Proof.Step.lean ====
/- What one block of 512 query rows does to the three gradients: the payloads of the kernel body at the ideal values,
   read as partial sums over the query rows. -/
module

public import proofs.«01_k».proof.Proof.Gen.KernelIdeal.Skeleton
public import Idealize.ShloMosaic.Lib.Pointwise
public import Idealize.ShloMosaic.Lib.VecWindow
public import Idealize.ShloMosaic.Lib.WordCmp

@[expose] public section

set_option maxRecDepth 16384

noncomputable section

namespace Cert.KernelIdeal.Attn

open Idealize.ShloMosaic Idealize.ShloMosaic.WordCmp Cert.KernelIdeal.Gen

/-! ## Sums over the first rows -/

/-- The sum of `f` over the query rows below `n`. -/
def upto (n : ℕ) (f : Fin 4096 → EReal) : EReal :=
  ∑ i ∈ Finset.range n, if h : i < 4096 then f ⟨i, h⟩ else 0

/-- A block of 512 rows more adds its terms. -/
theorem upto_step (f : Fin 4096 → EReal) (n : ℕ) (hn : n + 512 ≤ 4096) :
    upto (n + 512) f = upto n f + ∑ i : Fin 512, f ⟨n + i.val, by omega⟩ := by
  unfold upto
  rw [Finset.sum_range_add, Finset.sum_range (n := 512)]
  refine congrArg _ (Finset.sum_congr rfl fun i _ => ?_)
  rw [dif_pos]

/-- Rows that contribute nothing leave the sum at zero. -/
theorem upto_eq_zero (f : Fin 4096 → EReal) (n : ℕ) (h : ∀ r : Fin 4096, r.val < n → f r = 0) : upto n f = 0 := by
  unfold upto
  refine Finset.sum_eq_zero fun i hi => ?_
  split
  · next hlt => exact h _ (Finset.mem_range.mp hi)
  · rfl

/-- Over all rows it is the whole sum. -/
theorem upto_all (f : Fin 4096 → EReal) : upto 4096 f = ∑ r, f r := by
  unfold upto
  rw [Finset.sum_range]
  exact Finset.sum_congr rfl fun i _ => dif_pos i.isLt

/-- A sum over 1024 keys of which the upper half contributes nothing is the sum over the lower half. -/
theorem sum_lower (f : Fin 1024 → EReal) (h : ∀ c : Fin 1024, 512 ≤ c.val → f c = 0) :
    ∑ c, f c = ∑ c : Fin 512, f ⟨c.val, by omega⟩ := by
  have e := Fin.sum_univ_add (a := 512) (b := 512) f
  rw [e, Finset.sum_eq_zero (s := Finset.univ) (f := fun i : Fin 512 => f (Fin.natAdd 512 i)), add_zero]
  · rfl
  · intro i _
    exact h _ (by simp)

/-! ## The gradients as partial sums -/

section Defs

variable (Q : FVec Ideal S4096x256 .bf16) (K : FVec Ideal S1024x256 .bf16) (W : FVec Ideal S1024x128 .bf16)
  (D : FVec Ideal S4096x128 .bf16) (L E : FVec Ideal S4096x128 .f32) (j : ℕ)

/-- The probability of key `c` of key tile `j` for query `r`: nothing for a key after the query. -/
def prob (r : Fin 4096) (c : Fin 1024) : EReal :=
  if j * 1024 + c.val ≤ r.val then FloatOps.exp2 (F := Ideal) (φ := .f32) (∑ d : Fin 256, Q (ix2 r d) * K (ix2 c d) - L (ix2 r 0)) else 0

/-- The gradient of the score of key `c` for query `r`. -/
def dscore (r : Fin 4096) (c : Fin 1024) : EReal :=
  prob Q K L j r c * (∑ e : Fin 128, D (ix2 r e) * W (ix2 c e) - E (ix2 r 0))

/-- The key gradient from the query rows below `n`. -/
def dkv (n : ℕ) : FVec Ideal S1024x256 .f32 :=
  fun x => upto n fun r => dscore Q K W D L E j r (x 0) * Q (ix2 r (x 1))

/-- The value gradient from the query rows below `n`. -/
def dvv (n : ℕ) : FVec Ideal S1024x128 .f32 :=
  fun x => upto n fun r => prob Q K L j r (x 0) * D (ix2 r (x 1))

/-- The query gradient: `B` from the key tiles before, and this tile's part on the rows below `n`. -/
def dqv (n : ℕ) (B : FVec Ideal S4096x256 .f32) : FVec Ideal S4096x256 .f32 :=
  fun x => B x + if (x 0).val < n then ∑ c : Fin 1024, dscore Q K W D L E j (x 0) c * K (ix2 c (x 1)) else 0

/-- Blocks of 512 query rows as the body loads them: rows `o` and on of the queries, the output gradients and the two
    saved row sums. -/
structure Rows (o : ℕ) (ho : o + 512 ≤ 4096) (q : FVec Ideal S512x256 .bf16) (d : FVec Ideal S512x128 .bf16) (l e : FVec Ideal S512x1 .f32) : Prop where
  q : ∀ (i : Fin 512) (x : Fin 256), q (ix2 i x) = Q (ix2 ⟨o + i.val, by omega⟩ x)
  d : ∀ (i : Fin 512) (x : Fin 128), d (ix2 i x) = D (ix2 ⟨o + i.val, by omega⟩ x)
  l : ∀ i : Fin 512, l (ix2 i 0) = L (ix2 ⟨o + i.val, by omega⟩ 0)
  e : ∀ i : Fin 512, e (ix2 i 0) = E (ix2 ⟨o + i.val, by omega⟩ 0)

end Defs

variable {Q : FVec Ideal S4096x256 .bf16} {K : FVec Ideal S1024x256 .bf16} {W : FVec Ideal S1024x128 .bf16}
  {D : FVec Ideal S4096x128 .bf16} {L E : FVec Ideal S4096x128 .f32} {j : ℕ}

theorem prob_of_lt {r : Fin 4096} {c : Fin 1024} (h : r.val < j * 1024 + c.val) : prob Q K L j r c = 0 := by
  unfold prob; exact if_neg (by omega)

theorem dscore_of_lt {r : Fin 4096} {c : Fin 1024} (h : r.val < j * 1024 + c.val) : dscore Q K W D L E j r c = 0 := by
  unfold dscore; rw [prob_of_lt h, zero_mul]

/-- Before the tile's first row there is no key gradient, -/
theorem dkv_start : dkv Q K W D L E j (j * 1024) = fun _ => 0 := by
  funext x
  idx_vars x
  exact upto_eq_zero _ _ fun r hr => by
    show dscore Q K W D L E j r x0 * Q (ix2 r x1) = 0
    rw [dscore_of_lt (by omega), zero_mul]

/-- no value gradient, -/
theorem dvv_start : dvv Q K D L j (j * 1024) = fun _ => 0 := by
  funext x
  idx_vars x
  exact upto_eq_zero _ _ fun r hr => by
    show prob Q K L j r x0 * D (ix2 r x1) = 0
    rw [prob_of_lt (by omega), zero_mul]

/-- and the query gradient is what the tiles before left. -/
theorem dqv_start (B : FVec Ideal S4096x256 .f32) : dqv Q K W D L E j (j * 1024) B = B := by
  funext x
  idx_vars x
  show B (ix2 x0 x1) + (if x0.val < j * 1024 then ∑ c : Fin 1024, dscore Q K W D L E j x0 c * K (ix2 c x1) else 0) = B (ix2 x0 x1)
  split
  · next h =>
    rw [Finset.sum_eq_zero (fun c _ => by rw [dscore_of_lt (by omega), zero_mul]), add_zero]
  · exact add_zero _

/-- One block of rows more, for the key gradient. -/
theorem dkv_step (o : ℕ) (ho : o + 512 ≤ 4096) (r : Fin 1024) (c : Fin 256) :
    dkv Q K W D L E j (o + 512) (ix2 r c)
      = dkv Q K W D L E j o (ix2 r c) + ∑ i : Fin 512, dscore Q K W D L E j ⟨o + i.val, by omega⟩ r * Q (ix2 ⟨o + i.val, by omega⟩ c) :=
  upto_step _ o ho

/-- One block of rows more, for the value gradient. -/
theorem dvv_step (o : ℕ) (ho : o + 512 ≤ 4096) (r : Fin 1024) (c : Fin 128) :
    dvv Q K D L j (o + 512) (ix2 r c)
      = dvv Q K D L j o (ix2 r c) + ∑ i : Fin 512, prob Q K L j ⟨o + i.val, by omega⟩ r * D (ix2 ⟨o + i.val, by omega⟩ c) :=
  upto_step _ o ho

/-- A window of whole rows, read at an index. -/
theorem window_rows {n w m : ℕ} {α : Type} (x : Shape.Idx ⟨2, ![n, w]⟩ → α) (o : ℕ) (k : ℕ)
    (inb : ∀ a, (![o, 0] : Fin 2 → ℕ) a + (![m, k] : Fin 2 → ℕ) a ≤ (⟨2, ![n, w]⟩ : Shape).size a)
    (i : Fin m) (c : Fin k) (hi : o + i.val < n) (hc : c.val < w) :
    VecWindow.window x ![o, 0] ![m, k] inb (ix2 i c) = x (ix2 ⟨o + i.val, hi⟩ ⟨c.val, hc⟩) := by
  unfold VecWindow.window
  refine congrArg x (funext fun a => Fin.ext ?_)
  fin_cases a
  · show o + 1 * i.val = o + i.val
    omega
  · show 0 + 1 * c.val = c.val
    omega

/-- One block of rows more, for the query gradient: the block's rows put back with this tile's part added. -/
theorem dqv_put (o : ℕ) (ho : o + 512 ≤ 4096) (B : FVec Ideal S4096x256 .f32) (w : FVec Ideal S512x256 .f32)
    (hw : ∀ (i : Fin 512) (d : Fin 256), w (ix2 i d) = dqv Q K W D L E j o B (ix2 ⟨o + i.val, by omega⟩ d)
      + ∑ c : Fin 1024, dscore Q K W D L E j ⟨o + i.val, by omega⟩ c * K (ix2 c d)) :
    VecWindow.put (dqv Q K W D L E j o B) ![o, 0] S512x256.size w = dqv Q K W D L E j (o + 512) B := by
  funext x
  obtain ⟨r, d, rfl⟩ : ∃ (r : Fin 4096) (d : Fin 256), x = ix2 r d := ⟨x 0, x 1, eq_ix2 x⟩
  unfold VecWindow.put
  by_cases h : o ≤ r.val ∧ r.val < o + 512
  · have hm : ∀ a : Fin S4096x256.rank, (![o, 0] : Fin 2 → ℕ) a ≤ ((ix2 r d : S4096x256.Idx) a).val
        ∧ ((ix2 r d : S4096x256.Idx) a).val < (![o, 0] : Fin 2 → ℕ) a + S512x256.size a :=
      Fin.forall_fin_two.mpr ⟨h, ⟨Nat.zero_le _, by show d.val < 0 + 256; omega⟩⟩
    rw [dif_pos hm]
    have e : Rect.unitLocal (s := S4096x256) (off := ![o, 0]) (size := S512x256.size) (ix2 r d) hm
        = (ix2 (⟨r.val - o, by omega⟩ : Fin 512) d : S512x256.Idx) := by
      funext a
      fin_cases a
      · exact Fin.ext rfl
      · exact Fin.ext (by show d.val - 0 = d.val; omega)
    rw [e, hw]
    have hr : (⟨o + (r.val - o), by omega⟩ : Fin 4096) = r := Fin.ext (by show o + (r.val - o) = r.val; omega)
    simp only [hr]
    unfold dqv
    rw [if_neg (by show ¬ r.val < o; omega), if_pos (by show r.val < o + 512; omega), add_zero]
    rfl
  · rw [dif_neg]
    · unfold dqv
      have : (r.val < o ↔ r.val < o + 512) := by omega
      simp only [show ((ix2 r d : S4096x256.Idx) 0).val = r.val from rfl, this]
    · intro hall
      have := hall 0
      exact h this

/-! ## The rows wholly below the tile: no mask -/

variable {q : FVec Ideal S512x256 .bf16} {d : FVec Ideal S512x128 .bf16} {l e : FVec Ideal S512x1 .f32}

section Unmasked

variable {o : ℕ} {ho : o + 512 ≤ 4096}

theorem pay4_eq (hR : Rows Q D L E o ho q d l e) (hj : j * 1024 + 1024 ≤ o) (i : Fin 512) (c : Fin 1024) :
    k0_pay4 (F := Ideal) K q l (ix2 i c) = prob Q K L j ⟨o + i.val, by omega⟩ c := by
  pointwise [k0_pay4, k0_pay2]
  unfold prob
  rw [if_pos (by show j * 1024 + c.val ≤ o + i.val; omega)]
  simp only [hR.q, hR.l]

theorem pay5_eq (hR : Rows Q D L E o ho q d l e) (hj : j * 1024 + 1024 ≤ o) (i : Fin 512) (c : Fin 1024) :
    k0_pay5 (F := Ideal) K W q d l e (ix2 i c) = dscore Q K W D L E j ⟨o + i.val, by omega⟩ c := by
  pointwise [k0_pay5, k0_pay3]
  rw [pay4_eq hR hj]
  unfold dscore
  simp only [hR.d, hR.e]

theorem pay6_eq (hR : Rows Q D L E o ho q d l e) (hj : j * 1024 + 1024 ≤ o) (b : FVec Ideal S512x256 .f32) (i : Fin 512) (x : Fin 256) :
    k0_pay6 (F := Ideal) K W q d l e b (ix2 i x) = b (ix2 i x) + ∑ c : Fin 1024, dscore Q K W D L E j ⟨o + i.val, by omega⟩ c * K (ix2 c x) := by
  pointwise [k0_pay6]
  simp only [pay5_eq hR hj]

theorem pay7_eq (hR : Rows Q D L E o ho q d l e) (hj : j * 1024 + 1024 ≤ o) :
    k0_pay7 (F := Ideal) K W (dkv Q K W D L E j o) q d l e = dkv Q K W D L E j (o + 512) := by
  funext x
  idx_vars x
  rw [dkv_step o ho]
  pointwise [k0_pay7, k0_pay2]
  simp only [pay5_eq hR hj, hR.q]

theorem pay8_eq (hR : Rows Q D L E o ho q d l e) (hj : j * 1024 + 1024 ≤ o) :
    k0_pay8 (F := Ideal) K (dvv Q K D L j o) q d l = dvv Q K D L j (o + 512) := by
  funext x
  idx_vars x
  rw [dvv_step o ho]
  pointwise [k0_pay8, k0_pay3]
  simp only [pay4_eq hR hj, hR.d]

end Unmasked

/-! ## The tile's own rows, the second half: the mask over all keys -/

/-- The causal comparison on words is the comparison of the row and column numbers. -/
theorem select_causal (t a r c : ℕ) (ht : t < 4) (ha : a ≤ 512) (hr : r < 512) (hc : c < 1024) (x y : EReal) :
    Scalar.select (IntOp.cmpi .sle (IntOp.addi (Scalar.muli (BitVec.ofNat 32 t) 1024#32) (BitVec.ofNat 32 c))
        (IntOp.addi (Scalar.addi (Scalar.muli (BitVec.ofNat 32 t) 1024#32) (BitVec.ofNat 32 a)) (BitVec.ofNat 32 r))) x y
      = if t * 1024 + c ≤ t * 1024 + a + r then x else y := by
  have e : ∀ b b', Scalar.muli (BitVec.ofNat 32 b) (BitVec.ofNat 32 b') = BitVec.ofNat 32 (b * b') := fun b b' => muli_ofNat b b'
  have e' : ∀ b b', Scalar.addi (BitVec.ofNat 32 b) (BitVec.ofNat 32 b') = BitVec.ofNat 32 (b + b') := fun b b' => addi_ofNat b b'
  rw [show (1024#32 : BitVec 32) = BitVec.ofNat 32 1024 from rfl, e, e', addi_ofNat, addi_ofNat]
  split
  · next h => exact select_of_eq_one ((cmpi_sle_ofNat_eq_one_iff (by omega) (by omega)).mpr h) x y
  · next h => exact select_of_eq_zero ((cmpi_sle_ofNat_eq_zero_iff (by omega) (by omega)).mpr (by omega)) x y

theorem pay38_eq {ho : j * 1024 + 512 + 512 ≤ 4096} (hR : Rows Q D L E (j * 1024 + 512) ho q d l e) (hj : j < 4) (i : Fin 512) (c : Fin 1024) :
    k0_pay38 (F := Ideal) (k0_pay35 K q l) (k0_pay36 (BitVec.ofNat 32 j)) (k0_pay37 (BitVec.ofNat 32 j)) (ix2 i c)
      = prob Q K L j ⟨j * 1024 + 512 + i.val, by omega⟩ c := by
  pointwise [k0_pay38, k0_pay35, k0_pay36, k0_pay37, k0_pay33]
  refine (select_causal j 512 i.val c.val hj (by omega) i.isLt c.isLt _ _).trans ?_
  unfold prob
  simp only [hR.q, hR.l]

theorem pay39_eq {ho : j * 1024 + 512 + 512 ≤ 4096} (hR : Rows Q D L E (j * 1024 + 512) ho q d l e) (hj : j < 4) (i : Fin 512) (c : Fin 1024) :
    k0_pay39 (F := Ideal) W (k0_pay34 d) (k0_pay35 K q l) (k0_pay36 (BitVec.ofNat 32 j)) (k0_pay37 (BitVec.ofNat 32 j)) e (ix2 i c)
      = dscore Q K W D L E j ⟨j * 1024 + 512 + i.val, by omega⟩ c := by
  pointwise [k0_pay39, k0_pay34]
  rw [pay38_eq hR hj]
  unfold dscore
  simp only [hR.d, hR.e]

theorem pay40_eq {ho : j * 1024 + 512 + 512 ≤ 4096} (hR : Rows Q D L E (j * 1024 + 512) ho q d l e) (hj : j < 4) (b : FVec Ideal S512x256 .f32) (i : Fin 512) (x : Fin 256) :
    k0_pay40 (F := Ideal) K W (k0_pay34 d) (k0_pay35 K q l) (k0_pay36 (BitVec.ofNat 32 j)) (k0_pay37 (BitVec.ofNat 32 j)) e b (ix2 i x)
      = b (ix2 i x) + ∑ c : Fin 1024, dscore Q K W D L E j ⟨j * 1024 + 512 + i.val, by omega⟩ c * K (ix2 c x) := by
  pointwise [k0_pay40]
  simp only [pay39_eq hR hj]

theorem pay41_eq {ho : j * 1024 + 512 + 512 ≤ 4096} (hR : Rows Q D L E (j * 1024 + 512) ho q d l e) (hj : j < 4) :
    k0_pay41 (F := Ideal) W (dkv Q K W D L E j (j * 1024 + 512)) (k0_pay33 q) (k0_pay34 d) (k0_pay35 K q l) (k0_pay36 (BitVec.ofNat 32 j)) (k0_pay37 (BitVec.ofNat 32 j)) e
      = dkv Q K W D L E j (j * 1024 + 1024) := by
  funext x
  idx_vars x
  rw [show j * 1024 + 1024 = j * 1024 + 512 + 512 from rfl, dkv_step _ ho]
  pointwise [k0_pay41, k0_pay33]
  simp only [pay39_eq hR hj, hR.q]

theorem pay42_eq {ho : j * 1024 + 512 + 512 ≤ 4096} (hR : Rows Q D L E (j * 1024 + 512) ho q d l e) (hj : j < 4) :
    k0_pay42 (F := Ideal) (dvv Q K D L j (j * 1024 + 512)) (k0_pay34 d) (k0_pay35 K q l) (k0_pay36 (BitVec.ofNat 32 j)) (k0_pay37 (BitVec.ofNat 32 j))
      = dvv Q K D L j (j * 1024 + 1024) := by
  funext x
  idx_vars x
  rw [show j * 1024 + 1024 = j * 1024 + 512 + 512 from rfl, dvv_step _ ho]
  pointwise [k0_pay42, k0_pay34]
  simp only [pay38_eq hR hj, hR.d]

/-! ## The tile's own rows, the first half: the mask over the first 512 keys, the others all masked -/

variable {g : grid0.Coords}

theorem pay27_eq (hg : (g 1).val = j) {ho : j * 1024 + 512 ≤ 4096} (hR : Rows Q D L E (j * 1024) ho q d l e) (hj : j < 4) (i : Fin 512) (c : Fin 512) :
    k0_pay27 (F := Ideal) g K q l (ix2 i c) = prob Q K L j ⟨j * 1024 + i.val, by omega⟩ ⟨c.val, by omega⟩ := by
  pointwise [k0_pay27, k0_pay25, k0_pay23, k0_pay19]
  rw [hg]
  refine (select_causal j 0 i.val c.val hj (by omega) i.isLt (by omega) _ _).trans ?_
  unfold prob
  simp only [hR.q, hR.l, Nat.add_zero]

theorem pay29_eq (hg : (g 1).val = j) {ho : j * 1024 + 512 ≤ 4096} (hR : Rows Q D L E (j * 1024) ho q d l e) (hj : j < 4) (i : Fin 512) (c : Fin 512) :
    k0_pay29 (F := Ideal) (k0_pay24 d) (k0_pay26 W) (k0_pay27 g K q l) (constant S512x512 .f32 0x00000000#32) e (ix2 i c)
      = dscore Q K W D L E j ⟨j * 1024 + i.val, by omega⟩ ⟨c.val, by omega⟩ := by
  pointwise [k0_pay29, k0_pay24, k0_pay26, k0_pay20]
  rw [pay27_eq hg hR hj]
  unfold dscore
  simp only [hR.d, hR.e]

theorem pay30_eq (hg : (g 1).val = j) {ho : j * 1024 + 512 ≤ 4096} (hR : Rows Q D L E (j * 1024) ho q d l e) (hj : j < 4) (b : FVec Ideal S512x256 .f32) (i : Fin 512) (x : Fin 256) :
    k0_pay30 (F := Ideal) (k0_pay24 d) (k0_pay25 K) (k0_pay26 W) (k0_pay27 g K q l) (constant S512x512 .f32 0x00000000#32) e b (ix2 i x)
      = b (ix2 i x) + ∑ c : Fin 1024, dscore Q K W D L E j ⟨j * 1024 + i.val, by omega⟩ c * K (ix2 c x) := by
  pointwise [k0_pay30, k0_pay25, k0_pay19]
  rw [sum_lower _ fun c hc => by rw [dscore_of_lt (by show j * 1024 + i.val < _; omega), zero_mul]]
  simp only [pay29_eq hg hR hj]

theorem pay31_eq (hg : (g 1).val = j) {ho : j * 1024 + 512 ≤ 4096} (hR : Rows Q D L E (j * 1024) ho q d l e) (hj : j < 4) :
    k0_pay31 (F := Ideal) k0_pay21 (k0_pay23 q) (k0_pay24 d) (k0_pay26 W) (k0_pay27 g K q l) (constant S512x512 .f32 0x00000000#32) e
      = dkv Q K W D L E j (j * 1024 + 512) := by
  funext x
  idx_vars x
  rw [dkv_step _ ho, dkv_start]
  pointwise [k0_pay31, k0_pay23, k0_pay21]
  split
  · next h => simp only [pay29_eq hg hR hj, hR.q]
  · next h =>
    rw [Finset.sum_eq_zero fun i _ => by rw [dscore_of_lt (by show j * 1024 + i.val < _; omega), zero_mul]]

theorem pay32_eq (hg : (g 1).val = j) {ho : j * 1024 + 512 ≤ 4096} (hR : Rows Q D L E (j * 1024) ho q d l e) (hj : j < 4) :
    k0_pay32 (F := Ideal) k0_pay22 (k0_pay28 g K q d l) = dvv Q K D L j (j * 1024 + 512) := by
  funext x
  idx_vars x
  rw [dvv_step _ ho, dvv_start]
  pointwise [k0_pay32, k0_pay28, k0_pay24, k0_pay22]
  split
  · next h => simp only [pay27_eq hg hR hj, hR.d]
  · next h =>
    rw [Finset.sum_eq_zero fun i _ => by rw [prob_of_lt (by show j * 1024 + i.val < _; omega), zero_mul]]

end Cert.KernelIdeal.Attn
-- ==== Proof.Body.lean ====
module

public import proofs.«01_k».proof.Proof.Step
public import proofs.«01_k».proof.Proof.Gen.KernelIdeal.Frame
public import Idealize.ShloMosaic.Lib.Exec
public import Idealize.ShloMosaic.Lib.Tactic
public import Idealize.ShloMosaic.Lib.LoopRemainder

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

local notation "𝕄" => MT nD τ sig Unit (Elt Ideal) ℕ (UR sig nD τ) ℕ

/-! ## The rows a block loads, and the rows of dq it stores -/

/-- Blocks of rows loaded at one row offset are the rows of the windows. -/
theorem rows_readAt (arg2 : Memref sig .tc .vmem S4096x256 .bf16) (arg5 : Memref sig .tc .vmem S4096x128 .bf16) (arg6 arg7 : Memref sig .tc .vmem S4096x128 .f32)
    (X2 : BufTy.Contents (Elt Ideal) arg2.view.ty) (X5 : BufTy.Contents (Elt Ideal) arg5.view.ty) (X6 : BufTy.Contents (Elt Ideal) arg6.view.ty) (X7 : BufTy.Contents (Elt Ideal) arg7.view.ty)
    (o : ℕ) (ho : o + 512 ≤ 4096) (o2 o5 o6 o7 : Fin 2 → ℕ) (h2 : o2 = ![o, 0]) (h5 : o5 = ![o, 0]) (h6 : o6 = ![o, 0]) (h7 : o7 = ![o, 0])
    (i2 : ∀ a, o2 a + S512x256.size a ≤ S4096x256.size a) (i5 : ∀ a, o5 a + S512x128.size a ≤ S4096x128.size a)
    (i6 : ∀ a, o6 a + S512x1.size a ≤ S4096x128.size a) (i7 : ∀ a, o7 a + S512x1.size a ≤ S4096x128.size a) :
    Rows (arg2.view.read (Elt Ideal) X2) (arg5.view.read (Elt Ideal) X5) (arg6.view.read (Elt Ideal) X6) (arg7.view.read (Elt Ideal) X7) o ho
      (arg2.view.readAt (Elt Ideal) (Rect.unit (s := S4096x256) o2 S512x256.size i2).toLoadRect X2)
      (arg5.view.readAt (Elt Ideal) (Rect.unit (s := S4096x128) o5 S512x128.size i5).toLoadRect X5)
      (arg6.view.readAt (Elt Ideal) (Rect.unit (s := S4096x128) o6 S512x1.size i6).toLoadRect X6)
      (arg7.view.readAt (Elt Ideal) (Rect.unit (s := S4096x128) o7 S512x1.size i7).toLoadRect X7) := by
  subst h2 h5 h6 h7
  constructor
  · intro i x
    rw [View.readAt_unit arg2.view X2 i2 rfl i2]
    exact window_rows _ o 256 i2 i x _ _
  · intro i x
    rw [View.readAt_unit arg5.view X5 i5 rfl i5]
    exact window_rows _ o 128 i5 i x _ _
  · intro i
    rw [View.readAt_unit arg6.view X6 i6 rfl i6]
    exact window_rows _ o 1 i6 i 0 _ (by decide)
  · intro i
    rw [View.readAt_unit arg7.view X7 i7 rfl i7]
    exact window_rows _ o 1 i7 i 0 _ (by decide)

section Store

variable {Q : FVec Ideal S4096x256 .bf16} {K : FVec Ideal S1024x256 .bf16} {W : FVec Ideal S1024x128 .bf16}
  {D : FVec Ideal S4096x128 .bf16} {L E : FVec Ideal S4096x128 .f32} {j : ℕ} {B : FVec Ideal S4096x256 .f32}

/-- Rows from `n` on still hold what the tiles before left. -/
theorem dqv_beyond (n : ℕ) (r : Fin 4096) (d : Fin 256) (h : n ≤ r.val) :
    dqv Q K W D L E j n B (ix2 r d) = B (ix2 r d) := by
  show B (ix2 r d) + (if r.val < n then ∑ c : Fin 1024, dscore Q K W D L E j r c * K (ix2 c d) else 0) = B (ix2 r d)
  rw [if_neg (by omega), add_zero]

/-- A block of 512 rows loaded at `o`, added to and stored back, moves the partial query gradient on to row `o + 512`;
    the load may precede the store of the block before it (`n ≤ o`). -/
theorem dqv_store (arg8 : Memref sig .tc .vmem S4096x256 .f32) (f : BufTy.Contents (Elt Ideal) arg8.view.ty)
    (l : List (View.Piece (Elt Ideal) S4096x256 .f32)) (n o : ℕ) (hn : n ≤ o) (ho : o + 512 ≤ 4096)
    (g : BufTy.Contents (Elt Ideal) arg8.view.ty)
    (hg : arg8.view.read (Elt Ideal) g = dqv Q K W D L E j n B)
    (hf : arg8.view.read (Elt Ideal) (arg8.view.writes (Elt Ideal) f l) = dqv Q K W D L E j o B)
    (off off' : Fin 2 → ℕ) (h : off = ![o, 0]) (h' : off' = ![o, 0])
    (inb : ∀ a, off a + S512x256.size a ≤ S4096x256.size a) (inb' : ∀ a, off' a + S512x256.size a ≤ S4096x256.size a)
    (b : FVec Ideal S512x256 .f32)
    (hb : b = arg8.view.readAt (Elt Ideal) (Rect.unit (s := S4096x256) off' S512x256.size inb').toLoadRect g)
    (w : FVec Ideal S512x256 .f32)
    (hw : ∀ (i : Fin 512) (d : Fin 256), w (ix2 i d) = b (ix2 i d) + ∑ c : Fin 1024, dscore Q K W D L E j ⟨o + i.val, by omega⟩ c * K (ix2 c d)) :
    arg8.view.read (Elt Ideal) (arg8.view.writes (Elt Ideal) f (⟨Rect.unit (s := S4096x256) off S512x256.size inb, w⟩ :: l)) = dqv Q K W D L E j (o + 512) B := by
  rw [View.read_writes_cons_put arg8.view f inb w l h, hf]
  refine dqv_put o ho B w fun i d => ?_
  rw [hw, hb]
  subst h'
  rw [View.readAt_unit arg8.view g inb' rfl inb', hg]
  refine congrArg (· + _) ((window_rows _ o 256 inb' i d (by omega) d.isLt).trans ?_)
  refine (dqv_beyond n _ _ (by show n ≤ o + i.val; omega)).trans (dqv_beyond o _ _ (by show o ≤ o + i.val; omega)).symm

end Store

/-- Behind key tile `j` come `3 - j` whole blocks of queries. -/
theorem trips_eq : ∀ i : grid0.Coords, (k0_t1_loop i).trips = 3 - (i 1).val := by decide +kernel

section Trip

variable (c : Dev nD) (i : grid0.Coords) (arg2 : Memref sig .tc .vmem S4096x256 .bf16) (harg2 : arg2.IsWhole) (arg3 : Memref sig .tc .vmem S1024x256 .bf16) (harg3 : arg3.IsWhole) (arg4 : Memref sig .tc .vmem S1024x128 .bf16) (harg4 : arg4.IsWhole) (arg5 : Memref sig .tc .vmem S4096x128 .bf16) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x256 .f32) (harg8 : arg8.IsWhole) (arg9 : Memref sig .tc .vmem S1024x256 .f32) (harg9 : arg9.IsWhole) (arg10 : Memref sig .tc .vmem S1024x128 .f32) (harg10 : arg10.IsWhole)
variable (X2 : BufTy.Contents (Elt Ideal) arg2.view.ty) (X5 : BufTy.Contents (Elt Ideal) arg5.view.ty) (X6 : BufTy.Contents (Elt Ideal) arg6.view.ty) (X7 : BufTy.Contents (Elt Ideal) arg7.view.ty)
variable (K : FVec Ideal S1024x256 .bf16) (W : FVec Ideal S1024x128 .bf16) (B : FVec Ideal S4096x256 .f32)

/-- Before trip `k` of the loop over the blocks of queries behind the diagonal block: the four operands as they were,
    the window of dq and the carried dk and dv holding the partial sums over the rows in front of block `j+1+k`. -/
def Inv (k : ℕ) (acc : FVec Ideal S1024x256 .f32 × FVec Ideal S1024x128 .f32) : sProp 𝕄 :=
  iprop((arg2.view.loc (c : Thread nD τ) ↦[arg2.view.set]{fullShare} X2) ∗ (arg5.view.loc (c : Thread nD τ) ↦[arg5.view.set]{fullShare} X5)
    ∗ (arg6.view.loc (c : Thread nD τ) ↦[arg6.view.set]{fullShare} X6) ∗ (arg7.view.loc (c : Thread nD τ) ↦[arg7.view.set]{fullShare} X7)
    ∗ (∃ f, (arg8.view.loc (c : Thread nD τ) ↦[arg8.view.set]{fullShare} f)
        ∗ ⌜arg8.view.read (Elt Ideal) f = dqv (arg2.view.read (Elt Ideal) X2) K W (arg5.view.read (Elt Ideal) X5) (arg6.view.read (Elt Ideal) X6) (arg7.view.read (Elt Ideal) X7) (i 1).val (((i 1).val + 1 + k) * 1024) B⌝)
    ∗ ⌜acc = (dkv (arg2.view.read (Elt Ideal) X2) K W (arg5.view.read (Elt Ideal) X5) (arg6.view.read (Elt Ideal) X6) (arg7.view.read (Elt Ideal) X7) (i 1).val (((i 1).val + 1 + k) * 1024),
        dvv (arg2.view.read (Elt Ideal) X2) K (arg5.view.read (Elt Ideal) X5) (arg6.view.read (Elt Ideal) X6) (i 1).val (((i 1).val + 1 + k) * 1024))⌝)

set_option maxHeartbeats 1000000 in
/-- One trip adds the block's share. -/
theorem trip (arg1 : BitVec 32) (v58 : FVec Ideal S1024x256 .f32) (v62 : FVec Ideal S1024x128 .f32) (v65 : BitVec 32) (v68 : FVec Ideal S512x256 .bf16) (v71 : FVec Ideal S512x128 .bf16) (v78 : FVec Ideal S512x1024 .f32) (v82 : IVec S512x1024 32) (v85 : IVec S512x1024 32) (v109 : BitVec 32)
    (k : Fin (k0_t1_loop i).trips) (acc : FVec Ideal S1024x256 .f32 × FVec Ideal S1024x128 .f32) (E : Set ℕ) :
    Inv c i arg2 arg5 arg6 arg7 arg8 X2 X5 X6 X7 K W B k.val acc
      ⊢ wp frame (wpE (defs₀ (F := Ideal)) Variants.none (c : Thread nD τ) none) E
          (k0_t1_body (F := Ideal) i arg2 harg2 arg3 harg3 arg4 harg4 arg5 harg5 arg6 harg6 arg7 harg7 arg8 harg8 arg9 harg9 arg10 harg10 arg1 K W v58 v62 v65 v68 v71 v78 v82 v85 v109 k acc)
          (Inv c i arg2 arg5 arg6 arg7 arg8 X2 X5 X6 X7 K W B (k.val + 1)) := by
  unfold Inv
  unfold k0_t1_body
  iintro ⟨H2, H5, H6, H7, ⟨%f, H8, %hf⟩, %hacc⟩
  subst hacc
  sl_exec
  sl_step
  have hk : k.val < 3 - (i 1).val := trips_eq i ▸ k.isLt
  have e0 : ![1024 * (i 1).val + 1024 * k.val + 512 * 0 + 1024, 0] = ![((i 1).val + 1 + k.val) * 1024, 0] := by
    rw [show 1024 * (i 1).val + 1024 * k.val + 512 * 0 + 1024 = ((i 1).val + 1 + k.val) * 1024 by omega]
  have e1 : ![1024 * (i 1).val + 1024 * k.val + 512 * 1 + 1024, 0] = ![((i 1).val + 1 + k.val) * 1024 + 512, 0] := by
    rw [show 1024 * (i 1).val + 1024 * k.val + 512 * 1 + 1024 = ((i 1).val + 1 + k.val) * 1024 + 512 by omega]
  have hR0 := rows_readAt arg2 arg5 arg6 arg7 X2 X5 X6 X7 (((i 1).val + 1 + k.val) * 1024) (by omega) _ _ _ _
    ((k0_off4_eq i k 0).trans e0) ((k0_off5_eq i k 0).trans e0) ((k0_off6_eq i k 0).trans e0) ((k0_off6_eq i k 0).trans e0)
    (k0_off4_inb i k 0) (k0_off5_inb i k 0) (k0_off6_inb i k 0) (k0_off6_inb i k 0)
  have hR1 := rows_readAt arg2 arg5 arg6 arg7 X2 X5 X6 X7 (((i 1).val + 1 + k.val) * 1024 + 512) (by omega) _ _ _ _
    ((k0_off4_eq i k 1).trans e1) ((k0_off5_eq i k 1).trans e1) ((k0_off6_eq i k 1).trans e1) ((k0_off6_eq i k 1).trans e1)
    (k0_off4_inb i k 1) (k0_off5_inb i k 1) (k0_off6_inb i k 1) (k0_off6_inb i k 1)
  have hn : ((i 1).val + 1 + (k.val + 1)) * 1024 = ((i 1).val + 1 + k.val) * 1024 + 512 + 512 := by omega
  rw [hn]
  have hj : (i 1).val * 1024 + 1024 ≤ ((i 1).val + 1 + k.val) * 1024 := by omega
  have hj1 : (i 1).val * 1024 + 1024 ≤ ((i 1).val + 1 + k.val) * 1024 + 512 := by omega
  isplitl [H2]; · iexact H2
  isplitl [H5]; · iexact H5
  isplitl [H6]; · iexact H6
  isplitl [H7]; · iexact H7
  isplitl [H8]
  · iexists _; isplitl [H8]; · iexact H8
    ipureintro
    refine dqv_store arg8 f _ _ _ (by omega) (by omega) f hf ?_ _ _ ((k0_off4_eq i k 1).trans e1) ((k0_off4_eq i k 1).trans e1) _ (k0_off4_inb i k 1) _ rfl _ fun r d => ?_
    · refine dqv_store arg8 f [] _ _ le_rfl (by omega) f hf hf _ _ ((k0_off4_eq i k 0).trans e0) ((k0_off4_eq i k 0).trans e0) _ (k0_off4_inb i k 0) _ rfl _ fun r d => ?_
      exact pay6_eq hR0 hj _ r d
    · exact pay6_eq hR1 hj1 _ r d
  ipureintro
  refine Prod.ext ?_ ?_
  · refine Eq.trans ?_ (pay7_eq hR1 hj1)
    rw [← pay7_eq hR0 hj]
    rfl
  · refine Eq.trans ?_ (pay8_eq hR1 hj1)
    rw [← pay8_eq hR0 hj]
    rfl

end Trip

end Cert.KernelIdeal.Attn

end
-- ==== Proof.Run.lean ====
module

public import proofs.«01_k».proof.Proof.Body

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

local notation "𝕄" => MT nD τ sig Unit (Elt Ideal) ℕ (UR sig nD τ) ℕ

/-- The body's first conditional: the first key tile. -/
abbrev isFirst (i : grid0.Coords) : Prop := (Scalar.cmpi .ne (Scalar.extui (Scalar.cmpi .eq (BitVec.ofNat 32 (i 1).val) 0#32)) 0#32) = 1#1
/-- The body's second conditional: the last key tile. -/
abbrev isLast (i : grid0.Coords) : Prop := (Scalar.cmpi .ne (Scalar.extui (Scalar.cmpi .eq (BitVec.ofNat 32 (i 1).val) 3#32)) 0#32) = 1#1

theorem pay19_id (K : FVec Ideal S1024x256 .bf16) : k0_pay19 (F := Ideal) K = K := by
  funext x; idx_vars x; pointwise [k0_pay19]

theorem pay20_id (W : FVec Ideal S1024x128 .bf16) : k0_pay20 (F := Ideal) W = W := by
  funext x; idx_vars x; pointwise [k0_pay20]

theorem pay18_zero : k0_pay18 (F := Ideal) = fun _ => 0 := by
  funext x; idx_vars x; pointwise [k0_pay18]

theorem load_k (m : Memref sig .tc .vmem S1024x256 .bf16) (f : BufTy.Contents (Elt Ideal) m.view.ty) :
    m.view.readAt (Elt Ideal) (Rect.unit (s := S1024x256) ![0, 0] S1024x256.size inb_S1024x256_S1024x256_0_0).toLoadRect f = m.view.read (Elt Ideal) f :=
  View.readAt_full _ _ _

theorem load_v (m : Memref sig .tc .vmem S1024x128 .bf16) (f : BufTy.Contents (Elt Ideal) m.view.ty) :
    m.view.readAt (Elt Ideal) (Rect.unit (s := S1024x128) ![0, 0] S1024x128.size inb_S1024x128_S1024x128_0_0).toLoadRect f = m.view.read (Elt Ideal) f :=
  View.readAt_full _ _ _

/-! ## The two blocks of queries on the diagonal -/

section Diagonal

variable {i : grid0.Coords} {Q : FVec Ideal S4096x256 .bf16} {K : FVec Ideal S1024x256 .bf16} {W : FVec Ideal S1024x128 .bf16} {D : FVec Ideal S4096x128 .bf16} {L G : FVec Ideal S4096x128 .f32}
  {q q' : FVec Ideal S512x256 .bf16} {d d' : FVec Ideal S512x128 .bf16} {l l' e e' : FVec Ideal S512x1 .f32}
  {ho : (i 1).val * 1024 + 512 ≤ 4096} {ho' : (i 1).val * 1024 + 512 + 512 ≤ 4096}
  (h0 : Rows Q D L G ((i 1).val * 1024) ho q d l e) (h1 : Rows Q D L G ((i 1).val * 1024 + 512) ho' q' d' l' e')
  {k : FVec Ideal S1024x256 .bf16} {w : FVec Ideal S1024x128 .bf16} (hk : k = K) (hw : w = W)

include h0 h1 hk hw in
/-- After the diagonal, the key gradient holds the rows through the tile's end. -/
theorem diag_dk :
    k0_pay41 (F := Ideal) (k0_pay20 w) (k0_pay31 k0_pay21 (k0_pay23 q) (k0_pay24 d) (k0_pay26 w) (k0_pay27 i k q l) (constant S512x512 .f32 0x00000000#32) e) (k0_pay33 q') (k0_pay34 d')
        (k0_pay35 (k0_pay19 k) q' l') (k0_pay36 (BitVec.ofNat 32 (i 1).val)) (k0_pay37 (BitVec.ofNat 32 (i 1).val)) e'
      = dkv Q K W D L G (i 1).val ((i 1).val * 1024 + 1024) := by
  subst hk hw
  rw [pay19_id, pay20_id, pay31_eq rfl h0 (i 1).isLt, pay41_eq h1 (i 1).isLt]

include h0 h1 hk in
/-- And the value gradient. -/
theorem diag_dv :
    k0_pay42 (F := Ideal) (k0_pay32 k0_pay22 (k0_pay28 i k q d l)) (k0_pay34 d')
        (k0_pay35 (k0_pay19 k) q' l') (k0_pay36 (BitVec.ofNat 32 (i 1).val)) (k0_pay37 (BitVec.ofNat 32 (i 1).val))
      = dvv Q K D L (i 1).val ((i 1).val * 1024 + 1024) := by
  subst hk
  rw [pay19_id, pay32_eq rfl h0 (i 1).isLt, pay42_eq h1 (i 1).isLt]

include h0 hk hw in
/-- The first block's rows of the query gradient as the body stores them, -/
theorem diag_dq0 (b : FVec Ideal S512x256 .f32) (r : Fin 512) (x : Fin 256) :
    k0_pay30 (F := Ideal) (k0_pay24 d) (k0_pay25 k) (k0_pay26 w) (k0_pay27 i k q l) (constant S512x512 .f32 0x00000000#32) e b (ix2 r x)
      = b (ix2 r x) + ∑ c : Fin 1024, dscore Q K W D L G (i 1).val ⟨(i 1).val * 1024 + r.val, by omega⟩ c * K (ix2 c x) := by
  subst hk hw
  exact pay30_eq rfl h0 (i 1).isLt b r x

include h1 hk hw in
/-- and the second block's. -/
theorem diag_dq1 (b : FVec Ideal S512x256 .f32) (r : Fin 512) (x : Fin 256) :
    k0_pay40 (F := Ideal) (k0_pay19 k) (k0_pay20 w) (k0_pay34 d') (k0_pay35 (k0_pay19 k) q' l') (k0_pay36 (BitVec.ofNat 32 (i 1).val)) (k0_pay37 (BitVec.ofNat 32 (i 1).val)) e' b (ix2 r x)
      = b (ix2 r x) + ∑ c : Fin 1024, dscore Q K W D L G (i 1).val ⟨(i 1).val * 1024 + 512 + r.val, by omega⟩ c * K (ix2 c x) := by
  subst hk hw
  rw [pay19_id, pay20_id]
  exact pay40_eq h1 (i 1).isLt b r x

end Diagonal

/-! ## The body at one grid point -/

variable (c : Dev nD) (i : grid0.Coords) (arg2 : Memref sig .tc .vmem S4096x256 .bf16) (harg2 : arg2.IsWhole) (arg3 : Memref sig .tc .vmem S1024x256 .bf16) (harg3 : arg3.IsWhole) (arg4 : Memref sig .tc .vmem S1024x128 .bf16) (harg4 : arg4.IsWhole) (arg5 : Memref sig .tc .vmem S4096x128 .bf16) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x256 .f32) (harg8 : arg8.IsWhole) (arg9 : Memref sig .tc .vmem S1024x256 .f32) (harg9 : arg9.IsWhole) (arg10 : Memref sig .tc .vmem S1024x128 .f32) (harg10 : arg10.IsWhole)
  (Q : FVec Ideal S4096x256 .bf16) (K : FVec Ideal S1024x256 .bf16) (W : FVec Ideal S1024x128 .bf16) (D : FVec Ideal S4096x128 .bf16) (L G : FVec Ideal S4096x128 .f32) (B : FVec Ideal S4096x256 .f32)

set_option maxHeartbeats 1000000 in
/-- A key tile between the first and the last: each gradient window gains the tile's part. -/
theorem run_middle (hc0 : ¬isFirst i) (hc1 : ¬isLast i) (E : Set ℕ) (Post : PUnit → sProp 𝕄) :
    iprop(owns (c : Thread nD τ) arg2 fullShare Q ∗ owns (c : Thread nD τ) arg3 fullShare K ∗ owns (c : Thread nD τ) arg4 fullShare W ∗ owns (c : Thread nD τ) arg5 fullShare D ∗ owns (c : Thread nD τ) arg6 fullShare L ∗ owns (c : Thread nD τ) arg7 fullShare G ∗ owns (c : Thread nD τ) arg8 fullShare B ∗ (∃ d, owns (c : Thread nD τ) arg9 fullShare d) ∗ (∃ d, owns (c : Thread nD τ) arg10 fullShare d)
        ∗ (iprop(owns (c : Thread nD τ) arg2 fullShare Q ∗ owns (c : Thread nD τ) arg3 fullShare K ∗ owns (c : Thread nD τ) arg4 fullShare W ∗ owns (c : Thread nD τ) arg5 fullShare D ∗ owns (c : Thread nD τ) arg6 fullShare L ∗ owns (c : Thread nD τ) arg7 fullShare G ∗ owns (c : Thread nD τ) arg8 fullShare (dqv Q K W D L G (i 1).val 4096 B) ∗ owns (c : Thread nD τ) arg9 fullShare (k0_pay55 (dkv Q K W D L G (i 1).val 4096)) ∗ owns (c : Thread nD τ) arg10 fullShare (dvv Q K D L (i 1).val 4096)) -∗ Post ⟨⟩))
      ⊢ wp frame (wpE (defs₀ (F := Ideal)) Variants.none c none) E (cc0_attn_bwd i arg2 harg2 arg3 harg3 arg4 harg4 arg5 harg5 arg6 harg6 arg7 harg7 arg8 harg8 arg9 harg9 arg10 harg10) Post := by
  simp only [cc0_attn_bwd_eq_skeleton]; unfold cc0_attn_bwd_skel
  simp only [k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  sl_exec (disch := first | sl_exact hc0 | sl_exact hc1)
  have hj : (i 1).val < 4 := (i 1).isLt
  have e0 : ![1024 * (i 1).val + 512 * 0, 0] = ![(i 1).val * 1024, 0] := by
    rw [show 1024 * (i 1).val + 512 * 0 = (i 1).val * 1024 by omega]
  have e1 : ![1024 * (i 1).val + 512 * 1, 0] = ![(i 1).val * 1024 + 512, 0] := by
    rw [show 1024 * (i 1).val + 512 * 1 = (i 1).val * 1024 + 512 by omega]
  have hR0 := rows_readAt arg2 arg5 arg6 arg7 f0 f3 f4 f5 ((i 1).val * 1024) (by omega) _ _ _ _
    ((k0_off1_eq i 0).trans e0) ((k0_off2_eq i 0).trans e0) ((k0_off3_eq i 0).trans e0) ((k0_off3_eq i 0).trans e0)
    (k0_off1_inb i 0) (k0_off2_inb i 0) (k0_off3_inb i 0) (k0_off3_inb i 0)
  have hR1 := rows_readAt arg2 arg5 arg6 arg7 f0 f3 f4 f5 ((i 1).val * 1024 + 512) (by omega) _ _ _ _
    ((k0_off1_eq i 1).trans e1) ((k0_off2_eq i 1).trans e1) ((k0_off3_eq i 1).trans e1) ((k0_off3_eq i 1).trans e1)
    (k0_off1_inb i 1) (k0_off2_inb i 1) (k0_off3_inb i 1) (k0_off3_inb i 1)
  subst hf0 hf1 hf2 hf3 hf4 hf5 hf6
  have hK : run_middle.sl.r c arg3 f1 = arg3.view.read (Elt Ideal) f1 := by
    unfold run_middle.sl.r; rw [load_k, pay19_id]
  have hW : run_middle.sl.r_1 c arg4 f2 = arg4.view.read (Elt Ideal) f2 := by
    unfold run_middle.sl.r_1; rw [load_v, pay20_id]
  have hs : ((i 1).val + 1 + 0) * 1024 = (i 1).val * 1024 + 1024 := by omega
  have hend : ((i 1).val + 1 + Scf.trips (k0_t1_loop i).lb (k0_t1_loop i).ub (k0_t1_loop i).st) * 1024 = 4096 := by
    have h : Scf.trips (k0_t1_loop i).lb (k0_t1_loop i).ub (k0_t1_loop i).st = 3 - (i 1).val := trips_eq i
    rw [h]; omega
  sl_for (Inv c i arg2 arg5 arg6 arg7 arg8 f0 f3 f4 f5 (run_middle.sl.r c arg3 f1) (run_middle.sl.r_1 c arg4 f2) (arg8.view.read (Elt Ideal) f6)) $$ [H0 H3 H4 H5 H6]
  · intro k acc
    exact trip c i arg2 harg2 arg3 harg3 arg4 harg4 arg5 harg5 arg6 harg6 arg7 harg7 arg8 harg8 arg9 harg9 arg10 harg10 f0 f3 f4 f5 _ _ _ _ _ _ _ _ _ _ _ _ _ k acc E
  · unfold Inv
    isplitl [H0]; · iexact H0
    isplitl [H3]; · iexact H3
    isplitl [H4]; · iexact H4
    isplitl [H5]; · iexact H5
    isplitl [H6]
    · iexists _; isplitl [H6]; · iexact H6
      ipureintro
      rw [hs]
      refine Eq.trans ?_ (congrArg₂ (fun k w => dqv (arg2.view.read (Elt Ideal) f0) k w (arg5.view.read (Elt Ideal) f3) (arg6.view.read (Elt Ideal) f4) (arg7.view.read (Elt Ideal) f5) (i 1).val ((i 1).val * 1024 + 1024) (arg8.view.read (Elt Ideal) f6)) hK hW).symm
      have hz : arg8.view.read (Elt Ideal) f6
          = dqv (arg2.view.read (Elt Ideal) f0) (arg3.view.read (Elt Ideal) f1) (arg4.view.read (Elt Ideal) f2) (arg5.view.read (Elt Ideal) f3) (arg6.view.read (Elt Ideal) f4) (arg7.view.read (Elt Ideal) f5) (i 1).val ((i 1).val * 1024) (arg8.view.read (Elt Ideal) f6) := by
        rw [dqv_start]
      have h0 := dqv_store arg8 f6 [] _ _ le_rfl (by omega) _ hz hz _ _ ((k0_off1_eq i 0).trans e0) ((k0_off1_eq i 0).trans e0) (k0_off1_inb i 0) (k0_off1_inb i 0) _ rfl _
        fun r x => diag_dq0 hR0 (load_k arg3 f1) (load_v arg4 f2) _ r x
      exact dqv_store arg8 f6 _ _ _ (by omega) (by omega) f6 hz h0 _ _ ((k0_off1_eq i 1).trans e1) ((k0_off1_eq i 1).trans e1) (k0_off1_inb i 1) (k0_off1_inb i 1) _ rfl _
        fun r x => diag_dq1 (ho := by omega) hR1 (load_k arg3 f1) (load_v arg4 f2) _ r x
    · ipureintro
      rw [hs]
      refine Prod.ext ((diag_dk hR0 hR1 (load_k arg3 f1) (load_v arg4 f2)).trans ?_) ((diag_dv hR0 hR1 (load_k arg3 f1)).trans ?_)
      · rw [hK, hW]
      · rw [hK]
  · iintro %acc HI
    unfold Inv
    icases HI with ⟨H0, H3, H4, H5, ⟨%f6', H6, %hf6'⟩, %hacc⟩
    subst hacc
    sl_exec (disch := first | sl_exact hc0 | sl_exact hc1)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    isplitl [H6]
    · iexists _; isplitr; swap; · iexact H6
      ipureintro
      rw [hf6', hend, hK, hW]
    isplitl [H7]
    · iexists _; isplitr; swap; · iexact H7
      ipureintro
      rw [View.read_writes_full, hend, hK, hW]
    iexists _; isplitr; swap; · iexact H8
    ipureintro
    rw [View.read_writes_full, hend, hK]

set_option maxHeartbeats 1000000 in
/-- The first key tile starts the query gradient at zero. -/
theorem run_first (hc0 : isFirst i) (hc1 : ¬isLast i) (E : Set ℕ) (Post : PUnit → sProp 𝕄) :
    iprop(owns (c : Thread nD τ) arg2 fullShare Q ∗ owns (c : Thread nD τ) arg3 fullShare K ∗ owns (c : Thread nD τ) arg4 fullShare W ∗ owns (c : Thread nD τ) arg5 fullShare D ∗ owns (c : Thread nD τ) arg6 fullShare L ∗ owns (c : Thread nD τ) arg7 fullShare G ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare Q ∗ owns (c : Thread nD τ) arg3 fullShare K ∗ owns (c : Thread nD τ) arg4 fullShare W ∗ owns (c : Thread nD τ) arg5 fullShare D ∗ owns (c : Thread nD τ) arg6 fullShare L ∗ owns (c : Thread nD τ) arg7 fullShare G ∗ owns (c : Thread nD τ) arg8 fullShare (dqv Q K W D L G (i 1).val 4096 (fun _ => 0)) ∗ owns (c : Thread nD τ) arg9 fullShare (k0_pay55 (dkv Q K W D L G (i 1).val 4096)) ∗ owns (c : Thread nD τ) arg10 fullShare (dvv Q K D L (i 1).val 4096)) -∗ Post ⟨⟩))
      ⊢ wp frame (wpE (defs₀ (F := Ideal)) Variants.none c none) E (cc0_attn_bwd i arg2 harg2 arg3 harg3 arg4 harg4 arg5 harg5 arg6 harg6 arg7 harg7 arg8 harg8 arg9 harg9 arg10 harg10) Post := by
  simp only [cc0_attn_bwd_eq_skeleton]; unfold cc0_attn_bwd_skel
  simp only [k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  sl_exec (disch := first | sl_exact hc0 | sl_exact hc1)
  have hj : (i 1).val < 4 := (i 1).isLt
  have e0 : ![1024 * (i 1).val + 512 * 0, 0] = ![(i 1).val * 1024, 0] := by
    rw [show 1024 * (i 1).val + 512 * 0 = (i 1).val * 1024 by omega]
  have e1 : ![1024 * (i 1).val + 512 * 1, 0] = ![(i 1).val * 1024 + 512, 0] := by
    rw [show 1024 * (i 1).val + 512 * 1 = (i 1).val * 1024 + 512 by omega]
  have hR0 := rows_readAt arg2 arg5 arg6 arg7 f0 f3 f4 f5 ((i 1).val * 1024) (by omega) _ _ _ _
    ((k0_off1_eq i 0).trans e0) ((k0_off2_eq i 0).trans e0) ((k0_off3_eq i 0).trans e0) ((k0_off3_eq i 0).trans e0)
    (k0_off1_inb i 0) (k0_off2_inb i 0) (k0_off3_inb i 0) (k0_off3_inb i 0)
  have hR1 := rows_readAt arg2 arg5 arg6 arg7 f0 f3 f4 f5 ((i 1).val * 1024 + 512) (by omega) _ _ _ _
    ((k0_off1_eq i 1).trans e1) ((k0_off2_eq i 1).trans e1) ((k0_off3_eq i 1).trans e1) ((k0_off3_eq i 1).trans e1)
    (k0_off1_inb i 1) (k0_off2_inb i 1) (k0_off3_inb i 1) (k0_off3_inb i 1)
  subst hf0 hf1 hf2 hf3 hf4 hf5
  have hK : run_first.sl.r c arg3 f1 = arg3.view.read (Elt Ideal) f1 := by
    unfold run_first.sl.r; rw [load_k, pay19_id]
  have hW : run_first.sl.r_1 c arg4 f2 = arg4.view.read (Elt Ideal) f2 := by
    unfold run_first.sl.r_1; rw [load_v, pay20_id]
  have hs : ((i 1).val + 1 + 0) * 1024 = (i 1).val * 1024 + 1024 := by omega
  have hend : ((i 1).val + 1 + Scf.trips (k0_t1_loop i).lb (k0_t1_loop i).ub (k0_t1_loop i).st) * 1024 = 4096 := by
    have h : Scf.trips (k0_t1_loop i).lb (k0_t1_loop i).ub (k0_t1_loop i).st = 3 - (i 1).val := trips_eq i
    rw [h]; omega
  sl_for (Inv c i arg2 arg5 arg6 arg7 arg8 f0 f3 f4 f5 (run_first.sl.r c arg3 f1) (run_first.sl.r_1 c arg4 f2) (fun _ => 0)) $$ [H0 H3 H4 H5 H6]
  · intro k acc
    exact trip c i arg2 harg2 arg3 harg3 arg4 harg4 arg5 harg5 arg6 harg6 arg7 harg7 arg8 harg8 arg9 harg9 arg10 harg10 f0 f3 f4 f5 _ _ _ _ _ _ _ _ _ _ _ _ _ k acc E
  · unfold Inv
    isplitl [H0]; · iexact H0
    isplitl [H3]; · iexact H3
    isplitl [H4]; · iexact H4
    isplitl [H5]; · iexact H5
    isplitl [H6]
    · iexists _; isplitl [H6]; · iexact H6
      ipureintro
      rw [hs]
      refine Eq.trans ?_ (congrArg₂ (fun k w => dqv (arg2.view.read (Elt Ideal) f0) k w (arg5.view.read (Elt Ideal) f3) (arg6.view.read (Elt Ideal) f4) (arg7.view.read (Elt Ideal) f5) (i 1).val ((i 1).val * 1024 + 1024) (fun _ => 0)) hK hW).symm
      have hz : arg8.view.read (Elt Ideal) (arg8.view.writes (Elt Ideal) arg8.view.junk [⟨Rect.unit (s := S4096x256) ![0, 0] S4096x256.size inb_S4096x256_S4096x256_0_0, k0_pay18 (F := Ideal)⟩])
          = dqv (arg2.view.read (Elt Ideal) f0) (arg3.view.read (Elt Ideal) f1) (arg4.view.read (Elt Ideal) f2) (arg5.view.read (Elt Ideal) f3) (arg6.view.read (Elt Ideal) f4) (arg7.view.read (Elt Ideal) f5) (i 1).val ((i 1).val * 1024) fun _ => 0 := by
        rw [dqv_start, ← pay18_zero]
        exact View.read_writes_full _ _ _ _ _
      have h0 := dqv_store arg8 arg8.view.junk _ _ _ le_rfl (by omega) _ hz hz _ _ ((k0_off1_eq i 0).trans e0) ((k0_off1_eq i 0).trans e0) (k0_off1_inb i 0) (k0_off1_inb i 0) _ rfl _
        fun r x => diag_dq0 hR0 (load_k arg3 f1) (load_v arg4 f2) _ r x
      exact dqv_store arg8 arg8.view.junk _ _ _ le_rfl (by omega) _ h0 h0 _ _ ((k0_off1_eq i 1).trans e1) ((k0_off1_eq i 1).trans e1) (k0_off1_inb i 1) (k0_off1_inb i 1) _ rfl _
        fun r x => diag_dq1 (ho := by omega) hR1 (load_k arg3 f1) (load_v arg4 f2) _ r x
    · ipureintro
      rw [hs]
      refine Prod.ext ((diag_dk hR0 hR1 (load_k arg3 f1) (load_v arg4 f2)).trans ?_) ((diag_dv hR0 hR1 (load_k arg3 f1)).trans ?_)
      · rw [hK, hW]
      · rw [hK]
  · iintro %acc HI
    unfold Inv
    icases HI with ⟨H0, H3, H4, H5, ⟨%f6', H6, %hf6'⟩, %hacc⟩
    subst hacc
    sl_exec (disch := first | sl_exact hc0 | sl_exact hc1)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    isplitl [H6]
    · iexists _; isplitr; swap; · iexact H6
      ipureintro
      rw [hf6', hend, hK, hW]
    isplitl [H7]
    · iexists _; isplitr; swap; · iexact H7
      ipureintro
      rw [View.read_writes_full, hend, hK, hW]
    iexists _; isplitr; swap; · iexact H8
    ipureintro
    rw [View.read_writes_full, hend, hK]

set_option maxHeartbeats 1000000 in
/-- The last key tile scales the finished query gradient. -/
theorem run_last (hc0 : ¬isFirst i) (hc1 : isLast i) (E : Set ℕ) (Post : PUnit → sProp 𝕄) :
    iprop(owns (c : Thread nD τ) arg2 fullShare Q ∗ owns (c : Thread nD τ) arg3 fullShare K ∗ owns (c : Thread nD τ) arg4 fullShare W ∗ owns (c : Thread nD τ) arg5 fullShare D ∗ owns (c : Thread nD τ) arg6 fullShare L ∗ owns (c : Thread nD τ) arg7 fullShare G ∗ owns (c : Thread nD τ) arg8 fullShare B ∗ (∃ d, owns (c : Thread nD τ) arg9 fullShare d) ∗ (∃ d, owns (c : Thread nD τ) arg10 fullShare d)
        ∗ (iprop(owns (c : Thread nD τ) arg2 fullShare Q ∗ owns (c : Thread nD τ) arg3 fullShare K ∗ owns (c : Thread nD τ) arg4 fullShare W ∗ owns (c : Thread nD τ) arg5 fullShare D ∗ owns (c : Thread nD τ) arg6 fullShare L ∗ owns (c : Thread nD τ) arg7 fullShare G ∗ owns (c : Thread nD τ) arg8 fullShare (k0_pay1 (F := Ideal) (dqv Q K W D L G (i 1).val 4096 B)) ∗ owns (c : Thread nD τ) arg9 fullShare (k0_pay55 (dkv Q K W D L G (i 1).val 4096)) ∗ owns (c : Thread nD τ) arg10 fullShare (dvv Q K D L (i 1).val 4096)) -∗ Post ⟨⟩))
      ⊢ wp frame (wpE (defs₀ (F := Ideal)) Variants.none c none) E (cc0_attn_bwd i arg2 harg2 arg3 harg3 arg4 harg4 arg5 harg5 arg6 harg6 arg7 harg7 arg8 harg8 arg9 harg9 arg10 harg10) Post := by
  simp only [cc0_attn_bwd_eq_skeleton]; unfold cc0_attn_bwd_skel
  simp only [k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  sl_exec (disch := first | sl_exact hc0 | sl_exact hc1)
  have hj : (i 1).val < 4 := (i 1).isLt
  have e0 : ![1024 * (i 1).val + 512 * 0, 0] = ![(i 1).val * 1024, 0] := by
    rw [show 1024 * (i 1).val + 512 * 0 = (i 1).val * 1024 by omega]
  have e1 : ![1024 * (i 1).val + 512 * 1, 0] = ![(i 1).val * 1024 + 512, 0] := by
    rw [show 1024 * (i 1).val + 512 * 1 = (i 1).val * 1024 + 512 by omega]
  have hR0 := rows_readAt arg2 arg5 arg6 arg7 f0 f3 f4 f5 ((i 1).val * 1024) (by omega) _ _ _ _
    ((k0_off1_eq i 0).trans e0) ((k0_off2_eq i 0).trans e0) ((k0_off3_eq i 0).trans e0) ((k0_off3_eq i 0).trans e0)
    (k0_off1_inb i 0) (k0_off2_inb i 0) (k0_off3_inb i 0) (k0_off3_inb i 0)
  have hR1 := rows_readAt arg2 arg5 arg6 arg7 f0 f3 f4 f5 ((i 1).val * 1024 + 512) (by omega) _ _ _ _
    ((k0_off1_eq i 1).trans e1) ((k0_off2_eq i 1).trans e1) ((k0_off3_eq i 1).trans e1) ((k0_off3_eq i 1).trans e1)
    (k0_off1_inb i 1) (k0_off2_inb i 1) (k0_off3_inb i 1) (k0_off3_inb i 1)
  subst hf0 hf1 hf2 hf3 hf4 hf5 hf6
  have hK : run_last.sl.r c arg3 f1 = arg3.view.read (Elt Ideal) f1 := by
    unfold run_last.sl.r; rw [load_k, pay19_id]
  have hW : run_last.sl.r_1 c arg4 f2 = arg4.view.read (Elt Ideal) f2 := by
    unfold run_last.sl.r_1; rw [load_v, pay20_id]
  have hs : ((i 1).val + 1 + 0) * 1024 = (i 1).val * 1024 + 1024 := by omega
  have hend : ((i 1).val + 1 + Scf.trips (k0_t1_loop i).lb (k0_t1_loop i).ub (k0_t1_loop i).st) * 1024 = 4096 := by
    have h : Scf.trips (k0_t1_loop i).lb (k0_t1_loop i).ub (k0_t1_loop i).st = 3 - (i 1).val := trips_eq i
    rw [h]; omega
  sl_for (Inv c i arg2 arg5 arg6 arg7 arg8 f0 f3 f4 f5 (run_last.sl.r c arg3 f1) (run_last.sl.r_1 c arg4 f2) (arg8.view.read (Elt Ideal) f6)) $$ [H0 H3 H4 H5 H6]
  · intro k acc
    exact trip c i arg2 harg2 arg3 harg3 arg4 harg4 arg5 harg5 arg6 harg6 arg7 harg7 arg8 harg8 arg9 harg9 arg10 harg10 f0 f3 f4 f5 _ _ _ _ _ _ _ _ _ _ _ _ _ k acc E
  · unfold Inv
    isplitl [H0]; · iexact H0
    isplitl [H3]; · iexact H3
    isplitl [H4]; · iexact H4
    isplitl [H5]; · iexact H5
    isplitl [H6]
    · iexists _; isplitl [H6]; · iexact H6
      ipureintro
      rw [hs]
      refine Eq.trans ?_ (congrArg₂ (fun k w => dqv (arg2.view.read (Elt Ideal) f0) k w (arg5.view.read (Elt Ideal) f3) (arg6.view.read (Elt Ideal) f4) (arg7.view.read (Elt Ideal) f5) (i 1).val ((i 1).val * 1024 + 1024) (arg8.view.read (Elt Ideal) f6)) hK hW).symm
      have hz : arg8.view.read (Elt Ideal) f6
          = dqv (arg2.view.read (Elt Ideal) f0) (arg3.view.read (Elt Ideal) f1) (arg4.view.read (Elt Ideal) f2) (arg5.view.read (Elt Ideal) f3) (arg6.view.read (Elt Ideal) f4) (arg7.view.read (Elt Ideal) f5) (i 1).val ((i 1).val * 1024) (arg8.view.read (Elt Ideal) f6) := by
        rw [dqv_start]
      have h0 := dqv_store arg8 f6 [] _ _ le_rfl (by omega) _ hz hz _ _ ((k0_off1_eq i 0).trans e0) ((k0_off1_eq i 0).trans e0) (k0_off1_inb i 0) (k0_off1_inb i 0) _ rfl _
        fun r x => diag_dq0 hR0 (load_k arg3 f1) (load_v arg4 f2) _ r x
      exact dqv_store arg8 f6 _ _ _ (by omega) (by omega) f6 hz h0 _ _ ((k0_off1_eq i 1).trans e1) ((k0_off1_eq i 1).trans e1) (k0_off1_inb i 1) (k0_off1_inb i 1) _ rfl _
        fun r x => diag_dq1 (ho := by omega) hR1 (load_k arg3 f1) (load_v arg4 f2) _ r x
    · ipureintro
      rw [hs]
      refine Prod.ext ((diag_dk hR0 hR1 (load_k arg3 f1) (load_v arg4 f2)).trans ?_) ((diag_dv hR0 hR1 (load_k arg3 f1)).trans ?_)
      · rw [hK, hW]
      · rw [hK]
  · iintro %acc HI
    unfold Inv
    icases HI with ⟨H0, H3, H4, H5, ⟨%f6', H6, %hf6'⟩, %hacc⟩
    subst hacc
    sl_exec (disch := first | sl_exact hc0 | sl_exact hc1)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    isplitl [H6]
    · iexists _; isplitr; swap; · iexact H6
      ipureintro
      rw [View.read_writes_full]
      refine congrArg (k0_pay1 (F := Ideal)) ((View.readAt_full _ _ _).trans (hf6'.trans ?_))
      rw [hend, hK, hW]
    isplitl [H7]
    · iexists _; isplitr; swap; · iexact H7
      ipureintro
      rw [View.read_writes_full, hend, hK, hW]
    iexists _; isplitr; swap; · iexact H8
    ipureintro
    rw [View.read_writes_full, hend, hK]

end Cert.KernelIdeal.Attn

end
-- ==== Proof.Values.lean ====
/- The run of the whole call at the ideal values: what the body leaves at each grid point, the obligation at a point,
   the launch, and the three result arrays in closed form. -/
module

public import proofs.«01_k».proof.Proof.Run
public import Idealize.ShloMosaic.Lib.Pipeline.ValueKit

@[expose] public section

set_option maxRecDepth 16384

noncomputable section

namespace Cert.KernelIdeal.Attn

open Idealize.ShloMosaic Idealize.ShloMosaic.TcCoe Idealize.ShloMosaic.Tactic Idealize.ShloMosaic.WordCmp
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal.Gen

local notation "𝕄" => MT nD τ sig Unit (Elt Ideal) ℕ (UR sig nD τ) ℕ

variable (m : (ℓ : Loc nD τ sig) → Buf (Elt Ideal) ℓ) (ρ : Dev nD → PrngReg)

/-! ## The grid's points -/

/-- The key tile of point `t` (the grid is head by tile, four tiles to a head). -/
theorem tile_val (t : Fin cfg0.N) : (grid0.coords t 1).val = t.val % 4 :=
  (Pipeline.Grid.coords_val t 1 (by decide) rfl : (grid0.coords t 1).val = t.val / 1 % 4).trans (by rw [Nat.div_one])

/-- A head's first tile starts its query gradient, -/
theorem isFirst_iff (t : Fin cfg0.N) : isFirst (grid0.coords t) ↔ t.val % 4 = 0 := by
  have h : t.val % 4 < 4 := Nat.mod_lt _ (by decide)
  simp only [isFirst, tile_val]
  word_cmp

/-- and its last tile finishes it. -/
theorem isLast_iff (t : Fin cfg0.N) : isLast (grid0.coords t) ↔ t.val % 4 = 3 := by
  have h : t.val % 4 < 4 := Nat.mod_lt _ (by decide)
  simp only [isLast, tile_val]
  word_cmp

/-- The point numbered `n`. -/
def pt (n : ℕ) : Fin cfg0.N := ⟨n % 16, lt_of_lt_of_eq (Nat.mod_lt _ (by decide)) (show cfg0.N = 16 from N_0).symm⟩

theorem pt_val (t : Fin cfg0.N) : pt t.val = t :=
  Fin.ext (Nat.mod_eq_of_lt (lt_of_lt_of_eq t.isLt (show cfg0.N = 16 from N_0)))

/-! ## What the body leaves -/

/-- The block of `q` at a point. -/
abbrev bq (c : Dev nD) (t : Fin cfg0.N) : FVec Ideal S4096x256 .bf16 := iblk m c 0 t
/-- The block of `k` at a point. -/
abbrev bk (c : Dev nD) (t : Fin cfg0.N) : FVec Ideal S1024x256 .bf16 := iblk m c 1 t
/-- The block of `v` at a point. -/
abbrev bv (c : Dev nD) (t : Fin cfg0.N) : FVec Ideal S1024x128 .bf16 := iblk m c 2 t
/-- The block of `do` at a point. -/
abbrev bd (c : Dev nD) (t : Fin cfg0.N) : FVec Ideal S4096x128 .bf16 := iblk m c 3 t
/-- The block of `lse` at a point. -/
abbrev bl (c : Dev nD) (t : Fin cfg0.N) : FVec Ideal S4096x128 .f32 := iblk m c 4 t
/-- The block of `delta` at a point. -/
abbrev be (c : Dev nD) (t : Fin cfg0.N) : FVec Ideal S4096x128 .f32 := iblk m c 5 t

/-- The query gradient's window after point `n`, before the closing scale: the tiles of the head so far. -/
def dqAt (c : Dev nD) : ℕ → FVec Ideal S4096x256 .f32
  | 0 => dqv (bq m c (pt 0)) (bk m c (pt 0)) (bv m c (pt 0)) (bd m c (pt 0)) (bl m c (pt 0)) (be m c (pt 0)) ((pt 0).val % 4) 4096 fun _ => 0
  | n + 1 => dqv (bq m c (pt (n + 1))) (bk m c (pt (n + 1))) (bv m c (pt (n + 1))) (bd m c (pt (n + 1))) (bl m c (pt (n + 1))) (be m c (pt (n + 1))) ((pt (n + 1)).val % 4) 4096 (if (n + 1) % 4 = 0 then fun _ => 0 else dqAt c n)

theorem dqAt_first (c : Dev nD) (t : Fin cfg0.N) (h : t.val % 4 = 0) :
    dqAt m c t.val = dqv (bq m c t) (bk m c t) (bv m c t) (bd m c t) (bl m c t) (be m c t) (t.val % 4) 4096 fun _ => 0 := by
  have hp := pt_val t
  rcases hv : t.val with _ | n
  · rw [hv] at hp; unfold dqAt; rw [hp, hv]
  · rw [hv] at hp h; unfold dqAt; rw [hp, hv, if_pos h]

theorem dqAt_next (c : Dev nD) (t : Fin cfg0.N) (h : ¬t.val % 4 = 0) :
    dqAt m c t.val = dqv (bq m c t) (bk m c t) (bv m c t) (bd m c t) (bl m c t) (be m c t) (t.val % 4) 4096 (dqAt m c (t.val - 1)) := by
  have hp := pt_val t
  rcases hv : t.val with _ | n
  · rw [hv] at h; exact absurd rfl h
  · rw [hv] at hp h; rw [Nat.add_sub_cancel]; conv_lhs => unfold dqAt
    rw [hp, hv, if_neg h]

/-- What the pipeline knows at each point: the arrays as the host lines leave them, each input's block, and the
    three gradients' blocks. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => if t.val % 4 = 3 then k0_pay1 (F := Ideal) (dqAt m c t.val) else dqAt m c t.val
    | ⟨7, _⟩ => k0_pay55 (F := Ideal) (dkv (bq m c t) (bk m c t) (bv m c t) (bd m c t) (bl m c t) (be m c t) (t.val % 4) 4096)
    | ⟨8, _⟩ => dvv (bq m c t) (bk m c t) (bd m c t) (bl m c t) (t.val % 4) 4096
  Φ _ := Pipeline.ΦA spec0 c
  q _ := fullShare
  owed _ := 0

theorem dats_A (c : Dev nD) (w : Fin cfg0.W) : (dats m 0 c).A w = V m c (Pipeline.arrRef spec0 w) := by
  dsimp only [dats]

theorem left_0 (c : Dev nD) (t : Fin cfg0.N) : (dats m 0 c).after 0 t = iblk m c 0 t := by dsimp only [dats]
theorem found_0 (c : Dev nD) (t : Fin cfg0.N) (d) : (dats m 0 c).before 0 t d = iblk m c 0 t :=
  before0_0_of m (dats m 0 c) (dats_A m c 0) (left_0 m c) t d
theorem left_1 (c : Dev nD) (t : Fin cfg0.N) : (dats m 0 c).after 1 t = iblk m c 1 t := by dsimp only [dats]
theorem found_1 (c : Dev nD) (t : Fin cfg0.N) (d) : (dats m 0 c).before 1 t d = iblk m c 1 t :=
  before0_1_of m (dats m 0 c) (dats_A m c 1) (left_1 m c) t d
theorem left_2 (c : Dev nD) (t : Fin cfg0.N) : (dats m 0 c).after 2 t = iblk m c 2 t := by dsimp only [dats]
theorem found_2 (c : Dev nD) (t : Fin cfg0.N) (d) : (dats m 0 c).before 2 t d = iblk m c 2 t :=
  before0_2_of m (dats m 0 c) (dats_A m c 2) (left_2 m c) t d
theorem left_3 (c : Dev nD) (t : Fin cfg0.N) : (dats m 0 c).after 3 t = iblk m c 3 t := by dsimp only [dats]
theorem found_3 (c : Dev nD) (t : Fin cfg0.N) (d) : (dats m 0 c).before 3 t d = iblk m c 3 t :=
  before0_3_of m (dats m 0 c) (dats_A m c 3) (left_3 m c) t d
theorem left_4 (c : Dev nD) (t : Fin cfg0.N) : (dats m 0 c).after 4 t = iblk m c 4 t := by dsimp only [dats]
theorem found_4 (c : Dev nD) (t : Fin cfg0.N) (d) : (dats m 0 c).before 4 t d = iblk m c 4 t :=
  before0_4_of m (dats m 0 c) (dats_A m c 4) (left_4 m c) t d
theorem left_5 (c : Dev nD) (t : Fin cfg0.N) : (dats m 0 c).after 5 t = iblk m c 5 t := by dsimp only [dats]
theorem found_5 (c : Dev nD) (t : Fin cfg0.N) (d) : (dats m 0 c).before 5 t d = iblk m c 5 t :=
  before0_5_of m (dats m 0 c) (dats_A m c 5) (left_5 m c) t d

theorem left_6 (c : Dev nD) (t : Fin cfg0.N) : (dats m 0 c).after 6 t = if t.val % 4 = 3 then k0_pay1 (F := Ideal) (dqAt m c t.val) else dqAt m c t.val := by
  dsimp only [dats]
theorem left_7 (c : Dev nD) (t : Fin cfg0.N) : (dats m 0 c).after 7 t = k0_pay55 (F := Ideal) (dkv (bq m c t) (bk m c t) (bv m c t) (bd m c t) (bl m c t) (be m c t) (t.val % 4) 4096) := by
  dsimp only [dats]
theorem left_8 (c : Dev nD) (t : Fin cfg0.N) : (dats m 0 c).after 8 t = dvv (bq m c t) (bk m c t) (bd m c t) (bl m c t) (t.val % 4) 4096 := by
  dsimp only [dats]

/-- Within a head the query gradient's window holds what the tile before left. -/
theorem found_6 (c : Dev nD) (t : Fin cfg0.N) (h : ¬t.val % 4 = 0) (d) : (dats m 0 c).before 6 t d = dqAt m c (t.val - 1) := by
  have ht : t.val ≠ 0 := fun e => h (by rw [e])
  have hf : ¬(t.val - 1) % 4 = 3 := by omega
  rw [(dats m 0 c).before_out_kept 6 rfl t ht (Bool.eq_false_iff.mpr fun e => hf ((flush0_6 _).mp e)) (fun _ => rfl) (fun _ _ => rfl), left_6]
  exact if_neg hf

/-! ## The obligation at a point -/

/-- What the body is called with at a point, -/
def atPoint (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def donePoint (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 1600000 in
/-- The body does this at every point: the first tile of a head, its last, and those between. -/
theorem point (c : Dev nD) (t : Fin cfg0.N) :
    atPoint m c t ⊢ wp frame (wpE (defs₀ (F := Ideal)) Variants.none c none) Set.univ (bodyAt0 t) (fun _ => donePoint m c t) := by
  unfold atPoint donePoint bodyAt0
  simp only [found_0, found_1, found_2, found_3, found_4, found_5]
  rw [show (dats m 0 c).Φ t.succ = (dats m 0 c).Φ t.castSucc from rfl,
    show (dats m 0 c).owesAt () t.succ = (dats m 0 c).owesAt () t.castSucc from rfl,
    left_0, left_1, left_2, left_3, left_4, left_5, left_6, left_7, left_8]
  by_cases h0 : t.val % 4 = 0
  · rw [if_neg (by omega), dqAt_first m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_first c (grid0.coords t) _ _ _ _ _ _ _ _ _ _ _ _ _ _ _ _ _ _ (bq m c t) (bk m c t) (bv m c t) (bd m c t) (bl m c t) (be m c t) ((isFirst_iff t).mpr h0) (fun h => by have := (isLast_iff t).mp h; omega) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    rw [tile_val]
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [dqAt_next m c t h0]
    simp only [found_6 m c t h0]
    by_cases h1 : t.val % 4 = 3
    · rw [if_pos h1]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_last c (grid0.coords t) _ _ _ _ _ _ _ _ _ _ _ _ _ _ _ _ _ _ (bq m c t) (bk m c t) (bv m c t) (bd m c t) (bl m c t) (be m c t) (dqAt m c (t.val - 1)) (fun h => h0 ((isFirst_iff t).mp h)) ((isLast_iff t).mpr h1) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      rw [tile_val]
      iintro ⟨H0, H1, H2, H3, H4, H5, H6, H7, H8⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · rw [if_neg h1]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_middle c (grid0.coords t) _ _ _ _ _ _ _ _ _ _ _ _ _ _ _ _ _ _ (bq m c t) (bk m c t) (bv m c t) (bd m c t) (bl m c t) (be m c t) (dqAt m c (t.val - 1)) (fun h => h0 ((isFirst_iff t).mp h)) (fun h => h1 ((isLast_iff t).mp h)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      rw [tile_val]
      iintro ⟨H0, H1, H2, H3, H4, H5, H6, H7, H8⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8

theorem obligation (c : Dev nD) : BodyObligation (dats m 0 c) (defs₀ (F := Ideal)) Variants.none () Set.univ := fun t => by
  rw [bigSep_W0, bigSep_W0, show defs₀ (F := Ideal) .tc cfg0.body (cfg0.bodyArgs t (cfg0.slots t)) = bodyAt0 t by unfold defs₀; rw [Defs.onTc_tc]]
  exact triple_restated (point m c t) rfl .rfl fun _ => .rfl

/-! ## The launch -/

set_option backward.isDefEq.respectTransparency.types false in
/-- Every execution ends with the arrays as the write-backs leave them and every semaphore at zero. -/
theorem launch : θ_run defs (onTc (τ := τ) (main (F := Ideal))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := dats_A m) (hΦ := fun _ _ => rfl)

/-- The frame of the ideal kernel: it ends, with its arguments unchanged and every semaphore at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (dats_A m) ((θ_run defs _ _).mono (fun _ h => h.1) (launch m ρ)))
    ((θ_run defs _ _).mono (fun _ h => h.2) (launch m ρ))

end Cert.KernelIdeal.Attn

end
-- ==== Proof.Entry.lean ====
/- The arrays the call finds, read off the arguments: the masked scores, their row maxima, the exponentials and their
   row sums, and from these the six arrays the call takes. -/
module

public import proofs.«01_k».proof.Proof.Gen.KernelIdeal.Frame
public import proofs.«01_k».proof.Proof.Gen.ReferenceIdeal.Read
public import Idealize.ShloMosaic.Lib.StableHlo.ReadAt

@[expose] public section

set_option maxRecDepth 16384

noncomputable section

namespace Cert.KernelIdeal.Attn

open Idealize.ShloMosaic Idealize.ShloMosaic.TcCoe Cert.KernelIdeal Cert.KernelIdeal.Gen

variable (m : (ℓ : Loc nD τ sig) → Buf (Elt Ideal) ℓ)

/-- The four arguments, -/
abbrev argQ (c : Dev nD) : FVec Ideal S4096x4x192 .f32 := m (c, Proc.tc.devRef main_arg0)
abbrev argK (c : Dev nD) : FVec Ideal S4096x4x192 .f32 := m (c, Proc.tc.devRef main_arg1)
abbrev argV (c : Dev nD) : FVec Ideal S4096x4x128 .f32 := m (c, Proc.tc.devRef main_arg2)
abbrev argD (c : Dev nD) : FVec Ideal S4096x4x128 .f32 := m (c, Proc.tc.devRef main_arg3)

/-- the masked scores, their row maxima, the exponentials, and their row sums as the host lines compute them. -/
def score (c : Dev nD) : FVec Ideal S4x4096x4096 .f32 := V m c main_v11
def top (c : Dev nD) : FVec Ideal S4x4096 .f32 := V m c main_v12
def wt (c : Dev nD) : FVec Ideal S4x4096x4096 .f32 := V m c main_v16
def tot (c : Dev nD) : FVec Ideal S4x4096 .f32 := V m c main_v17

theorem score_at (c : Dev nD) (h : Fin 4) (r k : Fin 4096) :
    score m c (ix3 h r k) = Scalar.select (IntOp.cmpi .sle (BitVec.ofNat 32 k.val) (BitVec.ofNat 32 r.val))
      ((∑ x : Fin 192, argQ m c (ix3 r h x) * argK m c (ix3 k h x)) * Ideal.div (Ideal.ofBits .f32 0x3F800000#32) (Ideal.sqrt (Ideal.ofBits .f32 0x43400000#32)))
      (Ideal.ofBits .f32 0xFF800000#32) := by
  unfold score V hostOps0 hostOps0_1 hostOps0_2 hostOps0_3 hostOps0_4 hostOps0_5 hostOps0_6
  simp only [List.flatten_cons, List.flatten_nil, List.append_nil, List.cons_append, List.nil_append]
  after_reads_at
  show Scalar.select _ (_ * _) _ = _
  have e : Host.dotGeneral (F := Ideal) dot_S4096x4x192_S4096x4x192_S4x4096x4096_2_2_0_0_1_1 none (argQ m c) (argK m c) (ix3 h r k)
      = ∑ x : Fin 192, argQ m c (ix3 r h x) * argK m c (ix3 k h x) := by
    refine (Cert.ReferenceIdeal.Read.val_main_v0_apply (argQ m c) (argK m c) (ix3 h r k)).trans (Finset.sum_congr rfl fun x _ => ?_)
    congr 2 <;> funext a <;> fin_cases a <;> rfl
  rw [e]
  rfl

theorem top_eq (c : Dev nD) : top m c = Host.reduce FloatOps.maximumf (score m c) (constant S_ .f32 0xFF800000#32) reducesTo_S4x4096x4096_S4x4096_d2 h_S_ := by
  unfold top score V hostOps0 hostOps0_1 hostOps0_2 hostOps0_3 hostOps0_4 hostOps0_5 hostOps0_6
  simp only [List.flatten_cons, List.flatten_nil, List.append_nil, List.cons_append, List.nil_append]
  after_reads_simp

theorem wt_eq (c : Dev nD) : wt m c = Host.exp (subf (score m c) (broadcastInDim S4x4096x4096 ![0, 1, 2] bcast_S4x4096x1_S4x4096x4096_0_1_2 (broadcastInDim S4x4096x1 ![0, 1] bcast_S4x4096_S4x4096x1_0_1 (top m c)))) := by
  unfold wt top score V hostOps0 hostOps0_1 hostOps0_2 hostOps0_3 hostOps0_4 hostOps0_5 hostOps0_6
  simp only [List.flatten_cons, List.flatten_nil, List.append_nil, List.cons_append, List.nil_append]
  after_reads_simp

theorem tot_eq (c : Dev nD) : tot m c = Host.reduceAdd (wt m c) (constant S_ .f32 0x00000000#32) reducesTo_S4x4096x4096_S4x4096_d2 h_S_ := by
  unfold tot wt V hostOps0 hostOps0_1 hostOps0_2 hostOps0_3 hostOps0_4 hostOps0_5 hostOps0_6
  simp only [List.flatten_cons, List.flatten_nil, List.append_nil, List.cons_append, List.nil_append]
  after_reads_simp

theorem lse_eq (c : Dev nD) : V m c main_v30 = (transpose S4096x4 [1, 0] · transposes_S4x4096_S4096x4_1_0) (shapeCast S4x4096 (mulf (addf (broadcastInDim S4x4096x1 ![0, 1] bcast_S4x4096_S4x4096x1_0_1 (top m c))
      (Host.log (broadcastInDim S4x4096x1 ![0, 1] bcast_S4x4096_S4x4096x1_0_1 (tot m c))))
      (broadcastInDim S4x4096x1 ![] bcast_S_S4x4096x1 (Host.divf (F := Ideal) (constant S_ .f32 0x3F800000#32) (Host.log (constant S_ .f32 0x40000000#32))))) shapeCasts_S4x4096x1_S4x4096) := by
  unfold top tot V hostOps0 hostOps0_1 hostOps0_2 hostOps0_3 hostOps0_4 hostOps0_5 hostOps0_6
  simp only [List.flatten_cons, List.flatten_nil, List.append_nil, List.cons_append, List.nil_append]
  after_reads_simp
  rfl

theorem out_eq (c : Dev nD) : V m c main_v22 = (transpose S4096x4x128 [2, 0, 1] · transposes_S4x128x4096_S4096x4x128_2_0_1)
      (Host.dotGeneral (F := Ideal) dot_S4096x4x128_S4x4096x4096_S4x128x4096_0_2_2_1_1_0 none (argV m c)
        (Host.divf (wt m c) (broadcastInDim S4x4096x4096 ![0, 1, 2] bcast_S4x4096x1_S4x4096x4096_0_1_2 (broadcastInDim S4x4096x1 ![0, 1] bcast_S4x4096_S4x4096x1_0_1 (tot m c))))) := by
  unfold wt tot V hostOps0 hostOps0_1 hostOps0_2 hostOps0_3 hostOps0_4 hostOps0_5 hostOps0_6
  simp only [List.flatten_cons, List.flatten_nil, List.append_nil, List.cons_append, List.nil_append]
  after_reads_simp

theorem delta_eq (c : Dev nD) : V m c main_v32 = Host.reduceAdd (mulf (argD m c) (V m c main_v22)) (constant S_ .f32 0x00000000#32) reducesTo_S4096x4x128_S4096x4_d2 h_S_ := by
  unfold V hostOps0 hostOps0_1 hostOps0_2 hostOps0_3 hostOps0_4 hostOps0_5 hostOps0_6
  simp only [List.flatten_cons, List.flatten_nil, List.append_nil, List.cons_append, List.nil_append]
  after_reads_simp

end Cert.KernelIdeal.Attn

end
-- ==== Proof.Host.lean ====
/- The stages of the host lines, read at an index. -/
module

public import proofs.«01_k».proof.Proof.Entry
public import Idealize.ShloMosaic.Lib.Pointwise

@[expose] public section

set_option maxRecDepth 16384

noncomputable section

namespace Cert.KernelIdeal.Attn

open Idealize.ShloMosaic Idealize.ShloMosaic.TcCoe Cert.KernelIdeal Cert.KernelIdeal.Gen

variable (m : (ℓ : Loc nD τ sig) → Buf (Elt Ideal) ℓ)

theorem top_at (c : Dev nD) (h : Fin 4) (r : Fin 4096) :
    top m c (ix2 h r) = Finset.fold max (Ideal.ofBits .f32 0xFF800000#32) (fun k : Fin 4096 => score m c (ix3 h r k)) Finset.univ := by
  rw [top_eq]
  generalize score m c = s
  pointwise

theorem wt_at (c : Dev nD) (h : Fin 4) (r k : Fin 4096) :
    wt m c (ix3 h r k) = Ideal.exp (score m c (ix3 h r k) - top m c (ix2 h r)) := by
  rw [wt_eq]
  generalize score m c = s
  generalize top m c = u
  pointwise

theorem tot_at (c : Dev nD) (h : Fin 4) (r : Fin 4096) : tot m c (ix2 h r) = ∑ k : Fin 4096, wt m c (ix3 h r k) := by
  rw [tot_eq]
  generalize wt m c = s
  pointwise

theorem mulf_at {S : Shape} (a b : FVec Ideal S .f32) (i : S.Idx) : mulf a b i = a i * b i := rfl
theorem addf_at {S : Shape} (a b : FVec Ideal S .f32) (i : S.Idx) : addf a b i = a i + b i := rfl
theorem hlog_at {S : Shape} (a : FVec Ideal S .f32) (i : S.Idx) : Host.log a i = Ideal.log (a i) := rfl
theorem hdiv_at {S : Shape} (a b : FVec Ideal S .f32) (i : S.Idx) : Host.divf a b i = Ideal.div (a i) (b i) := rfl
theorem const_at {S : Shape} (b : BitVec 32) (i : S.Idx) : constant (F := Ideal) S .f32 b i = Ideal.ofBits .f32 b := rfl

theorem lse_at (c : Dev nD) (h : Fin 4) (r : Fin 4096) :
    (V m c main_v30 : FVec Ideal S4096x4 .f32) (ix2 r h) = (top m c (ix2 h r) + Ideal.log (tot m c (ix2 h r)))
      * Ideal.div (Ideal.ofBits .f32 0x3F800000#32) (Ideal.log (Ideal.ofBits .f32 0x40000000#32)) := by
  rw [lse_eq]
  generalize tot m c = s
  generalize top m c = u
  have e : ∀ z : FVec Ideal S4x4096x1 .f32, (transpose S4096x4 [1, 0] (shapeCast S4x4096 z shapeCasts_S4x4096x1_S4x4096) transposes_S4x4096_S4096x4_1_0) (ix2 r h) = z (ix3 h r 0) := by
    intro z
    pointwise
  have e1 : ∀ z : FVec Ideal S4x4096 .f32, broadcastInDim S4x4096x1 ![0, 1] bcast_S4x4096_S4x4096x1_0_1 z (ix3 h r 0) = z (ix2 h r) := by
    intro z
    pointwise
  have e2 : ∀ z : FVec Ideal S_ .f32, broadcastInDim S4x4096x1 ![] bcast_S_S4x4096x1 z (ix3 h r 0) = z ix0 := by
    intro z
    pointwise
  refine (e _).trans ?_
  rw [mulf_at, addf_at, hlog_at, e1, e1, e2, hdiv_at, hlog_at, const_at, const_at]

theorem out_at (c : Dev nD) (h : Fin 4) (r : Fin 4096) (y : Fin 128) :
    (V m c main_v22 : FVec Ideal S4096x4x128 .f32) (ix3 r h y) = ∑ k : Fin 4096, argV m c (ix3 k h y) * Ideal.div (wt m c (ix3 h r k)) (tot m c (ix2 h r)) := by
  rw [out_eq]
  generalize tot m c = s
  generalize wt m c = u
  generalize argV m c = w
  pointwise

theorem delta_at (c : Dev nD) (h : Fin 4) (r : Fin 4096) :
    (V m c main_v32 : FVec Ideal S4096x4 .f32) (ix2 r h) = ∑ y : Fin 128, argD m c (ix3 r h y) * (V m c main_v22 : FVec Ideal S4096x4x128 .f32) (ix3 r h y) := by
  rw [delta_eq]
  generalize argD m c = s
  generalize (V m c main_v22 : FVec Ideal S4096x4x128 .f32) = u
  pointwise

end Cert.KernelIdeal.Attn

end
-- ==== Proof.Operands.lean ====
/- The six arrays of the call, read at an index. -/
module

public import proofs.«01_k».proof.Proof.Entry
public import Idealize.ShloMosaic.Lib.Pointwise

@[expose] public section

set_option maxRecDepth 16384

noncomputable section

namespace Cert.KernelIdeal.Attn

open Idealize.ShloMosaic Idealize.ShloMosaic.TcCoe Cert.KernelIdeal Cert.KernelIdeal.Gen

variable (m : (ℓ : Loc nD τ sig) → Buf (Elt Ideal) ℓ)

theorem wideL_eq (c : Dev nD) : V m c main_v51 = shapeCast S4096x512 (broadcastInDim S4096x4x128 ![0, 1, 2] bcast_S4096x4x1_S4096x4x128_0_1_2
      (broadcastInDim S4096x4x1 ![0, 1] bcast_S4096x4_S4096x4x1_0_1 (V m c main_v30 : FVec Ideal S4096x4 .f32))) shapeCasts_S4096x4x128_S4096x512 := by
  unfold V hostOps0 hostOps0_1 hostOps0_2 hostOps0_3 hostOps0_4 hostOps0_5 hostOps0_6
  simp only [List.flatten_cons, List.flatten_nil, List.append_nil, List.cons_append, List.nil_append]
  after_reads_simp
  rfl

theorem wideE_eq (c : Dev nD) : V m c main_v54 = shapeCast S4096x512 (broadcastInDim S4096x4x128 ![0, 1, 2] bcast_S4096x4x1_S4096x4x128_0_1_2
      (broadcastInDim S4096x4x1 ![0, 1] bcast_S4096x4_S4096x4x1_0_1 (V m c main_v32 : FVec Ideal S4096x4 .f32))) shapeCasts_S4096x4x128_S4096x512 := by
  unfold V hostOps0 hostOps0_1 hostOps0_2 hostOps0_3 hostOps0_4 hostOps0_5 hostOps0_6
  simp only [List.flatten_cons, List.flatten_nil, List.append_nil, List.cons_append, List.nil_append]
  after_reads_simp
  rfl

theorem wideL_at (c : Dev nD) (r : Fin 4096) (x : Fin 512) :
    (V m c main_v51 : FVec Ideal S4096x512 .f32) (ix2 r x) = (V m c main_v30 : FVec Ideal S4096x4 .f32) (ix2 r ⟨x.val / 128, by omega⟩) := by
  rw [wideL_eq]
  generalize (V m c main_v30 : FVec Ideal S4096x4 .f32) = u
  pointwise

theorem wideE_at (c : Dev nD) (r : Fin 4096) (x : Fin 512) :
    (V m c main_v54 : FVec Ideal S4096x512 .f32) (ix2 r x) = (V m c main_v32 : FVec Ideal S4096x4 .f32) (ix2 r ⟨x.val / 128, by omega⟩) := by
  rw [wideE_eq]
  generalize (V m c main_v32 : FVec Ideal S4096x4 .f32) = u
  pointwise

theorem zero_word : FloatOps.sitofp (F := Ideal) .f32 (0#32) = (0 : EReal) := by
  show (((0#32 : BitVec 32).toInt : ℝ) : EReal) = 0
  simp

theorem arrQ_at (c : Dev nD) (r : Fin 4096) (x : Fin 1024) :
    (V m c main_v41 : FVec Ideal S4096x1024 .bf16) (ix2 r x) = if h : x.val % 256 < 192 then argQ m c (ix3 r ⟨x.val / 256, by omega⟩ ⟨x.val % 256, h⟩)
      * Ideal.div (Ideal.div (Ideal.ofBits .f32 0x3F800000#32) (Ideal.sqrt (Ideal.ofBits .f32 0x43400000#32))) (Ideal.log (Ideal.ofBits .f32 0x40000000#32)) else 0 := by
  unfold V hostOps0 hostOps0_1 hostOps0_2 hostOps0_3 hostOps0_4 hostOps0_5 hostOps0_6
  simp only [List.flatten_cons, List.flatten_nil, List.append_nil, List.cons_append, List.nil_append]
  after_reads_at
  have h4 : x.val / 256 < 4 := by omega
  by_cases h : x.val % 256 < 192
  · simp only [h4, h, and_self, dite_true]
  · simp only [h, and_false, dite_false]
    exact zero_word

theorem arrK_at (c : Dev nD) (r : Fin 4096) (x : Fin 1024) :
    (V m c main_v44 : FVec Ideal S4096x1024 .bf16) (ix2 r x) = if h : x.val % 256 < 192 then argK m c (ix3 r ⟨x.val / 256, by omega⟩ ⟨x.val % 256, h⟩) else 0 := by
  unfold V hostOps0 hostOps0_1 hostOps0_2 hostOps0_3 hostOps0_4 hostOps0_5 hostOps0_6
  simp only [List.flatten_cons, List.flatten_nil, List.append_nil, List.cons_append, List.nil_append]
  after_reads_at
  have h4 : x.val / 256 < 4 := by omega
  by_cases h : x.val % 256 < 192
  · simp only [h4, h, and_self, dite_true]
  · simp only [h, and_false, dite_false]
    exact zero_word

theorem arrV_at (c : Dev nD) (r : Fin 4096) (x : Fin 512) :
    (V m c main_v46 : FVec Ideal S4096x512 .bf16) (ix2 r x) = argV m c (ix3 r ⟨x.val / 128, by omega⟩ ⟨x.val % 128, by omega⟩) := by
  unfold V hostOps0 hostOps0_1 hostOps0_2 hostOps0_3 hostOps0_4 hostOps0_5 hostOps0_6
  simp only [List.flatten_cons, List.flatten_nil, List.append_nil, List.cons_append, List.nil_append]
  after_reads_at

theorem arrD_at (c : Dev nD) (r : Fin 4096) (x : Fin 512) :
    (V m c main_v48 : FVec Ideal S4096x512 .bf16) (ix2 r x) = argD m c (ix3 r ⟨x.val / 128, by omega⟩ ⟨x.val % 128, by omega⟩) := by
  unfold V hostOps0 hostOps0_1 hostOps0_2 hostOps0_3 hostOps0_4 hostOps0_5 hostOps0_6
  simp only [List.flatten_cons, List.flatten_nil, List.append_nil, List.cons_append, List.nil_append]
  after_reads_at

end Cert.KernelIdeal.Attn

end
-- ==== Proof.Real.lean ====
/- The gradients of one head of causal attention over the reals, and the sums of extended reals that are real. -/
module

public import Idealize.ShloMosaic.PureOps.Ideal.Laws
public import Mathlib.Data.Finset.Fold
public import Mathlib.Analysis.SpecialFunctions.Pow.Real

@[expose] public section

noncomputable section

namespace Cert.Attn

open Idealize.ShloMosaic

/-! ## Extended reals that are real -/

theorem coe_sum {n : ℕ} (f : Fin n → ℝ) : ∑ i, (f i : EReal) = ((∑ i, f i : ℝ) : EReal) := by
  induction n with
  | zero => simp
  | succ n ih => rw [Fin.sum_univ_succ, Fin.sum_univ_succ, ih, EReal.coe_add]

/-- A sum of products of reals. -/
theorem coe_dot {n : ℕ} {f g : Fin n → EReal} (a b : Fin n → ℝ) (hf : ∀ i, f i = (a i : EReal)) (hg : ∀ i, g i = (b i : EReal)) :
    ∑ i, f i * g i = ((∑ i, a i * b i : ℝ) : EReal) := by
  rw [← coe_sum]
  exact Finset.sum_congr rfl fun i _ => by rw [hf, hg, EReal.coe_mul]

/-- The maximum of finitely many extended reals below `⊤`, one of them real, is real. -/
theorem fold_max_real {n : ℕ} (f : Fin n → EReal) (h : ∀ i, f i < ⊤) (i : Fin n) (hi : ⊥ < f i) :
    ∃ μ : ℝ, Finset.fold max ⊥ f Finset.univ = (μ : EReal) := by
  have h1 : Finset.fold max ⊥ f Finset.univ < ⊤ := (Finset.fold_max_lt _).mpr ⟨bot_lt_top, fun i _ => h i⟩
  have h2 : ⊥ < Finset.fold max ⊥ f Finset.univ := (Finset.lt_fold_max _).mpr (Or.inr ⟨i, Finset.mem_univ i, hi⟩)
  exact ⟨_, (EReal.coe_toReal h1.ne h2.ne').symm⟩

/-- Division of reals by a real that is not zero. -/
theorem div_real (a b : ℝ) (h : b ≠ 0) : Ideal.div (a : EReal) (b : EReal) = ((a / b : ℝ) : EReal) := by
  rw [Ideal.div_coe h, ← EReal.coe_mul, mul_one_div]

/-! ## One head -/

section Head

variable (q k : Fin 4096 → Fin 192 → ℝ) (v d : Fin 4096 → Fin 128 → ℝ)

/-- The scale of the scores. -/
def root : ℝ := (Real.sqrt 192)⁻¹

/-- The score of key `c` for query `r`, -/
def sc (r c : Fin 4096) : ℝ := (∑ x, q r x * k c x) * root

/-- its exponential under a shift of the row, nothing for a key after the query, -/
def ex (μ : ℝ) (r c : Fin 4096) : ℝ := if c.val ≤ r.val then Real.exp (sc q k r c - μ) else 0

/-- and the probability. -/
def pr (r c : Fin 4096) : ℝ := ex q k 0 r c / ∑ c', ex q k 0 r c'

/-- The gradient of the probability, -/
def dp (r c : Fin 4096) : ℝ := ∑ y, d r y * v c y

/-- of the score, -/
def ds (r c : Fin 4096) : ℝ := pr q k r c * (dp v d r c - ∑ c', pr q k r c' * dp v d r c')

/-- of the queries, of the keys and of the values. -/
def gq (r : Fin 4096) (x : Fin 192) : ℝ := (∑ c, ds q k v d r c * k c x) * root
def gk (c : Fin 4096) (x : Fin 192) : ℝ := (∑ r, ds q k v d r c * q r x) * root
def gv (c : Fin 4096) (y : Fin 128) : ℝ := ∑ r, pr q k r c * d r y

theorem root_pos : 0 < root := inv_pos.mpr (Real.sqrt_pos.mpr (by norm_num))

theorem ex_shift (μ : ℝ) (r c : Fin 4096) : ex q k μ r c = ex q k 0 r c * Real.exp (-μ) := by
  unfold ex
  split
  · rw [← Real.exp_add]; congr 1; ring
  · rw [zero_mul]

theorem ex_nonneg (μ : ℝ) (r c : Fin 4096) : 0 ≤ ex q k μ r c := by
  unfold ex
  split
  · exact (Real.exp_pos _).le
  · exact le_rfl

/-- The row sum is positive: the query's own key is in it. -/
theorem sum_ex_pos (μ : ℝ) (r : Fin 4096) : 0 < ∑ c, ex q k μ r c := by
  refine Finset.sum_pos' (fun c _ => ex_nonneg q k μ r c) ⟨r, Finset.mem_univ r, ?_⟩
  unfold ex
  rw [if_pos le_rfl]
  exact Real.exp_pos _

/-- The shift does not change the probability. -/
theorem ex_div (μ : ℝ) (r c : Fin 4096) : ex q k μ r c / ∑ c', ex q k μ r c' = pr q k r c := by
  unfold pr
  have h : ∑ c', ex q k μ r c' = (∑ c', ex q k 0 r c') * Real.exp (-μ) := by
    rw [Finset.sum_mul]; exact Finset.sum_congr rfl fun c' _ => ex_shift q k μ r c'
  rw [h, ex_shift q k μ r c, mul_div_mul_right _ _ (Real.exp_pos _).ne']

/-- The probability from the row's saved logarithm, to the base 2. -/
theorem pr_pow (μ : ℝ) (r c : Fin 4096) (h : c.val ≤ r.val) :
    Real.rpow 2 (sc q k r c / Real.log 2 - (μ + Real.log (∑ c', ex q k μ r c')) * (1 / Real.log 2)) = pr q k r c := by
  have hl : Real.log 2 ≠ 0 := (Real.log_pos (by norm_num)).ne'
  have hs := sum_ex_pos q k μ r
  rw [← ex_div q k μ r c]
  rw [show ∀ x : ℝ, Real.rpow 2 x = (2 : ℝ) ^ x from fun _ => rfl, Real.rpow_def_of_pos (by norm_num), show Real.log 2 * (sc q k r c / Real.log 2 - (μ + Real.log (∑ c', ex q k μ r c')) * (1 / Real.log 2))
      = (sc q k r c - μ) - Real.log (∑ c', ex q k μ r c') by field_simp; ring, Real.exp_sub, Real.exp_log hs]
  unfold ex
  rw [if_pos h]

theorem pr_of_lt (r c : Fin 4096) (h : r.val < c.val) : pr q k r c = 0 := by
  unfold pr ex
  rw [if_neg (by omega), zero_div]

/-- The row's correction, summed over the values first. -/
theorem delta_eq (r : Fin 4096) : ∑ y, d r y * ∑ c, v c y * pr q k r c = ∑ c, pr q k r c * dp v d r c := by
  unfold dp
  simp only [Finset.mul_sum]
  rw [Finset.sum_comm]
  exact Finset.sum_congr rfl fun c _ => Finset.sum_congr rfl fun y _ => by ring

/-- The gradient of the score as the derivative of a quotient gives it. -/
theorem ds_quot (μ : ℝ) (r c : Fin 4096) :
    (dp v d r c / (∑ c', ex q k μ r c') + -(∑ c', dp v d r c' * (1 / ((∑ c', ex q k μ r c') * ∑ c', ex q k μ r c')) * ex q k μ r c')) * ex q k μ r c
      = ds q k v d r c := by
  have hs := (sum_ex_pos q k μ r).ne'
  unfold ds
  simp only [← ex_div q k μ r]
  generalize ∑ c', ex q k μ r c' = l at hs
  have e : ∑ c', dp v d r c' * (1 / (l * l)) * ex q k μ r c' = (∑ c', ex q k μ r c' / l * dp v d r c') / l := by
    rw [Finset.sum_div]
    exact Finset.sum_congr rfl fun c' _ => by field_simp
  rw [e]
  field_simp
  ring

end Head

end Cert.Attn

end
-- ==== Proof.Words.lean ====
/- The literal words of the two programs as reals, and one row of the masked softmax over the extended reals. -/
module

public import proofs.«01_k».proof.Proof.Real
public import Idealize.ShloMosaic.Lib.WordCmp

@[expose] public section

noncomputable section

namespace Cert.Attn

open Idealize.ShloMosaic Idealize.ShloMosaic.WordCmp

theorem word_192 : Ideal.ofBits .f32 0x43400000#32 = ((192 : ℝ) : EReal) := by
  simp [Ideal.ofBits, Ideal.ieee]; rw [← EReal.coe_mul]; norm_num

theorem word_2 : Ideal.ofBits .f32 0x40000000#32 = ((2 : ℝ) : EReal) := by
  simp [Ideal.ofBits, Ideal.ieee]; rw [← EReal.coe_mul]; norm_num

theorem word_1 : Ideal.ofBits .f32 0x3F800000#32 = ((1 : ℝ) : EReal) := by
  simp [Ideal.ofBits, Ideal.ieee]
  rw [← EReal.coe_mul]; norm_num

theorem word_bot : Ideal.ofBits .f32 0xFF800000#32 = (⊥ : EReal) := by
  simp [Ideal.ofBits, Ideal.ieee]

theorem word_top : Ideal.ofBits .f32 0x7F800000#32 = (⊤ : EReal) := by
  simp [Ideal.ofBits, Ideal.ieee]

theorem log2_pos : 0 < Real.log 2 := Real.log_pos (by norm_num)

theorem log_real (a : ℝ) (h : 0 < a) : Ideal.log (a : EReal) = ((Real.log a : ℝ) : EReal) := by
  rw [Ideal.log_coe, if_neg (not_le.mpr h)]

/-- One over the root of 192, -/
theorem root_word : Ideal.div (Ideal.ofBits .f32 0x3F800000#32) (Ideal.sqrt (Ideal.ofBits .f32 0x43400000#32)) = ((root : ℝ) : EReal) := by
  rw [word_1, word_192, Ideal.sqrt_coe, if_neg (by norm_num), div_real _ _ (Real.sqrt_pos.mpr (by norm_num)).ne', one_div]
  rfl

/-- over the logarithm of 2, -/
theorem rootln_word : Ideal.div (Ideal.div (Ideal.ofBits .f32 0x3F800000#32) (Ideal.sqrt (Ideal.ofBits .f32 0x43400000#32))) (Ideal.log (Ideal.ofBits .f32 0x40000000#32))
    = ((root / Real.log 2 : ℝ) : EReal) := by
  rw [root_word, word_2, log_real _ (by norm_num), div_real _ _ log2_pos.ne']

/-- and one over that logarithm. -/
theorem invln_word : Ideal.div (Ideal.ofBits .f32 0x3F800000#32) (Ideal.log (Ideal.ofBits .f32 0x40000000#32)) = ((1 / Real.log 2 : ℝ) : EReal) := by
  rw [word_1, word_2, log_real _ (by norm_num), div_real _ _ log2_pos.ne']

/-- The causal mask's choice. -/
theorem mask_word {α : Type} (k r : Fin 4096) (a b : α) :
    Scalar.select (IntOp.cmpi .sle (BitVec.ofNat 32 k.val) (BitVec.ofNat 32 r.val)) a b = if k.val ≤ r.val then a else b := by
  split
  · next h => exact select_of_eq_one ((cmpi_sle_ofNat_eq_one_iff (by omega) (by omega)).mpr h) a b
  · next h => exact select_of_eq_zero ((cmpi_sle_ofNat_eq_zero_iff (by omega) (by omega)).mpr (by omega)) a b

section Head

variable (q k : Fin 4096 → Fin 192 → ℝ)

/-- A masked score. -/
def msc (r c : Fin 4096) : EReal := if c.val ≤ r.val then ((sc q k r c : ℝ) : EReal) else ⊥

/-- The largest score of a row is real. -/
theorem top_real (r : Fin 4096) : ∃ μ : ℝ, Finset.fold max ⊥ (fun c => msc q k r c) Finset.univ = (μ : EReal) := by
  refine fold_max_real _ (fun c => ?_) r ?_
  · unfold msc; split
    · exact EReal.coe_lt_top _
    · exact bot_lt_top
  · unfold msc; rw [if_pos le_rfl]; exact EReal.bot_lt_coe _

/-- The shift of a row: its largest score. -/
def shift (r : Fin 4096) : ℝ := (top_real q k r).choose

theorem shift_eq (r : Fin 4096) : Finset.fold max ⊥ (fun c => msc q k r c) Finset.univ = ((shift q k r : ℝ) : EReal) := (top_real q k r).choose_spec

/-- The exponential of a shifted masked score. -/
theorem exp_msc (μ : ℝ) (r c : Fin 4096) : Ideal.exp (msc q k r c - (μ : EReal)) = ((ex q k μ r c : ℝ) : EReal) := by
  unfold msc ex
  split
  · rw [← EReal.coe_sub, Ideal.exp_coe]
  · rw [EReal.bot_sub, Ideal.exp_bot]; rfl

end Head

end Cert.Attn

end
-- ==== Proof.Rows.lean ====
/- The stages of the host lines and the six arrays of the call, over real arguments. -/
module

public import proofs.«01_k».proof.Proof.Host
public import proofs.«01_k».proof.Proof.Operands
public import proofs.«01_k».proof.Proof.Words

@[expose] public section

set_option maxRecDepth 16384

noncomputable section

namespace Cert.KernelIdeal.Attn

open Idealize.ShloMosaic Idealize.ShloMosaic.TcCoe Cert.KernelIdeal Cert.KernelIdeal.Gen Cert.Attn

/-- The arguments of device `c` are the reals `aq`, `ak`, `av` and `ad`, head by head. -/
structure Reals (m : (ℓ : Loc nD τ sig) → Buf (Elt Ideal) ℓ) (c : Dev nD) (aq ak : Fin 4 → Fin 4096 → Fin 192 → ℝ) (av ad : Fin 4 → Fin 4096 → Fin 128 → ℝ) : Prop where
  q : ∀ h r x, argQ m c (ix3 r h x) = ((aq h r x : ℝ) : EReal)
  k : ∀ h r x, argK m c (ix3 r h x) = ((ak h r x : ℝ) : EReal)
  v : ∀ h r y, argV m c (ix3 r h y) = ((av h r y : ℝ) : EReal)
  d : ∀ h r y, argD m c (ix3 r h y) = ((ad h r y : ℝ) : EReal)

variable {m : (ℓ : Loc nD τ sig) → Buf (Elt Ideal) ℓ} {c : Dev nD} {aq ak : Fin 4 → Fin 4096 → Fin 192 → ℝ} {av ad : Fin 4 → Fin 4096 → Fin 128 → ℝ}

theorem score_real (R : Reals m c aq ak av ad) (h : Fin 4) (r k : Fin 4096) : score m c (ix3 h r k) = msc (aq h) (ak h) r k := by
  rw [score_at, root_word, word_bot, mask_word, coe_dot (fun x => aq h r x) (fun x => ak h k x) (fun x => R.q h r x) (fun x => R.k h k x), ← EReal.coe_mul]
  rfl

theorem top_val (R : Reals m c aq ak av ad) (h : Fin 4) (r : Fin 4096) : top m c (ix2 h r) = ((shift (aq h) (ak h) r : ℝ) : EReal) := by
  rw [top_at, word_bot, ← shift_eq]
  simp only [score_real R]

theorem wt_val (R : Reals m c aq ak av ad) (h : Fin 4) (r k : Fin 4096) :
    wt m c (ix3 h r k) = ((ex (aq h) (ak h) (shift (aq h) (ak h) r) r k : ℝ) : EReal) := by
  rw [wt_at, score_real R, top_val R, exp_msc]

theorem tot_val (R : Reals m c aq ak av ad) (h : Fin 4) (r : Fin 4096) :
    tot m c (ix2 h r) = ((∑ k, ex (aq h) (ak h) (shift (aq h) (ak h) r) r k : ℝ) : EReal) := by
  rw [tot_at, ← coe_sum]
  exact Finset.sum_congr rfl fun k _ => wt_val R h r k

/-- The saved logarithm of a row, to the base 2, -/
def lse (q k : Fin 4096 → Fin 192 → ℝ) (r : Fin 4096) : ℝ := (shift q k r + Real.log (∑ c', ex q k (shift q k r) r c')) * (1 / Real.log 2)

theorem lse_val (R : Reals m c aq ak av ad) (h : Fin 4) (r : Fin 4096) :
    (V m c main_v30 : FVec Ideal S4096x4 .f32) (ix2 r h) = ((lse (aq h) (ak h) r : ℝ) : EReal) := by
  rw [lse_at, top_val R, tot_val R, log_real _ (sum_ex_pos _ _ _ _), invln_word, ← EReal.coe_add, ← EReal.coe_mul]
  rfl

/-- and the row's correction. -/
theorem delta_val (R : Reals m c aq ak av ad) (h : Fin 4) (r : Fin 4096) :
    (V m c main_v32 : FVec Ideal S4096x4 .f32) (ix2 r h) = ((∑ k, pr (aq h) (ak h) r k * dp (av h) (ad h) r k : ℝ) : EReal) := by
  have ho : ∀ y : Fin 128, (V m c main_v22 : FVec Ideal S4096x4x128 .f32) (ix3 r h y) = ((∑ k, av h k y * pr (aq h) (ak h) r k : ℝ) : EReal) := fun y => by
    rw [out_at]
    refine coe_dot _ _ (fun k => R.v h k y) fun k => ?_
    rw [wt_val R, tot_val R, div_real _ _ (sum_ex_pos _ _ _ _).ne', ex_div]
  rw [delta_at, coe_dot (fun y => ad h r y) (fun y => ∑ k, av h k y * pr (aq h) (ak h) r k) (fun y => R.d h r y) ho, Cert.Attn.delta_eq]

/-- The queries' array: scaled, and padded with zeros, -/
theorem arrQ_val (R : Reals m c aq ak av ad) (h : Fin 4) (r : Fin 4096) (x : Fin 256) :
    (V m c main_v41 : FVec Ideal S4096x1024 .bf16) (ix2 r ⟨h.val * 256 + x.val, by omega⟩) = ((if g : x.val < 192 then aq h r ⟨x.val, g⟩ * (root / Real.log 2) else 0 : ℝ) : EReal) := by
  rw [arrQ_at, rootln_word]
  have e1 : (h.val * 256 + x.val) / 256 = h.val := by omega
  have e2 : (h.val * 256 + x.val) % 256 = x.val := by omega
  simp only [e1, e2]
  by_cases g : x.val < 192
  · simp only [g, dite_true]; rw [R.q, ← EReal.coe_mul]
  · simp only [g, dite_false]; rfl

theorem arrK_val (R : Reals m c aq ak av ad) (h : Fin 4) (r : Fin 4096) (x : Fin 256) :
    (V m c main_v44 : FVec Ideal S4096x1024 .bf16) (ix2 r ⟨h.val * 256 + x.val, by omega⟩) = ((if g : x.val < 192 then ak h r ⟨x.val, g⟩ else 0 : ℝ) : EReal) := by
  rw [arrK_at]
  have e1 : (h.val * 256 + x.val) / 256 = h.val := by omega
  have e2 : (h.val * 256 + x.val) % 256 = x.val := by omega
  simp only [e1, e2]
  by_cases g : x.val < 192
  · simp only [g, dite_true]; rw [R.k]
  · simp only [g, dite_false]; rfl

theorem arrV_val (R : Reals m c aq ak av ad) (h : Fin 4) (r : Fin 4096) (y : Fin 128) :
    (V m c main_v46 : FVec Ideal S4096x512 .bf16) (ix2 r ⟨h.val * 128 + y.val, by omega⟩) = ((av h r y : ℝ) : EReal) := by
  rw [arrV_at]
  have e1 : (h.val * 128 + y.val) / 128 = h.val := by omega
  have e2 : (h.val * 128 + y.val) % 128 = y.val := by omega
  simp only [e1, e2, R.v]

theorem arrD_val (R : Reals m c aq ak av ad) (h : Fin 4) (r : Fin 4096) (y : Fin 128) :
    (V m c main_v48 : FVec Ideal S4096x512 .bf16) (ix2 r ⟨h.val * 128 + y.val, by omega⟩) = ((ad h r y : ℝ) : EReal) := by
  rw [arrD_at]
  have e1 : (h.val * 128 + y.val) / 128 = h.val := by omega
  have e2 : (h.val * 128 + y.val) % 128 = y.val := by omega
  simp only [e1, e2, R.d]

theorem arrL_val (R : Reals m c aq ak av ad) (h : Fin 4) (r : Fin 4096) (y : Fin 128) :
    (V m c main_v51 : FVec Ideal S4096x512 .f32) (ix2 r ⟨h.val * 128 + y.val, by omega⟩) = ((lse (aq h) (ak h) r : ℝ) : EReal) := by
  rw [wideL_at]
  have e1 : (h.val * 128 + y.val) / 128 = h.val := by omega
  simp only [e1]
  exact lse_val R h r

theorem arrE_val (R : Reals m c aq ak av ad) (h : Fin 4) (r : Fin 4096) (y : Fin 128) :
    (V m c main_v54 : FVec Ideal S4096x512 .f32) (ix2 r ⟨h.val * 128 + y.val, by omega⟩) = ((∑ k, pr (aq h) (ak h) r k * dp (av h) (ad h) r k : ℝ) : EReal) := by
  rw [wideE_at]
  have e1 : (h.val * 128 + y.val) / 128 = h.val := by omega
  simp only [e1]
  exact delta_val R h r

end Cert.KernelIdeal.Attn

end
-- ==== Proof.Blocks.lean ====
/- The blocks of the call at a point, read off their arrays, and over real arguments. -/
module

public import proofs.«01_k».proof.Proof.Rows
public import proofs.«01_k».proof.Proof.Values

@[expose] public section

set_option maxRecDepth 16384

noncomputable section

namespace Cert.KernelIdeal.Attn

open Idealize.ShloMosaic Idealize.ShloMosaic.TcCoe Cert.KernelIdeal Cert.KernelIdeal.Gen Cert.Attn

/-- Where each window's block stands at a point. -/
theorem places : ∀ t : Fin cfg0.N, (win0_0.index t = ![0, t.val / 4] ∧ win0_1.index t = ![t.val % 4, t.val / 4] ∧ win0_2.index t = ![t.val % 4, t.val / 4])
    ∧ (win0_3.index t = ![0, t.val / 4] ∧ win0_4.index t = ![0, t.val / 4] ∧ win0_5.index t = ![0, t.val / 4])
    ∧ (win0_6.index t = ![0, t.val / 4] ∧ win0_7.index t = ![t.val % 4, t.val / 4] ∧ win0_8.index t = ![t.val % 4, t.val / 4]) := by
  decide +kernel

/-- The head of a point, -/
def head (t : Fin cfg0.N) : Fin 4 := ⟨t.val / 4, by have : t.val < 16 := t.isLt; omega⟩

/-- and the key a place of its tile is. -/
def key (t : Fin cfg0.N) (k : Fin 1024) : Fin 4096 := ⟨t.val % 4 * 1024 + k.val, by omega⟩

section Any

variable (m : (ℓ : Loc nD τ sig) → Buf (Elt Ideal) ℓ) (c : Dev nD) (t : Fin cfg0.N)

theorem bq_at (r : Fin 4096) (x : Fin 256) : bq m c t (ix2 r x) = (V m c main_v41 : FVec Ideal S4096x1024 .bf16) (ix2 r ⟨(head t).val * 256 + x.val, by omega⟩) := by
  have e : ∀ A : FVec Ideal S4096x1024 .bf16, ((cfg0.win 0).blk t).view.read (Elt Ideal) A (ix2 r x) = A (ix2 r ⟨(head t).val * 256 + x.val, by omega⟩) := fun A => by
    unfold head
    blk_ext [(places t).1.1]
  exact e (V m c main_v41)

theorem bk_at (k : Fin 1024) (x : Fin 256) : bk m c t (ix2 k x) = (V m c main_v44 : FVec Ideal S4096x1024 .bf16) (ix2 (key t k) ⟨(head t).val * 256 + x.val, by omega⟩) := by
  have e : ∀ A : FVec Ideal S4096x1024 .bf16, ((cfg0.win 1).blk t).view.read (Elt Ideal) A (ix2 k x) = A (ix2 (key t k) ⟨(head t).val * 256 + x.val, by omega⟩) := fun A => by
    unfold head key
    blk_ext [(places t).1.2.1]
  exact e (V m c main_v44)

theorem bv_at (k : Fin 1024) (y : Fin 128) : bv m c t (ix2 k y) = (V m c main_v46 : FVec Ideal S4096x512 .bf16) (ix2 (key t k) ⟨(head t).val * 128 + y.val, by omega⟩) := by
  have e : ∀ A : FVec Ideal S4096x512 .bf16, ((cfg0.win 2).blk t).view.read (Elt Ideal) A (ix2 k y) = A (ix2 (key t k) ⟨(head t).val * 128 + y.val, by omega⟩) := fun A => by
    unfold head key
    blk_ext [(places t).1.2.2]
  exact e (V m c main_v46)

theorem bd_at (r : Fin 4096) (y : Fin 128) : bd m c t (ix2 r y) = (V m c main_v48 : FVec Ideal S4096x512 .bf16) (ix2 r ⟨(head t).val * 128 + y.val, by omega⟩) := by
  have e : ∀ A : FVec Ideal S4096x512 .bf16, ((cfg0.win 3).blk t).view.read (Elt Ideal) A (ix2 r y) = A (ix2 r ⟨(head t).val * 128 + y.val, by omega⟩) := fun A => by
    unfold head
    blk_ext [(places t).2.1.1]
  exact e (V m c main_v48)

theorem bl_at (r : Fin 4096) (y : Fin 128) : bl m c t (ix2 r y) = (V m c main_v51 : FVec Ideal S4096x512 .f32) (ix2 r ⟨(head t).val * 128 + y.val, by omega⟩) := by
  have e : ∀ A : FVec Ideal S4096x512 .f32, ((cfg0.win 4).blk t).view.read (Elt Ideal) A (ix2 r y) = A (ix2 r ⟨(head t).val * 128 + y.val, by omega⟩) := fun A => by
    unfold head
    blk_ext [(places t).2.1.2.1]
  exact e (V m c main_v51)

theorem be_at (r : Fin 4096) (y : Fin 128) : be m c t (ix2 r y) = (V m c main_v54 : FVec Ideal S4096x512 .f32) (ix2 r ⟨(head t).val * 128 + y.val, by omega⟩) := by
  have e : ∀ A : FVec Ideal S4096x512 .f32, ((cfg0.win 5).blk t).view.read (Elt Ideal) A (ix2 r y) = A (ix2 r ⟨(head t).val * 128 + y.val, by omega⟩) := fun A => by
    unfold head
    blk_ext [(places t).2.1.2.2]
  exact e (V m c main_v54)

end Any

end Cert.KernelIdeal.Attn

end
-- ==== Proof.Tiles.lean ====
/- The values a tile computes, over real arguments: the probabilities, the gradients of the scores, and the three results. -/
module

public import proofs.«01_k».proof.Proof.Blocks

@[expose] public section

set_option maxRecDepth 16384

noncomputable section

namespace Cert.KernelIdeal.Attn

open Idealize.ShloMosaic Idealize.ShloMosaic.TcCoe Cert.KernelIdeal Cert.KernelIdeal.Gen Cert.Attn

/-- A row of 192 reals padded with zeros to 256. -/
def padded (f : Fin 192 → ℝ) (x : Fin 256) : ℝ := if g : x.val < 192 then f ⟨x.val, g⟩ else 0

theorem sum_padded (f g : Fin 192 → ℝ) : ∑ x, padded f x * padded g x = ∑ x, f x * g x := by
  refine (Fin.sum_univ_add (fun x : Fin (192 + 64) => padded f x * padded g x)).trans ?_
  have e1 : ∀ x : Fin 192, padded f (Fin.castAdd 64 x) = f x := fun x => by unfold padded; rw [dif_pos (show (Fin.castAdd 64 x).val < 192 from x.isLt)]; rfl
  have e2 : ∀ x : Fin 192, padded g (Fin.castAdd 64 x) = g x := fun x => by unfold padded; rw [dif_pos (show (Fin.castAdd 64 x).val < 192 from x.isLt)]; rfl
  have e3 : ∀ x : Fin 64, padded f (Fin.natAdd 192 x) = 0 := fun x => by
    unfold padded
    rw [dif_neg (show ¬(Fin.natAdd 192 x).val < 192 by rw [Fin.val_natAdd]; omega)]
  simp only [e1, e2, e3, zero_mul, Finset.sum_const_zero, add_zero]

theorem padded_mul (f : Fin 192 → ℝ) (a : ℝ) (x : Fin 256) : padded (fun x => f x * a) x = padded f x * a := by
  unfold padded
  split
  · rfl
  · rw [zero_mul]

variable {m : (ℓ : Loc nD τ sig) → Buf (Elt Ideal) ℓ} {c : Dev nD} {aq ak : Fin 4 → Fin 4096 → Fin 192 → ℝ} {av ad : Fin 4 → Fin 4096 → Fin 128 → ℝ}

section Tile

variable (R : Reals m c aq ak av ad) (t : Fin cfg0.N)
include R

theorem bq_val (r : Fin 4096) (x : Fin 256) : bq m c t (ix2 r x) = ((padded (aq (head t) r) x * (root / Real.log 2) : ℝ) : EReal) := by
  rw [bq_at, arrQ_val R, ← padded_mul]
  rfl

theorem bk_val (k : Fin 1024) (x : Fin 256) : bk m c t (ix2 k x) = ((padded (ak (head t) (key t k)) x : ℝ) : EReal) := by
  rw [bk_at, arrK_val R]
  rfl

theorem bv_val (k : Fin 1024) (y : Fin 128) : bv m c t (ix2 k y) = ((av (head t) (key t k) y : ℝ) : EReal) := by
  rw [bv_at, arrV_val R]

theorem bd_val (r : Fin 4096) (y : Fin 128) : bd m c t (ix2 r y) = ((ad (head t) r y : ℝ) : EReal) := by
  rw [bd_at, arrD_val R]

theorem bl_val (r : Fin 4096) (y : Fin 128) : bl m c t (ix2 r y) = ((lse (aq (head t)) (ak (head t)) r : ℝ) : EReal) := by
  rw [bl_at, arrL_val R]

theorem be_val (r : Fin 4096) (y : Fin 128) : be m c t (ix2 r y)
    = ((∑ k, pr (aq (head t)) (ak (head t)) r k * dp (av (head t)) (ad (head t)) r k : ℝ) : EReal) := by
  rw [be_at, arrE_val R]

/-- A tile's probabilities, -/
theorem prob_val (r : Fin 4096) (k : Fin 1024) :
    prob (bq m c t) (bk m c t) (bl m c t) (t.val % 4) r k = ((pr (aq (head t)) (ak (head t)) r (key t k) : ℝ) : EReal) := by
  unfold prob
  split
  · next g =>
    rw [coe_dot (fun x => padded (aq (head t) r) x * (root / Real.log 2)) (fun x => padded (ak (head t) (key t k)) x) (bq_val R t r) (bk_val R t k), bl_val R]
    have e : ∑ x, padded (aq (head t) r) x * (root / Real.log 2) * padded (ak (head t) (key t k)) x = sc (aq (head t)) (ak (head t)) r (key t k) / Real.log 2 := by
      unfold sc
      rw [← sum_padded, Finset.sum_mul, Finset.sum_div]
      exact Finset.sum_congr rfl fun x _ => by ring
    rw [e, ← EReal.coe_sub, ← pr_pow _ _ (shift (aq (head t)) (ak (head t)) r) r (key t k) g]
    exact Ideal.exp2_coe _
  · next g =>
    rw [pr_of_lt _ _ _ _ (show r.val < t.val % 4 * 1024 + k.val by omega)]
    rfl

/-- and the gradients of its scores. -/
theorem dscore_val (r : Fin 4096) (k : Fin 1024) :
    dscore (bq m c t) (bk m c t) (bv m c t) (bd m c t) (bl m c t) (be m c t) (t.val % 4) r k
      = ((ds (aq (head t)) (ak (head t)) (av (head t)) (ad (head t)) r (key t k) : ℝ) : EReal) := by
  unfold dscore
  rw [prob_val R, coe_dot (fun y => ad (head t) r y) (fun y => av (head t) (key t k) y) (bd_val R t r) (bv_val R t k), be_val R, ← EReal.coe_sub, ← EReal.coe_mul]
  rfl

/-- The key gradient of a tile before its closing scale, -/
theorem dk_val (k : Fin 1024) (x : Fin 256) :
    dkv (bq m c t) (bk m c t) (bv m c t) (bd m c t) (bl m c t) (be m c t) (t.val % 4) 4096 (ix2 k x)
      = ((∑ r, ds (aq (head t)) (ak (head t)) (av (head t)) (ad (head t)) r (key t k) * (padded (aq (head t) r) x * (root / Real.log 2)) : ℝ) : EReal) := by
  unfold dkv
  rw [upto_all]
  exact coe_dot _ _ (fun r => dscore_val R t r k) fun r => bq_val R t r x

/-- the value gradient, -/
theorem dv_val (k : Fin 1024) (y : Fin 128) :
    dvv (bq m c t) (bk m c t) (bd m c t) (bl m c t) (t.val % 4) 4096 (ix2 k y) = ((gv (aq (head t)) (ak (head t)) (ad (head t)) (key t k) y : ℝ) : EReal) := by
  unfold dvv
  rw [upto_all]
  exact coe_dot _ _ (fun r => prob_val R t r k) fun r => bd_val R t r y

/-- and a tile's part of the query gradient. -/
theorem dq_tile (r : Fin 4096) (x : Fin 256) (B : FVec Ideal S4096x256 .f32) :
    dqv (bq m c t) (bk m c t) (bv m c t) (bd m c t) (bl m c t) (be m c t) (t.val % 4) 4096 B (ix2 r x)
      = B (ix2 r x) + ((∑ k, ds (aq (head t)) (ak (head t)) (av (head t)) (ad (head t)) r (key t k) * padded (ak (head t) (key t k)) x : ℝ) : EReal) := by
  unfold dqv
  rw [if_pos (show ((ix2 r x : S4096x256.Idx) 0).val < 4096 from r.isLt)]
  exact congrArg (B (ix2 r x) + ·) (coe_dot _ _ (fun k => dscore_val R t r k) fun k => bk_val R t k x)

end Tile

/-- The key a place of tile `j` is. -/
def keyOf (j : Fin 4) (k : Fin 1024) : Fin 4096 := ⟨j.val * 1024 + k.val, by omega⟩

/-- The four tiles of keys are all the keys. -/
theorem sum_tiles (f : Fin 4096 → ℝ) : ∑ j, ∑ k, f (keyOf j k) = ∑ k, f k := by
  rw [← Equiv.sum_comp (finProdFinEquiv (m := 4) (n := 1024)) f, Fintype.sum_prod_type]
  refine Finset.sum_congr rfl fun j _ => Finset.sum_congr rfl fun k _ => congrArg f (Fin.ext ?_)
  show j.val * 1024 + k.val = k.val + 1024 * j.val
  omega

/-- Four points of a head: the query gradient is the sum over its key tiles. -/
theorem dq_val (R : Reals m c aq ak av ad) (t : Fin cfg0.N) (ht : t.val % 4 = 3) (r : Fin 4096) (x : Fin 256) :
    dqAt m c t.val (ix2 r x) = ((∑ k, ds (aq (head t)) (ak (head t)) (av (head t)) (ad (head t)) r k * padded (ak (head t) k) x : ℝ) : EReal) := by
  have hN : t.val < 16 := t.isLt
  rw [← sum_tiles (fun k => ds (aq (head t)) (ak (head t)) (av (head t)) (ad (head t)) r k * padded (ak (head t) k) x)]
  have hp : ∀ (i : ℕ) (hi : i < cfg0.N) (j : Fin 4), i / 4 = t.val / 4 → i % 4 = j.val → ∀ B : FVec Ideal S4096x256 .f32,
      dqv (bq m c ⟨i, hi⟩) (bk m c ⟨i, hi⟩) (bv m c ⟨i, hi⟩) (bd m c ⟨i, hi⟩) (bl m c ⟨i, hi⟩) (be m c ⟨i, hi⟩) (i % 4) 4096 B (ix2 r x)
        = B (ix2 r x) + ((∑ k, ds (aq (head t)) (ak (head t)) (av (head t)) (ad (head t)) r (keyOf j k) * padded (ak (head t) (keyOf j k)) x : ℝ) : EReal) := by
    intro i hi j h1 h2 B
    have e1 : head ⟨i, hi⟩ = head t := Fin.ext h1
    have e2 : ∀ k, key ⟨i, hi⟩ k = keyOf j k := fun k => Fin.ext (by show i % 4 * 1024 + k.val = j.val * 1024 + k.val; rw [h2])
    have e := dq_tile R ⟨i, hi⟩ r x B
    simp only [e1, e2] at e
    exact e
  have h3 : t.val < cfg0.N := t.isLt
  have h2 : t.val - 1 < cfg0.N := by omega
  have h1 : t.val - 1 - 1 < cfg0.N := by omega
  have h0 : t.val - 1 - 1 - 1 < cfg0.N := by omega
  rw [show dqAt m c t.val = _ from dqAt_next m c ⟨t.val, h3⟩ (by show ¬t.val % 4 = 0; omega)]
  refine (hp t.val h3 3 rfl ht _).trans ?_
  rw [show dqAt m c (t.val - 1) = _ from dqAt_next m c ⟨t.val - 1, h2⟩ (by show ¬(t.val - 1) % 4 = 0; omega)]
  rw [hp (t.val - 1) h2 2 (by omega) (by show (t.val - 1) % 4 = 2; omega)]
  rw [show dqAt m c (t.val - 1 - 1) = _ from dqAt_next m c ⟨t.val - 1 - 1, h1⟩ (by show ¬(t.val - 1 - 1) % 4 = 0; omega)]
  rw [hp (t.val - 1 - 1) h1 1 (by omega) (by show (t.val - 1 - 1) % 4 = 1; omega)]
  rw [show dqAt m c (t.val - 1 - 1 - 1) = _ from dqAt_first m c ⟨t.val - 1 - 1 - 1, h0⟩ (by show (t.val - 1 - 1 - 1) % 4 = 0; omega)]
  rw [hp (t.val - 1 - 1 - 1) h0 0 (by omega) (by show (t.val - 1 - 1 - 1) % 4 = 0; omega)]
  rw [zero_add, Fin.sum_univ_four, EReal.coe_add, EReal.coe_add, EReal.coe_add]

end Cert.KernelIdeal.Attn

end
-- ==== Proof.Arrays.lean ====
/- The three result arrays of the call, over real arguments. -/
module

public import proofs.«01_k».proof.Proof.Tiles

@[expose] public section

set_option maxRecDepth 16384

noncomputable section

namespace Cert.KernelIdeal.Attn

open Idealize.ShloMosaic Idealize.ShloMosaic.TcCoe Cert.KernelIdeal Cert.KernelIdeal.Gen Cert.Attn

/-- The head a column of 256 columns a head is in, and of 128. -/
def wideHead (x : Fin 1024) : Fin 4 := ⟨x.val / 256, by omega⟩
def slimHead (x : Fin 512) : Fin 4 := ⟨x.val / 128, by omega⟩

section Goal

variable (aq ak : Fin 4 → Fin 4096 → Fin 192 → ℝ) (av ad : Fin 4 → Fin 4096 → Fin 128 → ℝ)

/-- The query gradient as the array holds it: each head's 192 columns padded to 256, -/
def goalQ : FVec Ideal S4096x1024 .f32 := fun i =>
  ((padded (gq (aq (wideHead (i 1))) (ak (wideHead (i 1))) (av (wideHead (i 1))) (ad (wideHead (i 1))) (i 0)) ⟨(i 1).val % 256, Nat.mod_lt _ (by decide)⟩ : ℝ) : EReal)

/-- the key gradient likewise, -/
def goalK : FVec Ideal S4096x1024 .f32 := fun i =>
  ((padded (gk (aq (wideHead (i 1))) (ak (wideHead (i 1))) (av (wideHead (i 1))) (ad (wideHead (i 1))) (i 0)) ⟨(i 1).val % 256, Nat.mod_lt _ (by decide)⟩ : ℝ) : EReal)

/-- and the value gradient, 128 columns a head. -/
def goalV : FVec Ideal S4096x512 .f32 := fun i =>
  ((gv (aq (slimHead (i 1))) (ak (slimHead (i 1))) (ad (slimHead (i 1))) (i 0) ⟨(i 1).val % 128, Nat.mod_lt _ (by decide)⟩ : ℝ) : EReal)

theorem goalQ_at (h : Fin 4) (r : Fin 4096) (x : Fin 256) (g : h.val * 256 + x.val < 1024) :
    goalQ aq ak av ad (ix2 r ⟨h.val * 256 + x.val, g⟩) = ((padded (gq (aq h) (ak h) (av h) (ad h) r) x : ℝ) : EReal) := by
  have e1 : wideHead ⟨h.val * 256 + x.val, g⟩ = h := Fin.ext (by show (h.val * 256 + x.val) / 256 = h.val; omega)
  have e2 : (⟨(h.val * 256 + x.val) % 256, Nat.mod_lt _ (by decide)⟩ : Fin 256) = x := Fin.ext (by show (h.val * 256 + x.val) % 256 = x.val; omega)
  show ((padded (gq (aq (wideHead ⟨h.val * 256 + x.val, g⟩)) (ak (wideHead ⟨h.val * 256 + x.val, g⟩)) (av (wideHead ⟨h.val * 256 + x.val, g⟩)) (ad (wideHead ⟨h.val * 256 + x.val, g⟩)) r)
    ⟨(h.val * 256 + x.val) % 256, Nat.mod_lt _ (by decide)⟩ : ℝ) : EReal) = _
  rw [e1, e2]

theorem goalK_at (h : Fin 4) (r : Fin 4096) (x : Fin 256) (g : h.val * 256 + x.val < 1024) :
    goalK aq ak av ad (ix2 r ⟨h.val * 256 + x.val, g⟩) = ((padded (gk (aq h) (ak h) (av h) (ad h) r) x : ℝ) : EReal) := by
  have e1 : wideHead ⟨h.val * 256 + x.val, g⟩ = h := Fin.ext (by show (h.val * 256 + x.val) / 256 = h.val; omega)
  have e2 : (⟨(h.val * 256 + x.val) % 256, Nat.mod_lt _ (by decide)⟩ : Fin 256) = x := Fin.ext (by show (h.val * 256 + x.val) % 256 = x.val; omega)
  show ((padded (gk (aq (wideHead ⟨h.val * 256 + x.val, g⟩)) (ak (wideHead ⟨h.val * 256 + x.val, g⟩)) (av (wideHead ⟨h.val * 256 + x.val, g⟩)) (ad (wideHead ⟨h.val * 256 + x.val, g⟩)) r)
    ⟨(h.val * 256 + x.val) % 256, Nat.mod_lt _ (by decide)⟩ : ℝ) : EReal) = _
  rw [e1, e2]

theorem goalV_at (h : Fin 4) (r : Fin 4096) (y : Fin 128) (g : h.val * 128 + y.val < 512) :
    goalV aq ak ad (ix2 r ⟨h.val * 128 + y.val, g⟩) = ((gv (aq h) (ak h) (ad h) r y : ℝ) : EReal) := by
  have e1 : slimHead ⟨h.val * 128 + y.val, g⟩ = h := Fin.ext (by show (h.val * 128 + y.val) / 128 = h.val; omega)
  have e2 : (⟨(h.val * 128 + y.val) % 128, Nat.mod_lt _ (by decide)⟩ : Fin 128) = y := Fin.ext (by show (h.val * 128 + y.val) % 128 = y.val; omega)
  show ((gv (aq (slimHead ⟨h.val * 128 + y.val, g⟩)) (ak (slimHead ⟨h.val * 128 + y.val, g⟩)) (ad (slimHead ⟨h.val * 128 + y.val, g⟩)) r
    ⟨(h.val * 128 + y.val) % 128, Nat.mod_lt _ (by decide)⟩ : ℝ) : EReal) = _
  rw [e1, e2]

end Goal

/-- The closing scale of the key gradient, -/
theorem close_k (v : FVec Ideal S1024x256 .f32) (i : S1024x256.Idx) : k0_pay55 (F := Ideal) v i = v i * ((Real.log 2 : ℝ) : EReal) := by
  have e : Named.named (F := Ideal) (φ := .f32) κ "ln2" 0x3F317218#32 = ((Real.log 2 : ℝ) : EReal) := IdealRules.named_const.ideal_named_scalar _ _ _ _ rfl
  rw [← e]
  rfl

/-- and of the query gradient. -/
theorem close_q (v : FVec Ideal S4096x256 .f32) (r : Fin 4096) (x : Fin 256) :
    k0_pay1 (F := Ideal) v (ix2 r x) = v (ix2 r x) * ((Real.log 2 : ℝ) : EReal) * (((Real.log 2)⁻¹ * (Real.sqrt 192)⁻¹ : ℝ) : EReal) := by
  have e1 : Named.named (F := Ideal) (φ := .f32) κ "ln2" 0x3F317218#32 = ((Real.log 2 : ℝ) : EReal) := IdealRules.named_const.ideal_named_scalar _ _ _ _ rfl
  have e2 : Named.named (F := Ideal) (φ := .f32) κ "qscale" 0x3DD53B95#32 = (((Real.log 2)⁻¹ * (Real.sqrt 192)⁻¹ : ℝ) : EReal) := IdealRules.named_const.ideal_named_scalar _ _ _ _ rfl
  have e3 : shapeCast S4096x256 v shapeCasts_S4096x256_S4096x256 (ix2 r x) = v (ix2 r x) := by pointwise
  rw [← e1, ← e2, ← e3]
  rfl

variable {m : (ℓ : Loc nD τ sig) → Buf (Elt Ideal) ℓ} {c : Dev nD} {aq ak : Fin 4 → Fin 4096 → Fin 192 → ℝ} {av ad : Fin 4 → Fin 4096 → Fin 128 → ℝ}

theorem left_q (R : Reals m c aq ak av ad) (t : Fin cfg0.N) (ht : t.val % 4 = 3) (r : Fin 4096) (x : Fin 256) :
    k0_pay1 (F := Ideal) (dqAt m c t.val) (ix2 r x) = ((padded (gq (aq (head t)) (ak (head t)) (av (head t)) (ad (head t)) r) x : ℝ) : EReal) := by
  rw [close_q, dq_val R t ht, ← EReal.coe_mul, ← EReal.coe_mul]
  congr 1
  have hl := log2_pos.ne'
  unfold padded gq
  split
  · rw [mul_assoc, ← mul_assoc (Real.log 2), mul_inv_cancel₀ hl, one_mul]
    rfl
  · simp only [mul_zero, Finset.sum_const_zero, zero_mul]

theorem left_k (R : Reals m c aq ak av ad) (t : Fin cfg0.N) (k : Fin 1024) (x : Fin 256) :
    k0_pay55 (F := Ideal) (dkv (bq m c t) (bk m c t) (bv m c t) (bd m c t) (bl m c t) (be m c t) (t.val % 4) 4096) (ix2 k x)
      = ((padded (gk (aq (head t)) (ak (head t)) (av (head t)) (ad (head t)) (key t k)) x : ℝ) : EReal) := by
  rw [close_k, dk_val R, ← EReal.coe_mul]
  congr 1
  have hl := log2_pos.ne'
  unfold padded gk
  split
  · rw [Finset.sum_mul, Finset.sum_mul]
    refine Finset.sum_congr rfl fun r _ => ?_
    field_simp
  · simp only [mul_zero, zero_mul, Finset.sum_const_zero]

theorem array_q (R : Reals m c aq ak av ad) : (dats m 0 c).arrAt 6 (cfgs 0).N = goalQ aq ak av ad := by
  refine (dats m 0 c).arrAt_eq_of_covers 6 _ (by decide +kernel) fun t hf y => ?_
  have ht : t.val % 4 = 3 := (flush0_6 t).mp hf
  blk_simp
  rw [left_6, if_pos ht]
  have e : ∀ y : S4096x256.Idx, k0_pay1 (F := Ideal) (dqAt m c t.val) y = goalQ aq ak av ad ((win0_6.blk t).view.emb y) := fun y => by
    idx_vars y
    rw [left_q R t ht, ← goalQ_at aq ak av ad (head t) y0 y1 (by omega)]
    refine congrArg (goalQ aq ak av ad) ?_
    unfold head
    blk_ext [(places t).2.2.1]
  exact e y

theorem array_k (R : Reals m c aq ak av ad) : (dats m 0 c).arrAt 7 (cfgs 0).N = goalK aq ak av ad := by
  refine (dats m 0 c).arrAt_eq_of_covers 7 _ (by decide +kernel) fun t hf y => ?_
  blk_simp
  rw [left_7]
  have e : ∀ y : S1024x256.Idx, k0_pay55 (F := Ideal) (dkv (bq m c t) (bk m c t) (bv m c t) (bd m c t) (bl m c t) (be m c t) (t.val % 4) 4096) y
      = goalK aq ak av ad ((win0_7.blk t).view.emb y) := fun y => by
    idx_vars y
    rw [left_k R t, ← goalK_at aq ak av ad (head t) (key t y0) y1 (by omega)]
    refine congrArg (goalK aq ak av ad) ?_
    unfold head key
    blk_ext [(places t).2.2.2.1]
  exact e y

theorem array_v (R : Reals m c aq ak av ad) : (dats m 0 c).arrAt 8 (cfgs 0).N = goalV aq ak ad := by
  refine (dats m 0 c).arrAt_eq_of_covers 8 _ (by decide +kernel) fun t hf y => ?_
  blk_simp
  rw [left_8]
  have e : ∀ y : S1024x128.Idx, dvv (bq m c t) (bk m c t) (bd m c t) (bl m c t) (t.val % 4) 4096 y = goalV aq ak ad ((win0_8.blk t).view.emb y) := fun y => by
    idx_vars y
    rw [dv_val R t, ← goalV_at aq ak ad (head t) (key t y0) y1 (by omega)]
    refine congrArg (goalV aq ak ad) ?_
    unfold head key
    blk_ext [(places t).2.2.2.2]
  exact e y

end Cert.KernelIdeal.Attn

end
-- ==== Proof.Gradient.lean ====
/- The reference's three results, stage by stage, over real arguments. -/
module

public import proofs.«01_k».proof.Proof.Gen.ReferenceIdeal.Read
public import proofs.«01_k».proof.Proof.Words
public import Idealize.ShloMosaic.Lib.Pointwise

@[expose] public section

set_option maxRecDepth 16384

noncomputable section

namespace Cert.ReferenceIdeal.Attn

open Idealize.ShloMosaic Idealize.ShloMosaic.TcCoe Cert.ReferenceIdeal Cert.ReferenceIdeal.Gen Cert.ReferenceIdeal.Read Cert.Attn

variable (x0 x1 : FVec Ideal S4096x4x192 .f32) (x2 x3 : FVec Ideal S4096x4x128 .f32)

/-! ## The stages at an index -/

theorem mask_at (h : Fin 4) (r k : Fin 4096) :
    val_main_v11_1 (F := Ideal) (ix3 h r k) = IntOp.cmpi .sle (BitVec.ofNat 32 k.val) (BitVec.ofNat 32 r.val) := by
  unfold val_main_v11_1 val_main_v10 val_main_v8 val_main_v9 val_main_v6 val_main_v7 val_main_v5
  pointwise

theorem scale_at : val_main_v2 (F := Ideal) ix0 = ((root : ℝ) : EReal) := root_word

theorem dot_at (h : Fin 4) (r k : Fin 4096) : val_main_v0 (F := Ideal) x0 x1 (ix3 h r k) = ∑ x : Fin 192, x0 (ix3 r h x) * x1 (ix3 k h x) := by
  unfold val_main_v0
  pointwise

theorem score_at (h : Fin 4) (r k : Fin 4096) : val_main_v11_0 (F := Ideal) x0 x1 (ix3 h r k)
    = if k.val ≤ r.val then val_main_v0 (F := Ideal) x0 x1 (ix3 h r k) * val_main_v2 (F := Ideal) ix0 else (⊥ : EReal) := by
  rw [val_main_v11_0_apply, mask_at, mask_word, val_main_v4_apply, val_main_v3_apply, val_main_call0_v2_apply]
  refine congrArg₂ _ ?_ word_bot
  exact congrArg (val_main_v0 (F := Ideal) x0 x1 (ix3 h r k) * val_main_v2 (F := Ideal) ·) (funext fun a => a.elim0)

theorem top_at (h : Fin 4) (r : Fin 4096) :
    val_main_v12 (F := Ideal) x0 x1 (ix2 h r) = Finset.fold max (Ideal.ofBits .f32 0xFF800000#32) (fun k : Fin 4096 => val_main_v11_0 (F := Ideal) x0 x1 (ix3 h r k)) Finset.univ := by
  unfold val_main_v12 val_main_cst_2
  generalize val_main_v11_0 (F := Ideal) x0 x1 = s
  pointwise

theorem peak_at (h : Fin 4) (r : Fin 4096) : val_main_v19 (F := Ideal) x0 x1 (ix2 h r) = val_main_v12 (F := Ideal) x0 x1 (ix2 h r) := by
  rw [val_main_v19_apply, val_main_v18_apply]
  generalize val_main_v12 (F := Ideal) x0 x1 (ix2 h r) = s
  show max (Ideal.ofBits .f32 0xFF800000#32) s = s
  rw [word_bot, max_eq_right bot_le]

theorem row_at (h : Fin 4) (r k : Fin 4096) : val_main_v30 (F := Ideal) x0 x1 (ix3 h r k) = val_main_v19 (F := Ideal) x0 x1 (ix2 h r) := by
  unfold val_main_v30 val_main_v29
  generalize val_main_v19 (F := Ideal) x0 x1 = s
  pointwise

theorem wt_at (h : Fin 4) (r k : Fin 4096) : val_main_v32 (F := Ideal) x0 x1 (ix3 h r k)
    = Ideal.exp (val_main_v11_0 (F := Ideal) x0 x1 (ix3 h r k) - val_main_v12 (F := Ideal) x0 x1 (ix2 h r)) := by
  rw [val_main_v32_apply, val_main_v31_apply, row_at, peak_at]
  rfl

theorem tot_at (h : Fin 4) (r : Fin 4096) : val_main_v33 (F := Ideal) x0 x1 (ix2 h r) = ∑ k : Fin 4096, val_main_v32 (F := Ideal) x0 x1 (ix3 h r k) := by
  unfold val_main_v33 val_main_cst_10
  generalize val_main_v32 (F := Ideal) x0 x1 = s
  pointwise

theorem col_at (h : Fin 4) (r : Fin 4096) : val_main_v34 (F := Ideal) x0 x1 (ix3 h r 0) = val_main_v33 (F := Ideal) x0 x1 (ix2 h r) := by
  unfold val_main_v34
  generalize val_main_v33 (F := Ideal) x0 x1 = s
  pointwise

theorem wide_at (h : Fin 4) (r k : Fin 4096) : val_main_v35 (F := Ideal) x0 x1 (ix3 h r k) = val_main_v34 (F := Ideal) x0 x1 (ix3 h r 0) := by
  unfold val_main_v35
  generalize val_main_v34 (F := Ideal) x0 x1 = s
  pointwise

theorem wide_at' (h : Fin 4) (r k : Fin 4096) : val_main_v52 (F := Ideal) x0 x1 (ix3 h r k) = val_main_v34 (F := Ideal) x0 x1 (ix3 h r 0) := by
  unfold val_main_v52
  generalize val_main_v34 (F := Ideal) x0 x1 = s
  pointwise

theorem prob_at (h : Fin 4) (r k : Fin 4096) : val_main_v36 (F := Ideal) x0 x1 (ix3 h r k)
    = Ideal.div (val_main_v32 (F := Ideal) x0 x1 (ix3 h r k)) (val_main_v33 (F := Ideal) x0 x1 (ix2 h r)) := by
  rw [val_main_v36_apply, wide_at, col_at]
  rfl

theorem inv_at (h : Fin 4) (r k : Fin 4096) : val_main_v46 (F := Ideal) x0 x1 (ix3 h r k)
    = Ideal.div (Ideal.ofBits .f32 0x3F800000#32) (val_main_v33 (F := Ideal) x0 x1 (ix2 h r) * val_main_v33 (F := Ideal) x0 x1 (ix2 h r)) := by
  have e : val_main_v46 (F := Ideal) x0 x1 (ix3 h r k) = val_main_v39 (F := Ideal) x0 x1 (ix3 h r 0) := by
    unfold val_main_v46
    generalize val_main_v39 (F := Ideal) x0 x1 = s
    pointwise
  rw [e, val_main_v39_apply, val_main_v37_apply, col_at]
  rfl

theorem dp_at (h : Fin 4) (r k : Fin 4096) : val_main_v43 (F := Ideal) x2 x3 (ix3 h r k) = ∑ y : Fin 128, x3 (ix3 r h y) * x2 (ix3 k h y) := by
  unfold val_main_v43 val_main_v42
  pointwise

theorem dv_at (h : Fin 4) (k : Fin 4096) (y : Fin 128) :
    val_main_v45 (F := Ideal) x0 x1 x3 (ix3 k h y) = ∑ r : Fin 4096, x3 (ix3 r h y) * val_main_v36 (F := Ideal) x0 x1 (ix3 h r k) := by
  unfold val_main_v45 val_main_v44 val_main_v42
  generalize val_main_v36 (F := Ideal) x0 x1 = s
  pointwise

theorem corr_at (h : Fin 4) (r k : Fin 4096) : val_main_v55 (F := Ideal) x0 x1 x2 x3 (ix3 h r k) = -(val_main_v49 (F := Ideal) x0 x1 x2 x3 (ix2 h r)) := by
  unfold val_main_v55 val_main_v54 val_main_v51 val_main_v50 val_main_cst_13
  generalize val_main_v49 (F := Ideal) x0 x1 x2 x3 = s
  pointwise
  exact Fintype.sum_unique _

theorem corr_sum (h : Fin 4) (r : Fin 4096) : val_main_v49 (F := Ideal) x0 x1 x2 x3 (ix2 h r)
    = ∑ k : Fin 4096, val_main_v43 (F := Ideal) x2 x3 (ix3 h r k) * val_main_v46 (F := Ideal) x0 x1 (ix3 h r k) * val_main_v32 (F := Ideal) x0 x1 (ix3 h r k) := by
  unfold val_main_v49 val_main_cst_12 val_main_v48 val_main_v47
  generalize val_main_v43 (F := Ideal) x2 x3 = a
  generalize val_main_v46 (F := Ideal) x0 x1 = b
  generalize val_main_v32 (F := Ideal) x0 x1 = s
  pointwise

theorem ds_at (h : Fin 4) (r k : Fin 4096) : val_main_v60 (F := Ideal) x0 x1 x2 x3 (ix3 h r k)
    = (if k.val ≤ r.val then (Ideal.div (val_main_v43 (F := Ideal) x2 x3 (ix3 h r k)) (val_main_v33 (F := Ideal) x0 x1 (ix2 h r)) + -(val_main_v49 (F := Ideal) x0 x1 x2 x3 (ix2 h r)))
        * val_main_v32 (F := Ideal) x0 x1 (ix3 h r k) else Ideal.ofBits .f32 0x00000000#32) * val_main_v2 (F := Ideal) ix0 := by
  rw [val_main_v60_apply, val_main_v58_apply, mask_at, mask_word, val_main_v57_apply, val_main_v56_apply, val_main_v53_apply, wide_at', col_at, corr_at]
  rfl

theorem dk_at (h : Fin 4) (k : Fin 4096) (x : Fin 192) :
    val_main_v62 (F := Ideal) x0 x1 x2 x3 (ix3 k h x) = ∑ r : Fin 4096, val_main_v60 (F := Ideal) x0 x1 x2 x3 (ix3 h r k) * x0 (ix3 r h x) := by
  unfold val_main_v62 val_main_v61
  generalize val_main_v60 (F := Ideal) x0 x1 x2 x3 = s
  pointwise

theorem dq_at (h : Fin 4) (r : Fin 4096) (x : Fin 192) :
    val_main_v64 (F := Ideal) x0 x1 x2 x3 (ix3 r h x) = ∑ k : Fin 4096, val_main_v60 (F := Ideal) x0 x1 x2 x3 (ix3 h r k) * x1 (ix3 k h x) := by
  unfold val_main_v64 val_main_v63
  generalize val_main_v60 (F := Ideal) x0 x1 x2 x3 = s
  pointwise

theorem padQ_at (h : Fin 4) (r : Fin 4096) (x : Fin 256) (g : h.val * 256 + x.val < 1024) :
    val_main_v66 (F := Ideal) x0 x1 x2 x3 (ix2 r ⟨h.val * 256 + x.val, g⟩)
      = if g : x.val < 192 then val_main_v64 (F := Ideal) x0 x1 x2 x3 (ix3 r h ⟨x.val, g⟩) else val_main_call2_v0 (F := Ideal) ix0 := by
  unfold val_main_v66 val_main_v65
  generalize val_main_v64 (F := Ideal) x0 x1 x2 x3 = s
  pointwise
  rw [show ∀ i, val_main_call2_v0 (F := Ideal) i = val_main_call2_v0 (F := Ideal) ix0 from fun i => congrArg _ (funext fun a => a.elim0)]

theorem padK_at (h : Fin 4) (r : Fin 4096) (x : Fin 256) (g : h.val * 256 + x.val < 1024) :
    val_main_v68 (F := Ideal) x0 x1 x2 x3 (ix2 r ⟨h.val * 256 + x.val, g⟩)
      = if g : x.val < 192 then val_main_v62 (F := Ideal) x0 x1 x2 x3 (ix3 r h ⟨x.val, g⟩) else val_main_call3_v0 (F := Ideal) ix0 := by
  unfold val_main_v68 val_main_v67
  generalize val_main_v62 (F := Ideal) x0 x1 x2 x3 = s
  pointwise
  rw [show ∀ i, val_main_call3_v0 (F := Ideal) i = val_main_call3_v0 (F := Ideal) ix0 from fun i => congrArg _ (funext fun a => a.elim0)]

theorem flatV_at (h : Fin 4) (r : Fin 4096) (y : Fin 128) (g : h.val * 128 + y.val < 512) :
    val_main_v69 (F := Ideal) x0 x1 x3 (ix2 r ⟨h.val * 128 + y.val, g⟩) = val_main_v45 (F := Ideal) x0 x1 x3 (ix3 r h y) := by
  unfold val_main_v69
  generalize val_main_v45 (F := Ideal) x0 x1 x3 = s
  pointwise

/-! ## Over real arguments -/

section Real

variable {x0 x1 : FVec Ideal S4096x4x192 .f32} {x2 x3 : FVec Ideal S4096x4x128 .f32}
variable {aq ak : Fin 4 → Fin 4096 → Fin 192 → ℝ} {av ad : Fin 4 → Fin 4096 → Fin 128 → ℝ}
variable (hq : ∀ h r x, x0 (ix3 r h x) = ((aq h r x : ℝ) : EReal)) (hk : ∀ h r x, x1 (ix3 r h x) = ((ak h r x : ℝ) : EReal))
variable (hv : ∀ h r y, x2 (ix3 r h y) = ((av h r y : ℝ) : EReal)) (hd : ∀ h r y, x3 (ix3 r h y) = ((ad h r y : ℝ) : EReal))

include hq hk in
theorem score_real (h : Fin 4) (r k : Fin 4096) : val_main_v11_0 (F := Ideal) x0 x1 (ix3 h r k) = msc (aq h) (ak h) r k := by
  rw [score_at, scale_at, dot_at, coe_dot (fun x => aq h r x) (fun x => ak h k x) (fun x => hq h r x) (fun x => hk h k x), ← EReal.coe_mul]
  rfl

include hq hk in
theorem top_real (h : Fin 4) (r : Fin 4096) : val_main_v12 (F := Ideal) x0 x1 (ix2 h r) = ((shift (aq h) (ak h) r : ℝ) : EReal) := by
  rw [top_at, word_bot, ← shift_eq]
  exact congrArg (fun f => Finset.fold max ⊥ f Finset.univ) (funext fun k => score_real hq hk h r k)

include hq hk in
theorem wt_real (h : Fin 4) (r k : Fin 4096) :
    val_main_v32 (F := Ideal) x0 x1 (ix3 h r k) = ((ex (aq h) (ak h) (shift (aq h) (ak h) r) r k : ℝ) : EReal) := by
  rw [wt_at, score_real hq hk, top_real hq hk, exp_msc]

include hq hk in
theorem tot_real (h : Fin 4) (r : Fin 4096) :
    val_main_v33 (F := Ideal) x0 x1 (ix2 h r) = ((∑ c, ex (aq h) (ak h) (shift (aq h) (ak h) r) r c : ℝ) : EReal) := by
  rw [tot_at, ← coe_sum]
  exact Finset.sum_congr rfl fun k _ => wt_real hq hk h r k

include hq hk in
theorem prob_real (h : Fin 4) (r k : Fin 4096) : val_main_v36 (F := Ideal) x0 x1 (ix3 h r k) = ((pr (aq h) (ak h) r k : ℝ) : EReal) := by
  rw [prob_at, wt_real hq hk, tot_real hq hk, div_real _ _ (sum_ex_pos _ _ _ _).ne', ex_div]

include hv hd in
theorem dp_real (h : Fin 4) (r k : Fin 4096) : val_main_v43 (F := Ideal) x2 x3 (ix3 h r k) = ((dp (av h) (ad h) r k : ℝ) : EReal) := by
  rw [dp_at, coe_dot (fun y => ad h r y) (fun y => av h k y) (fun y => hd h r y) (fun y => hv h k y)]
  rfl

include hq hk hd in
theorem dv_real (h : Fin 4) (k : Fin 4096) (y : Fin 128) :
    val_main_v45 (F := Ideal) x0 x1 x3 (ix3 k h y) = ((gv (aq h) (ak h) (ad h) k y : ℝ) : EReal) := by
  rw [dv_at, coe_dot (fun r => ad h r y) (fun r => pr (aq h) (ak h) r k) (fun r => hd h r y) (fun r => prob_real hq hk h r k)]
  unfold gv
  exact congrArg _ (Finset.sum_congr rfl fun r _ => mul_comm _ _)

include hq hk hv hd in
theorem corr_real (h : Fin 4) (r : Fin 4096) : val_main_v49 (F := Ideal) x0 x1 x2 x3 (ix2 h r)
    = ((∑ c', dp (av h) (ad h) r c' * (1 / ((∑ c', ex (aq h) (ak h) (shift (aq h) (ak h) r) r c') * ∑ c', ex (aq h) (ak h) (shift (aq h) (ak h) r) r c'))
        * ex (aq h) (ak h) (shift (aq h) (ak h) r) r c' : ℝ) : EReal) := by
  have hs := (sum_ex_pos (aq h) (ak h) (shift (aq h) (ak h) r) r).ne'
  rw [corr_sum, ← coe_sum]
  refine Finset.sum_congr rfl fun k _ => ?_
  rw [dp_real hv hd, inv_at, tot_real hq hk, wt_real hq hk, word_1, ← EReal.coe_mul, div_real _ _ (mul_ne_zero hs hs), ← EReal.coe_mul, ← EReal.coe_mul]

include hq hk hv hd in
theorem ds_real (h : Fin 4) (r k : Fin 4096) :
    val_main_v60 (F := Ideal) x0 x1 x2 x3 (ix3 h r k) = ((ds (aq h) (ak h) (av h) (ad h) r k * root : ℝ) : EReal) := by
  have hs := (sum_ex_pos (aq h) (ak h) (shift (aq h) (ak h) r) r).ne'
  rw [ds_at, scale_at, EReal.coe_mul]
  refine congrArg (· * ((root : ℝ) : EReal)) ?_
  split
  · rw [dp_real hv hd, tot_real hq hk, corr_real hq hk hv hd, wt_real hq hk, div_real _ _ hs, ← EReal.coe_neg, ← EReal.coe_add, ← EReal.coe_mul, ds_quot]
  · next g =>
    unfold ds
    rw [pr_of_lt _ _ _ _ (Nat.lt_of_not_le g), zero_mul]
    exact Ideal.ofBits_zero_f32

include hq hk hv hd in
theorem dq_real (h : Fin 4) (r : Fin 4096) (x : Fin 192) :
    val_main_v64 (F := Ideal) x0 x1 x2 x3 (ix3 r h x) = ((gq (aq h) (ak h) (av h) (ad h) r x : ℝ) : EReal) := by
  rw [dq_at, coe_dot (fun k => ds (aq h) (ak h) (av h) (ad h) r k * root) (fun k => ak h k x) (fun k => ds_real hq hk hv hd h r k) (fun k => hk h k x)]
  unfold gq
  rw [Finset.sum_mul]
  exact congrArg _ (Finset.sum_congr rfl fun k _ => mul_right_comm _ _ _)

include hq hk hv hd in
theorem dk_real (h : Fin 4) (k : Fin 4096) (x : Fin 192) :
    val_main_v62 (F := Ideal) x0 x1 x2 x3 (ix3 k h x) = ((gk (aq h) (ak h) (av h) (ad h) k x : ℝ) : EReal) := by
  rw [dk_at, coe_dot (fun r => ds (aq h) (ak h) (av h) (ad h) r k * root) (fun r => aq h r x) (fun r => ds_real hq hk hv hd h r k) (fun r => hq h r x)]
  unfold gk
  rw [Finset.sum_mul]
  exact congrArg _ (Finset.sum_congr rfl fun r _ => mul_right_comm _ _ _)

end Real

end Cert.ReferenceIdeal.Attn

end
-- ==== Proof.Agree.lean ====
/- The reference's three results are the arrays the call leaves, and the precondition gives real arguments. -/
module

public import proofs.«01_k».proof.Defs
public import proofs.«01_k».proof.Proof.Arrays
public import proofs.«01_k».proof.Proof.Gradient
public import Idealize.ShloMosaic.Lib.ReduceAll

@[expose] public section

set_option maxRecDepth 16384

noncomputable section

namespace Cert.Attn

open Idealize.ShloMosaic Idealize.ShloMosaic.TcCoe Cert.KernelIdeal.Attn

/-! ## The reference's results -/

section Results

variable {x0 x1 : FVec Ideal Cert.ReferenceIdeal.S4096x4x192 .f32} {x2 x3 : FVec Ideal Cert.ReferenceIdeal.S4096x4x128 .f32}
variable {aq ak : Fin 4 → Fin 4096 → Fin 192 → ℝ} {av ad : Fin 4 → Fin 4096 → Fin 128 → ℝ}
variable (hq : ∀ h r x, x0 (ix3 r h x) = ((aq h r x : ℝ) : EReal)) (hk : ∀ h r x, x1 (ix3 r h x) = ((ak h r x : ℝ) : EReal))
variable (hv : ∀ h r y, x2 (ix3 r h y) = ((av h r y : ℝ) : EReal)) (hd : ∀ h r y, x3 (ix3 r h y) = ((ad h r y : ℝ) : EReal))

/-- A column of the wide arrays is a head and a place within it. -/
theorem wide_split (x : Fin 1024) : ∃ (h : Fin 4) (z : Fin 256) (g : h.val * 256 + z.val < 1024), x = ⟨h.val * 256 + z.val, g⟩ :=
  ⟨⟨x.val / 256, by omega⟩, ⟨x.val % 256, by omega⟩, by show x.val / 256 * 256 + x.val % 256 < 1024; omega,
    Fin.ext (by show x.val = x.val / 256 * 256 + x.val % 256; omega)⟩

theorem slim_split (x : Fin 512) : ∃ (h : Fin 4) (y : Fin 128) (g : h.val * 128 + y.val < 512), x = ⟨h.val * 128 + y.val, g⟩ :=
  ⟨⟨x.val / 128, by omega⟩, ⟨x.val % 128, by omega⟩, by show x.val / 128 * 128 + x.val % 128 < 512; omega,
    Fin.ext (by show x.val = x.val / 128 * 128 + x.val % 128; omega)⟩

include hq hk hv hd in
/-- The reference's query gradient is the array the call leaves, -/
theorem result_q : Cert.ReferenceIdeal.Read.val_main_v66 (F := Ideal) x0 x1 x2 x3 = goalQ aq ak av ad := by
  funext i
  idx_vars i
  obtain ⟨h, z, g, rfl⟩ := wide_split i1
  rw [goalQ_at, Cert.ReferenceIdeal.Attn.padQ_at]
  unfold padded
  split
  · exact Cert.ReferenceIdeal.Attn.dq_real hq hk hv hd h i0 _
  · exact zero_word

include hq hk hv hd in
/-- and so is its key gradient, -/
theorem result_k : Cert.ReferenceIdeal.Read.val_main_v68 (F := Ideal) x0 x1 x2 x3 = goalK aq ak av ad := by
  funext i
  idx_vars i
  obtain ⟨h, z, g, rfl⟩ := wide_split i1
  rw [goalK_at, Cert.ReferenceIdeal.Attn.padK_at]
  unfold padded
  split
  · exact Cert.ReferenceIdeal.Attn.dk_real hq hk hv hd h i0 _
  · exact zero_word

include hq hk hd in
/-- and its value gradient. -/
theorem result_v : Cert.ReferenceIdeal.Read.val_main_v69 (F := Ideal) x0 x1 x3 = goalV aq ak ad := by
  funext i
  idx_vars i
  obtain ⟨h, y, g, rfl⟩ := slim_split i1
  rw [goalV_at, Cert.ReferenceIdeal.Attn.flatV_at]
  exact Cert.ReferenceIdeal.Attn.dv_real hq hk hd h i0 y

end Results

/-! ## The precondition -/

instance facts_finite : Cert.Pre_finite.Facts where
  bcast_S_S4096x4x192 := by decide
  reducesTo_S4096x4x192_S_d0_1_2 := by decide
  h_S_ := by decide
  bcast_S_S4096x4x128 := by decide
  reducesTo_S4096x4x128_S_d0_1_2 := by decide

/-- A number whose magnitude is less than infinity is real. -/
theorem real_of_lt (x : EReal) (h : max x (-x) < ⊤) : x = ((x.toReal : ℝ) : EReal) :=
  (EReal.coe_toReal (lt_of_le_of_lt (le_max_left _ _) h).ne fun e => by
    rw [e, EReal.neg_bot] at h
    exact absurd h (not_lt.mpr (le_max_right _ _))).symm

theorem real_of_cmp (x : EReal) (h : FloatOps.cmpf (F := Ideal) (φ := .f32) .olt (max x (-x)) (Ideal.ofBits .f32 0x7F800000#32) = 1#1) : x = ((x.toReal : ℝ) : EReal) := by
  rw [word_top] at h
  refine real_of_lt x ?_
  by_contra g
  have e : FloatOps.cmpf (F := Ideal) (φ := .f32) .olt (max x (-x)) (⊤ : EReal) = BitVec.ofBool (decide (max x (-x) < (⊤ : EReal))) := rfl
  rw [e, decide_eq_false g] at h
  exact absurd h (by decide)

theorem andi_left (a b : BitVec 1) (h : IntOp.andi a b = 1#1) : a = 1#1 := by revert a b; decide
theorem andi_right (a b : BitVec 1) (h : IntOp.andi a b = 1#1) : b = 1#1 := by revert a b; decide

open Cert.Pre_finite in
/-- Under the precondition every element of the four arguments is real. -/
theorem finite_real (x0 x1 : FVec Ideal S4096x4x192 .f32) (x2 x3 : FVec Ideal S4096x4x128 .f32) (h : Cert.Pre_finite.fn (F := Ideal) x0 x1 x2 x3 = fun _ => 1#1) :
    (∀ i, x0 i = (((x0 i : EReal).toReal : ℝ) : EReal)) ∧ (∀ i, x1 i = (((x1 i : EReal).toReal : ℝ) : EReal))
      ∧ (∀ i, x2 i = (((x2 i : EReal).toReal : ℝ) : EReal)) ∧ (∀ i, x3 i = (((x3 i : EReal).toReal : ℝ) : EReal)) := by
  have e := congrFun h ix0
  dsimp only [fn, fn_part1] at e
  have e3 := andi_right _ _ e
  have e012 := andi_left _ _ e
  have e2 := andi_right _ _ e012
  have e01 := andi_left _ _ e012
  have e1 := andi_right _ _ e01
  have e0 := andi_left _ _ e01
  haveI : Subsingleton S_.Idx := ⟨fun a b => funext fun k => k.elim0⟩
  exact ⟨fun i => real_of_cmp _ (Host.reduce_andi_all _ _ _ _ _ e0 i), fun i => real_of_cmp _ (Host.reduce_andi_all _ _ _ _ _ e1 i),
    fun i => real_of_cmp _ (Host.reduce_andi_all _ _ _ _ _ e2 i), fun i => real_of_cmp _ (Host.reduce_andi_all _ _ _ _ _ e3 i)⟩

end Cert.Attn

end
-- ==== Proof.PairValues.lean ====
/- The two arrays that the call for the weights' gradients leaves, read off its arguments. -/
module

public import proofs.«01_k».proof.Proof.Gen.PairIdeal.Value
public import proofs.«01_k».proof.Proof.Gen.PairReferenceIdeal.Read
public import Idealize.ShloMosaic.Lib.Pipeline.ValueKit
public import Idealize.ShloMosaic.Lib.StableHlo.ReadAt
public import Idealize.ShloMosaic.Lib.Pointwise

@[expose] public section

set_option maxRecDepth 16384

noncomputable section

namespace Cert.PairIdeal.Weights

open Idealize.ShloMosaic Idealize.ShloMosaic.TcCoe Cert.PairIdeal Cert.PairIdeal.Gen

/-- The gradient of a product by its weights, transposed: an entry is a sum over the rows. -/
def byWeight (d : FVec Ideal S4096x2816 .f32) (h : FVec Ideal S4096x1024 .f32) : FVec Ideal S2816x1024 .bf16 :=
  fun i => ∑ k : Fin 4096, d (ix2 k (i 0)) * h (ix2 k (i 1))

/-! ## The body -/

variable (p q : Vec Ideal S4096x256 .bf16) (h : Vec Ideal S4096x1024 .bf16)

theorem dot_at (r : Fin 512) (x : Fin 1024) :
    k0_pay1 (F := Ideal) p q h (ix2 r x) = ∑ k : Fin 4096, (if g : r.val < 256 then p (ix2 k ⟨r.val, g⟩) else q (ix2 k ⟨r.val - 256, by omega⟩)) * h (ix2 k x) := by
  unfold k0_pay1
  pointwise

theorem out_3 : out0_3 (F := Ideal) p q h = k0_pay2 p q h := by
  unfold out0_3
  rw [View.canon_cons_unit_lit inb_S256x1024_S256x1024_0_0 _ _ (by decide), View.ld_unit_lit inb_S4096x256_S4096x256_0_0 p (by decide),
    View.ld_unit_lit inb_S4096x256_S4096x256_0_0 q (by decide), View.ld_unit_lit inb_S4096x1024_S4096x1024_0_0 h (by decide)]

theorem out_4 : out0_4 (F := Ideal) p q h = k0_pay3 p q h := by
  unfold out0_4
  rw [View.canon_cons_unit_lit inb_S256x1024_S256x1024_0_0 _ _ (by decide), View.ld_unit_lit inb_S4096x256_S4096x256_0_0 p (by decide),
    View.ld_unit_lit inb_S4096x256_S4096x256_0_0 q (by decide), View.ld_unit_lit inb_S4096x1024_S4096x1024_0_0 h (by decide)]

theorem left_3 (r : Fin 256) (x : Fin 1024) : out0_3 (F := Ideal) p q h (ix2 r x) = ∑ k : Fin 4096, p (ix2 k r) * h (ix2 k x) := by
  have e : k0_pay2 (F := Ideal) p q h (ix2 r x) = k0_pay1 (F := Ideal) p q h (ix2 ⟨r.val, by omega⟩ x) := by
    unfold k0_pay2
    generalize k0_pay1 (F := Ideal) p q h = z
    pointwise
  rw [out_3, e, dot_at]
  simp only [r.isLt, dite_true]

theorem left_4 (r : Fin 256) (x : Fin 1024) : out0_4 (F := Ideal) p q h (ix2 r x) = ∑ k : Fin 4096, q (ix2 k r) * h (ix2 k x) := by
  have e : k0_pay3 (F := Ideal) p q h (ix2 r x) = k0_pay1 (F := Ideal) p q h (ix2 ⟨256 + r.val, by omega⟩ x) := by
    unfold k0_pay3
    generalize k0_pay1 (F := Ideal) p q h = z
    pointwise
  rw [out_4, e, dot_at]
  have e : ¬ (256 + r.val < 256) := by omega
  simp only [e, dite_false, Nat.add_sub_cancel_left]

/-! ## The arrays and the blocks -/

variable (m : (ℓ : Loc nD τ sig) → Buf (Elt Ideal) ℓ) (c : Dev nD)

abbrev argG : FVec Ideal S4096x2816 .f32 := m (c, Proc.tc.devRef main_arg0)
abbrev argU : FVec Ideal S4096x2816 .f32 := m (c, Proc.tc.devRef main_arg1)
abbrev argH : FVec Ideal S4096x1024 .f32 := m (c, Proc.tc.devRef main_arg2)

theorem arr_g (i : S4096x2816.Idx) : (V m c main_v0 : FVec Ideal S4096x2816 .bf16) i = argG m c i := by
  unfold V hostOps0
  simp only [List.flatten_cons, List.flatten_nil, List.append_nil, List.cons_append, List.nil_append]
  after_reads_at
theorem arr_u (i : S4096x2816.Idx) : (V m c main_v1 : FVec Ideal S4096x2816 .bf16) i = argU m c i := by
  unfold V hostOps0
  simp only [List.flatten_cons, List.flatten_nil, List.append_nil, List.cons_append, List.nil_append]
  after_reads_at
theorem arr_h (i : S4096x1024.Idx) : (V m c main_v2 : FVec Ideal S4096x1024 .bf16) i = argH m c i := by
  unfold V hostOps0
  simp only [List.flatten_cons, List.flatten_nil, List.append_nil, List.cons_append, List.nil_append]
  after_reads_at

/-- Where each window's block stands at a point. -/
theorem places : ∀ t : Fin cfg0.N, (win0_0.index t = ![0, t.val] ∧ win0_1.index t = ![0, t.val] ∧ win0_2.index t = ![0, 0])
    ∧ win0_3.index t = ![t.val, 0] ∧ win0_4.index t = ![t.val, 0] := by
  decide +kernel

/-- The weights' row that a place of a point's tile is. -/
def row (t : Fin cfg0.N) (r : Fin 256) : Fin 2816 := ⟨t.val * 256 + r.val, by have : t.val < 11 := t.isLt; omega⟩

theorem block_g (t : Fin cfg0.N) (k : Fin 4096) (r : Fin 256) : (iblk m c 0 t : Vec Ideal S4096x256 .bf16) (ix2 k r) = argG m c (ix2 k (row t r)) := by
  have e : ∀ A : FVec Ideal S4096x2816 .bf16, ((cfg0.win 0).blk t).view.read (Elt Ideal) A (ix2 k r) = A (ix2 k (row t r)) := fun A => by
    unfold row
    blk_ext [(places t).1.1]
  exact (e (V m c main_v0)).trans (arr_g m c _)
theorem block_u (t : Fin cfg0.N) (k : Fin 4096) (r : Fin 256) : (iblk m c 1 t : Vec Ideal S4096x256 .bf16) (ix2 k r) = argU m c (ix2 k (row t r)) := by
  have e : ∀ A : FVec Ideal S4096x2816 .bf16, ((cfg0.win 1).blk t).view.read (Elt Ideal) A (ix2 k r) = A (ix2 k (row t r)) := fun A => by
    unfold row
    blk_ext [(places t).1.2.1]
  exact (e (V m c main_v1)).trans (arr_u m c _)
theorem block_h (t : Fin cfg0.N) (k : Fin 4096) (x : Fin 1024) : (iblk m c 2 t : Vec Ideal S4096x1024 .bf16) (ix2 k x) = argH m c (ix2 k x) := by
  have e : ∀ A : FVec Ideal S4096x1024 .bf16, ((cfg0.win 2).blk t).view.read (Elt Ideal) A (ix2 k x) = A (ix2 k x) := fun A => by
    blk_ext [(places t).1.2.2]
  exact (e (V m c main_v2)).trans (arr_h m c _)

/-! ## The two results -/

theorem array_3 : (dats m 0 c).arrAt 3 cfg0.N = byWeight (argG m c) (argH m c) := by
  refine (dats m 0 c).arrAt_eq_of_covers 3 _ (by decide +kernel) fun t hf y => ?_
  blk_simp
  rw [after0_3]
  have e : ∀ y : S256x1024.Idx, out0_3 (F := Ideal) (iblk m c 0 t) (iblk m c 1 t) (iblk m c 2 t) y = byWeight (argG m c) (argH m c) ((win0_3.blk t).view.emb y) := fun y => by
    idx_vars y
    rw [left_3]
    simp only [block_g, block_h]
    have e : (win0_3.blk t).view.emb (ix2 y0 y1) = ix2 (row t y0) y1 := by
      unfold row
      blk_ext [(places t).2.1]
    rw [e]
    rfl
  exact e y

theorem array_4 : (dats m 0 c).arrAt 4 cfg0.N = byWeight (argU m c) (argH m c) := by
  refine (dats m 0 c).arrAt_eq_of_covers 4 _ (by decide +kernel) fun t hf y => ?_
  blk_simp
  rw [after0_4]
  have e : ∀ y : S256x1024.Idx, out0_4 (F := Ideal) (iblk m c 0 t) (iblk m c 1 t) (iblk m c 2 t) y = byWeight (argU m c) (argH m c) ((win0_4.blk t).view.emb y) := fun y => by
    idx_vars y
    rw [left_4]
    simp only [block_u, block_h]
    have e : (win0_4.blk t).view.emb (ix2 y0 y1) = ix2 (row t y0) y1 := by
      unfold row
      blk_ext [(places t).2.2]
    rw [e]
    rfl
  exact e y

end Cert.PairIdeal.Weights

/-! ## The reference -/

namespace Cert.PairReferenceIdeal.Weights

open Idealize.ShloMosaic Idealize.ShloMosaic.TcCoe Cert.PairReferenceIdeal Cert.PairReferenceIdeal.Gen Cert.PairReferenceIdeal.Read

variable (x0 x1 : FVec Ideal S4096x2816 .f32) (x2 : FVec Ideal S4096x1024 .f32)

theorem result_g : val_main_v5 (F := Ideal) x0 x2 = Cert.PairIdeal.Weights.byWeight x0 x2 := by
  funext i
  idx_vars i
  rw [val_main_v5_apply, val_main_v4_apply, val_main_v3_apply]
  refine (val_main_v2_apply x0 x2 _).trans (Finset.sum_congr rfl fun k _ => ?_)
  congr 2 <;> funext a <;> fin_cases a <;> rfl

theorem result_u : val_main_v10 (F := Ideal) x1 x2 = Cert.PairIdeal.Weights.byWeight x1 x2 := by
  funext i
  idx_vars i
  rw [val_main_v10_apply, val_main_v9_apply, val_main_v8_apply]
  refine (val_main_v7_apply x1 x2 _).trans (Finset.sum_congr rfl fun k _ => ?_)
  congr 2 <;> funext a <;> fin_cases a <;> rfl

end Cert.PairReferenceIdeal.Weights

end
-- ==== Proof.Gated.lean ====
/- The gated product of the feed-forward over the real numbers, its two derivatives, and its literal words. -/
module

public import proofs.«01_k».proof.Proof.Words

@[expose] public section

noncomputable section

namespace Cert.Gated

open Idealize.ShloMosaic Cert.Attn

theorem word_half : Ideal.ofBits .f32 0x3F000000#32 = ((1 / 2 : ℝ) : EReal) := by
  simp [Ideal.ofBits, Ideal.ieee]
  rw [← EReal.coe_mul]; norm_num

/-- The sigmoid, -/
def sigm (x : ℝ) : ℝ := 1 / (1 + Real.exp (-x))

/-- SiLU, -/
def silu (x : ℝ) : ℝ := x * sigm x

/-- and its derivative. -/
def dsilu (x : ℝ) : ℝ := sigm x + silu x * (1 - sigm x)

/-- The sigmoid by the hyperbolic tangent of half the argument. -/
theorem half_tanh (x : ℝ) : 1 / 2 * (Real.tanh (1 / 2 * x) + 1) = sigm x := by
  unfold sigm
  rw [Real.tanh_eq_sinh_div_cosh, Real.sinh_eq, Real.cosh_eq]
  have e : Real.exp (-x) = Real.exp (-(1 / 2 * x)) * Real.exp (-(1 / 2 * x)) := by rw [← Real.exp_add]; congr 1; ring
  have e1 : Real.exp (1 / 2 * x) * Real.exp (-(1 / 2 * x)) = 1 := by rw [← Real.exp_add, add_neg_cancel, Real.exp_zero]
  have h1 := Real.exp_pos (1 / 2 * x)
  have h2 := Real.exp_pos (-(1 / 2 * x))
  rw [e]
  generalize Real.exp (1 / 2 * x) = a at e1 h1 ⊢
  generalize Real.exp (-(1 / 2 * x)) = b at e1 h1 h2 ⊢
  have hs : a + b ≠ 0 := by positivity
  have ht : 1 + b * b ≠ 0 := by positivity
  field_simp
  linear_combination 2 * b * e1

theorem half_real (x : ℝ) : Ideal.ofBits .f32 0x3F000000#32 * (Ideal.tanh (Ideal.ofBits .f32 0x3F000000#32 * (x : EReal)) + Ideal.ofBits .f32 0x3F800000#32)
    = ((sigm x : ℝ) : EReal) := by
  rw [word_half, word_1, ← EReal.coe_mul, Ideal.tanh_coe, ← EReal.coe_add, ← EReal.coe_mul, half_tanh]

/-- The sigmoid by the exponential. -/
theorem sig_real (x : ℝ) : Ideal.div (Ideal.ofBits .f32 0x3F800000#32) (Ideal.ofBits .f32 0x3F800000#32 + Ideal.exp (-(x : EReal))) = ((sigm x : ℝ) : EReal) := by
  rw [word_1, ← EReal.coe_neg, Ideal.exp_coe, ← EReal.coe_add, div_real _ _ (by have := Real.exp_pos (-x); linarith)]
  rfl

/-- The derivative of SiLU as it is printed: by the sigmoid's own derivative. -/
theorem dsilu_printed (x u : ℝ) : u * sigm x + x * u * (sigm x * (1 - sigm x)) = u * dsilu x := by
  unfold dsilu silu; ring

/-- A projection to the hidden columns. -/
def proj (a : Fin 4096 → Fin 1024 → ℝ) (w : Fin 1024 → Fin 2816 → ℝ) (r : Fin 4096) (f : Fin 2816) : ℝ := ∑ k, a r k * w k f

section Goal

variable (ah : Fin 4096 → Fin 1024 → ℝ) (ag au : Fin 1024 → Fin 2816 → ℝ) (aw : Fin 2816 → Fin 1024 → ℝ) (ad : Fin 4096 → Fin 1024 → ℝ)

/-- The gated product, -/
def act (r : Fin 4096) (f : Fin 2816) : ℝ := silu (proj ah ag r f) * proj ah au r f

/-- its derivative by the gate, -/
def byGate (r : Fin 4096) (f : Fin 2816) : ℝ := proj ah au r f * dsilu (proj ah ag r f)

/-- and by the up half. -/
def byUp (r : Fin 4096) (f : Fin 2816) : ℝ := silu (proj ah ag r f)

/-- The gradient of the gated product, -/
def dact (r : Fin 4096) (f : Fin 2816) : ℝ := ∑ x, ad r x * aw f x

/-- of the gate, of the up half, -/
def dgate (r : Fin 4096) (f : Fin 2816) : ℝ := dact aw ad r f * byGate ah ag au r f
def dup (r : Fin 4096) (f : Fin 2816) : ℝ := dact aw ad r f * byUp ah ag r f

/-- and of the input. -/
def dinput (r : Fin 4096) (x : Fin 1024) : ℝ := (∑ f, dgate ah ag au aw ad r f * ag x f) + ∑ f, dup ah ag aw ad r f * au x f

/-- These as arrays. -/
def arrOf {n : ℕ} (f : Fin 4096 → Fin n → ℝ) : FVec Ideal ⟨2, ![4096, n]⟩ .bf16 := fun i => ((f (i 0) (i 1) : ℝ) : EReal)

end Goal

end Cert.Gated

end
-- ==== Proof.InValues.lean ====
/- The three arrays that the feed-forward's forward call leaves, and the reference's, over real arguments. -/
module

public import proofs.«01_k».proof.Proof.Gated
public import proofs.«01_k».proof.Proof.Gen.InIdeal.Value
public import proofs.«01_k».proof.Proof.Gen.InReferenceIdeal.Read
public import Idealize.ShloMosaic.Lib.Pipeline.ValueKit
public import Idealize.ShloMosaic.Lib.StableHlo.ReadAt
public import Idealize.ShloMosaic.Lib.Pointwise

@[expose] public section

set_option maxRecDepth 16384

noncomputable section

namespace Cert.InIdeal.Hidden

open Idealize.ShloMosaic Idealize.ShloMosaic.TcCoe Cert.InIdeal Cert.InIdeal.Gen Cert.Attn Cert.Gated

/-! ## The body -/

section Body

variable (p : Vec Ideal S1024x1024 .bf16) (q w : Vec Ideal S1408x1024 .bf16)

theorem out_3 : out0_3 (F := Ideal) p q w = k0_pay6 p q w := by
  unfold out0_3
  rw [View.canon_cons_unit_lit inb_S1024x1408_S1024x1408_0_0 _ _ (by decide), View.ld_unit_lit inb_S1024x1024_S1024x1024_0_0 p (by decide),
    View.ld_unit_lit inb_S1408x1024_S1408x1024_0_0 q (by decide), View.ld_unit_lit inb_S1408x1024_S1408x1024_0_0 w (by decide)]
theorem out_4 : out0_4 (F := Ideal) p q w = k0_pay7 p q w := by
  unfold out0_4
  rw [View.canon_cons_unit_lit inb_S1024x1408_S1024x1408_0_0 _ _ (by decide), View.ld_unit_lit inb_S1024x1024_S1024x1024_0_0 p (by decide),
    View.ld_unit_lit inb_S1408x1024_S1408x1024_0_0 q (by decide), View.ld_unit_lit inb_S1408x1024_S1408x1024_0_0 w (by decide)]
theorem out_5 : out0_5 (F := Ideal) p q w = k0_pay8 p q := by
  unfold out0_5
  rw [View.canon_cons_unit_lit inb_S1024x1408_S1024x1408_0_0 _ _ (by decide), View.ld_unit_lit inb_S1024x1024_S1024x1024_0_0 p (by decide),
    View.ld_unit_lit inb_S1408x1024_S1408x1024_0_0 q (by decide)]

theorem gate_at (r : Fin 1024) (f : Fin 1408) : k0_pay2 (F := Ideal) p q (ix2 r f) = ∑ k : Fin 1024, p (ix2 r k) * q (ix2 f k) := by
  unfold k0_pay2 k0_pay1
  pointwise
theorem up_at (r : Fin 1024) (f : Fin 1408) : k0_pay3 (F := Ideal) p w (ix2 r f) = ∑ k : Fin 1024, p (ix2 r k) * w (ix2 f k) := by
  unfold k0_pay3 k0_pay1
  pointwise

variable {p q w} {r : Fin 1024} {f : Fin 1408} {g u : ℝ}
variable (hg : k0_pay2 (F := Ideal) p q (ix2 r f) = ((g : ℝ) : EReal)) (hu : k0_pay3 (F := Ideal) p w (ix2 r f) = ((u : ℝ) : EReal))

include hg in
theorem sig_at : k0_pay4 (F := Ideal) p q (ix2 r f) = ((sigm g : ℝ) : EReal) := by
  have e : k0_pay4 (F := Ideal) p q (ix2 r f) = Ideal.ofBits .f32 0x3F000000#32 * (Ideal.tanh (Ideal.ofBits .f32 0x3F000000#32 * k0_pay2 (F := Ideal) p q (ix2 r f)) + Ideal.ofBits .f32 0x3F800000#32) := by
    unfold k0_pay4
    generalize k0_pay2 (F := Ideal) p q = z
    rfl
  rw [e, hg, half_real]

include hg in
theorem silu_at : k0_pay5 (F := Ideal) p q (ix2 r f) = ((silu g : ℝ) : EReal) := by
  have e : k0_pay5 (F := Ideal) p q (ix2 r f) = k0_pay2 (F := Ideal) p q (ix2 r f) * k0_pay4 (F := Ideal) p q (ix2 r f) := rfl
  rw [e, sig_at hg, hg, ← EReal.coe_mul]
  rfl

include hg hu in
theorem act_at : k0_pay6 (F := Ideal) p q w (ix2 r f) = ((silu g * u : ℝ) : EReal) := by
  have e : k0_pay6 (F := Ideal) p q w (ix2 r f) = k0_pay5 (F := Ideal) p q (ix2 r f) * k0_pay3 (F := Ideal) p w (ix2 r f) := rfl
  rw [e, silu_at hg, hu, ← EReal.coe_mul]

include hg hu in
theorem byGate_at : k0_pay7 (F := Ideal) p q w (ix2 r f) = ((u * dsilu g : ℝ) : EReal) := by
  have e : k0_pay7 (F := Ideal) p q w (ix2 r f) = k0_pay3 (F := Ideal) p w (ix2 r f)
      * (k0_pay4 (F := Ideal) p q (ix2 r f) + k0_pay5 (F := Ideal) p q (ix2 r f) * (Ideal.ofBits .f32 0x3F800000#32 - k0_pay4 (F := Ideal) p q (ix2 r f))) := rfl
  rw [e, silu_at hg, sig_at hg, hu, word_1, ← EReal.coe_sub, ← EReal.coe_mul, ← EReal.coe_add, ← EReal.coe_mul]
  rfl

include hg in
theorem byUp_at : k0_pay8 (F := Ideal) p q (ix2 r f) = ((silu g : ℝ) : EReal) :=
  (show k0_pay8 (F := Ideal) p q (ix2 r f) = k0_pay5 (F := Ideal) p q (ix2 r f) from rfl).trans (silu_at hg)

end Body

/-! ## The arrays and the blocks -/

section Any

variable (m : (ℓ : Loc nD τ sig) → Buf (Elt Ideal) ℓ) (c : Dev nD)

abbrev argH : FVec Ideal S4096x1024 .f32 := m (c, Proc.tc.devRef main_arg0)
abbrev argG : FVec Ideal S1024x2816 .f32 := m (c, Proc.tc.devRef main_arg1)
abbrev argU : FVec Ideal S1024x2816 .f32 := m (c, Proc.tc.devRef main_arg2)

theorem arr_h (r : Fin 4096) (k : Fin 1024) : (V m c main_v0 : FVec Ideal S4096x1024 .bf16) (ix2 r k) = argH m c (ix2 r k) := by
  unfold V hostOps0
  after_reads_at
theorem arr_g (f : Fin 2816) (k : Fin 1024) : (V m c main_v2 : FVec Ideal S2816x1024 .bf16) (ix2 f k) = argG m c (ix2 k f) := by
  unfold V hostOps0
  after_reads_at
theorem arr_u (f : Fin 2816) (k : Fin 1024) : (V m c main_v4 : FVec Ideal S2816x1024 .bf16) (ix2 f k) = argU m c (ix2 k f) := by
  unfold V hostOps0
  after_reads_at

/-- Where each window's block stands at a point. -/
theorem places : ∀ t : Fin cfg0.N, (win0_0.index t = ![t.val / 2, 0] ∧ win0_1.index t = ![t.val % 2, 0] ∧ win0_2.index t = ![t.val % 2, 0])
    ∧ (win0_3.index t = ![t.val / 2, t.val % 2] ∧ win0_4.index t = ![t.val / 2, t.val % 2] ∧ win0_5.index t = ![t.val / 2, t.val % 2]) := by
  decide +kernel

/-- The row and the hidden column that a place of a point's tile is. -/
def row (t : Fin cfg0.N) (r : Fin 1024) : Fin 4096 := ⟨t.val / 2 * 1024 + r.val, by have : t.val < 8 := t.isLt; omega⟩
def col (t : Fin cfg0.N) (f : Fin 1408) : Fin 2816 := ⟨t.val % 2 * 1408 + f.val, by omega⟩

theorem block_h (t : Fin cfg0.N) (r : Fin 1024) (k : Fin 1024) : (iblk m c 0 t : Vec Ideal S1024x1024 .bf16) (ix2 r k) = argH m c (ix2 (row t r) k) := by
  have e : ∀ A : FVec Ideal S4096x1024 .bf16, ((cfg0.win 0).blk t).view.read (Elt Ideal) A (ix2 r k) = A (ix2 (row t r) k) := fun A => by
    unfold row
    blk_ext [(places t).1.1]
  exact (e (V m c main_v0)).trans (arr_h m c _ _)
theorem block_g (t : Fin cfg0.N) (f : Fin 1408) (k : Fin 1024) : (iblk m c 1 t : Vec Ideal S1408x1024 .bf16) (ix2 f k) = argG m c (ix2 k (col t f)) := by
  have e : ∀ A : FVec Ideal S2816x1024 .bf16, ((cfg0.win 1).blk t).view.read (Elt Ideal) A (ix2 f k) = A (ix2 (col t f) k) := fun A => by
    unfold col
    blk_ext [(places t).1.2.1]
  exact (e (V m c main_v2)).trans (arr_g m c _ _)
theorem block_u (t : Fin cfg0.N) (f : Fin 1408) (k : Fin 1024) : (iblk m c 2 t : Vec Ideal S1408x1024 .bf16) (ix2 f k) = argU m c (ix2 k (col t f)) := by
  have e : ∀ A : FVec Ideal S2816x1024 .bf16, ((cfg0.win 2).blk t).view.read (Elt Ideal) A (ix2 f k) = A (ix2 (col t f) k) := fun A => by
    unfold col
    blk_ext [(places t).1.2.2]
  exact (e (V m c main_v4)).trans (arr_u m c _ _)

end Any

/-! ## The three results -/

/-- The arguments of device `c` are the reals `ah`, `ag` and `au`. -/
structure Reals (m : (ℓ : Loc nD τ sig) → Buf (Elt Ideal) ℓ) (c : Dev nD) (ah : Fin 4096 → Fin 1024 → ℝ) (ag au : Fin 1024 → Fin 2816 → ℝ) : Prop where
  h : ∀ r k, argH m c (ix2 r k) = ((ah r k : ℝ) : EReal)
  g : ∀ k f, argG m c (ix2 k f) = ((ag k f : ℝ) : EReal)
  u : ∀ k f, argU m c (ix2 k f) = ((au k f : ℝ) : EReal)

variable {m : (ℓ : Loc nD τ sig) → Buf (Elt Ideal) ℓ} {c : Dev nD} {ah : Fin 4096 → Fin 1024 → ℝ} {ag au : Fin 1024 → Fin 2816 → ℝ}

theorem gate_val (R : Reals m c ah ag au) (t : Fin cfg0.N) (r : Fin 1024) (f : Fin 1408) :
    k0_pay2 (F := Ideal) (iblk m c 0 t) (iblk m c 1 t) (ix2 r f) = ((proj ah ag (row t r) (col t f) : ℝ) : EReal) := by
  rw [gate_at]
  exact coe_dot _ _ (fun k => (block_h m c t r k).trans (R.h _ _)) fun k => (block_g m c t f k).trans (R.g _ _)

theorem up_val (R : Reals m c ah ag au) (t : Fin cfg0.N) (r : Fin 1024) (f : Fin 1408) :
    k0_pay3 (F := Ideal) (iblk m c 0 t) (iblk m c 2 t) (ix2 r f) = ((proj ah au (row t r) (col t f) : ℝ) : EReal) := by
  rw [up_at]
  exact coe_dot _ _ (fun k => (block_h m c t r k).trans (R.h _ _)) fun k => (block_u m c t f k).trans (R.u _ _)

theorem array_3 (R : Reals m c ah ag au) : (dats m 0 c).arrAt 3 cfg0.N = arrOf (act ah ag au) := by
  refine (dats m 0 c).arrAt_eq_of_covers 3 _ (by decide +kernel) fun t hf y => ?_
  blk_simp
  rw [after0_3, out_3]
  have e : ∀ y : S1024x1408.Idx, k0_pay6 (F := Ideal) (iblk m c 0 t) (iblk m c 1 t) (iblk m c 2 t) y = arrOf (act ah ag au) ((win0_3.blk t).view.emb y) := fun y => by
    idx_vars y
    rw [act_at (gate_val R t y0 y1) (up_val R t y0 y1)]
    have e : (win0_3.blk t).view.emb (ix2 y0 y1) = ix2 (row t y0) (col t y1) := by
      unfold row col
      blk_ext [(places t).2.1]
    rw [e]
    rfl
  exact e y

theorem array_4 (R : Reals m c ah ag au) : (dats m 0 c).arrAt 4 cfg0.N = arrOf (byGate ah ag au) := by
  refine (dats m 0 c).arrAt_eq_of_covers 4 _ (by decide +kernel) fun t hf y => ?_
  blk_simp
  rw [after0_4, out_4]
  have e : ∀ y : S1024x1408.Idx, k0_pay7 (F := Ideal) (iblk m c 0 t) (iblk m c 1 t) (iblk m c 2 t) y = arrOf (byGate ah ag au) ((win0_4.blk t).view.emb y) := fun y => by
    idx_vars y
    rw [byGate_at (gate_val R t y0 y1) (up_val R t y0 y1)]
    have e : (win0_4.blk t).view.emb (ix2 y0 y1) = ix2 (row t y0) (col t y1) := by
      unfold row col
      blk_ext [(places t).2.2.1]
    rw [e]
    rfl
  exact e y

theorem array_5 (R : Reals m c ah ag au) : (dats m 0 c).arrAt 5 cfg0.N = arrOf (byUp ah ag) := by
  refine (dats m 0 c).arrAt_eq_of_covers 5 _ (by decide +kernel) fun t hf y => ?_
  blk_simp
  rw [after0_5, out_5]
  have e : ∀ y : S1024x1408.Idx, k0_pay8 (F := Ideal) (iblk m c 0 t) (iblk m c 1 t) y = arrOf (byUp ah ag) ((win0_5.blk t).view.emb y) := fun y => by
    idx_vars y
    rw [byUp_at (gate_val R t y0 y1)]
    have e : (win0_5.blk t).view.emb (ix2 y0 y1) = ix2 (row t y0) (col t y1) := by
      unfold row col
      blk_ext [(places t).2.2.2]
    rw [e]
    rfl
  exact e y

end Cert.InIdeal.Hidden

/-! ## The reference -/

namespace Cert.InReferenceIdeal.Hidden

open Idealize.ShloMosaic Idealize.ShloMosaic.TcCoe Cert.InReferenceIdeal Cert.InReferenceIdeal.Gen Cert.InReferenceIdeal.Read Cert.Attn Cert.Gated

variable {x0 : FVec Ideal S4096x1024 .f32} {x1 x2 : FVec Ideal S1024x2816 .f32}
  {ah : Fin 4096 → Fin 1024 → ℝ} {ag au : Fin 1024 → Fin 2816 → ℝ}
variable (h : ∀ r k, x0 (ix2 r k) = ((ah r k : ℝ) : EReal)) (g : ∀ k f, x1 (ix2 k f) = ((ag k f : ℝ) : EReal)) (u : ∀ k f, x2 (ix2 k f) = ((au k f : ℝ) : EReal))

include h g in
theorem gate_at (r : Fin 4096) (f : Fin 2816) : val_main_v0 (F := Ideal) x0 x1 (ix2 r f) = ((proj ah ag r f : ℝ) : EReal) := by
  refine (val_main_v0_apply x0 x1 _).trans (coe_dot _ _ (fun k => (congrArg x0 ?_).trans (h r k)) fun k => (congrArg x1 ?_).trans (g k f))
  all_goals funext a; fin_cases a <;> rfl

include h u in
theorem up_at (r : Fin 4096) (f : Fin 2816) : val_main_v1 (F := Ideal) x0 x2 (ix2 r f) = ((proj ah au r f : ℝ) : EReal) := by
  refine (val_main_v1_apply x0 x2 _).trans (coe_dot _ _ (fun k => (congrArg x0 ?_).trans (h r k)) fun k => (congrArg x2 ?_).trans (u k f))
  all_goals funext a; fin_cases a <;> rfl

include h g in
theorem sig_at (r : Fin 4096) (f : Fin 2816) : val_main_v2_2 (F := Ideal) x0 x1 (ix2 r f) = ((sigm (proj ah ag r f) : ℝ) : EReal) := by
  rw [val_main_v2_2_apply, val_main_call0_v4_apply, val_main_call0_cst_0_apply, val_main_call0_v3_apply, val_main_call0_v2_apply, val_main_call0_cst_apply,
    val_main_call0_v1_apply, val_main_call0_v0_apply, gate_at h g]
  exact sig_real _

include h g in
theorem silu_at (r : Fin 4096) (f : Fin 2816) : val_main_v2_0 (F := Ideal) x0 x1 (ix2 r f) = ((silu (proj ah ag r f) : ℝ) : EReal) := by
  rw [val_main_v2_0_apply, gate_at h g, sig_at h g]
  exact (EReal.coe_mul _ _).symm

include h g in
theorem dsig_at (r : Fin 4096) (f : Fin 2816) : val_main_v2_1 (F := Ideal) x0 x1 (ix2 r f)
    = ((sigm (proj ah ag r f) * (1 - sigm (proj ah ag r f)) : ℝ) : EReal) := by
  rw [val_main_v2_1_apply, val_main_call0_v7_apply, val_main_call0_v6_apply, val_main_call0_cst_1_apply, sig_at h g]
  generalize sigm (proj ah ag r f) = s
  show (s : EReal) * (Ideal.ofBits .f32 0x3F800000#32 - (s : EReal)) = _
  rw [word_1, ← EReal.coe_sub, ← EReal.coe_mul]

theorem one_at (i : S4096x2816.Idx) : val_main_v4 (F := Ideal) i = ((1 : ℝ) : EReal) := by
  rw [val_main_v4_apply, val_main_cst_apply]
  exact word_1

include h g u in
theorem result_act : val_main_v8 (F := Ideal) x0 x1 x2 = arrOf (act ah ag au) := by
  funext i
  idx_vars i
  rw [val_main_v8_apply, val_main_v3_apply, silu_at h g, up_at h u]
  exact (EReal.coe_mul _ _).symm

include h g u in
theorem result_byGate : val_main_v9 (F := Ideal) x0 x1 x2 = arrOf (byGate ah ag au) := by
  funext i
  idx_vars i
  rw [val_main_v9_apply, val_main_v7_apply, val_main_call1_v1_apply, val_main_call1_v2_apply, val_main_call1_v0_apply, val_main_v6_apply, dsig_at h g, gate_at h g, sig_at h g,
    up_at h u, one_at]
  show (((1 : ℝ) : EReal) * ((proj ah au i0 i1 : ℝ) : EReal)) * ((sigm (proj ah ag i0 i1) : ℝ) : EReal)
    + (((proj ah ag i0 i1 : ℝ) : EReal) * (((1 : ℝ) : EReal) * ((proj ah au i0 i1 : ℝ) : EReal))) * ((sigm (proj ah ag i0 i1) * (1 - sigm (proj ah ag i0 i1)) : ℝ) : EReal)
    = ((byGate ah ag au i0 i1 : ℝ) : EReal)
  rw [← EReal.coe_mul, ← EReal.coe_mul, ← EReal.coe_mul, ← EReal.coe_mul, ← EReal.coe_add, one_mul, dsilu_printed]
  rfl

include h g in
theorem result_byUp : val_main_v10 (F := Ideal) x0 x1 = arrOf (byUp ah ag) := by
  funext i
  idx_vars i
  rw [val_main_v10_apply, val_main_v5_apply, silu_at h g, one_at]
  show ((silu (proj ah ag i0 i1) : ℝ) : EReal) * ((1 : ℝ) : EReal) = ((silu (proj ah ag i0 i1) : ℝ) : EReal)
  rw [← EReal.coe_mul, mul_one]

end Cert.InReferenceIdeal.Hidden

end
-- ==== Proof.FfnBody.lean ====
/- The body of the feed-forward's backward call at one grid point, over any float values: the first pass over the hidden
   columns fills this row tile's slice of the accumulator, the last pass adds to it and writes it out. -/
module

public import proofs.«01_k».proof.Proof.Gen.FfnIdeal.Frame
public import proofs.«01_k».proof.Proof.Gen.FfnIdeal.Skeleton
public import Idealize.ShloMosaic.Lib.VecWindow
public import Idealize.ShloMosaic.Lib.Exec
public import Idealize.ShloMosaic.Lib.Tactic

@[expose] public section

set_option maxRecDepth 16384

noncomputable section

namespace Cert.FfnIdeal.Hidden

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FfnIdeal.Gen

variable {F : FTy → Type} [FloatOps F]

local notation "𝕄" => MT nD τ sig Unit (Elt F) ℕ (UR sig nD τ) ℕ

/-- A row tile lies inside the accumulator. -/
theorem tile_inb (n : ℕ) (h : n < 8) (a : Fin S4096x1024.rank) : (![512 * n, 0] : Fin 2 → ℕ) a + S512x1024.size a ≤ S4096x1024.size a := by
  fin_cases a
  · show 512 * n + 512 ≤ 4096
    omega
  · show 0 + 1024 ≤ 1024
    omega

theorem slice_inb (i : grid0.Coords) (a : Fin S4096x1024.rank) : (![512 * (i 1).val, 0] : Fin 2 → ℕ) a + S512x1024.size a ≤ S4096x1024.size a :=
  tile_inb _ (i 1).isLt a

/-- The rows of the accumulator that a point's row tile names. -/
abbrev slice (i : grid0.Coords) (X : Vec F S4096x1024 .f32) : Vec F S512x1024 .f32 :=
  VecWindow.window X ![512 * (i 1).val, 0] S512x1024.size (slice_inb i)

set_option maxHeartbeats 1000000 in
/-- In the first pass the body leaves the two gradients of its tile and puts its part over the row tile's slice. -/
theorem run_start (c : Dev nD) (i : grid0.Coords) (arg2 : Memref sig .tc .vmem S512x1024 .bf16) (harg2 : arg2.IsWhole) (arg3 : Memref sig .tc .vmem S1408x1024 .bf16) (harg3 : arg3.IsWhole) (arg4 : Memref sig .tc .vmem S512x1408 .bf16) (harg4 : arg4.IsWhole) (arg5 : Memref sig .tc .vmem S512x1408 .bf16) (harg5 : arg5.IsWhole) (arg6 : Memref sig .tc .vmem S1408x1024 .bf16) (harg6 : arg6.IsWhole) (arg7 : Memref sig .tc .vmem S1408x1024 .bf16) (harg7 : arg7.IsWhole) (arg8 : Memref sig .tc .vmem S512x1408 .bf16) (harg8 : arg8.IsWhole) (arg9 : Memref sig .tc .vmem S512x1408 .bf16) (harg9 : arg9.IsWhole) (arg10 : Memref sig .tc .vmem S512x1024 .bf16) (harg10 : arg10.IsWhole) (arg11 : Memref sig .tc .vmem S4096x1024 .f32) (harg11 : arg11.IsWhole)
    (x0 : Vec F S512x1024 .bf16) (x1 : Vec F S1408x1024 .bf16) (x2 : Vec F S512x1408 .bf16) (x3 : Vec F S512x1408 .bf16) (x4 : Vec F S1408x1024 .bf16) (x5 : Vec F S1408x1024 .bf16) (X : Vec F S4096x1024 .f32) (h1 : k0_cond1 i = 1#1) (h2 : ¬k0_cond2 i = 1#1) (h3 : ¬k0_cond3 i = 1#1) (E : Set ℕ) (Post : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg11 fullShare (X)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay4 x0 x1 x2) ∗ owns (c : Thread nD τ) arg9 fullShare (k0_pay5 x0 x1 x3) ∗ owns (c : Thread nD τ) arg11 fullShare (VecWindow.put X ![512 * (i 1).val, 0] S512x1024.size (k0_pay7 x0 x1 x2 x3 x4 x5))) -∗ Post ⟨⟩))
      ⊢ wp Idealize.ShloMosaic.frame (wpE (defs₀ (F := F)) Variants.none c none) E (cc0_d_ffn i arg2 harg2 arg3 harg3 arg4 harg4 arg5 harg5 arg6 harg6 arg7 harg7 arg8 harg8 arg9 harg9 arg10 harg10 arg11 harg11) Post := by
  simp only [cc0_d_ffn_eq_skeleton]; unfold cc0_d_ffn_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f9, %hf9, H9⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg11.eq_unread hf9
  have e0 : arg2.view.readAt (Elt F) (Rect.unit (s := S512x1024) ![0, 0] S512x1024.size inb_S512x1024_S512x1024_0_0).toLoadRect (harg2.unread x0) = x0 := (View.readAt_full _ _ _).trans (harg2.read_unread _)
  have e1 : arg3.view.readAt (Elt F) (Rect.unit (s := S1408x1024) ![0, 0] S1408x1024.size inb_S1408x1024_S1408x1024_0_0).toLoadRect (harg3.unread x1) = x1 := (View.readAt_full _ _ _).trans (harg3.read_unread _)
  have e2 : arg4.view.readAt (Elt F) (Rect.unit (s := S512x1408) ![0, 0] S512x1408.size inb_S512x1408_S512x1408_0_0).toLoadRect (harg4.unread x2) = x2 := (View.readAt_full _ _ _).trans (harg4.read_unread _)
  have e3 : arg5.view.readAt (Elt F) (Rect.unit (s := S512x1408) ![0, 0] S512x1408.size inb_S512x1408_S512x1408_0_0).toLoadRect (harg5.unread x3) = x3 := (View.readAt_full _ _ _).trans (harg5.read_unread _)
  have e4 : arg6.view.readAt (Elt F) (Rect.unit (s := S1408x1024) ![0, 0] S1408x1024.size inb_S1408x1024_S1408x1024_0_0).toLoadRect (harg6.unread x4) = x4 := (View.readAt_full _ _ _).trans (harg6.read_unread _)
  have e5 : arg7.view.readAt (Elt F) (Rect.unit (s := S1408x1024) ![0, 0] S1408x1024.size inb_S1408x1024_S1408x1024_0_0).toLoadRect (harg7.unread x5) = x5 := (View.readAt_full _ _ _).trans (harg7.read_unread _)
  sl_exec (disch := first | sl_exact h1 | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro; exact View.read_writes_full _ _ _ _ _
  isplitl [H7]
  · iexists _; isplitr; swap; · iexact H7
    ipureintro; exact View.read_writes_full _ _ _ _ _
  iexists _; isplitr; swap; · iexact H9
  ipureintro
  rw [View.read_writes_cons_put _ _ _ _ _ (k0_off1_eq i), View.writes_nil, harg11.read_unread]

set_option maxHeartbeats 1000000 in
/-- In the last pass the body leaves the two gradients of its tile, adds its part to the row tile's slice and writes the sum out. -/
theorem run_finish (c : Dev nD) (i : grid0.Coords) (arg2 : Memref sig .tc .vmem S512x1024 .bf16) (harg2 : arg2.IsWhole) (arg3 : Memref sig .tc .vmem S1408x1024 .bf16) (harg3 : arg3.IsWhole) (arg4 : Memref sig .tc .vmem S512x1408 .bf16) (harg4 : arg4.IsWhole) (arg5 : Memref sig .tc .vmem S512x1408 .bf16) (harg5 : arg5.IsWhole) (arg6 : Memref sig .tc .vmem S1408x1024 .bf16) (harg6 : arg6.IsWhole) (arg7 : Memref sig .tc .vmem S1408x1024 .bf16) (harg7 : arg7.IsWhole) (arg8 : Memref sig .tc .vmem S512x1408 .bf16) (harg8 : arg8.IsWhole) (arg9 : Memref sig .tc .vmem S512x1408 .bf16) (harg9 : arg9.IsWhole) (arg10 : Memref sig .tc .vmem S512x1024 .bf16) (harg10 : arg10.IsWhole) (arg11 : Memref sig .tc .vmem S4096x1024 .f32) (harg11 : arg11.IsWhole)
    (x0 : Vec F S512x1024 .bf16) (x1 : Vec F S1408x1024 .bf16) (x2 : Vec F S512x1408 .bf16) (x3 : Vec F S512x1408 .bf16) (x4 : Vec F S1408x1024 .bf16) (x5 : Vec F S1408x1024 .bf16) (X : Vec F S4096x1024 .f32) (h1 : ¬k0_cond1 i = 1#1) (h2 : k0_cond2 i = 1#1) (h3 : k0_cond3 i = 1#1) (E : Set ℕ) (Post : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare (X)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay4 x0 x1 x2) ∗ owns (c : Thread nD τ) arg9 fullShare (k0_pay5 x0 x1 x3) ∗ owns (c : Thread nD τ) arg10 fullShare (k0_pay2 (k0_pay1 (k0_pay6 x0 x1 x2 x3 x4 x5) (slice i X))) ∗ owns (c : Thread nD τ) arg11 fullShare (VecWindow.put X ![512 * (i 1).val, 0] S512x1024.size (k0_pay1 (k0_pay6 x0 x1 x2 x3 x4 x5) (slice i X)))) -∗ Post ⟨⟩))
      ⊢ wp Idealize.ShloMosaic.frame (wpE (defs₀ (F := F)) Variants.none c none) E (cc0_d_ffn i arg2 harg2 arg3 harg3 arg4 harg4 arg5 harg5 arg6 harg6 arg7 harg7 arg8 harg8 arg9 harg9 arg10 harg10 arg11 harg11) Post := by
  simp only [cc0_d_ffn_eq_skeleton]; unfold cc0_d_ffn_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg11.eq_unread hf9
  have e0 : arg2.view.readAt (Elt F) (Rect.unit (s := S512x1024) ![0, 0] S512x1024.size inb_S512x1024_S512x1024_0_0).toLoadRect (harg2.unread x0) = x0 := (View.readAt_full _ _ _).trans (harg2.read_unread _)
  have e1 : arg3.view.readAt (Elt F) (Rect.unit (s := S1408x1024) ![0, 0] S1408x1024.size inb_S1408x1024_S1408x1024_0_0).toLoadRect (harg3.unread x1) = x1 := (View.readAt_full _ _ _).trans (harg3.read_unread _)
  have e2 : arg4.view.readAt (Elt F) (Rect.unit (s := S512x1408) ![0, 0] S512x1408.size inb_S512x1408_S512x1408_0_0).toLoadRect (harg4.unread x2) = x2 := (View.readAt_full _ _ _).trans (harg4.read_unread _)
  have e3 : arg5.view.readAt (Elt F) (Rect.unit (s := S512x1408) ![0, 0] S512x1408.size inb_S512x1408_S512x1408_0_0).toLoadRect (harg5.unread x3) = x3 := (View.readAt_full _ _ _).trans (harg5.read_unread _)
  have e4 : arg6.view.readAt (Elt F) (Rect.unit (s := S1408x1024) ![0, 0] S1408x1024.size inb_S1408x1024_S1408x1024_0_0).toLoadRect (harg6.unread x4) = x4 := (View.readAt_full _ _ _).trans (harg6.read_unread _)
  have e5 : arg7.view.readAt (Elt F) (Rect.unit (s := S1408x1024) ![0, 0] S1408x1024.size inb_S1408x1024_S1408x1024_0_0).toLoadRect (harg7.unread x5) = x5 := (View.readAt_full _ _ _).trans (harg7.read_unread _)
  sl_exec (disch := first | sl_exact h1 | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro; exact View.read_writes_full _ _ _ _ _
  isplitl [H7]
  · iexists _; isplitr; swap; · iexact H7
    ipureintro; exact View.read_writes_full _ _ _ _ _
  isplitl [H8]
  · iexists _; isplitr; swap; · iexact H8
    ipureintro
    refine (View.read_writes_full _ _ _ _ _).trans ?_
    unfold run_finish.sl.v36_1 run_finish.sl.H9_1 run_finish.sl.v36 View.readCov
    rw [View.readAt_unit _ _ _ (k0_off3_eq i) (slice_inb i), View.read_writes_cons_put _ _ _ _ _ (k0_off2_eq i), VecWindow.window_put_same,
      View.readAt_unit _ _ _ (k0_off2_eq i) (slice_inb i), harg11.read_unread]
  iexists _; isplitr; swap; · iexact H9
  ipureintro
  unfold run_finish.sl.H9_1 run_finish.sl.v36
  rw [View.read_writes_cons_put _ _ _ _ _ (k0_off2_eq i), View.writes_nil,
    View.readAt_unit _ _ _ (k0_off2_eq i) (slice_inb i), harg11.read_unread]

end Cert.FfnIdeal.Hidden

end
-- ==== Proof.FfnRun.lean ====
/- The run of the feed-forward's backward call, over any float values: what the accumulator holds before each point, the
   obligation at a point, the launch and the frame. -/
module

public import proofs.«01_k».proof.Proof.FfnBody
public import Idealize.ShloMosaic.Lib.Claim

@[expose] public section

set_option maxRecDepth 16384

noncomputable section

namespace Cert.FfnIdeal.Hidden

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.FfnIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid's points -/

/-- The hidden column tile of point `t` (the grid is column tile by row tile, eight row tiles to a column tile), -/
theorem col_val (t : Fin cfg0.N) : (grid0.coords t 0).val = t.val / 8 := by
  have h : t.val < 16 := lt_of_lt_of_eq t.isLt (show cfg0.N = 16 from N_0)
  refine (Pipeline.Grid.coords_val t 0 (by decide) rfl : (grid0.coords t 0).val = t.val / 8 % 2).trans ?_
  omega

/-- and its row tile. -/
theorem row_val (t : Fin cfg0.N) : (grid0.coords t 1).val = t.val % 8 :=
  (Pipeline.Grid.coords_val t 1 (by decide) rfl : (grid0.coords t 1).val = t.val / 1 % 8).trans (by rw [Nat.div_one])

theorem cond1_iff : ∀ i : grid0.Coords, k0_cond1 i = 1#1 ↔ (i 0).val = 0 := by decide +kernel
theorem cond2_iff : ∀ i : grid0.Coords, k0_cond2 i = 1#1 ↔ (i 0).val = 1 := by decide +kernel
theorem cond3_iff : ∀ i : grid0.Coords, k0_cond3 i = 1#1 ↔ (i 0).val = 1 := by decide +kernel

/-- The input gradient is written back in the second pass. -/
theorem flush0_8 : ∀ t : Fin cfg0.N, (cfg0.win 8).flush t = true ↔ 8 ≤ t.val :=
  (by decide +kernel : ∀ t : Fin grid0.N, win0_8.flush t = true ↔ 8 ≤ t.val)

/-- The point numbered `n`. -/
def pt (n : ℕ) : Fin cfg0.N := ⟨n % 16, lt_of_lt_of_eq (Nat.mod_lt _ (by decide)) (show cfg0.N = 16 from N_0).symm⟩

theorem pt_val (t : Fin cfg0.N) : pt t.val = t :=
  Fin.ext (Nat.mod_eq_of_lt (lt_of_lt_of_eq t.isLt (show cfg0.N = 16 from N_0)))

/-! ## What the body leaves -/

/-- The block of dff at a point. -/
abbrev bo (c : Dev nD) (t : Fin cfg0.N) : FVec F S512x1024 .bf16 := iblk m c 0 t
/-- The block of w_down at a point. -/
abbrev bd (c : Dev nD) (t : Fin cfg0.N) : FVec F S1408x1024 .bf16 := iblk m c 1 t
/-- The block of the gate's saved derivative at a point. -/
abbrev bg (c : Dev nD) (t : Fin cfg0.N) : FVec F S512x1408 .bf16 := iblk m c 2 t
/-- The block of the up half's saved derivative at a point. -/
abbrev bu (c : Dev nD) (t : Fin cfg0.N) : FVec F S512x1408 .bf16 := iblk m c 3 t
/-- The block of w_gate at a point. -/
abbrev bwg (c : Dev nD) (t : Fin cfg0.N) : FVec F S1408x1024 .bf16 := iblk m c 4 t
/-- The block of w_up at a point. -/
abbrev bwu (c : Dev nD) (t : Fin cfg0.N) : FVec F S1408x1024 .bf16 := iblk m c 5 t

/-- What point `n` leaves in its row tile's slice of the accumulator: its own part in the first pass, the sum of both in the second. -/
def sumAt (c : Dev nD) (n : ℕ) : Vec F S512x1024 .f32 :=
  if n < 8 then k0_pay7 (bo m c (pt n)) (bd m c (pt n)) (bg m c (pt n)) (bu m c (pt n)) (bwg m c (pt n)) (bwu m c (pt n))
  else k0_pay1 (k0_pay6 (bo m c (pt n)) (bd m c (pt n)) (bg m c (pt n)) (bu m c (pt n)) (bwg m c (pt n)) (bwu m c (pt n))) (k0_pay7 (bo m c (pt (n - 8))) (bd m c (pt (n - 8))) (bg m c (pt (n - 8))) (bu m c (pt (n - 8))) (bwg m c (pt (n - 8))) (bwu m c (pt (n - 8))))

theorem sumAt_start (c : Dev nD) (t : Fin cfg0.N) (h : t.val < 8) : sumAt m c t.val = k0_pay7 (bo m c t) (bd m c t) (bg m c t) (bu m c t) (bwg m c t) (bwu m c t) := by
  unfold sumAt; rw [if_pos h, pt_val]

theorem sumAt_finish (c : Dev nD) (t : Fin cfg0.N) (h : ¬t.val < 8) :
    sumAt m c t.val = k0_pay1 (k0_pay6 (bo m c t) (bd m c t) (bg m c t) (bu m c t) (bwg m c t) (bwu m c t)) (sumAt m c (t.val - 8)) := by
  have ht : t.val < 16 := lt_of_lt_of_eq t.isLt (show cfg0.N = 16 from N_0)
  unfold sumAt; rw [if_neg h, if_pos (by omega), pt_val]

/-- The accumulator before point `n`: each row tile visited so far holds what its latest point left. -/
def Holds (c : Dev nD) (n : ℕ) (X : Vec F S4096x1024 .f32) : Prop :=
  ∀ k : ℕ, k < n → n ≤ k + 8 → ∀ h : k % 8 < 8, VecWindow.window X ![512 * (k % 8), 0] S512x1024.size (tile_inb (k % 8) h) = sumAt m c k

theorem holds_zero (c : Dev nD) (X : Vec F S4096x1024 .f32) : Holds m c 0 X := fun k h => absurd h (Nat.not_lt_zero k)

/-- A point puts its sum over its own row tile and leaves the others alone. -/
theorem holds_succ (c : Dev nD) (n r : ℕ) (hr : r = n % 8) (X : Vec F S4096x1024 .f32) (hX : Holds m c n X) (w : Vec F S512x1024 .f32) (hw : sumAt m c n = w) :
    Holds m c (n + 1) (VecWindow.put X ![512 * r, 0] S512x1024.size w) := by
  subst hr
  intro k h1 h2 h
  by_cases hk : k = n
  · subst hk
    exact (VecWindow.window_put_same X ![512 * (k % 8), 0] S512x1024.size (tile_inb (k % 8) h) w).trans hw.symm
  · rw [VecWindow.window_put_of_disjoint X _ _ _ _ (tile_inb (k % 8) h) w 0 (by
      show 512 * (k % 8) + 512 ≤ 512 * (n % 8) ∨ 512 * (n % 8) + 512 ≤ 512 * (k % 8)
      omega)]
    exact hX k (by omega) (by omega) h

/-- In the second pass a point finds in its slice what the first pass left there. -/
theorem holds_slice (c : Dev nD) (t : Fin cfg0.N) (h : ¬t.val < 8) (X : Vec F S4096x1024 .f32) (hX : Holds m c t.val X) :
    slice (grid0.coords t) X = sumAt m c (t.val - 8) := by
  rw [← hX (t.val - 8) (by omega) (by omega) (Nat.mod_lt _ (by decide))]
  have e : ∀ a b : ℕ, a = b → ∀ ha hb, VecWindow.window X ![512 * a, 0] S512x1024.size ha = VecWindow.window X ![512 * b, 0] S512x1024.size hb := by
    rintro a _ rfl _ _; rfl
  exact e _ _ (by rw [row_val]; omega) _ _

/-- What is known before point `n`: the accumulator, and the generator register at some state. -/
def Phi (c : Dev nD) (n : ℕ) : sProp 𝕄 :=
  iprop((∃ X, owns (c : Thread nD τ) (Memref.whole cc0_scratch0) fullShare X ∗ ⌜Holds m c n X⌝) ∗ ∃ r, prngReg c r)

/-- What the pipeline knows at each point: the arrays as the host lines leave them, each input's block, and the three
    gradients' blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay4 (bo m c t) (bd m c t) (bg m c t)
    | ⟨7, _⟩ => k0_pay5 (bo m c t) (bd m c t) (bu m c t)
    | ⟨8, _⟩ => k0_pay2 (sumAt m c t.val)
  Φ t := Phi m c t.val
  q _ := fullShare
  owed _ := 0

theorem dats_A (c : Dev nD) (w : Fin cfg0.W) : (dats m 0 c).A w = V m c (Pipeline.arrRef spec0 w) := by
  dsimp only [dats]

theorem left_0 (c : Dev nD) (t : Fin cfg0.N) : (dats m 0 c).after 0 t = iblk m c 0 t := by dsimp only [dats]
theorem found_0 (c : Dev nD) (t : Fin cfg0.N) (d) : (dats m 0 c).before 0 t d = iblk m c 0 t :=
  before0_0_of m (dats m 0 c) (dats_A m c 0) (left_0 m c) t d
theorem left_1 (c : Dev nD) (t : Fin cfg0.N) : (dats m 0 c).after 1 t = iblk m c 1 t := by dsimp only [dats]
theorem found_1 (c : Dev nD) (t : Fin cfg0.N) (d) : (dats m 0 c).before 1 t d = iblk m c 1 t :=
  before0_1_of m (dats m 0 c) (dats_A m c 1) (left_1 m c) t d
theorem left_2 (c : Dev nD) (t : Fin cfg0.N) : (dats m 0 c).after 2 t = iblk m c 2 t := by dsimp only [dats]
theorem found_2 (c : Dev nD) (t : Fin cfg0.N) (d) : (dats m 0 c).before 2 t d = iblk m c 2 t :=
  before0_2_of m (dats m 0 c) (dats_A m c 2) (left_2 m c) t d
theorem left_3 (c : Dev nD) (t : Fin cfg0.N) : (dats m 0 c).after 3 t = iblk m c 3 t := by dsimp only [dats]
theorem found_3 (c : Dev nD) (t : Fin cfg0.N) (d) : (dats m 0 c).before 3 t d = iblk m c 3 t :=
  before0_3_of m (dats m 0 c) (dats_A m c 3) (left_3 m c) t d
theorem left_4 (c : Dev nD) (t : Fin cfg0.N) : (dats m 0 c).after 4 t = iblk m c 4 t := by dsimp only [dats]
theorem found_4 (c : Dev nD) (t : Fin cfg0.N) (d) : (dats m 0 c).before 4 t d = iblk m c 4 t :=
  before0_4_of m (dats m 0 c) (dats_A m c 4) (left_4 m c) t d
theorem left_5 (c : Dev nD) (t : Fin cfg0.N) : (dats m 0 c).after 5 t = iblk m c 5 t := by dsimp only [dats]
theorem found_5 (c : Dev nD) (t : Fin cfg0.N) (d) : (dats m 0 c).before 5 t d = iblk m c 5 t :=
  before0_5_of m (dats m 0 c) (dats_A m c 5) (left_5 m c) t d
theorem left_6 (c : Dev nD) (t : Fin cfg0.N) : (dats m 0 c).after 6 t = k0_pay4 (bo m c t) (bd m c t) (bg m c t) := by dsimp only [dats]
theorem left_7 (c : Dev nD) (t : Fin cfg0.N) : (dats m 0 c).after 7 t = k0_pay5 (bo m c t) (bd m c t) (bu m c t) := by dsimp only [dats]
theorem left_8 (c : Dev nD) (t : Fin cfg0.N) : (dats m 0 c).after 8 t = k0_pay2 (sumAt m c t.val) := by dsimp only [dats]

theorem phi_before (c : Dev nD) (t : Fin cfg0.N) : (dats m 0 c).Φ t.castSucc = Phi m c t.val := by
  dsimp only [dats]; exact Pipeline.Dat.Φ_castSucc (fun n _ => Phi m c n) t
theorem phi_after (c : Dev nD) (t : Fin cfg0.N) : (dats m 0 c).Φ t.succ = Phi m c (t.val + 1) := by
  dsimp only [dats]; exact congrArg (Phi m c) (Fin.val_succ t)

/-- In the first pass the input gradient's window is idle, -/
theorem idle_start (t : Fin cfg0.N) (h : t.val < 8) : cfg0.idle 8 (cfg0.grid.coords t) = true := by
  have e : ¬k0_cond3 (grid0.coords t) = 1#1 := fun e => by have := (cond3_iff _).mp e; rw [col_val] at this; omega
  show (!(k0_cond3 (grid0.coords t) == 1#1)) = true
  rw [beq_eq_false_iff_ne.mpr e]; rfl

/-- and in the second it is not. -/
theorem idle_finish (t : Fin cfg0.N) (h : ¬t.val < 8) : cfg0.idle 8 (cfg0.grid.coords t) = false := by
  have ht : t.val < 16 := lt_of_lt_of_eq t.isLt (show cfg0.N = 16 from N_0)
  have e : k0_cond3 (grid0.coords t) = 1#1 := (cond3_iff _).mpr (by rw [col_val]; omega)
  show (!(k0_cond3 (grid0.coords t) == 1#1)) = false
  rw [e]; rfl

theorem leaves_start (c : Dev nD) (t : Fin cfg0.N) (h : t.val < 8) :
    (dats m 0 c).leavesExact 8 t = iprop(∃ d, owns (c : Thread nD τ) (st0_8 t) fullShare ((dats m 0 c).before 8 t d)) :=
  (dats m 0 c).leavesExact_idle 8 t (idle_start t h) (Bool.eq_false_iff.mpr fun e => by have := (flush0_8 t).mp e; omega)

theorem leaves_finish (c : Dev nD) (t : Fin cfg0.N) (h : ¬t.val < 8) :
    (dats m 0 c).leavesExact 8 t = owns (c : Thread nD τ) (st0_8 t) fullShare ((dats m 0 c).after 8 t) := by
  unfold Dat.leavesExact; rw [idle_finish t h]

/-! ## The obligation at a point -/

/-- What the body is called with at a point, -/
def atPoint (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def donePoint (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ (dats m 0 c).leavesExact 8 t)

set_option maxHeartbeats 1600000 in
/-- The body does this at every point, in either pass. -/
theorem point (c : Dev nD) (t : Fin cfg0.N) :
    atPoint m c t ⊢ wp frame (wpE (defs₀ (F := F)) Variants.none c none) Set.univ (bodyAt0 t) (fun _ => donePoint m c t) := by
  have ht : t.val < 16 := lt_of_lt_of_eq t.isLt (show cfg0.N = 16 from N_0)
  unfold atPoint donePoint bodyAt0
  simp only [found_0, found_1, found_2, found_3, found_4, found_5]
  rw [phi_before, phi_after, show (dats m 0 c).owesAt () t.succ = (dats m 0 c).owesAt () t.castSucc from rfl,
    left_0, left_1, left_2, left_3, left_4, left_5, left_6, left_7]
  unfold Phi
  by_cases h : t.val < 8
  · rw [leaves_start m c t h]
    iintro ⟨⟨⟨%X, HX, %hX⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_start c (grid0.coords t) _ _ _ _ _ _ _ _ _ _ _ _ _ _ _ _ _ _ _ _ (bo m c t) (bd m c t) (bg m c t) (bu m c t) (bwg m c t) (bwu m c t) X ((cond1_iff _).mpr (by rw [col_val]; omega)) (fun e => by have := (cond2_iff _).mp e; rw [col_val] at this; omega) (fun e => by have := (cond3_iff _).mp e; rw [col_val] at this; omega) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HX]; · iexact HX
    iintro ⟨H0, H1, H2, H3, H4, H5, H6, H7, HX⟩
    isplitl [HX Hr]
    · isplitl [HX]
      · iexists _; isplitl [HX]; · iexact HX
        ipureintro; exact holds_succ m c t.val _ (row_val t) X hX _ (sumAt_start m c t h)
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact H8
  · rw [leaves_finish m c t h, left_8]
    iintro ⟨⟨⟨%X, HX, %hX⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_finish c (grid0.coords t) _ _ _ _ _ _ _ _ _ _ _ _ _ _ _ _ _ _ _ _ (bo m c t) (bd m c t) (bg m c t) (bu m c t) (bwg m c t) (bwu m c t) X (fun e => by have := (cond1_iff _).mp e; rw [col_val] at this; omega) ((cond2_iff _).mpr (by rw [col_val]; omega)) ((cond3_iff _).mpr (by rw [col_val]; omega)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HX]; · iexact HX
    iintro ⟨H0, H1, H2, H3, H4, H5, H6, H7, H8, HX⟩
    rw [holds_slice m c t h X hX, ← sumAt_finish m c t h]
    isplitl [HX Hr]
    · isplitl [HX]
      · iexists _; isplitl [HX]; · iexact HX
        ipureintro; exact holds_succ m c t.val _ (row_val t) X hX _ rfl
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem obligation (c : Dev nD) : BodyObligation (dats m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  exact triple_restated (point m c t) rfl .rfl fun _ => .rfl

/-! ## The launch -/

/-- Before the first point the accumulator holds anything, -/
theorem enter (c : Dev nD) : Pipeline.ΦA spec0 c ⊢ (dats m 0 c).Φ 0 := by
  rw [show (dats m 0 c).Φ 0 = Phi m c 0 by dsimp only [dats]; rfl]
  unfold Pipeline.ΦA Phi
  rw [scopedRest0_eq]
  simp only [owns_whole]
  iintro ⟨⟨%f, H⟩, Hr⟩
  isplitl [H]
  · iexists f
    isplitl [H]
    · iexact H
    ipureintro; exact holds_zero m c f
  iexact Hr

/-- and after the last one what it holds is forgotten. -/
theorem leave (c : Dev nD) : (dats m 0 c).Φ (Fin.last cfg0.N) ⊢ Pipeline.ΦA spec0 c := by
  rw [show (dats m 0 c).Φ (Fin.last cfg0.N) = Phi m c cfg0.N by dsimp only [dats]; rfl]
  unfold Pipeline.ΦA Phi
  rw [scopedRest0_eq]
  simp only [owns_whole]
  iintro ⟨⟨%f, H, -⟩, Hr⟩
  isplitl [H]
  · iexists f
    iexact H
  iexact Hr

set_option backward.isDefEq.respectTransparency.types false in
/-- Every execution ends with the arrays as the write-backs leave them and every semaphore at zero. -/
theorem launch : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := dats_A m) (hin := enter m) (hout := leave m)

/-- The frame: the call ends, with its arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (dats_A m) ((θ_run defs _ _).mono (fun _ h => h.1) (launch m ρ)))
    ((θ_run defs _ _).mono (fun _ h => h.2) (launch m ρ))

end Cert.FfnIdeal.Hidden

end
-- ==== Proof.FfnValues.lean ====
/- The three arrays that the feed-forward's backward call leaves, and the reference's, over real arguments. -/
module

public import proofs.«01_k».proof.Proof.FfnRun
public import proofs.«01_k».proof.Proof.InValues
public import proofs.«01_k».proof.Proof.Gen.FfnReferenceIdeal.Read

@[expose] public section

set_option maxRecDepth 16384

noncomputable section

namespace Cert.Gated

/-- A sum over the hidden columns is the sum over the two column tiles. -/
theorem sum_tiles (F : Fin 2816 → ℝ) :
    ∑ f, F f = (∑ f : Fin 1408, F ⟨f.val, by omega⟩) + ∑ f : Fin 1408, F ⟨1408 + f.val, by omega⟩ :=
  Fin.sum_univ_add (a := 1408) (b := 1408) F

end Cert.Gated

namespace Cert.FfnIdeal.Hidden

open Idealize.ShloMosaic Idealize.ShloMosaic.TcCoe Cert.FfnIdeal Cert.FfnIdeal.Gen Cert.Attn Cert.Gated

/-! ## The body -/

section Body

variable (o : Vec Ideal S512x1024 .bf16) (d : Vec Ideal S1408x1024 .bf16) (g u : Vec Ideal S512x1408 .bf16) (wg wu : Vec Ideal S1408x1024 .bf16)

theorem dact_at (r : Fin 512) (f : Fin 1408) : k0_pay3 (F := Ideal) o d (ix2 r f) = ∑ k : Fin 1024, o (ix2 r k) * d (ix2 f k) := by
  unfold k0_pay3
  pointwise

theorem gate_at (r : Fin 512) (f : Fin 1408) : k0_pay4 (F := Ideal) o d g (ix2 r f) = k0_pay3 (F := Ideal) o d (ix2 r f) * g (ix2 r f) := by
  unfold k0_pay4
  generalize k0_pay3 (F := Ideal) o d = z
  pointwise

theorem up_at (r : Fin 512) (f : Fin 1408) : k0_pay5 (F := Ideal) o d u (ix2 r f) = k0_pay3 (F := Ideal) o d (ix2 r f) * u (ix2 r f) := by
  unfold k0_pay5
  generalize k0_pay3 (F := Ideal) o d = z
  pointwise

theorem input_at (r : Fin 512) (x : Fin 1024) : k0_pay6 (F := Ideal) o d g u wg wu (ix2 r x)
    = (∑ f : Fin 1408, k0_pay4 (F := Ideal) o d g (ix2 r f) * wg (ix2 f x)) + ∑ f : Fin 1408, k0_pay5 (F := Ideal) o d u (ix2 r f) * wu (ix2 f x) := by
  unfold k0_pay6
  generalize k0_pay4 (F := Ideal) o d g = z
  generalize k0_pay5 (F := Ideal) o d u = z'
  pointwise

theorem first_at (r : Fin 512) (x : Fin 1024) : k0_pay7 (F := Ideal) o d g u wg wu (ix2 r x) = k0_pay6 (F := Ideal) o d g u wg wu (ix2 r x) := by
  unfold k0_pay7
  generalize k0_pay6 (F := Ideal) o d g u wg wu = z
  pointwise

theorem next_at (z : FVec Ideal S512x1024 .f32) (w : Vec Ideal S512x1024 .f32) (i : S512x1024.Idx) : k0_pay1 (F := Ideal) z w i = w i + z i := by
  idx_vars i
  unfold k0_pay1
  pointwise

end Body

/-! ## The arrays and the blocks -/

section Any

variable (m : (ℓ : Loc nD τ sig) → Buf (Elt Ideal) ℓ) (c : Dev nD)

abbrev argH : FVec Ideal S4096x1024 .f32 := m (c, Proc.tc.devRef main_arg0)
abbrev argG : FVec Ideal S1024x2816 .f32 := m (c, Proc.tc.devRef main_arg1)
abbrev argU : FVec Ideal S1024x2816 .f32 := m (c, Proc.tc.devRef main_arg2)
abbrev argW : FVec Ideal S2816x1024 .f32 := m (c, Proc.tc.devRef main_arg3)
abbrev argO : FVec Ideal S4096x1024 .f32 := m (c, Proc.tc.devRef main_arg4)

theorem arr_o (r : Fin 4096) (k : Fin 1024) : (V m c main_v8 : FVec Ideal S4096x1024 .bf16) (ix2 r k) = argO m c (ix2 r k) := by
  unfold V hostOps0 hostOps0_1 hostOps0_2 hostOps0_3 hostOps0_4
  simp only [List.flatten_cons, List.flatten_nil, List.append_nil, List.cons_append, List.nil_append]
  after_reads_at
theorem arr_d (f : Fin 2816) (k : Fin 1024) : (V m c main_v9 : FVec Ideal S2816x1024 .bf16) (ix2 f k) = argW m c (ix2 f k) := by
  unfold V hostOps0 hostOps0_1 hostOps0_2 hostOps0_3 hostOps0_4
  simp only [List.flatten_cons, List.flatten_nil, List.append_nil, List.cons_append, List.nil_append]
  after_reads_at
theorem arr_wg (f : Fin 2816) (k : Fin 1024) : (V m c main_v13 : FVec Ideal S2816x1024 .bf16) (ix2 f k) = argG m c (ix2 k f) := by
  unfold V hostOps0 hostOps0_1 hostOps0_2 hostOps0_3 hostOps0_4
  simp only [List.flatten_cons, List.flatten_nil, List.append_nil, List.cons_append, List.nil_append]
  after_reads_at
theorem arr_wu (f : Fin 2816) (k : Fin 1024) : (V m c main_v15 : FVec Ideal S2816x1024 .bf16) (ix2 f k) = argU m c (ix2 k f) := by
  unfold V hostOps0 hostOps0_1 hostOps0_2 hostOps0_3 hostOps0_4
  simp only [List.flatten_cons, List.flatten_nil, List.append_nil, List.cons_append, List.nil_append]
  after_reads_at

/-- The saved derivatives are those of the forward call's reference. -/
theorem arr_g : (V m c main_v10 : FVec Ideal S4096x2816 .bf16) = Cert.InReferenceIdeal.Read.val_main_v9 (F := Ideal) (argH m c) (argG m c) (argU m c) := by
  unfold V hostOps0 hostOps0_1 hostOps0_2 hostOps0_3 hostOps0_4
  simp only [List.flatten_cons, List.flatten_nil, List.append_nil, List.cons_append, List.nil_append]
  after_reads_simp
  rfl
theorem arr_u : (V m c main_v11 : FVec Ideal S4096x2816 .bf16) = Cert.InReferenceIdeal.Read.val_main_v10 (F := Ideal) (argH m c) (argG m c) := by
  unfold V hostOps0 hostOps0_1 hostOps0_2 hostOps0_3 hostOps0_4
  simp only [List.flatten_cons, List.flatten_nil, List.append_nil, List.cons_append, List.nil_append]
  after_reads_simp
  rfl

/-- Where each window's block stands at a point. -/
theorem places : ∀ t : Fin cfg0.N, (win0_0.index t = ![t.val % 8, 0] ∧ win0_1.index t = ![t.val / 8, 0] ∧ win0_2.index t = ![t.val % 8, t.val / 8])
    ∧ (win0_3.index t = ![t.val % 8, t.val / 8] ∧ win0_4.index t = ![t.val / 8, 0] ∧ win0_5.index t = ![t.val / 8, 0])
    ∧ (win0_6.index t = ![t.val % 8, t.val / 8] ∧ win0_7.index t = ![t.val % 8, t.val / 8] ∧ (8 ≤ t.val → win0_8.index t = ![t.val % 8, 0])) := by
  decide +kernel

theorem lt16 (t : Fin cfg0.N) : t.val < 16 := lt_of_lt_of_eq t.isLt (show cfg0.N = 16 from N_0)

/-- The row and the hidden column that a place of a point's tile is. -/
def row (t : Fin cfg0.N) (r : Fin 512) : Fin 4096 := ⟨t.val % 8 * 512 + r.val, by omega⟩
def col (t : Fin cfg0.N) (f : Fin 1408) : Fin 2816 := ⟨t.val / 8 * 1408 + f.val, by have := lt16 t; omega⟩

theorem block_o (t : Fin cfg0.N) (r : Fin 512) (k : Fin 1024) : bo m c t (ix2 r k) = argO m c (ix2 (row t r) k) := by
  have e : ∀ A : FVec Ideal S4096x1024 .bf16, ((cfg0.win 0).blk t).view.read (Elt Ideal) A (ix2 r k) = A (ix2 (row t r) k) := fun A => by
    unfold row
    blk_ext [(places t).1.1]
  exact (e (V m c main_v8)).trans (arr_o m c _ _)
theorem block_d (t : Fin cfg0.N) (f : Fin 1408) (k : Fin 1024) : bd m c t (ix2 f k) = argW m c (ix2 (col t f) k) := by
  have e : ∀ A : FVec Ideal S2816x1024 .bf16, ((cfg0.win 1).blk t).view.read (Elt Ideal) A (ix2 f k) = A (ix2 (col t f) k) := fun A => by
    unfold col
    blk_ext [(places t).1.2.1]
  exact (e (V m c main_v9)).trans (arr_d m c _ _)
theorem block_g (t : Fin cfg0.N) (r : Fin 512) (f : Fin 1408) : bg m c t (ix2 r f) = Cert.InReferenceIdeal.Read.val_main_v9 (F := Ideal) (argH m c) (argG m c) (argU m c) (ix2 (row t r) (col t f)) := by
  have e : ∀ A : FVec Ideal S4096x2816 .bf16, ((cfg0.win 2).blk t).view.read (Elt Ideal) A (ix2 r f) = A (ix2 (row t r) (col t f)) := fun A => by
    unfold row col
    blk_ext [(places t).1.2.2]
  exact (e (V m c main_v10)).trans (congrFun (arr_g m c) _)
theorem block_u (t : Fin cfg0.N) (r : Fin 512) (f : Fin 1408) : bu m c t (ix2 r f) = Cert.InReferenceIdeal.Read.val_main_v10 (F := Ideal) (argH m c) (argG m c) (ix2 (row t r) (col t f)) := by
  have e : ∀ A : FVec Ideal S4096x2816 .bf16, ((cfg0.win 3).blk t).view.read (Elt Ideal) A (ix2 r f) = A (ix2 (row t r) (col t f)) := fun A => by
    unfold row col
    blk_ext [(places t).2.1.1]
  exact (e (V m c main_v11)).trans (congrFun (arr_u m c) _)
theorem block_wg (t : Fin cfg0.N) (f : Fin 1408) (k : Fin 1024) : bwg m c t (ix2 f k) = argG m c (ix2 k (col t f)) := by
  have e : ∀ A : FVec Ideal S2816x1024 .bf16, ((cfg0.win 4).blk t).view.read (Elt Ideal) A (ix2 f k) = A (ix2 (col t f) k) := fun A => by
    unfold col
    blk_ext [(places t).2.1.2.1]
  exact (e (V m c main_v13)).trans (arr_wg m c _ _)
theorem block_wu (t : Fin cfg0.N) (f : Fin 1408) (k : Fin 1024) : bwu m c t (ix2 f k) = argU m c (ix2 k (col t f)) := by
  have e : ∀ A : FVec Ideal S2816x1024 .bf16, ((cfg0.win 5).blk t).view.read (Elt Ideal) A (ix2 f k) = A (ix2 (col t f) k) := fun A => by
    unfold col
    blk_ext [(places t).2.1.2.2]
  exact (e (V m c main_v15)).trans (arr_wu m c _ _)

end Any

/-! ## The three results -/

/-- The arguments of device `c` are the reals `ah`, `ag`, `au`, `aw` and `ad`. -/
structure Reals (m : (ℓ : Loc nD τ sig) → Buf (Elt Ideal) ℓ) (c : Dev nD) (ah : Fin 4096 → Fin 1024 → ℝ) (ag au : Fin 1024 → Fin 2816 → ℝ)
    (aw : Fin 2816 → Fin 1024 → ℝ) (ad : Fin 4096 → Fin 1024 → ℝ) : Prop where
  h : ∀ r k, argH m c (ix2 r k) = ((ah r k : ℝ) : EReal)
  g : ∀ k f, argG m c (ix2 k f) = ((ag k f : ℝ) : EReal)
  u : ∀ k f, argU m c (ix2 k f) = ((au k f : ℝ) : EReal)
  w : ∀ f k, argW m c (ix2 f k) = ((aw f k : ℝ) : EReal)
  o : ∀ r k, argO m c (ix2 r k) = ((ad r k : ℝ) : EReal)

variable {m : (ℓ : Loc nD τ sig) → Buf (Elt Ideal) ℓ} {c : Dev nD} {ah : Fin 4096 → Fin 1024 → ℝ} {ag au : Fin 1024 → Fin 2816 → ℝ}
  {aw : Fin 2816 → Fin 1024 → ℝ} {ad : Fin 4096 → Fin 1024 → ℝ}

section Blocks

variable (R : Reals m c ah ag au aw ad) (t : Fin cfg0.N)

include R

theorem dact_val (r : Fin 512) (f : Fin 1408) :
    k0_pay3 (F := Ideal) (bo m c t) (bd m c t) (ix2 r f) = ((dact aw ad (row t r) (col t f) : ℝ) : EReal) := by
  rw [dact_at]
  exact coe_dot _ _ (fun k => (block_o m c t r k).trans (R.o _ _)) fun k => (block_d m c t f k).trans (R.w _ _)

theorem gate_val (r : Fin 512) (f : Fin 1408) :
    k0_pay4 (F := Ideal) (bo m c t) (bd m c t) (bg m c t) (ix2 r f) = ((dgate ah ag au aw ad (row t r) (col t f) : ℝ) : EReal) := by
  have e : bg m c t (ix2 r f) = ((byGate ah ag au (row t r) (col t f) : ℝ) : EReal) :=
    (block_g m c t r f).trans (congrFun (Cert.InReferenceIdeal.Hidden.result_byGate R.h R.g R.u) _)
  rw [gate_at, dact_val R, e, ← EReal.coe_mul]
  rfl

theorem up_val (r : Fin 512) (f : Fin 1408) :
    k0_pay5 (F := Ideal) (bo m c t) (bd m c t) (bu m c t) (ix2 r f) = ((dup ah ag aw ad (row t r) (col t f) : ℝ) : EReal) := by
  have e : bu m c t (ix2 r f) = ((byUp ah ag (row t r) (col t f) : ℝ) : EReal) :=
    (block_u m c t r f).trans (congrFun (Cert.InReferenceIdeal.Hidden.result_byUp R.h R.g) _)
  rw [up_at, dact_val R, e, ← EReal.coe_mul]
  rfl

theorem input_val (r : Fin 512) (x : Fin 1024) :
    k0_pay6 (F := Ideal) (bo m c t) (bd m c t) (bg m c t) (bu m c t) (bwg m c t) (bwu m c t) (ix2 r x)
      = (((∑ f, dgate ah ag au aw ad (row t r) (col t f) * ag x (col t f)) + ∑ f, dup ah ag aw ad (row t r) (col t f) * au x (col t f) : ℝ) : EReal) := by
  rw [input_at, EReal.coe_add]
  exact congrArg₂ (· + ·) (coe_dot _ _ (fun f => gate_val R t r f) fun f => (block_wg m c t f x).trans (R.g _ _))
    (coe_dot _ _ (fun f => up_val R t r f) fun f => (block_wu m c t f x).trans (R.u _ _))

/-- What the accumulator's tile holds in the second pass. -/
theorem sum_val (ht : 8 ≤ t.val) (r : Fin 512) (x : Fin 1024) :
    sumAt m c t.val (ix2 r x) = ((dinput ah ag au aw ad (row t r) x : ℝ) : EReal) := by
  have h16 := lt16 t
  have hp : (⟨t.val - 8, lt_of_le_of_lt (Nat.sub_le _ _) t.isLt⟩ : Fin cfg0.N).val < 8 := by show t.val - 8 < 8; omega
  have e1 := sumAt_start (F := Ideal) m c (t := ⟨t.val - 8, lt_of_le_of_lt (Nat.sub_le _ _) t.isLt⟩) hp
  have e1' : sumAt m c (t.val - 8) (ix2 r x) = _ := (congrFun e1 (ix2 r x)).trans ((first_at _ _ _ _ _ _ r x).trans (input_val R _ r x))
  rw [sumAt_finish (F := Ideal) m c (t := t) (by omega), next_at, e1', input_val R t r x, ← EReal.coe_add]
  have hr : row (⟨t.val - 8, lt_of_le_of_lt (Nat.sub_le _ _) t.isLt⟩ : Fin cfg0.N) r = row t r :=
    Fin.ext (by show (t.val - 8) % 8 * 512 + r.val = t.val % 8 * 512 + r.val; omega)
  have h0 : ∀ f, col (⟨t.val - 8, lt_of_le_of_lt (Nat.sub_le _ _) t.isLt⟩ : Fin cfg0.N) f = ⟨f.val, by omega⟩ := fun f =>
    Fin.ext (by show (t.val - 8) / 8 * 1408 + f.val = f.val; omega)
  have h1 : ∀ f, col t f = ⟨1408 + f.val, by omega⟩ := fun f =>
    Fin.ext (by show t.val / 8 * 1408 + f.val = 1408 + f.val; omega)
  simp only [hr, h0, h1]
  unfold dinput
  rw [sum_tiles, sum_tiles (fun f => dup ah ag aw ad (row t r) f * au x f)]
  exact congrArg _ (add_add_add_comm _ _ _ _)

end Blocks

variable (R : Reals m c ah ag au aw ad)

include R

theorem array_6 : (dats m 0 c).arrAt 6 cfg0.N = arrOf (dgate ah ag au aw ad) := by
  refine (dats m 0 c).arrAt_eq_of_covers 6 _ (by decide +kernel) fun t hf y => ?_
  blk_simp
  rw [left_6]
  have e : ∀ y : S512x1408.Idx, k0_pay4 (F := Ideal) (bo m c t) (bd m c t) (bg m c t) y = arrOf (dgate ah ag au aw ad) ((win0_6.blk t).view.emb y) := fun y => by
    idx_vars y
    rw [gate_val R t]
    have e : (win0_6.blk t).view.emb (ix2 y0 y1) = ix2 (row t y0) (col t y1) := by
      unfold row col
      blk_ext [(places t).2.2.1]
    rw [e]
    rfl
  exact e y

theorem array_7 : (dats m 0 c).arrAt 7 cfg0.N = arrOf (dup ah ag aw ad) := by
  refine (dats m 0 c).arrAt_eq_of_covers 7 _ (by decide +kernel) fun t hf y => ?_
  blk_simp
  rw [left_7]
  have e : ∀ y : S512x1408.Idx, k0_pay5 (F := Ideal) (bo m c t) (bd m c t) (bu m c t) y = arrOf (dup ah ag aw ad) ((win0_7.blk t).view.emb y) := fun y => by
    idx_vars y
    rw [up_val R t]
    have e : (win0_7.blk t).view.emb (ix2 y0 y1) = ix2 (row t y0) (col t y1) := by
      unfold row col
      blk_ext [(places t).2.2.2.1]
    rw [e]
    rfl
  exact e y

theorem array_8 : (dats m 0 c).arrAt 8 cfg0.N = arrOf (dinput ah ag au aw ad) := by
  refine (dats m 0 c).arrAt_eq_of_covers 8 _ (by decide +kernel) fun t hf y => ?_
  have ht : 8 ≤ t.val := (flush0_8 t).mp hf
  blk_simp
  rw [left_8]
  have e : ∀ y : S512x1024.Idx, k0_pay2 (F := Ideal) (sumAt m c t.val) y = arrOf (dinput ah ag au aw ad) ((win0_8.blk t).view.emb y) := fun y => by
    idx_vars y
    have e : (win0_8.blk t).view.emb (ix2 y0 y1) = ix2 (row t y0) y1 := by
      unfold row
      blk_ext [(places t).2.2.2.2 ht]
    rw [e]
    refine Eq.trans ?_ (sum_val R t ht y0 y1)
    generalize sumAt m c t.val = z
    rfl
  exact e y

end Cert.FfnIdeal.Hidden

/-! ## The reference -/

namespace Cert.FfnReferenceIdeal.Hidden

open Idealize.ShloMosaic Idealize.ShloMosaic.TcCoe Cert.FfnReferenceIdeal Cert.FfnReferenceIdeal.Gen Cert.FfnReferenceIdeal.Read Cert.Attn Cert.Gated

variable {x0 x4 : FVec Ideal S4096x1024 .f32} {x1 x2 : FVec Ideal S1024x2816 .f32} {x3 : FVec Ideal S2816x1024 .f32}
  {ah : Fin 4096 → Fin 1024 → ℝ} {ag au : Fin 1024 → Fin 2816 → ℝ} {aw : Fin 2816 → Fin 1024 → ℝ} {ad : Fin 4096 → Fin 1024 → ℝ}
variable (h : ∀ r k, x0 (ix2 r k) = ((ah r k : ℝ) : EReal)) (g : ∀ k f, x1 (ix2 k f) = ((ag k f : ℝ) : EReal)) (u : ∀ k f, x2 (ix2 k f) = ((au k f : ℝ) : EReal))
  (w : ∀ f k, x3 (ix2 f k) = ((aw f k : ℝ) : EReal)) (o : ∀ r k, x4 (ix2 r k) = ((ad r k : ℝ) : EReal))

/-! The forward lines are those of the forward call's reference. -/

theorem gate_eq : val_main_v0 (F := Ideal) x0 x1 = Cert.InReferenceIdeal.Read.val_main_v0 (F := Ideal) x0 x1 := rfl
theorem up_eq : val_main_v1 (F := Ideal) x0 x2 = Cert.InReferenceIdeal.Read.val_main_v1 (F := Ideal) x0 x2 := rfl
theorem sig_eq : val_main_v2_2 (F := Ideal) x0 x1 = Cert.InReferenceIdeal.Read.val_main_v2_2 (F := Ideal) x0 x1 := rfl
theorem dsig_eq : val_main_v2_1 (F := Ideal) x0 x1 = Cert.InReferenceIdeal.Read.val_main_v2_1 (F := Ideal) x0 x1 := rfl
theorem silu_eq : val_main_v2_0 (F := Ideal) x0 x1 = Cert.InReferenceIdeal.Read.val_main_v2_0 (F := Ideal) x0 x1 := rfl
theorem dact_eq : val_main_v14 (F := Ideal) x3 x4 = val_main_v5 (F := Ideal) x3 x4 := rfl

include w o in
theorem dact_at (r : Fin 4096) (f : Fin 2816) : val_main_v5 (F := Ideal) x3 x4 (ix2 r f) = ((dact aw ad r f : ℝ) : EReal) := by
  refine (val_main_v5_apply x3 x4 _).trans (coe_dot _ _ (fun k => (congrArg x4 ?_).trans (o r k)) fun k => (congrArg x3 ?_).trans (w f k))
  all_goals funext a; fin_cases a <;> rfl

include h g w o in
theorem dup_at (r : Fin 4096) (f : Fin 2816) : val_main_v6 (F := Ideal) x0 x1 x3 x4 (ix2 r f) = ((dup ah ag aw ad r f : ℝ) : EReal) := by
  rw [val_main_v6_apply, silu_eq, Cert.InReferenceIdeal.Hidden.silu_at h g, dact_at w o]
  refine (EReal.coe_mul _ _).symm.trans (congrArg _ ?_)
  exact mul_comm _ _

include h g u w o in
theorem dgate_at (r : Fin 4096) (f : Fin 2816) : val_main_v8 (F := Ideal) x0 x1 x2 x3 x4 (ix2 r f) = ((dgate ah ag au aw ad r f : ℝ) : EReal) := by
  rw [val_main_v8_apply, val_main_call1_v1_apply, val_main_call1_v2_apply, val_main_call1_v0_apply, val_main_v7_apply, gate_eq, up_eq, sig_eq, dsig_eq,
    Cert.InReferenceIdeal.Hidden.gate_at h g, Cert.InReferenceIdeal.Hidden.up_at h u, Cert.InReferenceIdeal.Hidden.sig_at h g, Cert.InReferenceIdeal.Hidden.dsig_at h g, dact_at w o]
  unfold dgate byGate
  generalize proj ah ag r f = x
  generalize proj ah au r f = y
  generalize dact aw ad r f = a
  show ((a : EReal) * (y : EReal)) * ((sigm x : ℝ) : EReal) + ((x : EReal) * ((a : EReal) * (y : EReal))) * ((sigm x * (1 - sigm x) : ℝ) : EReal) = ((a * (y * dsilu x) : ℝ) : EReal)
  rw [← EReal.coe_mul, ← EReal.coe_mul, ← EReal.coe_mul, ← EReal.coe_mul, ← EReal.coe_add, dsilu_printed, mul_assoc]

theorem dup_again : val_main_v15 (F := Ideal) x0 x1 x3 x4 = val_main_v6 (F := Ideal) x0 x1 x3 x4 := rfl
theorem dgate_again : val_main_v18 (F := Ideal) x0 x1 x2 x3 x4 = val_main_v8 (F := Ideal) x0 x1 x2 x3 x4 := rfl

include h g u w o in
theorem result_g : val_main_v21 (F := Ideal) x0 x1 x2 x3 x4 = arrOf (dgate ah ag au aw ad) := by
  funext i
  idx_vars i
  rw [val_main_v21_apply, dgate_at h g u w o]
  rfl

include h g w o in
theorem result_u : val_main_v22 (F := Ideal) x0 x1 x3 x4 = arrOf (dup ah ag aw ad) := by
  funext i
  idx_vars i
  rw [val_main_v22_apply, dup_at h g w o]
  rfl

include h g u w o in
theorem result_h : val_main_v23 (F := Ideal) x0 x1 x2 x3 x4 = arrOf (dinput ah ag au aw ad) := by
  funext i
  idx_vars i
  have eu : val_main_v17 (F := Ideal) x0 x1 x2 x3 x4 (ix2 i0 i1) = ((∑ f, dup ah ag aw ad i0 f * au i1 f : ℝ) : EReal) := by
    refine (val_main_v17_apply x0 x1 x2 x3 x4 _).trans (coe_dot _ _ (fun k => ?_) fun k => (congrArg x2 ?_).trans (u i1 k))
    · refine (congrFun dup_again _).trans ((congrArg (val_main_v6 (F := Ideal) x0 x1 x3 x4) ?_).trans (dup_at h g w o i0 k))
      funext a; fin_cases a <;> rfl
    · funext a; fin_cases a <;> rfl
  have eg : val_main_v19 (F := Ideal) x0 x1 x2 x3 x4 (ix2 i0 i1) = ((∑ f, dgate ah ag au aw ad i0 f * ag i1 f : ℝ) : EReal) := by
    refine (val_main_v19_apply x0 x1 x2 x3 x4 _).trans (coe_dot _ _ (fun k => ?_) fun k => (congrArg x1 ?_).trans (g i1 k))
    · refine (congrFun dgate_again _).trans ((congrArg (val_main_v8 (F := Ideal) x0 x1 x2 x3 x4) ?_).trans (dgate_at h g u w o i0 k))
      funext a; fin_cases a <;> rfl
    · funext a; fin_cases a <;> rfl
  rw [val_main_v23_apply, val_main_v20_apply, eu, eg]
  refine (EReal.coe_add _ _).symm.trans (congrArg _ ?_)
  exact add_comm _ _

end Cert.FfnReferenceIdeal.Hidden

end
-- ==== Proof.FeedForward.lean ====
/- The feed-forward's three calls: their frames as compiled, their references' frames, and that each call's results are its
   reference's. -/
module

public import proofs.«01_k».proof.Defs
public import proofs.«01_k».proof.Proof.Agree
public import proofs.«01_k».proof.Proof.PairValues
public import proofs.«01_k».proof.Proof.InValues
public import proofs.«01_k».proof.Proof.FfnValues
public import proofs.«01_k».proof.Proof.Gen.Ffn.Launch
public import proofs.«01_k».proof.Proof.Gen.Pair.Frame
public import proofs.«01_k».proof.Proof.Gen.In.Frame
public import proofs.«01_k».proof.Proof.Gen.FfnReferenceIdeal.Run
public import proofs.«01_k».proof.Proof.Gen.PairReferenceIdeal.Run
public import proofs.«01_k».proof.Proof.Gen.InReferenceIdeal.Run
public import Idealize.ShloMosaic.Lib.ReduceAll
public import Idealize.ShloMosaic.Lib.Claim
public import Idealize.ShloMosaic.Lib.Quiescent

@[expose] public section

set_option maxRecDepth 16384

noncomputable section

namespace Cert.FeedForward

open Idealize.ShloMosaic Idealize.ShloMosaic.TcCoe Idealize.SL.Sem Cert.Attn Cert.Gated

/-! ## The calls as compiled -/

/-! The backward call's program and the one printed for the extended reals have one text, part by part. -/

section SameText

variable {F : FTy → Type} [FloatOps F]

theorem bodies_eq : Cert.Ffn.defs₀ (F := F) = Cert.FfnIdeal.defs₀ (F := F) := by
  unfold Cert.Ffn.defs₀ Cert.FfnIdeal.defs₀
  refine congrArg Defs.onTc (funext fun l => funext fun a => ?_)
  match l, a with
  | 0, (t, s) => rfl

theorem defs_eq : Cert.Ffn.defs (F := F) = Cert.FfnIdeal.defs (F := F) :=
  congrArg (Pipeline.defs Cert.FfnIdeal.pcfgs) bodies_eq

theorem main_eq : Cert.Ffn.main (F := F) = Cert.FfnIdeal.main (F := F) := funext fun c =>
  (Cert.Ffn.Gen.main_chain c).trans (Eq.trans (congrArg Pipeline.chain
    (congrArg₂ List.cons (congrArg StableHlo.seq (show Cert.Ffn.Gen.hostOps0 (F := F) = Cert.FfnIdeal.Gen.hostOps0 from rfl))
    (congrArg₂ List.cons (congrArg StableHlo.seq (show Cert.Ffn.Gen.hostOps0_1 (F := F) = Cert.FfnIdeal.Gen.hostOps0_1 from rfl))
    (congrArg₂ List.cons (congrArg StableHlo.seq (show Cert.Ffn.Gen.hostOps0_2 (F := F) = Cert.FfnIdeal.Gen.hostOps0_2 from rfl))
    (congrArg₂ List.cons (congrArg StableHlo.seq (show Cert.Ffn.Gen.hostOps0_3 (F := F) = Cert.FfnIdeal.Gen.hostOps0_3 from rfl))
    (congrArg₂ List.cons (congrArg StableHlo.seq (show Cert.Ffn.Gen.hostOps0_4 (F := F) = Cert.FfnIdeal.Gen.hostOps0_4 from rfl)) rfl))))))
    (Cert.FfnIdeal.Gen.main_chain c).symm)

end SameText

theorem frame_Ffn : Cert.quiescent_Ffn := fun m g _ =>
  have h : ∀ D, D = Cert.FfnIdeal.defs (F := Bits) → ∀ M, M = Cert.FfnIdeal.main (F := Bits) →
      θ_run D (onTc (τ := Cert.FfnIdeal.τ) M) ⟨m, fun _ => 0, g⟩ _ := by
    rintro _ rfl _ rfl
    exact Cert.FfnIdeal.Hidden.frame (F := Bits) m g
  h _ defs_eq _ main_eq

theorem frame_Pair : Cert.quiescent_Pair := fun m g _ => Cert.Pair.Gen.frame m g

theorem frame_In : Cert.quiescent_In := fun m g _ => Cert.In.Gen.frame m g

/-! ## The references: they have no semaphore -/

theorem frame_FfnReferenceIdeal (m : (ℓ : Loc Cert.FfnReferenceIdeal.nD Cert.FfnReferenceIdeal.τ Cert.FfnReferenceIdeal.sig) → Buf (Elt Ideal) ℓ) (g : Dev Cert.FfnReferenceIdeal.nD → PrngReg) :
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0) :=
  (θ_run Cert.FfnReferenceIdeal.defs _ _).mono (fun r h => ⟨fun c => (h c).2.2.2, sem_eq_zero_of_no_sems (by decide) r.2⟩) (Cert.FfnReferenceIdeal.Value.run (F := Ideal) m g)

theorem frame_PairReferenceIdeal (m : (ℓ : Loc Cert.PairReferenceIdeal.nD Cert.PairReferenceIdeal.τ Cert.PairReferenceIdeal.sig) → Buf (Elt Ideal) ℓ) (g : Dev Cert.PairReferenceIdeal.nD → PrngReg) :
    θ_run (Cert.PairReferenceIdeal.defs (F := Ideal)) (onTc (τ := Cert.PairReferenceIdeal.τ) (Cert.PairReferenceIdeal.main (F := Ideal))) ⟨m, fun _ => 0, g⟩ (fun r => (∀ c : Dev Cert.PairReferenceIdeal.nD,
      r.2.mem ((c.tc : Thread Cert.PairReferenceIdeal.nD Cert.PairReferenceIdeal.τ).loc Cert.PairReferenceIdeal.main_arg0) = m ((c.tc : Thread Cert.PairReferenceIdeal.nD Cert.PairReferenceIdeal.τ).loc Cert.PairReferenceIdeal.main_arg0)
      ∧ r.2.mem ((c.tc : Thread Cert.PairReferenceIdeal.nD Cert.PairReferenceIdeal.τ).loc Cert.PairReferenceIdeal.main_arg1) = m ((c.tc : Thread Cert.PairReferenceIdeal.nD Cert.PairReferenceIdeal.τ).loc Cert.PairReferenceIdeal.main_arg1)
      ∧ r.2.mem ((c.tc : Thread Cert.PairReferenceIdeal.nD Cert.PairReferenceIdeal.τ).loc Cert.PairReferenceIdeal.main_arg2) = m ((c.tc : Thread Cert.PairReferenceIdeal.nD Cert.PairReferenceIdeal.τ).loc Cert.PairReferenceIdeal.main_arg2))
      ∧ r.2.sem = fun _ => 0) :=
  (θ_run Cert.PairReferenceIdeal.defs _ _).mono (fun r h => ⟨fun c => (h c).2.2, sem_eq_zero_of_no_sems (by decide) r.2⟩) (Cert.PairReferenceIdeal.Value.run (F := Ideal) m g)

theorem frame_InReferenceIdeal (m : (ℓ : Loc Cert.InReferenceIdeal.nD Cert.InReferenceIdeal.τ Cert.InReferenceIdeal.sig) → Buf (Elt Ideal) ℓ) (g : Dev Cert.InReferenceIdeal.nD → PrngReg) :
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2))
      ∧ r.2.sem = fun _ => 0) :=
  (θ_run Cert.InReferenceIdeal.defs _ _).mono (fun r h => ⟨fun c => (h c).2.2.2, sem_eq_zero_of_no_sems (by decide) r.2⟩) (Cert.InReferenceIdeal.Value.run (F := Ideal) m g)

/-! ## The preconditions -/

instance facts_finite_in : Cert.Pre_finite_in.Facts where
  bcast_S_S4096x1024 := by decide
  reducesTo_S4096x1024_S_d0_1 := by decide
  h_S_ := by decide
  bcast_S_S1024x2816 := by decide
  reducesTo_S1024x2816_S_d0_1 := by decide

instance facts_finite_ffn : Cert.Pre_finite_ffn.Facts where
  bcast_S_S4096x1024 := by decide
  reducesTo_S4096x1024_S_d0_1 := by decide
  h_S_ := by decide
  bcast_S_S1024x2816 := by decide
  reducesTo_S1024x2816_S_d0_1 := by decide
  bcast_S_S2816x1024 := by decide
  reducesTo_S2816x1024_S_d0_1 := by decide

/-- The real number an argument holds at a row and a column. -/
def realAt {a b : ℕ} (x : (Shape.mk 2 ![a, b]).Idx → EReal) (r : Fin a) (k : Fin b) : ℝ := (x (ix2 r k)).toReal

/-- Every element is real. -/
def AllReal {s : Shape} (x : s.Idx → EReal) : Prop := ∀ i, x i = (((x i).toReal : ℝ) : EReal)

open Cert.Pre_finite_in in
/-- Under the forward call's precondition its arguments are real, -/
theorem finite_in_real (x0 : FVec Ideal S4096x1024 .f32) (x1 x2 : FVec Ideal S1024x2816 .f32) (h : Cert.Pre_finite_in.fn (F := Ideal) x0 x1 x2 = fun _ => 1#1) :
    AllReal x0 ∧ AllReal x1 ∧ AllReal x2 := by
  have e := congrFun h ix0
  dsimp only [fn] at e
  have e2 := andi_right _ _ e
  have e01 := andi_left _ _ e
  have e1 := andi_right _ _ e01
  have e0 := andi_left _ _ e01
  haveI : Subsingleton S_.Idx := ⟨fun a b => funext fun k => k.elim0⟩
  exact ⟨fun i => real_of_cmp _ (Host.reduce_andi_all _ _ _ _ _ e0 i), fun i => real_of_cmp _ (Host.reduce_andi_all _ _ _ _ _ e1 i),
    fun i => real_of_cmp _ (Host.reduce_andi_all _ _ _ _ _ e2 i)⟩

open Cert.Pre_finite_ffn in
/-- and under the backward call's, its own. -/
theorem finite_ffn_real (x0 : FVec Ideal S4096x1024 .f32) (x1 x2 : FVec Ideal S1024x2816 .f32) (x3 : FVec Ideal S2816x1024 .f32) (x4 : FVec Ideal S4096x1024 .f32)
    (h : Cert.Pre_finite_ffn.fn (F := Ideal) x0 x1 x2 x3 x4 = fun _ => 1#1) : AllReal x0 ∧ AllReal x1 ∧ AllReal x2 ∧ AllReal x3 ∧ AllReal x4 := by
  have e := congrFun h ix0
  dsimp only [fn, fn_part1] at e
  have e4 := andi_right _ _ e
  have e0123 := andi_left _ _ e
  have e3 := andi_right _ _ e0123
  have e012 := andi_left _ _ e0123
  have e2 := andi_right _ _ e012
  have e01 := andi_left _ _ e012
  have e1 := andi_right _ _ e01
  have e0 := andi_left _ _ e01
  haveI : Subsingleton S_.Idx := ⟨fun a b => funext fun k => k.elim0⟩
  exact ⟨fun i => real_of_cmp _ (Host.reduce_andi_all _ _ _ _ _ e0 i), fun i => real_of_cmp _ (Host.reduce_andi_all _ _ _ _ _ e1 i),
    fun i => real_of_cmp _ (Host.reduce_andi_all _ _ _ _ _ e2 i), fun i => real_of_cmp _ (Host.reduce_andi_all _ _ _ _ _ e3 i),
    fun i => real_of_cmp _ (Host.reduce_andi_all _ _ _ _ _ e4 i)⟩

/-! ## The weight gradients -/

open Cert.PairIdeal.Weights in
theorem agree_Pair : Cert.algebraic_PairIdeal_PairReferenceIdeal := fun m g m' g' _ hm =>
  ⟨fun c => byWeight (argG m c) (argH m c), fun c => byWeight (argU m c) (argH m c),
    (θ_run Cert.PairIdeal.defs _ _).mono (fun _ h c => ⟨(h c).1.trans (array_3 m c), (h c).2.1.trans (array_4 m c), (h c).2.2⟩) (Cert.PairIdeal.Value.run_blocks m g),
    (θ_run Cert.PairReferenceIdeal.defs _ _).mono (fun _ h c =>
      have e0 := (hm c).1
      have e1 := (hm c).2.1
      have e2 := (hm c).2.2
      ⟨(h c).1.trans ((Cert.PairReferenceIdeal.Read.val_main_v5_eq _ _).trans (by rw [e0, e2]; exact Cert.PairReferenceIdeal.Weights.result_g _ _)),
        (h c).2.1.trans ((Cert.PairReferenceIdeal.Read.val_main_v10_eq _ _).trans (by rw [e1, e2]; exact Cert.PairReferenceIdeal.Weights.result_u _ _)), (h c).2.2⟩)
      (Cert.PairReferenceIdeal.Value.run (F := Ideal) m' g')⟩

/-! ## The gated product and its derivatives -/

section In

open Cert.InIdeal.Hidden

theorem reals_In (m : (ℓ : Loc Cert.InIdeal.nD Cert.InIdeal.τ Cert.InIdeal.sig) → Buf (Elt Ideal) ℓ) (c : Dev Cert.InIdeal.nD) (h : Cert.Pre_InIdeal_finite_in m) :
    Reals m c (realAt (argH m c)) (realAt (argG m c)) (realAt (argU m c)) :=
  have e := finite_in_real (argH m c) (argG m c) (argU m c) (h c)
  ⟨fun _ _ => e.1 _, fun _ _ => e.2.1 _, fun _ _ => e.2.2 _⟩

theorem agree_In : Cert.algebraic_InIdeal_InReferenceIdeal_pre_finite_in := fun m g m' g' hp hm =>
  ⟨fun c => arrOf (act (realAt (argH m c)) (realAt (argG m c)) (realAt (argU m c))), fun c => arrOf (byGate (realAt (argH m c)) (realAt (argG m c)) (realAt (argU m c))),
    fun c => arrOf (byUp (realAt (argH m c)) (realAt (argG m c))),
    (θ_run Cert.InIdeal.defs _ _).mono (fun _ h c =>
      have R := reals_In m c hp
      ⟨(h c).1.trans (array_3 R), (h c).2.1.trans (array_4 R), (h c).2.2.1.trans (array_5 R), (h c).2.2.2⟩) (Cert.InIdeal.Value.run_blocks m g),
    (θ_run Cert.InReferenceIdeal.defs _ _).mono (fun _ h c =>
      have R := reals_In m c hp
      have e0 := (hm c).1
      have e1 := (hm c).2.1
      have e2 := (hm c).2.2
      ⟨(h c).1.trans ((Cert.InReferenceIdeal.Read.val_main_v8_eq _ _ _).trans (by rw [e0, e1, e2]; exact Cert.InReferenceIdeal.Hidden.result_act R.h R.g R.u)),
        (h c).2.1.trans ((Cert.InReferenceIdeal.Read.val_main_v9_eq _ _ _).trans (by rw [e0, e1, e2]; exact Cert.InReferenceIdeal.Hidden.result_byGate R.h R.g R.u)),
        (h c).2.2.1.trans ((Cert.InReferenceIdeal.Read.val_main_v10_eq _ _).trans (by rw [e0, e1]; exact Cert.InReferenceIdeal.Hidden.result_byUp R.h R.g)), (h c).2.2.2⟩)
      (Cert.InReferenceIdeal.Value.run (F := Ideal) m' g')⟩

end In

/-! ## The backward call -/

section Ffn

open Cert.FfnIdeal.Hidden

theorem reals_Ffn (m : (ℓ : Loc Cert.FfnIdeal.nD Cert.FfnIdeal.τ Cert.FfnIdeal.sig) → Buf (Elt Ideal) ℓ) (c : Dev Cert.FfnIdeal.nD) (h : Cert.Pre_FfnIdeal_finite_ffn m) :
    Reals m c (realAt (argH m c)) (realAt (argG m c)) (realAt (argU m c)) (realAt (argW m c)) (realAt (argO m c)) :=
  have e := finite_ffn_real (argH m c) (argG m c) (argU m c) (argW m c) (argO m c) (h c)
  ⟨fun _ _ => e.1 _, fun _ _ => e.2.1 _, fun _ _ => e.2.2.1 _, fun _ _ => e.2.2.2.1 _, fun _ _ => e.2.2.2.2 _⟩

theorem agree_Ffn : Cert.algebraic_FfnIdeal_FfnReferenceIdeal_pre_finite_ffn := fun m g m' g' hp hm =>
  ⟨fun c => arrOf (dgate (realAt (argH m c)) (realAt (argG m c)) (realAt (argU m c)) (realAt (argW m c)) (realAt (argO m c))),
    fun c => arrOf (dup (realAt (argH m c)) (realAt (argG m c)) (realAt (argW m c)) (realAt (argO m c))),
    fun c => arrOf (dinput (realAt (argH m c)) (realAt (argG m c)) (realAt (argU m c)) (realAt (argW m c)) (realAt (argO m c))),
    (θ_run Cert.FfnIdeal.defs _ _).mono (fun _ hr c =>
      have R := reals_Ffn m c hp
      ⟨((hr.1.1 c).1 6).trans (array_6 R), ((hr.1.1 c).1 7).trans (array_7 R), ((hr.1.1 c).1 8).trans (array_8 R), hr.2.1 c⟩)
      (θ_run_and (launch m g) (frame m g)),
    (θ_run Cert.FfnReferenceIdeal.defs _ _).mono (fun _ h c =>
      have R := reals_Ffn m c hp
      have e0 := (hm c).1
      have e1 := (hm c).2.1
      have e2 := (hm c).2.2.1
      have e3 := (hm c).2.2.2.1
      have e4 := (hm c).2.2.2.2
      ⟨(h c).1.trans ((Cert.FfnReferenceIdeal.Read.val_main_v21_eq _ _ _ _ _).trans (by rw [e0, e1, e2, e3, e4]; exact Cert.FfnReferenceIdeal.Hidden.result_g R.h R.g R.u R.w R.o)),
        (h c).2.1.trans ((Cert.FfnReferenceIdeal.Read.val_main_v22_eq _ _ _ _).trans (by rw [e0, e1, e3, e4]; exact Cert.FfnReferenceIdeal.Hidden.result_u R.h R.g R.w R.o)),
        (h c).2.2.1.trans ((Cert.FfnReferenceIdeal.Read.val_main_v23_eq _ _ _ _ _).trans (by rw [e0, e1, e2, e3, e4]; exact Cert.FfnReferenceIdeal.Hidden.result_h R.h R.g R.u R.w R.o)), (h c).2.2.2⟩)
      (Cert.FfnReferenceIdeal.Value.run (F := Ideal) m' g')⟩

end Ffn

end Cert.FeedForward

end
-- ==== Proof.FwdHost.lean ====
/- The forward call's three operand arrays and its blocks at a point, over real arguments. -/
module

public import proofs.«01_k».proof.Proof.Gen.FwdIdeal.Frame
public import proofs.«01_k».proof.Proof.Arrays
public import Idealize.ShloMosaic.Lib.Pointwise

@[expose] public section

set_option maxRecDepth 16384

noncomputable section

namespace Cert.FwdIdeal.Attn

open Idealize.ShloMosaic Idealize.ShloMosaic.TcCoe Cert.FwdIdeal Cert.FwdIdeal.Gen Cert.Attn
open Cert.KernelIdeal.Attn (padded sum_padded padded_mul slimHead zero_word)

variable (m : (ℓ : Loc nD τ sig) → Buf (Elt Ideal) ℓ)

abbrev argQ (c : Dev nD) : FVec Ideal S4096x4x192 .f32 := m (c, Proc.tc.devRef main_arg0)
abbrev argK (c : Dev nD) : FVec Ideal S4096x4x192 .f32 := m (c, Proc.tc.devRef main_arg1)
abbrev argV (c : Dev nD) : FVec Ideal S4096x4x128 .f32 := m (c, Proc.tc.devRef main_arg2)

theorem arrQ_at (c : Dev nD) (r : Fin 4096) (x : Fin 1024) :
    (V m c main_v8 : FVec Ideal S4096x1024 .bf16) (ix2 r x) = if h : x.val % 256 < 192 then argQ m c (ix3 r ⟨x.val / 256, by omega⟩ ⟨x.val % 256, h⟩)
      * Ideal.div (Ideal.div (Ideal.ofBits .f32 0x3F800000#32) (Ideal.sqrt (Ideal.ofBits .f32 0x43400000#32))) (Ideal.log (Ideal.ofBits .f32 0x40000000#32)) else 0 := by
  unfold V hostOps0 hostOps0_1 hostOps0_2 hostOps0_3 hostOps0_4
  simp only [List.flatten_cons, List.flatten_nil, List.append_nil, List.cons_append, List.nil_append]
  after_reads_at
  have h4 : x.val / 256 < 4 := by omega
  by_cases h : x.val % 256 < 192
  · simp only [h4, h, and_self, dite_true]
  · simp only [h, and_false, dite_false]
    exact zero_word

theorem arrK_at (c : Dev nD) (r : Fin 4096) (x : Fin 1024) :
    (V m c main_v11 : FVec Ideal S4096x1024 .bf16) (ix2 r x) = if h : x.val % 256 < 192 then argK m c (ix3 r ⟨x.val / 256, by omega⟩ ⟨x.val % 256, h⟩) else 0 := by
  unfold V hostOps0 hostOps0_1 hostOps0_2 hostOps0_3 hostOps0_4
  simp only [List.flatten_cons, List.flatten_nil, List.append_nil, List.cons_append, List.nil_append]
  after_reads_at
  have h4 : x.val / 256 < 4 := by omega
  by_cases h : x.val % 256 < 192
  · simp only [h4, h, and_self, dite_true]
  · simp only [h, and_false, dite_false]
    exact zero_word

theorem arrV_at (c : Dev nD) (r : Fin 4096) (x : Fin 512) :
    (V m c main_v13 : FVec Ideal S4096x512 .bf16) (ix2 r x) = argV m c (ix3 r ⟨x.val / 128, by omega⟩ ⟨x.val % 128, by omega⟩) := by
  unfold V hostOps0 hostOps0_1 hostOps0_2 hostOps0_3 hostOps0_4
  simp only [List.flatten_cons, List.flatten_nil, List.append_nil, List.cons_append, List.nil_append]
  after_reads_at

/-- The arguments of device `c` are the reals `aq`, `ak` and `av`, head by head. -/
structure Reals (c : Dev nD) (aq ak : Fin 4 → Fin 4096 → Fin 192 → ℝ) (av : Fin 4 → Fin 4096 → Fin 128 → ℝ) : Prop where
  q : ∀ h r x, argQ m c (ix3 r h x) = ((aq h r x : ℝ) : EReal)
  k : ∀ h r x, argK m c (ix3 r h x) = ((ak h r x : ℝ) : EReal)
  v : ∀ h r y, argV m c (ix3 r h y) = ((av h r y : ℝ) : EReal)

/-- Where each window's block stands at a point, and the point's tile. -/
theorem places : ∀ t : Fin cfg0.N, (win0_0.index t = ![t.val % 4, t.val / 4] ∧ win0_1.index t = ![0, t.val / 4] ∧ win0_2.index t = ![0, t.val / 4])
    ∧ (win0_3.index t = ![t.val % 4, t.val / 4] ∧ win0_4.index t = ![t.val % 4, t.val / 4]) ∧ (grid0.coords t 1).val = t.val % 4 := by
  decide +kernel

/-- The head of a point, -/
def head (t : Fin cfg0.N) : Fin 4 := ⟨t.val / 4, by have : t.val < 16 := t.isLt; omega⟩

/-- and the row a place of its tile is. -/
def qrow (t : Fin cfg0.N) (r : Fin 1024) : Fin 4096 := ⟨t.val % 4 * 1024 + r.val, by omega⟩

abbrev bq (c : Dev nD) (t : Fin cfg0.N) : Vec Ideal S1024x256 .bf16 := iblk m c 0 t
abbrev bk (c : Dev nD) (t : Fin cfg0.N) : Vec Ideal S4096x256 .bf16 := iblk m c 1 t
abbrev bv (c : Dev nD) (t : Fin cfg0.N) : Vec Ideal S4096x128 .bf16 := iblk m c 2 t

theorem bq_at (c : Dev nD) (t : Fin cfg0.N) (r : Fin 1024) (x : Fin 256) :
    bq m c t (ix2 r x) = (V m c main_v8 : FVec Ideal S4096x1024 .bf16) (ix2 (qrow t r) ⟨(head t).val * 256 + x.val, by omega⟩) := by
  have e : ∀ A : FVec Ideal S4096x1024 .bf16, ((cfg0.win 0).blk t).view.read (Elt Ideal) A (ix2 r x) = A (ix2 (qrow t r) ⟨(head t).val * 256 + x.val, by omega⟩) := fun A => by
    unfold head qrow
    blk_ext [(places t).1.1]
  exact e (V m c main_v8)

theorem bk_at (c : Dev nD) (t : Fin cfg0.N) (k : Fin 4096) (x : Fin 256) :
    bk m c t (ix2 k x) = (V m c main_v11 : FVec Ideal S4096x1024 .bf16) (ix2 k ⟨(head t).val * 256 + x.val, by omega⟩) := by
  have e : ∀ A : FVec Ideal S4096x1024 .bf16, ((cfg0.win 1).blk t).view.read (Elt Ideal) A (ix2 k x) = A (ix2 k ⟨(head t).val * 256 + x.val, by omega⟩) := fun A => by
    unfold head
    blk_ext [(places t).1.2.1]
  exact e (V m c main_v11)

theorem bv_at (c : Dev nD) (t : Fin cfg0.N) (k : Fin 4096) (y : Fin 128) :
    bv m c t (ix2 k y) = (V m c main_v13 : FVec Ideal S4096x512 .bf16) (ix2 k ⟨(head t).val * 128 + y.val, by omega⟩) := by
  have e : ∀ A : FVec Ideal S4096x512 .bf16, ((cfg0.win 2).blk t).view.read (Elt Ideal) A (ix2 k y) = A (ix2 k ⟨(head t).val * 128 + y.val, by omega⟩) := fun A => by
    unfold head
    blk_ext [(places t).1.2.2]
  exact e (V m c main_v13)

variable {m} {c : Dev nD} {aq ak : Fin 4 → Fin 4096 → Fin 192 → ℝ} {av : Fin 4 → Fin 4096 → Fin 128 → ℝ}

/-- The queries' block: scaled, and padded with zeros, -/
theorem bq_val (R : Reals m c aq ak av) (t : Fin cfg0.N) (r : Fin 1024) (x : Fin 256) :
    bq m c t (ix2 r x) = ((padded (aq (head t) (qrow t r)) x * (root / Real.log 2) : ℝ) : EReal) := by
  rw [bq_at, arrQ_at, rootln_word, ← padded_mul]
  have e1 : ((head t).val * 256 + x.val) / 256 = (head t).val := by omega
  have e2 : ((head t).val * 256 + x.val) % 256 = x.val := by omega
  simp only [e1, e2]
  unfold padded
  by_cases g : x.val < 192
  · simp only [g, dite_true]; rw [R.q, ← EReal.coe_mul]
  · simp only [g, dite_false]; rfl

theorem bk_val (R : Reals m c aq ak av) (t : Fin cfg0.N) (k : Fin 4096) (x : Fin 256) :
    bk m c t (ix2 k x) = ((padded (ak (head t) k) x : ℝ) : EReal) := by
  rw [bk_at, arrK_at]
  have e1 : ((head t).val * 256 + x.val) / 256 = (head t).val := by omega
  have e2 : ((head t).val * 256 + x.val) % 256 = x.val := by omega
  simp only [e1, e2]
  unfold padded
  by_cases g : x.val < 192
  · simp only [g, dite_true]; rw [R.k]
  · simp only [g, dite_false]; rfl

theorem bv_val (R : Reals m c aq ak av) (t : Fin cfg0.N) (k : Fin 4096) (y : Fin 128) :
    bv m c t (ix2 k y) = ((av (head t) k y : ℝ) : EReal) := by
  rw [bv_at, arrV_at]
  have e1 : ((head t).val * 128 + y.val) / 128 = (head t).val := by omega
  have e2 : ((head t).val * 128 + y.val) % 128 = y.val := by omega
  simp only [e1, e2, R.v]

/-- A scaled query's dot product with a key is their score to the base 2. -/
theorem score_val (R : Reals m c aq ak av) (t : Fin cfg0.N) (r : Fin 1024) (k : Fin 4096) :
    ∑ x : Fin 256, (bq m c t (ix2 r x) : EReal) * bk m c t (ix2 k x) = ((sc (aq (head t)) (ak (head t)) (qrow t r) k / Real.log 2 : ℝ) : EReal) := by
  rw [coe_dot (fun x => padded (aq (head t) (qrow t r)) x * (root / Real.log 2)) (fun x => padded (ak (head t) k) x) (bq_val R t r) (bk_val R t k)]
  congr 1
  unfold sc
  rw [← sum_padded, Finset.sum_mul, Finset.sum_div]
  exact Finset.sum_congr rfl fun x _ => by ring

section Goal

variable (aq ak : Fin 4 → Fin 4096 → Fin 192 → ℝ) (av : Fin 4 → Fin 4096 → Fin 128 → ℝ)

/-- The attention's output as the array holds it, 128 columns a head, -/
def outOf (h : Fin 4) (r : Fin 4096) (y : Fin 128) : ℝ := ∑ k, pr (aq h) (ak h) r k * av h k y

/-- and a row's log-sum to the base 2, repeated over its head's columns. -/
def lseOf (h : Fin 4) (r : Fin 4096) : ℝ := Real.log (∑ k, ex (aq h) (ak h) 0 r k) * (Real.log 2)⁻¹

def goalO : FVec Ideal S4096x512 .f32 := fun i => ((outOf aq ak av (slimHead (i 1)) (i 0) ⟨(i 1).val % 128, Nat.mod_lt _ (by decide)⟩ : ℝ) : EReal)
def goalL : FVec Ideal S4096x512 .f32 := fun i => ((lseOf aq ak (slimHead (i 1)) (i 0) : ℝ) : EReal)

theorem goalO_at (h : Fin 4) (r : Fin 4096) (y : Fin 128) (g : h.val * 128 + y.val < 512) :
    goalO aq ak av (ix2 r ⟨h.val * 128 + y.val, g⟩) = ((outOf aq ak av h r y : ℝ) : EReal) := by
  have e1 : slimHead ⟨h.val * 128 + y.val, g⟩ = h := Fin.ext (by show (h.val * 128 + y.val) / 128 = h.val; omega)
  have e2 : (⟨(h.val * 128 + y.val) % 128, Nat.mod_lt _ (by decide)⟩ : Fin 128) = y := Fin.ext (by show (h.val * 128 + y.val) % 128 = y.val; omega)
  show ((outOf aq ak av (slimHead ⟨h.val * 128 + y.val, g⟩) r ⟨(h.val * 128 + y.val) % 128, Nat.mod_lt _ (by decide)⟩ : ℝ) : EReal) = _
  rw [e1, e2]

theorem goalL_at (h : Fin 4) (r : Fin 4096) (y : Fin 128) (g : h.val * 128 + y.val < 512) :
    goalL aq ak (ix2 r ⟨h.val * 128 + y.val, g⟩) = ((lseOf aq ak h r : ℝ) : EReal) := by
  have e1 : slimHead ⟨h.val * 128 + y.val, g⟩ = h := Fin.ext (by show (h.val * 128 + y.val) / 128 = h.val; omega)
  show ((lseOf aq ak (slimHead ⟨h.val * 128 + y.val, g⟩) r : ℝ) : EReal) = _
  rw [e1]

end Goal

end Cert.FwdIdeal.Attn

end
-- ==== Proof.FwdRun.lean ====
/- What the attention's forward call leaves at a point of its grid, as the pure steps of its body: the loop over the whole
   key tiles, and the step on the diagonal tile. -/
module

public import proofs.«01_k».proof.Proof.Gen.FwdIdeal.Frame
public import Idealize.ShloMosaic.Lib.Pointwise
public import Idealize.ShloMosaic.Lib.VecWindow
public import Idealize.ShloMosaic.Lib.WritesUnit

@[expose] public section

set_option maxRecDepth 16384

noncomputable section

namespace Cert.FwdIdeal.Attn

open Idealize.ShloMosaic Idealize.ShloMosaic.TcCoe Cert.FwdIdeal Cert.FwdIdeal.Gen

/-! ## The loop's bounds and the offsets -/

theorem trips1 : ∀ i : grid0.Coords, (k0_t1_loop i).trips = (i 1).val := by decide +kernel
theorem trips2 : ∀ i : grid0.Coords, (k0_t2_loop i).trips = 0 := by decide +kernel
theorem off1 : ∀ (i : grid0.Coords) (k : Fin (k0_t1_loop i).trips), k0_off1 i k = ![k.val * 1024, 0] := by decide +kernel
theorem off2 : ∀ (i : grid0.Coords) (k : Fin (k0_t1_loop i).trips), k0_off2 i k = ![k.val * 1024, 0] := by decide +kernel
theorem off5 : ∀ i : grid0.Coords, k0_off5 i = ![(i 1).val * 1024, 0] := by decide +kernel
theorem off6 : ∀ i : grid0.Coords, k0_off6 i = ![(i 1).val * 1024, 0] := by decide +kernel
theorem off7 : ∀ i : grid0.Coords, k0_off7 i = ![(i 1).val * 1024, 0] := by decide +kernel
theorem off8 : ∀ i : grid0.Coords, k0_off8 i = ![(i 1).val * 1024, 0] := by decide +kernel
theorem base_word : ∀ i : grid0.Coords, kernelRun0_A.sl.v32 i = BitVec.ofNat 32 ((i 1).val * 1024) := by decide +kernel

theorem row_lt (i : grid0.Coords) : (i 1).val < 4 := (i 1).isLt

/-! ## The pure steps -/

/-- The two chains' running maxima, sums and weighted sums. -/
abbrev State := FVec Ideal S512x1 .f32 × FVec Ideal S512x1 .f32 × FVec Ideal S512x128 .f32 × FVec Ideal S512x1 .f32 × FVec Ideal S512x1 .f32 × FVec Ideal S512x128 .f32

/-- One trip of the loop. -/
def turn (K : FVec Ideal S1024x256 .bf16) (W : FVec Ideal S1024x128 .bf16) (q0 q1 : FVec Ideal S512x256 .bf16) (z : State) : State :=
  (k0_pay3 z.1 K q0, k0_pay6 z.1 z.2.1 K q0, k0_pay7 z.1 z.2.2.1 K W q0,
   k0_pay10 z.2.2.2.1 K q1, k0_pay31 z.2.2.2.2.1 (k0_pay11 z.2.2.2.1 K q1) (k0_pay12 z.2.2.2.1 K q1), k0_pay32 z.2.2.2.2.2 (k0_pay8 W) (k0_pay11 z.2.2.2.1 K q1) (k0_pay12 z.2.2.2.1 K q1))

theorem turn_congr {K K' : FVec Ideal S1024x256 .bf16} {W W' : FVec Ideal S1024x128 .bf16} {q0 q0' q1 q1' : FVec Ideal S512x256 .bf16} (hK : K = K') (hW : W = W') (h0 : q0 = q0') (h1 : q1 = q1') (z : State) :
    turn K W q0 q1 z = turn K' W' q0' q1' z := by
  rw [hK, hW, h0, h1]

/-- The state before the first trip. -/
def start : State := (k0_pay24, k0_pay25, k0_pay26, k0_pay27, k0_pay28, k0_pay29)

variable (x0 : Vec Ideal S1024x256 .bf16) (x1 : Vec Ideal S4096x256 .bf16) (x2 : Vec Ideal S4096x128 .bf16)

/-- Rows `o` and on of the keys, of the values and of the queries. -/
def keys (w o : ℕ) (h : o + w ≤ 4096) : FVec Ideal ⟨2, ![w, 256]⟩ .bf16 := fun y => x1 (ix2 ⟨o + (y 0).val, by have : (y 0).val < w := (y 0).isLt; omega⟩ (y 1))
def vals (w o : ℕ) (h : o + w ≤ 4096) : FVec Ideal ⟨2, ![w, 128]⟩ .bf16 := fun y => x2 (ix2 ⟨o + (y 0).val, by have : (y 0).val < w := (y 0).isLt; omega⟩ (y 1))
def rows (o : ℕ) (h : o + 512 ≤ 1024) : FVec Ideal S512x256 .bf16 := fun y => x0 (ix2 ⟨o + (y 0).val, by have : (y 0).val < 512 := (y 0).isLt; omega⟩ (y 1))

/-- The state before trip `n`. -/
def state : ℕ → State
  | 0 => start
  | n + 1 => if h : n * 1024 + 1024 ≤ 4096 then turn (keys x1 1024 (n * 1024) h) (vals x2 1024 (n * 1024) h) (rows x0 0 (by omega)) (rows x0 512 (by omega)) (state n) else state n

section Final

variable (j : ℕ) (hj : j < 4) (z : State)

/-- What the step on the diagonal tile leaves: the first chain's outputs and log-sums, and the second's. -/
def out0 : FVec Ideal S512x128 .f32 :=
  k0_pay50 (k0_pay41 (BitVec.ofNat 32 j) z.1 z.2.1 (BitVec.ofNat 32 (j * 1024)) (k0_pay36 (keys x1 512 (j * 1024) (by omega))) (rows x0 0 (by omega)))
    (k0_pay42 (BitVec.ofNat 32 j) z.1 z.2.2.1 (BitVec.ofNat 32 (j * 1024)) (k0_pay36 (keys x1 512 (j * 1024) (by omega))) (vals x2 512 (j * 1024) (by omega)) (rows x0 0 (by omega)))
def out1 : FVec Ideal S512x128 .f32 :=
  k0_pay52 z.2.2.2.1 z.2.2.2.2.1 z.2.2.2.2.2 (BitVec.ofNat 32 (j * 1024)) (k0_pay43 (vals x2 1024 (j * 1024) (by omega))) (k0_pay44 (keys x1 1024 (j * 1024) (by omega)) (rows x0 512 (by omega)))
    (Scalar.muli (BitVec.ofNat 32 j) 1024#32)
def lse0 : FVec Ideal S512x128 .f32 :=
  k0_pay51 (k0_pay38 (BitVec.ofNat 32 j) z.1 (BitVec.ofNat 32 (j * 1024)) (k0_pay36 (keys x1 512 (j * 1024) (by omega))) (rows x0 0 (by omega)))
    (k0_pay41 (BitVec.ofNat 32 j) z.1 z.2.1 (BitVec.ofNat 32 (j * 1024)) (k0_pay36 (keys x1 512 (j * 1024) (by omega))) (rows x0 0 (by omega)))
def lse1 : FVec Ideal S512x128 .f32 :=
  k0_pay1 (k0_pay53 z.2.2.2.1 z.2.2.2.2.1 (BitVec.ofNat 32 (j * 1024)) (k0_pay44 (keys x1 1024 (j * 1024) (by omega)) (rows x0 512 (by omega))) (Scalar.muli (BitVec.ofNat 32 j) 1024#32))

end Final

/-! ## The run's values are these -/

section Run

variable (c : Dev nD) (i : grid0.Coords) (arg2 : Memref sig .tc .vmem S1024x256 .bf16) (harg2 : arg2.IsWhole) (arg3 : Memref sig .tc .vmem S4096x256 .bf16) (harg3 : arg3.IsWhole) (arg4 : Memref sig .tc .vmem S4096x128 .bf16) (harg4 : arg4.IsWhole) (arg5 : Memref sig .tc .vmem S1024x128 .f32) (harg5 : arg5.IsWhole) (arg6 : Memref sig .tc .vmem S1024x128 .f32) (harg6 : arg6.IsWhole)

theorem keys_read (w o : ℕ) (h : o + w ≤ 4096) (off : Fin 2 → ℕ) (e : off = ![o, 0]) (inb : ∀ a, off a + (![w, 256] : Fin 2 → ℕ) a ≤ S4096x256.size a) :
    arg3.view.readAt (Elt Ideal) (Rect.unit (s := S4096x256) off ![w, 256] inb).toLoadRect (harg3.unread x1) = keys x1 w o h := by
  subst e
  rw [View.readAt_unit arg3.view _ inb rfl inb, harg3.read_unread]
  funext y
  refine congrArg x1 (funext fun a => Fin.ext ?_)
  fin_cases a
  · show o + 1 * (y 0).val = o + (y 0).val; omega
  · show 0 + 1 * (y 1).val = (y 1).val; omega

theorem vals_read (w o : ℕ) (h : o + w ≤ 4096) (off : Fin 2 → ℕ) (e : off = ![o, 0]) (inb : ∀ a, off a + (![w, 128] : Fin 2 → ℕ) a ≤ S4096x128.size a) :
    arg4.view.readAt (Elt Ideal) (Rect.unit (s := S4096x128) off ![w, 128] inb).toLoadRect (harg4.unread x2) = vals x2 w o h := by
  subst e
  rw [View.readAt_unit arg4.view _ inb rfl inb, harg4.read_unread]
  funext y
  refine congrArg x2 (funext fun a => Fin.ext ?_)
  fin_cases a
  · show o + 1 * (y 0).val = o + (y 0).val; omega
  · show 0 + 1 * (y 1).val = (y 1).val; omega

theorem rows_read (o : ℕ) (h : o + 512 ≤ 1024) (inb : ∀ a, (![o, 0] : Fin 2 → ℕ) a + (![512, 256] : Fin 2 → ℕ) a ≤ S1024x256.size a) :
    arg2.view.readAt (Elt Ideal) (Rect.unit (s := S1024x256) ![o, 0] ![512, 256] inb).toLoadRect (harg2.unread x0) = rows x0 o h := by
  rw [View.readAt_unit arg2.view _ inb rfl inb, harg2.read_unread]
  funext y
  refine congrArg x0 (funext fun a => Fin.ext ?_)
  fin_cases a
  · show o + 1 * (y 0).val = o + (y 0).val; omega
  · show 0 + 1 * (y 1).val = (y 1).val; omega

theorem trip_eq (k : Fin (k0_t1_loop i).trips) (hk : k.val * 1024 + 1024 ≤ 4096) (z : State) :
    tripR_k0_t1 (F := Ideal) Variants.none c none i arg2 harg2 arg3 harg3 arg4 harg4 arg5 harg5 arg6 harg6 (harg2.unread x0) (harg3.unread x1) (harg4.unread x2) k z
      = turn (keys x1 1024 (k.val * 1024) hk) (vals x2 1024 (k.val * 1024) hk) (rows x0 0 (by omega)) (rows x0 512 (by omega)) z := by
  have e : tripR_k0_t1 (F := Ideal) Variants.none c none i arg2 harg2 arg3 harg3 arg4 harg4 arg5 harg5 arg6 harg6 (harg2.unread x0) (harg3.unread x1) (harg4.unread x2) k z
      = turn (arg3.view.readAt (Elt Ideal) (Rect.unit (s := S4096x256) (k0_off1 i k) S1024x256.size (k0_off1_inb i k)).toLoadRect (harg3.unread x1)) (arg4.view.readAt (Elt Ideal) (Rect.unit (s := S4096x128) (k0_off2 i k) S1024x128.size (k0_off2_inb i k)).toLoadRect (harg4.unread x2))
        (arg2.view.readAt (Elt Ideal) (Rect.unit (s := S1024x256) ![0, 0] S512x256.size inb_S1024x256_S512x256_0_0).toLoadRect (harg2.unread x0)) (arg2.view.readAt (Elt Ideal) (Rect.unit (s := S1024x256) ![512, 0] S512x256.size inb_S1024x256_S512x256_512_0).toLoadRect (harg2.unread x0)) z := by
    unfold tripR_k0_t1 trip_k0_t1
    rfl
  rw [e]
  have e1 := keys_read x1 arg3 harg3 1024 _ hk _ (off1 i k) (k0_off1_inb i k)
  have e2 := vals_read x2 arg4 harg4 1024 _ hk _ (off2 i k) (k0_off2_inb i k)
  have e3 := rows_read x0 arg2 harg2 0 (by omega) inb_S1024x256_S512x256_0_0
  have e4 := rows_read x0 arg2 harg2 512 (by omega) inb_S1024x256_S512x256_512_0
  exact turn_congr e1 e2 e3 e4 z

theorem state_eq (n : ℕ) (hn : n ≤ (i 1).val) :
    st_k0_t1 (F := Ideal) Variants.none c none i arg2 harg2 arg3 harg3 arg4 harg4 arg5 harg5 arg6 harg6 (harg2.unread x0) (harg3.unread x1) (harg4.unread x2) start n = state x0 x1 x2 n := by
  induction n with
  | zero => rfl
  | succ n ih =>
    have h4 := row_lt i
    have hk : n * 1024 + 1024 ≤ 4096 := by omega
    refine (st_k0_t1_succ (F := Ideal) Variants.none c none i arg2 harg2 arg3 harg3 arg4 harg4 arg5 harg5 arg6 harg6 (harg2.unread x0) (harg3.unread x1) (harg4.unread x2) start ⟨n, by rw [trips1]; omega⟩).trans ?_
    rw [trip_eq x0 x1 x2 c i arg2 harg2 arg3 harg3 arg4 harg4 arg5 harg5 arg6 harg6 ⟨n, by rw [trips1]; omega⟩ hk]
    unfold state
    rw [dif_pos hk]
    exact congrArg _ (ih (by omega))

/-- The state both loops leave. -/
theorem left_eq :
    st_k0_t2 (F := Ideal) Variants.none c none i arg2 harg2 arg3 harg3 arg4 harg4 arg5 harg5 arg6 harg6 (kernelRun0_A.sl.v28 i) (harg2.unread x0) (harg3.unread x1) (harg4.unread x2)
      (st_k0_t1 (F := Ideal) Variants.none c none i arg2 harg2 arg3 harg3 arg4 harg4 arg5 harg5 arg6 harg6 (harg2.unread x0) (harg3.unread x1) (harg4.unread x2) start (k0_t1_loop i).trips)
      (k0_t2_loop i).trips = state x0 x1 x2 (i 1).val := by
  rw [trips2 i, trips1 i]
  exact state_eq x0 x1 x2 c i arg2 harg2 arg3 harg3 arg4 harg4 arg5 harg5 arg6 harg6 _ le_rfl

/-! The run's names for these. -/

theorem r_eq : kernelRun0_A.sl.r (F := Ideal) c i arg2 harg2 arg3 harg3 arg4 harg4 arg5 harg5 arg6 harg6 x0 x1 x2 = (state x0 x1 x2 (i 1).val).1 :=
  Eq.trans (by unfold kernelRun0_A.sl.r; rfl) (congrArg (fun z : State => z.1) (left_eq x0 x1 x2 c i arg2 harg2 arg3 harg3 arg4 harg4 arg5 harg5 arg6 harg6))
theorem r_1_eq : kernelRun0_A.sl.r_1 (F := Ideal) c i arg2 harg2 arg3 harg3 arg4 harg4 arg5 harg5 arg6 harg6 x0 x1 x2 = (state x0 x1 x2 (i 1).val).2.1 :=
  Eq.trans (by unfold kernelRun0_A.sl.r_1; rfl) (congrArg (fun z : State => z.2.1) (left_eq x0 x1 x2 c i arg2 harg2 arg3 harg3 arg4 harg4 arg5 harg5 arg6 harg6))
theorem r_2_eq : kernelRun0_A.sl.r_2 (F := Ideal) c i arg2 harg2 arg3 harg3 arg4 harg4 arg5 harg5 arg6 harg6 x0 x1 x2 = (state x0 x1 x2 (i 1).val).2.2.1 :=
  Eq.trans (by unfold kernelRun0_A.sl.r_2; rfl) (congrArg (fun z : State => z.2.2.1) (left_eq x0 x1 x2 c i arg2 harg2 arg3 harg3 arg4 harg4 arg5 harg5 arg6 harg6))
theorem r_3_eq : kernelRun0_A.sl.r_3 (F := Ideal) c i arg2 harg2 arg3 harg3 arg4 harg4 arg5 harg5 arg6 harg6 x0 x1 x2 = (state x0 x1 x2 (i 1).val).2.2.2.1 :=
  Eq.trans (by unfold kernelRun0_A.sl.r_3; rfl) (congrArg (fun z : State => z.2.2.2.1) (left_eq x0 x1 x2 c i arg2 harg2 arg3 harg3 arg4 harg4 arg5 harg5 arg6 harg6))
theorem r_4_eq : kernelRun0_A.sl.r_4 (F := Ideal) c i arg2 harg2 arg3 harg3 arg4 harg4 arg5 harg5 arg6 harg6 x0 x1 x2 = (state x0 x1 x2 (i 1).val).2.2.2.2.1 :=
  Eq.trans (by unfold kernelRun0_A.sl.r_4; rfl) (congrArg (fun z : State => z.2.2.2.2.1) (left_eq x0 x1 x2 c i arg2 harg2 arg3 harg3 arg4 harg4 arg5 harg5 arg6 harg6))
theorem r_5_eq : kernelRun0_A.sl.r_5 (F := Ideal) c i arg2 harg2 arg3 harg3 arg4 harg4 arg5 harg5 arg6 harg6 x0 x1 x2 = (state x0 x1 x2 (i 1).val).2.2.2.2.2 :=
  Eq.trans (by unfold kernelRun0_A.sl.r_5; rfl) (congrArg (fun z : State => z.2.2.2.2.2) (left_eq x0 x1 x2 c i arg2 harg2 arg3 harg3 arg4 harg4 arg5 harg5 arg6 harg6))
theorem r_6_eq (j : ℕ) (ej : j = (i 1).val) (h : j * 1024 + 512 ≤ 4096) : kernelRun0_A.sl.r_6 (F := Ideal) i arg3 harg3 x1 = k0_pay36 (keys x1 512 (j * 1024) h) := by
  subst ej
  unfold kernelRun0_A.sl.r_6
  exact congrArg _ (keys_read x1 arg3 harg3 512 _ h _ (off5 i) (k0_off5_inb i))
theorem r_10_eq (j : ℕ) (ej : j = (i 1).val) (h : j * 1024 + 1024 ≤ 4096) : kernelRun0_A.sl.r_10 (F := Ideal) i arg4 harg4 x2 = k0_pay43 (vals x2 1024 (j * 1024) h) := by
  subst ej
  unfold kernelRun0_A.sl.r_10
  exact congrArg _ (vals_read x2 arg4 harg4 1024 _ h _ (off8 i) (k0_off8_inb i))
theorem r_11_eq (j : ℕ) (ej : j = (i 1).val) (h : j * 1024 + 1024 ≤ 4096) :
    kernelRun0_A.sl.r_11 (F := Ideal) i arg2 harg2 arg3 harg3 x0 x1 = k0_pay44 (keys x1 1024 (j * 1024) h) (rows x0 512 (by omega)) := by
  subst ej
  unfold kernelRun0_A.sl.r_11
  exact congrArg₂ _ (keys_read x1 arg3 harg3 1024 _ h _ (off7 i) (k0_off7_inb i)) (rows_read x0 arg2 harg2 512 (by omega) inb_S1024x256_S512x256_512_0)
theorem row0_eq : View.readAt (Elt Ideal) arg2.view (Rect.unit (s := S1024x256) ![0, 0] S512x256.size inb_S1024x256_S512x256_0_0).toLoadRect (harg2.unread x0) = rows x0 0 (by omega) :=
  rows_read x0 arg2 harg2 0 (by omega) inb_S1024x256_S512x256_0_0
theorem val6_eq (j : ℕ) (ej : j = (i 1).val) (h : j * 1024 + 512 ≤ 4096) :
    View.readAt (Elt Ideal) arg4.view (Rect.unit (s := S4096x128) (k0_off6 i) S512x128.size (k0_off6_inb i)).toLoadRect (harg4.unread x2) = vals x2 512 (j * 1024) h := by
  subst ej
  exact vals_read x2 arg4 harg4 512 _ h _ (off6 i) (k0_off6_inb i)
theorem r_7_eq : kernelRun0_A.sl.r_7 (F := Ideal) c i arg2 harg2 arg3 harg3 arg4 harg4 arg5 harg5 arg6 harg6 x0 x1 x2
    = k0_pay38 (BitVec.ofNat 32 (i 1).val) (state x0 x1 x2 (i 1).val).1 (BitVec.ofNat 32 ((i 1).val * 1024)) (k0_pay36 (keys x1 512 ((i 1).val * 1024) (by have := row_lt i; omega))) (rows x0 0 (by omega)) := by
  unfold kernelRun0_A.sl.r_7
  rw [r_eq, base_word, r_6_eq x1 i arg3 harg3 _ rfl (by have := row_lt i; omega), row0_eq]
theorem r_8_eq : kernelRun0_A.sl.r_8 (F := Ideal) c i arg2 harg2 arg3 harg3 arg4 harg4 arg5 harg5 arg6 harg6 x0 x1 x2
    = k0_pay41 (BitVec.ofNat 32 (i 1).val) (state x0 x1 x2 (i 1).val).1 (state x0 x1 x2 (i 1).val).2.1 (BitVec.ofNat 32 ((i 1).val * 1024)) (k0_pay36 (keys x1 512 ((i 1).val * 1024) (by have := row_lt i; omega))) (rows x0 0 (by omega)) := by
  unfold kernelRun0_A.sl.r_8
  rw [r_eq, r_1_eq, base_word, r_6_eq x1 i arg3 harg3 _ rfl (by have := row_lt i; omega), row0_eq]
theorem r_9_eq : kernelRun0_A.sl.r_9 (F := Ideal) c i arg2 harg2 arg3 harg3 arg4 harg4 arg5 harg5 arg6 harg6 x0 x1 x2
    = k0_pay42 (BitVec.ofNat 32 (i 1).val) (state x0 x1 x2 (i 1).val).1 (state x0 x1 x2 (i 1).val).2.2.1 (BitVec.ofNat 32 ((i 1).val * 1024)) (k0_pay36 (keys x1 512 ((i 1).val * 1024) (by have := row_lt i; omega)))
        (vals x2 512 ((i 1).val * 1024) (by have := row_lt i; omega)) (rows x0 0 (by omega)) := by
  unfold kernelRun0_A.sl.r_9
  rw [r_eq, r_2_eq, base_word, r_6_eq x1 i arg3 harg3 _ rfl (by have := row_lt i; omega), val6_eq x2 i arg4 harg4 _ rfl (by have := row_lt i; omega), row0_eq]
theorem r_12_eq : kernelRun0_A.sl.r_12 (F := Ideal) c i arg2 harg2 arg3 harg3 arg4 harg4 arg5 harg5 arg6 harg6 x0 x1 x2
    = k0_pay53 (state x0 x1 x2 (i 1).val).2.2.2.1 (state x0 x1 x2 (i 1).val).2.2.2.2.1 (BitVec.ofNat 32 ((i 1).val * 1024)) (k0_pay44 (keys x1 1024 ((i 1).val * 1024) (by have := row_lt i; omega)) (rows x0 512 (by omega))) (Scalar.muli (BitVec.ofNat 32 (i 1).val) 1024#32) := by
  unfold kernelRun0_A.sl.r_12
  rw [r_3_eq, r_4_eq, base_word, r_11_eq x0 x1 i arg2 harg2 arg3 harg3 _ rfl (by have := row_lt i; omega)]
  rfl

/-- The pieces over the output's block and over the log-sums'. -/
theorem pieces_out : (kernelRun0_A (F := Ideal) c i arg2 harg2 arg3 harg3 arg4 harg4 arg5 harg5 arg6 harg6 x0 x1 x2).1
    = [⟨Rect.unit (s := S1024x128) ![512, 0] S512x128.size inb_S1024x128_S512x128_512_0, out1 x0 x1 x2 (i 1).val (row_lt i) (state x0 x1 x2 (i 1).val)⟩,
       ⟨Rect.unit (s := S1024x128) ![0, 0] S512x128.size inb_S1024x128_S512x128_0_0, out0 x0 x1 x2 (i 1).val (row_lt i) (state x0 x1 x2 (i 1).val)⟩] := by
  have h4 := row_lt i
  unfold kernelRun0_A
  dsimp only
  rw [r_3_eq, r_4_eq, r_5_eq, base_word, r_8_eq, r_9_eq, r_10_eq x2 i arg4 harg4 _ rfl (by omega), r_11_eq x0 x1 i arg2 harg2 arg3 harg3 _ rfl (by omega)]
  unfold out0 out1 kernelRun0_A.sl.v80
  rfl

theorem pieces_lse : (kernelRun0_A (F := Ideal) c i arg2 harg2 arg3 harg3 arg4 harg4 arg5 harg5 arg6 harg6 x0 x1 x2).2.1
    = [⟨Rect.unit (s := S1024x128) ![512, 0] S512x128.size inb_S1024x128_S512x128_512_0, lse1 x0 x1 (i 1).val (row_lt i) (state x0 x1 x2 (i 1).val)⟩,
       ⟨Rect.unit (s := S1024x128) ![0, 0] S512x128.size inb_S1024x128_S512x128_0_0, lse0 x0 x1 (i 1).val (row_lt i) (state x0 x1 x2 (i 1).val)⟩] := by
  unfold kernelRun0_A
  dsimp only
  rw [r_12_eq, r_7_eq, r_8_eq]
  unfold lse0 lse1
  rfl

end Run

end Cert.FwdIdeal.Attn

end
-- ==== Proof.FwdReal.lean ====
/- The running maximum, sum and weighted sum of one row of attention, over the extended reals: block by block they stay
   the partial sums of the row's exponentials under a real shift. -/
module

public import proofs.«01_k».proof.Proof.Words

@[expose] public section

noncomputable section

namespace Cert.Attn

open Idealize.ShloMosaic

/-! ## Sums over the first keys -/

/-- The sum of `f` over the keys below `n`. -/
def first (n : ℕ) (f : Fin 4096 → ℝ) : ℝ := ∑ i ∈ Finset.range n, if h : i < 4096 then f ⟨i, h⟩ else 0

theorem first_zero (f : Fin 4096 → ℝ) : first 0 f = 0 := by simp [first]

/-- A block of `w` keys more adds its terms. -/
theorem first_step (f : Fin 4096 → ℝ) (n w : ℕ) (hn : n + w ≤ 4096) :
    first (n + w) f = first n f + ∑ i : Fin w, f ⟨n + i.val, by omega⟩ := by
  unfold first
  rw [Finset.sum_range_add, Finset.sum_range (n := w)]
  refine congrArg _ (Finset.sum_congr rfl fun i _ => ?_)
  rw [dif_pos]

/-- Where the keys from `n` on contribute nothing it is the whole sum. -/
theorem first_all (f : Fin 4096 → ℝ) (n : ℕ) (hn : n ≤ 4096) (h : ∀ c : Fin 4096, n ≤ c.val → f c = 0) : first n f = ∑ c, f c := by
  have e : first 4096 f = ∑ c, f c := by
    unfold first
    rw [Finset.sum_range]
    exact Finset.sum_congr rfl fun i _ => dif_pos i.isLt
  rw [← e]
  obtain ⟨w, hw⟩ := Nat.exists_eq_add_of_le hn
  have g : first (n + w) f = first n f := by
    rw [first_step f n w (by omega), Finset.sum_eq_zero, add_zero]
    intro i _
    exact h _ (by show n ≤ n + i.val; omega)
  rw [hw, g]

/-! ## One row -/

/-- A row's running maximum, sum and weighted sum: nothing yet, or the sums of the exponentials `L` and `A` under a real
    shift. -/
def Sofar (L A : ℝ) (m l a : EReal) : Prop :=
  (m = ⊥ ∧ l = 0 ∧ a = 0 ∧ L = 0 ∧ A = 0) ∨ ∃ μ : ℝ, m = (μ : EReal) ∧ l = ((L * Real.rpow 2 (-μ) : ℝ) : EReal) ∧ a = ((A * Real.rpow 2 (-μ) : ℝ) : EReal)

/-- A score `x` to the base 2 whose exponential is `e`: real, or masked. -/
def Weighs (x : EReal) (e : ℝ) : Prop := (∃ s : ℝ, x = (s : EReal) ∧ e = Real.rpow 2 s) ∨ (x = ⊥ ∧ e = 0)

theorem two_add (a b : ℝ) : Real.rpow 2 (a + b) = Real.rpow 2 a * Real.rpow 2 b := Real.rpow_add (by norm_num) a b

theorem exp2_weighs {x : EReal} {e : ℝ} (h : Weighs x e) (μ : ℝ) : Ideal.exp2 (x - (μ : EReal)) = ((e * Real.rpow 2 (-μ) : ℝ) : EReal) := by
  rcases h with ⟨s, rfl, rfl⟩ | ⟨rfl, rfl⟩
  · rw [← EReal.coe_sub, Ideal.exp2_coe, sub_eq_add_neg, two_add]
  · rw [EReal.bot_sub, Ideal.exp2_bot, zero_mul]; rfl

/-- One block of keys more. -/
theorem sofar_step {w : ℕ} {L A : ℝ} {m l a : EReal} (h : Sofar L A m l a) (x : Fin w → EReal) (e v : Fin w → ℝ) (hx : ∀ c, Weighs (x c) (e c))
    (c0 : Fin w) (h0 : ⊥ < x c0) (u : Fin w → EReal) (hu : ∀ c, u c = ((v c : ℝ) : EReal)) :
    Sofar (L + ∑ c, e c) (A + ∑ c, e c * v c) (max m (Finset.fold max ⊥ x Finset.univ))
      (Ideal.exp2 (m - max m (Finset.fold max ⊥ x Finset.univ)) * l + ∑ c, Ideal.exp2 (x c - max m (Finset.fold max ⊥ x Finset.univ)))
      (Ideal.exp2 (m - max m (Finset.fold max ⊥ x Finset.univ)) * a + ∑ c, Ideal.exp2 (x c - max m (Finset.fold max ⊥ x Finset.univ)) * u c) := by
  have hm : m < ⊤ := by
    rcases h with ⟨rfl, -⟩ | ⟨μ, rfl, -⟩
    · exact bot_lt_top
    · exact EReal.coe_lt_top μ
  obtain ⟨ν, hν⟩ := fold_max_real x (fun c => by
    rcases hx c with ⟨s, e, -⟩ | ⟨e, -⟩ <;> rw [e]
    · exact EReal.coe_lt_top s
    · exact bot_lt_top) c0 h0
  obtain ⟨μ, hμ⟩ : ∃ μ : ℝ, max m (Finset.fold max ⊥ x Finset.univ) = (μ : EReal) := by
    rw [hν]
    have h1 : max m (ν : EReal) < ⊤ := max_lt hm (EReal.coe_lt_top ν)
    have h2 : ⊥ < max m (ν : EReal) := lt_of_lt_of_le (EReal.bot_lt_coe ν) (le_max_right _ _)
    exact ⟨_, (EReal.coe_toReal h1.ne h2.ne').symm⟩
  rw [hμ]
  have e1 : ∑ c, Ideal.exp2 (x c - (μ : EReal)) = (((∑ c, e c) * Real.rpow 2 (-μ) : ℝ) : EReal) := by
    rw [Finset.sum_mul, ← coe_sum]
    exact Finset.sum_congr rfl fun c _ => exp2_weighs (hx c) μ
  have e2 : ∑ c, Ideal.exp2 (x c - (μ : EReal)) * u c = (((∑ c, e c * v c) * Real.rpow 2 (-μ) : ℝ) : EReal) := by
    rw [coe_dot (fun c => e c * Real.rpow 2 (-μ)) v (fun c => exp2_weighs (hx c) μ) hu, Finset.sum_mul]
    exact congrArg _ (Finset.sum_congr rfl fun c _ => mul_right_comm _ _ _)
  rw [e1, e2]
  refine Or.inr ⟨μ, rfl, ?_, ?_⟩
  · rw [add_mul, EReal.coe_add]
    refine congrArg (· + _) ?_
    rcases h with ⟨rfl, rfl, rfl, rfl, rfl⟩ | ⟨κ, rfl, rfl, rfl⟩
    · rw [mul_zero, zero_mul]; rfl
    · rw [← EReal.coe_sub, Ideal.exp2_coe, ← EReal.coe_mul, sub_eq_add_neg, two_add]
      refine congrArg _ ?_
      have g : Real.rpow 2 κ * Real.rpow 2 (-κ) = 1 := by rw [← two_add, add_neg_cancel]; exact Real.rpow_zero 2
      linear_combination (L * Real.rpow 2 (-μ)) * g
  · rw [add_mul, EReal.coe_add]
    refine congrArg (· + _) ?_
    rcases h with ⟨rfl, rfl, rfl, rfl, rfl⟩ | ⟨κ, rfl, rfl, rfl⟩
    · rw [mul_zero, zero_mul]; rfl
    · rw [← EReal.coe_sub, Ideal.exp2_coe, ← EReal.coe_mul, sub_eq_add_neg, two_add]
      refine congrArg _ ?_
      have g : Real.rpow 2 κ * Real.rpow 2 (-κ) = 1 := by rw [← two_add, add_neg_cancel]; exact Real.rpow_zero 2
      linear_combination (A * Real.rpow 2 (-μ)) * g

theorem two_pos (a : ℝ) : 0 < Real.rpow 2 a := Real.rpow_pos_of_pos (by norm_num) a

/-- At the end the quotient is the quotient of the sums, -/
theorem sofar_div {L A : ℝ} {m l a : EReal} (h : Sofar L A m l a) (hL : 0 < L) : Ideal.div a l = ((A / L : ℝ) : EReal) := by
  rcases h with ⟨-, -, -, rfl, -⟩ | ⟨μ, rfl, rfl, rfl⟩
  · exact absurd hL (lt_irrefl _)
  · rw [div_real _ _ (mul_pos hL (two_pos _)).ne', mul_div_mul_right _ _ (two_pos _).ne']

/-- and the shift cancels in the logarithm to the base 2. -/
theorem sofar_log {L A : ℝ} {m l a : EReal} (h : Sofar L A m l a) (hL : 0 < L) :
    m + Ideal.log l * (((Real.log 2)⁻¹ : ℝ) : EReal) = ((Real.log L * (Real.log 2)⁻¹ : ℝ) : EReal) := by
  rcases h with ⟨-, -, -, rfl, -⟩ | ⟨μ, rfl, rfl, rfl⟩
  · exact absurd hL (lt_irrefl _)
  · rw [log_real _ (mul_pos hL (two_pos _)), ← EReal.coe_mul, ← EReal.coe_add]
    refine congrArg _ ?_
    rw [Real.log_mul hL.ne' (two_pos _).ne', show Real.log (Real.rpow 2 (-μ)) = -μ * Real.log 2 from Real.log_rpow (by norm_num) _]
    have := log2_pos.ne'
    field_simp
    ring

section Head

variable (q k : Fin 4096 → Fin 192 → ℝ) (v : Fin 4096 → Fin 128 → ℝ)

/-- A masked score to the base 2. -/
def msc2 (r c : Fin 4096) : EReal := if c.val ≤ r.val then ((sc q k r c / Real.log 2 : ℝ) : EReal) else ⊥

theorem msc2_weighs (r c : Fin 4096) : Weighs (msc2 q k r c) (ex q k 0 r c) := by
  unfold msc2 ex
  split
  · refine Or.inl ⟨_, rfl, ?_⟩
    rw [show ∀ x : ℝ, Real.rpow 2 x = (2 : ℝ) ^ x from fun _ => rfl, Real.rpow_def_of_pos (by norm_num), mul_div_cancel₀ _ log2_pos.ne', sub_zero]
  · exact Or.inr ⟨rfl, rfl⟩

theorem msc2_bot (r c : Fin 4096) (h : c.val ≤ r.val) : ⊥ < msc2 q k r c := by
  unfold msc2; rw [if_pos h]; exact EReal.bot_lt_coe _

theorem ex_after (r c : Fin 4096) (h : r.val < c.val) : ex q k 0 r c = 0 := by
  unfold ex; rw [if_neg (by omega)]

/-- Row `r`'s running values over the keys below `n`, for column `y` of the values. -/
def Upto (n : ℕ) (r : Fin 4096) (y : Fin 128) (m l a : EReal) : Prop :=
  Sofar (first n fun c => ex q k 0 r c) (first n fun c => ex q k 0 r c * v c y) m l a

theorem upto_start (r : Fin 4096) (y : Fin 128) : Upto q k v 0 r y ⊥ 0 0 :=
  Or.inl ⟨rfl, rfl, rfl, first_zero _, first_zero _⟩

/-- A block of `w` keys more. -/
theorem upto_more {n w : ℕ} (hn : n + w ≤ 4096) {r : Fin 4096} {y : Fin 128} {m l a : EReal} (h : Upto q k v n r y m l a) (hw : 0 < w) (hr : n ≤ r.val)
    (x u : Fin w → EReal) (hx : ∀ c, x c = msc2 q k r ⟨n + c.val, by omega⟩) (hu : ∀ c, u c = ((v ⟨n + c.val, by omega⟩ y : ℝ) : EReal)) :
    Upto q k v (n + w) r y (max m (Finset.fold max ⊥ x Finset.univ))
      (Ideal.exp2 (m - max m (Finset.fold max ⊥ x Finset.univ)) * l + ∑ c, Ideal.exp2 (x c - max m (Finset.fold max ⊥ x Finset.univ)))
      (Ideal.exp2 (m - max m (Finset.fold max ⊥ x Finset.univ)) * a + ∑ c, Ideal.exp2 (x c - max m (Finset.fold max ⊥ x Finset.univ)) * u c) := by
  unfold Upto
  rw [first_step _ n w hn, first_step _ n w hn]
  exact sofar_step h x (fun c => ex q k 0 r ⟨n + c.val, by omega⟩) (fun c => v ⟨n + c.val, by omega⟩ y) (fun c => by rw [hx]; exact msc2_weighs q k r _)
    ⟨0, hw⟩ (by rw [hx]; exact msc2_bot q k r _ hr) u hu

/-- Once the keys reach past the row, the quotient is the row's output, -/
theorem upto_div {n : ℕ} (hn : n ≤ 4096) {r : Fin 4096} {y : Fin 128} {m l a : EReal} (h : Upto q k v n r y m l a) (hr : r.val < n) :
    Ideal.div a l = ((∑ c, pr q k r c * v c y : ℝ) : EReal) := by
  have eL := first_all (fun c => ex q k 0 r c) n hn fun c hc => ex_after q k r c (by omega)
  have eA := first_all (fun c => ex q k 0 r c * v c y) n hn fun c hc => by rw [ex_after q k r c (by omega), zero_mul]
  unfold Upto at h
  rw [eL, eA] at h
  rw [sofar_div h (sum_ex_pos q k 0 r), Finset.sum_div]
  refine congrArg _ (Finset.sum_congr rfl fun c _ => ?_)
  unfold pr
  ring

/-- and the maximum with the sum's logarithm the row's log-sum to the base 2. -/
theorem upto_log {n : ℕ} (hn : n ≤ 4096) {r : Fin 4096} {y : Fin 128} {m l a : EReal} (h : Upto q k v n r y m l a) (hr : r.val < n) :
    m + Ideal.log l * (((Real.log 2)⁻¹ : ℝ) : EReal) = ((Real.log (∑ c, ex q k 0 r c) * (Real.log 2)⁻¹ : ℝ) : EReal) := by
  have eL := first_all (fun c => ex q k 0 r c) n hn fun c hc => ex_after q k r c (by omega)
  unfold Upto at h
  rw [eL] at h
  exact sofar_log h (sum_ex_pos q k 0 r)

end Head

end Cert.Attn

end
-- ==== Proof.FwdStep.lean ====
/- The pure steps of the attention's forward call, read at an index. -/
module

public import proofs.«01_k».proof.Proof.FwdRun
public import proofs.«01_k».proof.Proof.FwdReal
public import Idealize.ShloMosaic.Lib.WordCmp

@[expose] public section

set_option maxRecDepth 16384

noncomputable section

namespace Cert.FwdIdeal.Attn

open Idealize.ShloMosaic Idealize.ShloMosaic.TcCoe Idealize.ShloMosaic.WordCmp Cert.FwdIdeal Cert.FwdIdeal.Gen Cert.Attn

section Steps

variable (m l : FVec Ideal S512x1 .f32) (a : FVec Ideal S512x128 .f32) (K : FVec Ideal S1024x256 .bf16) (W : FVec Ideal S1024x128 .bf16) (Q : FVec Ideal S512x256 .bf16)
  (i : Fin 512) (y : Fin 128)

theorem pay2_at (c : Fin 1024) : k0_pay2 (F := Ideal) K Q (ix2 i c) = ∑ x, Q (ix2 i x) * K (ix2 c x) := by
  pointwise [k0_pay2]
theorem pay3_at : k0_pay3 (F := Ideal) m K Q (ix2 i 0) = max (m (ix2 i 0)) (Finset.fold max ⊥ (fun c : Fin 1024 => k0_pay2 (F := Ideal) K Q (ix2 i c)) Finset.univ) := by
  pointwise [k0_pay3]
  rw [word_bot]
theorem pay6_at : k0_pay6 (F := Ideal) m l K Q (ix2 i 0)
    = Ideal.exp2 (m (ix2 i 0) - k0_pay3 (F := Ideal) m K Q (ix2 i 0)) * l (ix2 i 0) + ∑ c : Fin 1024, Ideal.exp2 (k0_pay2 (F := Ideal) K Q (ix2 i c) - k0_pay3 (F := Ideal) m K Q (ix2 i 0)) := by
  pointwise [k0_pay6, k0_pay5, k0_pay4]
  rfl
theorem pay7_at : k0_pay7 (F := Ideal) m a K W Q (ix2 i y)
    = Ideal.exp2 (m (ix2 i 0) - k0_pay3 (F := Ideal) m K Q (ix2 i 0)) * a (ix2 i y) + ∑ c : Fin 1024, Ideal.exp2 (k0_pay2 (F := Ideal) K Q (ix2 i c) - k0_pay3 (F := Ideal) m K Q (ix2 i 0)) * W (ix2 c y) := by
  pointwise [k0_pay7, k0_pay5, k0_pay4]
  rfl

theorem pay9_at (c : Fin 1024) : k0_pay9 (F := Ideal) K Q (ix2 i c) = ∑ x, Q (ix2 i x) * K (ix2 c x) := by
  pointwise [k0_pay9]
theorem pay10_at : k0_pay10 (F := Ideal) m K Q (ix2 i 0) = max (m (ix2 i 0)) (Finset.fold max ⊥ (fun c : Fin 1024 => k0_pay9 (F := Ideal) K Q (ix2 i c)) Finset.univ) := by
  pointwise [k0_pay10]
  rw [word_bot]
theorem pay31_at : k0_pay31 (F := Ideal) l (k0_pay11 (F := Ideal) m K Q) (k0_pay12 (F := Ideal) m K Q) (ix2 i 0)
    = Ideal.exp2 (m (ix2 i 0) - k0_pay10 (F := Ideal) m K Q (ix2 i 0)) * l (ix2 i 0) + ∑ c : Fin 1024, Ideal.exp2 (k0_pay9 (F := Ideal) K Q (ix2 i c) - k0_pay10 (F := Ideal) m K Q (ix2 i 0)) := by
  pointwise [k0_pay31, k0_pay30, k0_pay11, k0_pay12]
  rfl
theorem pay32_at : k0_pay32 (F := Ideal) a (k0_pay8 (F := Ideal) W) (k0_pay11 (F := Ideal) m K Q) (k0_pay12 (F := Ideal) m K Q) (ix2 i y)
    = Ideal.exp2 (m (ix2 i 0) - k0_pay10 (F := Ideal) m K Q (ix2 i 0)) * a (ix2 i y) + ∑ c : Fin 1024, Ideal.exp2 (k0_pay9 (F := Ideal) K Q (ix2 i c) - k0_pay10 (F := Ideal) m K Q (ix2 i 0)) * W (ix2 c y) := by
  pointwise [k0_pay32, k0_pay30, k0_pay8, k0_pay11, k0_pay12]
  rfl

end Steps

end Cert.FwdIdeal.Attn

end
-- ==== Proof.FwdDiag.lean ====
/- The forward call's steps at the diagonal, read at an index. -/
module

public import proofs.«01_k».proof.Proof.FwdRun
public import proofs.«01_k».proof.Proof.FwdReal
public import Idealize.ShloMosaic.Lib.WordCmp

@[expose] public section

set_option maxRecDepth 16384

noncomputable section

namespace Cert.FwdIdeal.Attn

open Idealize.ShloMosaic Idealize.ShloMosaic.TcCoe Idealize.ShloMosaic.WordCmp Cert.FwdIdeal Cert.FwdIdeal.Gen Cert.Attn

theorem mask_eq : Named.named (F := Ideal) (φ := .f32) κ "mask" 0xF149F2CA#32 = (⊥ : EReal) := IdealRules.named_const.ideal_named_scalar _ _ _ _ rfl
theorem invln2_eq : Named.named (F := Ideal) (φ := .f32) κ "invln2" 0x3FB8AA3B#32 = (((Real.log 2)⁻¹ : ℝ) : EReal) := IdealRules.named_const.ideal_named_scalar _ _ _ _ rfl

/-- The causal comparison on words is the comparison of the row and column numbers. -/
theorem causal (t a r c : ℕ) (ht : t < 4) (ha : a ≤ 512) (hr : r < 512) (hc : c < 1024) (x y : EReal) :
    Scalar.select (IntOp.cmpi .sle (IntOp.addi (BitVec.ofNat 32 (t * 1024)) (BitVec.ofNat 32 c))
        (IntOp.addi (Scalar.addi (Scalar.muli (BitVec.ofNat 32 t) 1024#32) (BitVec.ofNat 32 a)) (BitVec.ofNat 32 r))) x y
      = if t * 1024 + c ≤ t * 1024 + (a + r) then x else y := by
  have e : ∀ b b', Scalar.muli (BitVec.ofNat 32 b) (BitVec.ofNat 32 b') = BitVec.ofNat 32 (b * b') := fun b b' => muli_ofNat b b'
  have e' : ∀ b b', Scalar.addi (BitVec.ofNat 32 b) (BitVec.ofNat 32 b') = BitVec.ofNat 32 (b + b') := fun b b' => addi_ofNat b b'
  rw [show (1024#32 : BitVec 32) = BitVec.ofNat 32 1024 from rfl, e, e', addi_ofNat, addi_ofNat]
  split
  · next h => exact select_of_eq_one ((cmpi_sle_ofNat_eq_one_iff (by omega) (by omega)).mpr (by omega)) x y
  · next h => exact select_of_eq_zero ((cmpi_sle_ofNat_eq_zero_iff (by omega) (by omega)).mpr (by omega)) x y

/-! ## The steps, row by row -/

section Diagonal

variable (m l : FVec Ideal S512x1 .f32) (a : FVec Ideal S512x128 .f32) (Q : FVec Ideal S512x256 .bf16) (i : Fin 512) (y : Fin 128) {j : ℕ} (hj : j < 4)

section Half

variable (K : FVec Ideal S512x256 .bf16) (W : FVec Ideal S512x128 .bf16)

include hj in
theorem pay37_at (c : Fin 512) : k0_pay37 (F := Ideal) (BitVec.ofNat 32 j) (BitVec.ofNat 32 (j * 1024)) (k0_pay36 (F := Ideal) K) Q (ix2 i c)
    = if j * 1024 + c.val ≤ j * 1024 + (0 + i.val) then ∑ x, Q (ix2 i x) * K (ix2 c x) else ⊥ := by
  pointwise [k0_pay37, k0_pay36]
  rw [mask_eq]
  exact (causal j 0 i.val c.val hj (by omega) i.isLt (by omega) _ _).trans (by rw [Nat.zero_add])

variable (b1 b2 : BitVec 32) (Kp : FVec Ideal S512x256 .bf16)

theorem pay38_at : k0_pay38 (F := Ideal) b1 m b2 Kp Q (ix2 i 0) = max (m (ix2 i 0)) (Finset.fold max ⊥ (fun c : Fin 512 => k0_pay37 (F := Ideal) b1 b2 Kp Q (ix2 i c)) Finset.univ) := by
  pointwise [k0_pay38]
  rw [word_bot]
theorem pay41_at : k0_pay41 (F := Ideal) b1 m l b2 Kp Q (ix2 i 0)
    = Ideal.exp2 (m (ix2 i 0) - k0_pay38 (F := Ideal) b1 m b2 Kp Q (ix2 i 0)) * l (ix2 i 0) + ∑ c : Fin 512, Ideal.exp2 (k0_pay37 (F := Ideal) b1 b2 Kp Q (ix2 i c) - k0_pay38 (F := Ideal) b1 m b2 Kp Q (ix2 i 0)) := by
  pointwise [k0_pay41, k0_pay40, k0_pay39]
  rfl
theorem pay42_at : k0_pay42 (F := Ideal) b1 m a b2 Kp W Q (ix2 i y)
    = Ideal.exp2 (m (ix2 i 0) - k0_pay38 (F := Ideal) b1 m b2 Kp Q (ix2 i 0)) * a (ix2 i y) + ∑ c : Fin 512, Ideal.exp2 (k0_pay37 (F := Ideal) b1 b2 Kp Q (ix2 i c) - k0_pay38 (F := Ideal) b1 m b2 Kp Q (ix2 i 0)) * W (ix2 c y) := by
  pointwise [k0_pay42, k0_pay40, k0_pay39]
  rfl

end Half

theorem pay50_at : k0_pay50 (F := Ideal) l a (ix2 i y) = Ideal.div (a (ix2 i y)) (l (ix2 i 0)) := by
  pointwise [k0_pay50]
theorem pay51_at : k0_pay51 (F := Ideal) m l (ix2 i y) = m (ix2 i 0) + Ideal.log (l (ix2 i 0)) * (((Real.log 2)⁻¹ : ℝ) : EReal) := by
  pointwise [k0_pay51]
  rw [invln2_eq]

section Full

variable (K : FVec Ideal S1024x256 .bf16) (W : FVec Ideal S1024x128 .bf16)

include hj in
theorem pay45_at (c : Fin 1024) : k0_pay45 (F := Ideal) (BitVec.ofNat 32 (j * 1024)) (k0_pay44 (F := Ideal) K Q) (Scalar.muli (BitVec.ofNat 32 j) 1024#32) (ix2 i c)
    = if j * 1024 + c.val ≤ j * 1024 + (512 + i.val) then ∑ x, Q (ix2 i x) * K (ix2 c x) else ⊥ := by
  pointwise [k0_pay45, k0_pay44]
  rw [mask_eq]
  exact causal j 512 i.val c.val hj (by omega) i.isLt (by omega) _ _

variable (b1 b2 : BitVec 32) (S : FVec Ideal S512x1024 .f32)

theorem pay46_at : k0_pay46 (F := Ideal) m b1 S b2 (ix2 i 0) = max (m (ix2 i 0)) (Finset.fold max ⊥ (fun c : Fin 1024 => k0_pay45 (F := Ideal) b1 S b2 (ix2 i c)) Finset.univ) := by
  pointwise [k0_pay46]
  rw [word_bot]
theorem pay49_at : k0_pay49 (F := Ideal) m l b1 S b2 (ix2 i 0)
    = Ideal.exp2 (m (ix2 i 0) - k0_pay46 (F := Ideal) m b1 S b2 (ix2 i 0)) * l (ix2 i 0) + ∑ c : Fin 1024, Ideal.exp2 (k0_pay45 (F := Ideal) b1 S b2 (ix2 i c) - k0_pay46 (F := Ideal) m b1 S b2 (ix2 i 0)) := by
  pointwise [k0_pay49, k0_pay48, k0_pay47]
  rfl
theorem pay52_at : k0_pay52 (F := Ideal) m l a b1 (k0_pay43 (F := Ideal) W) S b2 (ix2 i y)
    = Ideal.div (Ideal.exp2 (m (ix2 i 0) - k0_pay46 (F := Ideal) m b1 S b2 (ix2 i 0)) * a (ix2 i y) + ∑ c : Fin 1024, Ideal.exp2 (k0_pay45 (F := Ideal) b1 S b2 (ix2 i c) - k0_pay46 (F := Ideal) m b1 S b2 (ix2 i 0)) * W (ix2 c y))
        (k0_pay49 (F := Ideal) m l b1 S b2 (ix2 i 0)) := by
  pointwise [k0_pay52, k0_pay48, k0_pay47, k0_pay43]
  rfl
theorem pay53_at : k0_pay1 (F := Ideal) (k0_pay53 (F := Ideal) m l b1 S b2) (ix2 i y)
    = k0_pay46 (F := Ideal) m b1 S b2 (ix2 i 0) + Ideal.log (k0_pay49 (F := Ideal) m l b1 S b2 (ix2 i 0)) * (((Real.log 2)⁻¹ : ℝ) : EReal) := by
  pointwise [k0_pay1, k0_pay53]
  rw [invln2_eq]

end Full

end Diagonal

end Cert.FwdIdeal.Attn

end
-- ==== Proof.FwdRows.lean ====
/- What the rows of the forward call's two chains hold: before each trip, and after the diagonal step. -/
module

public import proofs.«01_k».proof.Proof.FwdStep
public import proofs.«01_k».proof.Proof.FwdDiag

@[expose] public section

set_option maxRecDepth 16384

noncomputable section

namespace Cert.FwdIdeal.Attn

open Idealize.ShloMosaic Idealize.ShloMosaic.TcCoe Cert.FwdIdeal Cert.FwdIdeal.Gen Cert.Attn

section Row

variable {q k : Fin 4096 → Fin 192 → ℝ} {v : Fin 4096 → Fin 128 → ℝ} {x0 : Vec Ideal S1024x256 .bf16} {x1 : Vec Ideal S4096x256 .bf16} {x2 : Vec Ideal S4096x128 .bf16} {j : ℕ}

/-- Row `o + i` of query tile `j`. -/
def row (j : ℕ) (hj : j < 4) (o : ℕ) (ho : o + 512 ≤ 1024) (i : Fin 512) : Fin 4096 := ⟨j * 1024 + (o + i.val), by omega⟩

/-- The blocks are those of query tile `j` of a head with real queries, keys and values: the products are its scores to the
    base 2. -/
structure Of (q k : Fin 4096 → Fin 192 → ℝ) (v : Fin 4096 → Fin 128 → ℝ) (x0 : Vec Ideal S1024x256 .bf16) (x1 : Vec Ideal S4096x256 .bf16) (x2 : Vec Ideal S4096x128 .bf16) (j : ℕ) (hj : j < 4) : Prop where
  score : ∀ (r : Fin 1024) (c : Fin 4096), ∑ x : Fin 256, (x0 (ix2 r x) : EReal) * x1 (ix2 c x) = ((sc q k ⟨j * 1024 + r.val, by omega⟩ c / Real.log 2 : ℝ) : EReal)
  val : ∀ (c : Fin 4096) (y : Fin 128), x2 (ix2 c y) = ((v c y : ℝ) : EReal)

variable {hj : j < 4} (H : Of q k v x0 x1 x2 j hj)

include H

theorem dot_of (o : ℕ) (ho : o + 512 ≤ 1024) (w p : ℕ) (hp : p + w ≤ 4096) (i : Fin 512) (c : Fin w) :
    ∑ x : Fin 256, (rows x0 o ho (ix2 i x) : EReal) * keys x1 w p hp (ix2 c x) = ((sc q k (row j hj o ho i) ⟨p + c.val, by omega⟩ / Real.log 2 : ℝ) : EReal) :=
  H.score ⟨o + i.val, by omega⟩ ⟨p + c.val, by omega⟩

theorem dot_before (o : ℕ) (ho : o + 512 ≤ 1024) (w p : ℕ) (hp : p + w ≤ 4096) (i : Fin 512) (c : Fin w) (h : p + c.val ≤ j * 1024 + (o + i.val)) :
    ∑ x : Fin 256, (rows x0 o ho (ix2 i x) : EReal) * keys x1 w p hp (ix2 c x) = msc2 q k (row j hj o ho i) ⟨p + c.val, by omega⟩ := by
  rw [dot_of H]
  unfold msc2
  exact (if_pos h).symm

theorem dot_masked (o : ℕ) (ho : o + 512 ≤ 1024) (w p : ℕ) (hp : p + w ≤ 4096) (i : Fin 512) (c : Fin w) :
    (if p + c.val ≤ j * 1024 + (o + i.val) then ∑ x : Fin 256, (rows x0 o ho (ix2 i x) : EReal) * keys x1 w p hp (ix2 c x) else ⊥) = msc2 q k (row j hj o ho i) ⟨p + c.val, by omega⟩ := by
  rw [dot_of H]
  rfl

/-- Before trip `n` a row of either chain holds its sums over the keys of the trips gone. -/
theorem state_at (n : ℕ) (hn : n ≤ j) (i : Fin 512) (y : Fin 128) :
    Upto q k v (n * 1024) (row j hj 0 (by omega) i) y ((state x0 x1 x2 n).1 (ix2 i 0)) ((state x0 x1 x2 n).2.1 (ix2 i 0)) ((state x0 x1 x2 n).2.2.1 (ix2 i y))
    ∧ Upto q k v (n * 1024) (row j hj 512 (by omega) i) y ((state x0 x1 x2 n).2.2.2.1 (ix2 i 0)) ((state x0 x1 x2 n).2.2.2.2.1 (ix2 i 0)) ((state x0 x1 x2 n).2.2.2.2.2 (ix2 i y)) := by
  induction n with
  | zero =>
    have z : Ideal.ofBits .f32 0x00000000#32 = 0 := Ideal.ofBits_zero .f32
    have h1 : k0_pay24 (F := Ideal) (ix2 i 0) = (⊥ : EReal) := by pointwise [k0_pay24]; exact mask_eq
    have h2 : k0_pay25 (F := Ideal) (ix2 i 0) = (0 : EReal) := by pointwise [k0_pay25]
    have h3 : k0_pay26 (F := Ideal) (ix2 i y) = (0 : EReal) := by pointwise [k0_pay26]
    have h4 : k0_pay27 (F := Ideal) (ix2 i 0) = (⊥ : EReal) := by pointwise [k0_pay27]; exact mask_eq
    have h5 : k0_pay28 (F := Ideal) (ix2 i 0) = (0 : EReal) := by pointwise [k0_pay28]
    have h6 : k0_pay29 (F := Ideal) (ix2 i y) = (0 : EReal) := by pointwise [k0_pay29]
    unfold state start
    dsimp only
    rw [h1, h2, h3, h4, h5, h6, Nat.zero_mul]
    exact ⟨upto_start q k v _ y, upto_start q k v _ y⟩
  | succ n ih =>
    have hk : n * 1024 + 1024 ≤ 4096 := by omega
    obtain ⟨g0, g1⟩ := ih (by omega)
    unfold state
    rw [dif_pos hk, Nat.succ_mul]
    unfold turn
    dsimp only
    constructor
    · rw [pay6_at, pay7_at, pay3_at]
      exact upto_more q k v hk g0 (by norm_num) (by show n * 1024 ≤ j * 1024 + (0 + i.val); omega) _ _
        (fun c => (pay2_at _ _ i c).trans (dot_before H 0 _ 1024 _ hk i c (by omega))) (fun c => H.val _ y)
    · rw [pay31_at, pay32_at, pay10_at]
      exact upto_more q k v hk g1 (by norm_num) (by show n * 1024 ≤ j * 1024 + (512 + i.val); omega) _ _
        (fun c => (pay9_at _ _ i c).trans (dot_before H 512 _ 1024 _ hk i c (by omega))) (fun c => H.val _ y)

/-- After the diagonal step the first chain's row holds its sums, -/
theorem last0 (i : Fin 512) (y : Fin 128) :
    Upto q k v (j * 1024 + 512) (row j hj 0 (by omega) i) y
      (k0_pay38 (F := Ideal) (BitVec.ofNat 32 j) (state x0 x1 x2 j).1 (BitVec.ofNat 32 (j * 1024)) (k0_pay36 (keys x1 512 (j * 1024) (by omega))) (rows x0 0 (by omega)) (ix2 i 0))
      (k0_pay41 (F := Ideal) (BitVec.ofNat 32 j) (state x0 x1 x2 j).1 (state x0 x1 x2 j).2.1 (BitVec.ofNat 32 (j * 1024)) (k0_pay36 (keys x1 512 (j * 1024) (by omega))) (rows x0 0 (by omega)) (ix2 i 0))
      (k0_pay42 (F := Ideal) (BitVec.ofNat 32 j) (state x0 x1 x2 j).1 (state x0 x1 x2 j).2.2.1 (BitVec.ofNat 32 (j * 1024)) (k0_pay36 (keys x1 512 (j * 1024) (by omega))) (vals x2 512 (j * 1024) (by omega)) (rows x0 0 (by omega)) (ix2 i y)) := by
  rw [pay41_at, pay42_at, pay38_at]
  exact upto_more q k v (by omega) (state_at H j le_rfl i y).1 (by norm_num) (by show j * 1024 ≤ j * 1024 + (0 + i.val); omega) _ _
    (fun c => (pay37_at _ i hj _ c).trans (dot_masked H 0 _ 512 _ (by omega) i c)) (fun c => H.val _ y)

/-- and the second's. -/
theorem last1 (i : Fin 512) (y : Fin 128) :
    Upto q k v (j * 1024 + 1024) (row j hj 512 (by omega) i) y
      (k0_pay46 (F := Ideal) (state x0 x1 x2 j).2.2.2.1 (BitVec.ofNat 32 (j * 1024)) (k0_pay44 (keys x1 1024 (j * 1024) (by omega)) (rows x0 512 (by omega))) (Scalar.muli (BitVec.ofNat 32 j) 1024#32) (ix2 i 0))
      (k0_pay49 (F := Ideal) (state x0 x1 x2 j).2.2.2.1 (state x0 x1 x2 j).2.2.2.2.1 (BitVec.ofNat 32 (j * 1024)) (k0_pay44 (keys x1 1024 (j * 1024) (by omega)) (rows x0 512 (by omega))) (Scalar.muli (BitVec.ofNat 32 j) 1024#32) (ix2 i 0))
      (Ideal.exp2 ((state x0 x1 x2 j).2.2.2.1 (ix2 i 0) - k0_pay46 (F := Ideal) (state x0 x1 x2 j).2.2.2.1 (BitVec.ofNat 32 (j * 1024)) (k0_pay44 (keys x1 1024 (j * 1024) (by omega)) (rows x0 512 (by omega))) (Scalar.muli (BitVec.ofNat 32 j) 1024#32) (ix2 i 0))
          * (state x0 x1 x2 j).2.2.2.2.2 (ix2 i y)
        + ∑ c : Fin 1024, Ideal.exp2 (k0_pay45 (F := Ideal) (BitVec.ofNat 32 (j * 1024)) (k0_pay44 (keys x1 1024 (j * 1024) (by omega)) (rows x0 512 (by omega))) (Scalar.muli (BitVec.ofNat 32 j) 1024#32) (ix2 i c)
            - k0_pay46 (F := Ideal) (state x0 x1 x2 j).2.2.2.1 (BitVec.ofNat 32 (j * 1024)) (k0_pay44 (keys x1 1024 (j * 1024) (by omega)) (rows x0 512 (by omega))) (Scalar.muli (BitVec.ofNat 32 j) 1024#32) (ix2 i 0))
          * vals x2 1024 (j * 1024) (by omega) (ix2 c y)) := by
  rw [pay49_at, pay46_at]
  exact upto_more q k v (by omega) (state_at H j le_rfl i y).2 (by norm_num) (by show j * 1024 ≤ j * 1024 + (512 + i.val); omega) _ _
    (fun c => (pay45_at _ i hj _ c).trans (dot_masked H 512 _ 1024 _ (by omega) i c)) (fun c => H.val _ y)

/-- The outputs and the log-sums of the two chains. -/
theorem out0_at (i : Fin 512) (y : Fin 128) : out0 x0 x1 x2 j hj (state x0 x1 x2 j) (ix2 i y) = ((∑ c, pr q k (row j hj 0 (by omega) i) c * v c y : ℝ) : EReal) := by
  unfold out0
  rw [pay50_at]
  exact upto_div q k v (by omega) (last0 H i y) (by show j * 1024 + (0 + i.val) < j * 1024 + 512; omega)

theorem lse0_at (i : Fin 512) (y : Fin 128) : lse0 x0 x1 j hj (state x0 x1 x2 j) (ix2 i y) = ((Real.log (∑ c, ex q k 0 (row j hj 0 (by omega) i) c) * (Real.log 2)⁻¹ : ℝ) : EReal) := by
  unfold lse0
  rw [pay51_at]
  exact upto_log q k v (by omega) (last0 H i y) (by show j * 1024 + (0 + i.val) < j * 1024 + 512; omega)

theorem out1_at (i : Fin 512) (y : Fin 128) : out1 x0 x1 x2 j hj (state x0 x1 x2 j) (ix2 i y) = ((∑ c, pr q k (row j hj 512 (by omega) i) c * v c y : ℝ) : EReal) := by
  unfold out1
  rw [pay52_at]
  exact upto_div q k v (by omega) (last1 H i y) (by show j * 1024 + (512 + i.val) < j * 1024 + 1024; omega)

theorem lse1_at (i : Fin 512) (y : Fin 128) : lse1 x0 x1 j hj (state x0 x1 x2 j) (ix2 i y) = ((Real.log (∑ c, ex q k 0 (row j hj 512 (by omega) i) c) * (Real.log 2)⁻¹ : ℝ) : EReal) := by
  unfold lse1
  rw [pay53_at]
  exact upto_log q k v (by omega) (last1 H i y) (by show j * 1024 + (512 + i.val) < j * 1024 + 1024; omega)

end Row

end Cert.FwdIdeal.Attn

end
-- ==== Proof.FwdLeft.lean ====
/- What the forward call's run leaves in its two result blocks: a row's attention and its log-sum. -/
module

public import proofs.«01_k».proof.Proof.FwdRows
public import Idealize.ShloMosaic.Lib.WritesUnit

@[expose] public section

set_option maxRecDepth 16384

noncomputable section

namespace Cert.FwdIdeal.Attn

open Idealize.ShloMosaic Idealize.ShloMosaic.TcCoe Cert.FwdIdeal Cert.FwdIdeal.Gen Cert.Attn

section Halves

variable {κ : Kind} {sp : Space} (V : View sig κ sp S1024x128 .f32) (f : V.ty.Contents (Elt Ideal)) (u1 u0 : FVec Ideal S512x128 .f32) (r : Fin 1024) (y : Fin 128)

/-- Two stores of 512 rows, read in the first half -/
theorem read_first (h : r.val < 512) :
    V.read (Elt Ideal) (V.writes (Elt Ideal) f [⟨Rect.unit (s := S1024x128) ![512, 0] S512x128.size inb_S1024x128_S512x128_512_0, u1⟩,
      ⟨Rect.unit (s := S1024x128) ![0, 0] S512x128.size inb_S1024x128_S512x128_0_0, u0⟩]) (ix2 r y) = u0 (ix2 ⟨r.val, h⟩ y) :=
  (View.read_writes_cons_rows_of_not_mem (o := 512) (W := 512) V f inb_S1024x128_S512x128_512_0 u1 _ (ix2 r y) rfl rfl (Or.inl h)).trans
    (View.read_writes_cons_rows_of_mem (o := 0) V f inb_S1024x128_S512x128_0_0 u0 [] (ix2 r y) (ix2 ⟨r.val, h⟩ y) rfl (by show r.val = 0 + r.val; omega) rfl)

/-- and in the second. -/
theorem read_second (h : ¬r.val < 512) (L : List (View.Piece (Elt Ideal) S1024x128 .f32)) :
    V.read (Elt Ideal) (V.writes (Elt Ideal) f (⟨Rect.unit (s := S1024x128) ![512, 0] S512x128.size inb_S1024x128_S512x128_512_0, u1⟩ :: L)) (ix2 r y)
      = u1 (ix2 ⟨r.val - 512, by omega⟩ y) :=
  View.read_writes_cons_rows_of_mem (o := 512) V f inb_S1024x128_S512x128_512_0 u1 L (ix2 r y) (ix2 ⟨r.val - 512, by omega⟩ y) rfl (by show r.val = 512 + (r.val - 512); omega) rfl

end Halves

section Left

variable {q k : Fin 4096 → Fin 192 → ℝ} {v : Fin 4096 → Fin 128 → ℝ} {x0 : Vec Ideal S1024x256 .bf16} {x1 : Vec Ideal S4096x256 .bf16} {x2 : Vec Ideal S4096x128 .bf16}
  (c : Dev nD) (i : grid0.Coords) (arg2 : Memref sig .tc .vmem S1024x256 .bf16) (harg2 : arg2.IsWhole) (arg3 : Memref sig .tc .vmem S4096x256 .bf16) (harg3 : arg3.IsWhole) (arg4 : Memref sig .tc .vmem S4096x128 .bf16) (harg4 : arg4.IsWhole) (arg5 : Memref sig .tc .vmem S1024x128 .f32) (harg5 : arg5.IsWhole) (arg6 : Memref sig .tc .vmem S1024x128 .f32) (harg6 : arg6.IsWhole)
  (H : Of q k v x0 x1 x2 (i 1).val (row_lt i))

theorem row_first (r : Fin 1024) (h : r.val < 512) : row (i 1).val (row_lt i) 0 (by omega) ⟨r.val, h⟩ = ⟨(i 1).val * 1024 + r.val, by have := row_lt i; omega⟩ :=
  Fin.ext (by show (i 1).val * 1024 + (0 + r.val) = (i 1).val * 1024 + r.val; omega)

theorem row_second (r : Fin 1024) (h : ¬r.val < 512) : row (i 1).val (row_lt i) 512 (by omega) ⟨r.val - 512, by omega⟩ = ⟨(i 1).val * 1024 + r.val, by have := row_lt i; omega⟩ :=
  Fin.ext (by show (i 1).val * 1024 + (512 + (r.val - 512)) = (i 1).val * 1024 + r.val; omega)

include H

theorem left_out (r : Fin 1024) (y : Fin 128) :
    out0_A_3 (F := Ideal) c i arg2 harg2 arg3 harg3 arg4 harg4 arg5 harg5 arg6 harg6 x0 x1 x2 (ix2 r y)
      = ((∑ c', pr q k ⟨(i 1).val * 1024 + r.val, by have := row_lt i; omega⟩ c' * v c' y : ℝ) : EReal) := by
  unfold out0_A_3
  rw [pieces_out]
  by_cases h : r.val < 512
  · have e1 := out0_at H ⟨r.val, h⟩ y
    rw [row_first i r h] at e1
    rw [← e1]
    generalize out0 x0 x1 x2 (i 1).val (row_lt i) (state x0 x1 x2 (i 1).val) = u0
    generalize out1 x0 x1 x2 (i 1).val (row_lt i) (state x0 x1 x2 (i 1).val) = u1
    exact read_first VO0_3 _ u1 u0 r y h
  · have e1 := out1_at H ⟨r.val - 512, by omega⟩ y
    rw [row_second i r h] at e1
    rw [← e1]
    generalize out0 x0 x1 x2 (i 1).val (row_lt i) (state x0 x1 x2 (i 1).val) = u0
    generalize out1 x0 x1 x2 (i 1).val (row_lt i) (state x0 x1 x2 (i 1).val) = u1
    exact read_second VO0_3 _ u1 r y h _

theorem left_lse (r : Fin 1024) (y : Fin 128) :
    out0_A_4 (F := Ideal) c i arg2 harg2 arg3 harg3 arg4 harg4 arg5 harg5 arg6 harg6 x0 x1 x2 (ix2 r y)
      = ((Real.log (∑ c', ex q k 0 ⟨(i 1).val * 1024 + r.val, by have := row_lt i; omega⟩ c') * (Real.log 2)⁻¹ : ℝ) : EReal) := by
  unfold out0_A_4
  rw [pieces_lse]
  by_cases h : r.val < 512
  · have e1 := lse0_at H ⟨r.val, h⟩ y
    rw [row_first i r h] at e1
    rw [← e1]
    generalize lse0 x0 x1 (i 1).val (row_lt i) (state x0 x1 x2 (i 1).val) = u0
    generalize lse1 x0 x1 (i 1).val (row_lt i) (state x0 x1 x2 (i 1).val) = u1
    exact read_first VO0_4 _ u1 u0 r y h
  · have e1 := lse1_at H ⟨r.val - 512, by omega⟩ y
    rw [row_second i r h] at e1
    rw [← e1]
    generalize lse0 x0 x1 (i 1).val (row_lt i) (state x0 x1 x2 (i 1).val) = u0
    generalize lse1 x0 x1 (i 1).val (row_lt i) (state x0 x1 x2 (i 1).val) = u1
    exact read_second VO0_4 _ u1 r y h _

end Left

end Cert.FwdIdeal.Attn

end
-- ==== Proof.FwdValues.lean ====
/- The two result arrays of the forward call, over real arguments. -/
module

public import proofs.«01_k».proof.Proof.FwdHost
public import proofs.«01_k».proof.Proof.FwdLeft

@[expose] public section

set_option maxRecDepth 16384

noncomputable section

namespace Cert.FwdIdeal.Attn

open Idealize.ShloMosaic Idealize.ShloMosaic.TcCoe Cert.FwdIdeal Cert.FwdIdeal.Gen Cert.Attn

variable {m : (ℓ : Loc nD τ sig) → Buf (Elt Ideal) ℓ} {c : Dev nD} {aq ak : Fin 4 → Fin 4096 → Fin 192 → ℝ} {av : Fin 4 → Fin 4096 → Fin 128 → ℝ}

theorem qrow_eq (t : Fin cfg0.N) (r : Fin 1024) (g : (grid0.coords t 1).val * 1024 + r.val < 4096) : (⟨(grid0.coords t 1).val * 1024 + r.val, g⟩ : Fin 4096) = qrow t r :=
  Fin.ext (by show (grid0.coords t 1).val * 1024 + r.val = t.val % 4 * 1024 + r.val; rw [(places t).2.2])

/-- The blocks at a point are a tile's scaled scores and values. -/
theorem of_val (R : Reals m c aq ak av) (t : Fin cfg0.N) :
    Of (aq (head t)) (ak (head t)) (av (head t)) (bq m c t) (bk m c t) (bv m c t) (grid0.coords t 1).val (row_lt (grid0.coords t)) :=
  ⟨fun r k => by rw [score_val R t r k, qrow_eq], fun k y => bv_val R t k y⟩

theorem after_o (R : Reals m c aq ak av) (t : Fin cfg0.N) (r : Fin 1024) (y : Fin 128) :
    (outsAt0 m c t).1 (ix2 r y) = ((outOf aq ak av (head t) (qrow t r) y : ℝ) : EReal) := by
  have e := left_out c (grid0.coords t) (ms0_0 t) (hs0_0 t) (ms0_1 t) (hs0_1 t) (ms0_2 t) (hs0_2 t) (ms0_3 t) (hs0_3 t) (ms0_4 t) (hs0_4 t) (of_val R t) r y
  simp only [qrow_eq] at e
  unfold outsAt0
  dsimp only
  exact e

theorem after_l (R : Reals m c aq ak av) (t : Fin cfg0.N) (r : Fin 1024) (y : Fin 128) :
    (outsAt0 m c t).2 (ix2 r y) = ((lseOf aq ak (head t) (qrow t r) : ℝ) : EReal) := by
  have e := left_lse c (grid0.coords t) (ms0_0 t) (hs0_0 t) (ms0_1 t) (hs0_1 t) (ms0_2 t) (hs0_2 t) (ms0_3 t) (hs0_3 t) (ms0_4 t) (hs0_4 t) (of_val R t) r y
  simp only [qrow_eq] at e
  unfold outsAt0
  dsimp only
  exact e

theorem array_3 (R : Reals m c aq ak av) : (dats m 0 c).arrAt 3 (cfgs 0).N = goalO aq ak av := by
  refine (dats m 0 c).arrAt_eq_of_covers 3 _ (by decide +kernel) fun t hf y => ?_
  blk_simp
  rw [after0_3]
  have e : ∀ y : S1024x128.Idx, (outsAt0 m c t).1 y = goalO aq ak av ((win0_3.blk t).view.emb y) := fun y => by
    idx_vars y
    rw [after_o R t, ← goalO_at aq ak av (head t) (qrow t y0) y1 (by omega)]
    refine congrArg (goalO aq ak av) ?_
    unfold head qrow
    blk_ext [(places t).2.1.1]
  exact e y

theorem array_4 (R : Reals m c aq ak av) : (dats m 0 c).arrAt 4 (cfgs 0).N = goalL aq ak := by
  refine (dats m 0 c).arrAt_eq_of_covers 4 _ (by decide +kernel) fun t hf y => ?_
  blk_simp
  rw [after0_4]
  have e : ∀ y : S1024x128.Idx, (outsAt0 m c t).2 y = goalL aq ak ((win0_4.blk t).view.emb y) := fun y => by
    idx_vars y
    rw [after_l R t, ← goalL_at aq ak (head t) (qrow t y0) y1 (by omega)]
    refine congrArg (goalL aq ak) ?_
    unfold head qrow
    blk_ext [(places t).2.1.2]
  exact e y

end Cert.FwdIdeal.Attn

end
-- ==== Proof.FwdReference.lean ====
/- The forward reference's two results, stage by stage, over real arguments. -/
module

public import proofs.«01_k».proof.Proof.Gen.FwdReferenceIdeal.Read
public import proofs.«01_k».proof.Proof.FwdHost
public import proofs.«01_k».proof.Proof.Agree

@[expose] public section

set_option maxRecDepth 16384

noncomputable section

namespace Cert.FwdReferenceIdeal.Attn

open Idealize.ShloMosaic Idealize.ShloMosaic.TcCoe Cert.FwdReferenceIdeal Cert.FwdReferenceIdeal.Gen Cert.FwdReferenceIdeal.Read Cert.Attn

variable (x0 x1 : FVec Ideal S4096x4x192 .f32) (x2 : FVec Ideal S4096x4x128 .f32)

/-! ## The stages at an index -/

theorem scale_at (i : S4x4096x4096.Idx) : val_main_v3 (F := Ideal) i = ((root : ℝ) : EReal) := root_word

theorem scale_at' (i : S4x4096x4096.Idx) : val_main_v30 (F := Ideal) i = ((root : ℝ) : EReal) := root_word

theorem dot_at (h : Fin 4) (r k : Fin 4096) : val_main_v0 (F := Ideal) x0 x1 (ix3 h r k) = ∑ x : Fin 192, x0 (ix3 r h x) * x1 (ix3 k h x) := by
  unfold val_main_v0
  pointwise

theorem dot_at' (h : Fin 4) (r k : Fin 4096) : val_main_v27 (F := Ideal) x0 x1 (ix3 h r k) = ∑ x : Fin 192, x0 (ix3 r h x) * x1 (ix3 k h x) := by
  unfold val_main_v27
  pointwise

theorem score_at (h : Fin 4) (r k : Fin 4096) : val_main_v11 (F := Ideal) x0 x1 (ix3 h r k)
    = if k.val ≤ r.val then val_main_v4 (F := Ideal) x0 x1 (ix3 h r k) else (⊥ : EReal) := by
  rw [← mask_word k r, ← word_bot]
  unfold val_main_v11 val_main_call0_v1 val_main_call0_v2 val_main_call0_v0 val_main_v10 val_main_v8 val_main_v9 val_main_v6 val_main_v7 val_main_v5 val_main_cst_1
  generalize val_main_v4 (F := Ideal) x0 x1 = s
  pointwise
  rfl

theorem score_at' (h : Fin 4) (r k : Fin 4096) : val_main_v38 (F := Ideal) x0 x1 (ix3 h r k)
    = if k.val ≤ r.val then val_main_v31 (F := Ideal) x0 x1 (ix3 h r k) else (⊥ : EReal) := by
  rw [← mask_word k r, ← word_bot]
  unfold val_main_v38 val_main_call1_v1 val_main_call1_v2 val_main_call1_v0 val_main_v37 val_main_v36 val_main_v35 val_main_v34 val_main_v33 val_main_v32 val_main_cst_8
  generalize val_main_v31 (F := Ideal) x0 x1 = s
  pointwise
  rfl

theorem top_at (h : Fin 4) (r : Fin 4096) :
    val_main_v12 (F := Ideal) x0 x1 (ix2 h r) = Finset.fold max (Ideal.ofBits .f32 0xFF800000#32) (fun k : Fin 4096 => val_main_v11 (F := Ideal) x0 x1 (ix3 h r k)) Finset.univ := by
  unfold val_main_v12 val_main_cst_2
  generalize val_main_v11 (F := Ideal) x0 x1 = s
  pointwise

theorem top_at' (h : Fin 4) (r : Fin 4096) :
    val_main_v39 (F := Ideal) x0 x1 (ix2 h r) = Finset.fold max (Ideal.ofBits .f32 0xFF800000#32) (fun k : Fin 4096 => val_main_v38 (F := Ideal) x0 x1 (ix3 h r k)) Finset.univ := by
  unfold val_main_v39 val_main_cst_9
  generalize val_main_v38 (F := Ideal) x0 x1 = s
  pointwise

theorem peak_at (h : Fin 4) (r : Fin 4096) : val_main_v41 (F := Ideal) x0 x1 (ix2 h r) = val_main_v39 (F := Ideal) x0 x1 (ix2 h r) := by
  rw [val_main_v41_apply, val_main_v40_apply]
  generalize val_main_v39 (F := Ideal) x0 x1 (ix2 h r) = s
  show max (Ideal.ofBits .f32 0xFF800000#32) s = s
  rw [word_bot, max_eq_right bot_le]

theorem row_at (h : Fin 4) (r k : Fin 4096) : val_main_v14 (F := Ideal) x0 x1 (ix3 h r k) = val_main_v12 (F := Ideal) x0 x1 (ix2 h r) := by
  unfold val_main_v14 val_main_v13
  generalize val_main_v12 (F := Ideal) x0 x1 = s
  pointwise

theorem row_at' (h : Fin 4) (r k : Fin 4096) : val_main_v43 (F := Ideal) x0 x1 (ix3 h r k) = val_main_v41 (F := Ideal) x0 x1 (ix2 h r) := by
  unfold val_main_v43 val_main_v42
  generalize val_main_v41 (F := Ideal) x0 x1 = s
  pointwise

theorem wt_at (h : Fin 4) (r k : Fin 4096) : val_main_v16 (F := Ideal) x0 x1 (ix3 h r k)
    = Ideal.exp (val_main_v11 (F := Ideal) x0 x1 (ix3 h r k) - val_main_v12 (F := Ideal) x0 x1 (ix2 h r)) := by
  rw [val_main_v16_apply, val_main_v15_apply, row_at]
  rfl

theorem wt_at' (h : Fin 4) (r k : Fin 4096) : val_main_v45 (F := Ideal) x0 x1 (ix3 h r k)
    = Ideal.exp (val_main_v38 (F := Ideal) x0 x1 (ix3 h r k) - val_main_v39 (F := Ideal) x0 x1 (ix2 h r)) := by
  rw [val_main_v45_apply, val_main_v44_apply, row_at', peak_at]
  rfl

theorem tot_at (h : Fin 4) (r : Fin 4096) : val_main_v17 (F := Ideal) x0 x1 (ix2 h r) = ∑ k : Fin 4096, val_main_v16 (F := Ideal) x0 x1 (ix3 h r k) := by
  unfold val_main_v17 val_main_cst_3
  generalize val_main_v16 (F := Ideal) x0 x1 = s
  pointwise

theorem tot_at' (h : Fin 4) (r : Fin 4096) : val_main_v46 (F := Ideal) x0 x1 (ix2 h r) = ∑ k : Fin 4096, val_main_v45 (F := Ideal) x0 x1 (ix3 h r k) := by
  unfold val_main_v46 val_main_cst_11
  generalize val_main_v45 (F := Ideal) x0 x1 = s
  pointwise

theorem wide_at (h : Fin 4) (r k : Fin 4096) : val_main_v48 (F := Ideal) x0 x1 (ix3 h r k) = val_main_v46 (F := Ideal) x0 x1 (ix2 h r) := by
  unfold val_main_v48 val_main_v47
  generalize val_main_v46 (F := Ideal) x0 x1 = s
  pointwise

theorem prob_at (h : Fin 4) (r k : Fin 4096) : val_main_v49 (F := Ideal) x0 x1 (ix3 h r k)
    = Ideal.div (val_main_v45 (F := Ideal) x0 x1 (ix3 h r k)) (val_main_v46 (F := Ideal) x0 x1 (ix2 h r)) := by
  rw [val_main_v49_apply, wide_at]
  rfl

theorem flat_at (h : Fin 4) (r : Fin 4096) (y : Fin 128) (g : h.val * 128 + y.val < 512) :
    val_main_v52 (F := Ideal) x0 x1 x2 (ix2 r ⟨h.val * 128 + y.val, g⟩) = ∑ k : Fin 4096, x2 (ix3 k h y) * val_main_v49 (F := Ideal) x0 x1 (ix3 h r k) := by
  unfold val_main_v52 val_main_v51 val_main_v50
  generalize val_main_v49 (F := Ideal) x0 x1 = s
  pointwise

/-- A row's log-sum at each of its head's columns. -/
theorem log_at (h : Fin 4) (r : Fin 4096) (y : Fin 128) (g : h.val * 128 + y.val < 512) :
    val_main_v55 (F := Ideal) x0 x1 (ix2 r ⟨h.val * 128 + y.val, g⟩) = val_main_v24 (F := Ideal) x0 x1 (ix3 h r 0) := by
  unfold val_main_v55 val_main_v54 val_main_v53 val_main_v26 val_main_v25
  generalize val_main_v24 (F := Ideal) x0 x1 = s
  pointwise

theorem col_at (h : Fin 4) (r : Fin 4096) : val_main_v13 (F := Ideal) x0 x1 (ix3 h r 0) = val_main_v12 (F := Ideal) x0 x1 (ix2 h r) := by
  unfold val_main_v13
  generalize val_main_v12 (F := Ideal) x0 x1 = s
  pointwise

theorem col_at' (h : Fin 4) (r : Fin 4096) : val_main_v18 (F := Ideal) x0 x1 (ix3 h r 0) = val_main_v17 (F := Ideal) x0 x1 (ix2 h r) := by
  unfold val_main_v18
  generalize val_main_v17 (F := Ideal) x0 x1 = s
  pointwise

theorem inv_at (i : S4x4096x1.Idx) : val_main_v23 (F := Ideal) i = ((1 / Real.log 2 : ℝ) : EReal) := invln_word

theorem base2_at (h : Fin 4) (r : Fin 4096) : val_main_v24 (F := Ideal) x0 x1 (ix3 h r 0)
    = (val_main_v12 (F := Ideal) x0 x1 (ix2 h r) + Ideal.log (val_main_v17 (F := Ideal) x0 x1 (ix2 h r))) * ((1 / Real.log 2 : ℝ) : EReal) := by
  rw [val_main_v24_apply, val_main_v20_apply, val_main_v19_apply, col_at, col_at', inv_at]
  rfl

/-! ## Over real arguments -/

section Real

/-- A row's log-sum does not depend on the shift. -/
theorem log_shift (q k : Fin 4096 → Fin 192 → ℝ) (r : Fin 4096) :
    shift q k r + Real.log (∑ c, ex q k (shift q k r) r c) = Real.log (∑ c, ex q k 0 r c) := by
  have e : ∑ c, ex q k (shift q k r) r c = (∑ c, ex q k 0 r c) * Real.exp (-shift q k r) := by
    rw [Finset.sum_mul]
    exact Finset.sum_congr rfl fun c _ => ex_shift _ _ _ _ _
  rw [e, Real.log_mul (sum_ex_pos _ _ _ _).ne' (Real.exp_pos _).ne', Real.log_exp]
  ring

variable {x0 x1 : FVec Ideal S4096x4x192 .f32} {x2 : FVec Ideal S4096x4x128 .f32}
variable {aq ak : Fin 4 → Fin 4096 → Fin 192 → ℝ} {av : Fin 4 → Fin 4096 → Fin 128 → ℝ}
variable (hq : ∀ h r x, x0 (ix3 r h x) = ((aq h r x : ℝ) : EReal)) (hk : ∀ h r x, x1 (ix3 r h x) = ((ak h r x : ℝ) : EReal))
variable (hv : ∀ h r y, x2 (ix3 r h y) = ((av h r y : ℝ) : EReal))

include hq hk

theorem score_real (h : Fin 4) (r k : Fin 4096) : val_main_v11 (F := Ideal) x0 x1 (ix3 h r k) = msc (aq h) (ak h) r k := by
  rw [score_at, val_main_v4_apply, scale_at, dot_at, coe_dot (fun x => aq h r x) (fun x => ak h k x) (fun x => hq h r x) (fun x => hk h k x)]
  show (if k.val ≤ r.val then ((∑ x, aq h r x * ak h k x : ℝ) : EReal) * ((root : ℝ) : EReal) else ⊥) = _
  rw [← EReal.coe_mul]
  rfl

theorem score_real' (h : Fin 4) (r k : Fin 4096) : val_main_v38 (F := Ideal) x0 x1 (ix3 h r k) = msc (aq h) (ak h) r k := by
  rw [score_at', val_main_v31_apply, scale_at', dot_at', coe_dot (fun x => aq h r x) (fun x => ak h k x) (fun x => hq h r x) (fun x => hk h k x)]
  show (if k.val ≤ r.val then ((∑ x, aq h r x * ak h k x : ℝ) : EReal) * ((root : ℝ) : EReal) else ⊥) = _
  rw [← EReal.coe_mul]
  rfl

theorem top_real (h : Fin 4) (r : Fin 4096) : val_main_v12 (F := Ideal) x0 x1 (ix2 h r) = ((shift (aq h) (ak h) r : ℝ) : EReal) := by
  rw [top_at, word_bot, ← shift_eq]
  exact congrArg (fun f => Finset.fold max ⊥ f Finset.univ) (funext fun k => score_real hq hk h r k)

theorem top_real' (h : Fin 4) (r : Fin 4096) : val_main_v39 (F := Ideal) x0 x1 (ix2 h r) = ((shift (aq h) (ak h) r : ℝ) : EReal) := by
  rw [top_at', word_bot, ← shift_eq]
  exact congrArg (fun f => Finset.fold max ⊥ f Finset.univ) (funext fun k => score_real' hq hk h r k)

theorem tot_real (h : Fin 4) (r : Fin 4096) :
    val_main_v17 (F := Ideal) x0 x1 (ix2 h r) = ((∑ c, ex (aq h) (ak h) (shift (aq h) (ak h) r) r c : ℝ) : EReal) := by
  rw [tot_at, ← coe_sum]
  exact Finset.sum_congr rfl fun k _ => by rw [wt_at, score_real hq hk, top_real hq hk, exp_msc]

theorem wt_real (h : Fin 4) (r k : Fin 4096) :
    val_main_v45 (F := Ideal) x0 x1 (ix3 h r k) = ((ex (aq h) (ak h) (shift (aq h) (ak h) r) r k : ℝ) : EReal) := by
  rw [wt_at', score_real' hq hk, top_real' hq hk, exp_msc]

theorem tot_real' (h : Fin 4) (r : Fin 4096) :
    val_main_v46 (F := Ideal) x0 x1 (ix2 h r) = ((∑ c, ex (aq h) (ak h) (shift (aq h) (ak h) r) r c : ℝ) : EReal) := by
  rw [tot_at', ← coe_sum]
  exact Finset.sum_congr rfl fun k _ => wt_real hq hk h r k

theorem prob_real (h : Fin 4) (r k : Fin 4096) : val_main_v49 (F := Ideal) x0 x1 (ix3 h r k) = ((pr (aq h) (ak h) r k : ℝ) : EReal) := by
  rw [prob_at, wt_real hq hk, tot_real' hq hk, div_real _ _ (sum_ex_pos _ _ _ _).ne', ex_div]

open Cert.FwdIdeal.Attn (goalO goalL goalO_at goalL_at outOf lseOf)

/-- The reference's log-sums are the array the call leaves, -/
theorem result_l : val_main_v55 (F := Ideal) x0 x1 = goalL aq ak := by
  funext i
  idx_vars i
  obtain ⟨h, y, g, rfl⟩ := slim_split i1
  rw [goalL_at, log_at, base2_at, top_real hq hk, tot_real hq hk, log_real _ (sum_ex_pos _ _ _ _), ← EReal.coe_add, ← EReal.coe_mul, log_shift, one_div]
  rfl

include hv in
/-- and so is its output. -/
theorem result_o : val_main_v52 (F := Ideal) x0 x1 x2 = goalO aq ak av := by
  funext i
  idx_vars i
  obtain ⟨h, y, g, rfl⟩ := slim_split i1
  rw [goalO_at, flat_at, coe_dot (fun k => av h k y) (fun k => pr (aq h) (ak h) i0 k) (fun k => hv h k y) (fun k => prob_real hq hk h i0 k)]
  unfold outOf
  exact congrArg _ (Finset.sum_congr rfl fun k _ => mul_comm _ _)

end Real

end Cert.FwdReferenceIdeal.Attn

end
-- ==== Proof.Forward.lean ====
/- The forward call: the precondition gives real arguments, the call's two arrays are its reference's, and the programs end. -/
module

public import proofs.«01_k».proof.Defs
public import proofs.«01_k».proof.Proof.FwdValues
public import proofs.«01_k».proof.Proof.FwdReference
public import proofs.«01_k».proof.Proof.Gen.FwdReferenceIdeal.Run
public import proofs.«01_k».proof.Proof.Gen.Fwd.Frame
public import Idealize.ShloMosaic.Lib.Quiescent

@[expose] public section

set_option maxRecDepth 16384

noncomputable section

namespace Cert.Forward

open Idealize.ShloMosaic Idealize.ShloMosaic.TcCoe Idealize.SL.Sem Cert.Attn

instance facts_finite_fwd : Cert.Pre_finite_fwd.Facts where
  bcast_S_S4096x4x192 := by decide
  reducesTo_S4096x4x192_S_d0_1_2 := by decide
  h_S_ := by decide
  bcast_S_S4096x4x128 := by decide
  reducesTo_S4096x4x128_S_d0_1_2 := by decide

open Cert.Pre_finite_fwd in
/-- Under the precondition every element of the three arguments is real. -/
theorem finite_fwd_real (x0 x1 : FVec Ideal S4096x4x192 .f32) (x2 : FVec Ideal S4096x4x128 .f32) (h : Cert.Pre_finite_fwd.fn (F := Ideal) x0 x1 x2 = fun _ => 1#1) :
    (∀ i, x0 i = (((x0 i : EReal).toReal : ℝ) : EReal)) ∧ (∀ i, x1 i = (((x1 i : EReal).toReal : ℝ) : EReal)) ∧ (∀ i, x2 i = (((x2 i : EReal).toReal : ℝ) : EReal)) := by
  have e := congrFun h ix0
  dsimp only [fn] at e
  have e2 := andi_right _ _ e
  have e01 := andi_left _ _ e
  have e1 := andi_right _ _ e01
  have e0 := andi_left _ _ e01
  haveI : Subsingleton S_.Idx := ⟨fun a b => funext fun k => k.elim0⟩
  exact ⟨fun i => real_of_cmp _ (Host.reduce_andi_all _ _ _ _ _ e0 i), fun i => real_of_cmp _ (Host.reduce_andi_all _ _ _ _ _ e1 i),
    fun i => real_of_cmp _ (Host.reduce_andi_all _ _ _ _ _ e2 i)⟩

/-- The real number an argument holds at a head, a row and a place. -/
def realOf {n : ℕ} (x : (Shape.mk 3 ![4096, 4, n]).Idx → EReal) (h : Fin 4) (r : Fin 4096) (y : Fin n) : ℝ := (x (ix3 r h y)).toReal

open Cert.FwdIdeal.Attn

theorem reals_Fwd (m : (ℓ : Loc Cert.FwdIdeal.nD Cert.FwdIdeal.τ Cert.FwdIdeal.sig) → Buf (Elt Ideal) ℓ) (c : Dev Cert.FwdIdeal.nD) (h : Cert.Pre_FwdIdeal_finite_fwd m) :
    Reals m c (realOf (argQ m c)) (realOf (argK m c)) (realOf (argV m c)) :=
  have e := finite_fwd_real (argQ m c) (argK m c) (argV m c) (h c)
  ⟨fun _ _ _ => e.1 _, fun _ _ _ => e.2.1 _, fun _ _ _ => e.2.2 _⟩

theorem frame_FwdReferenceIdeal (m : (ℓ : Loc Cert.FwdReferenceIdeal.nD Cert.FwdReferenceIdeal.τ Cert.FwdReferenceIdeal.sig) → Buf (Elt Ideal) ℓ)
    (g : Dev Cert.FwdReferenceIdeal.nD → PrngReg) :
    θ_run (Cert.FwdReferenceIdeal.defs (F := Ideal)) (onTc (τ := Cert.FwdReferenceIdeal.τ) (Cert.FwdReferenceIdeal.main (F := Ideal))) ⟨m, fun _ => 0, g⟩ (fun r => (∀ c : Dev Cert.FwdReferenceIdeal.nD,
      r.2.mem ((c.tc : Thread Cert.FwdReferenceIdeal.nD Cert.FwdReferenceIdeal.τ).loc Cert.FwdReferenceIdeal.main_arg0) = m ((c.tc : Thread Cert.FwdReferenceIdeal.nD Cert.FwdReferenceIdeal.τ).loc Cert.FwdReferenceIdeal.main_arg0)
      ∧ r.2.mem ((c.tc : Thread Cert.FwdReferenceIdeal.nD Cert.FwdReferenceIdeal.τ).loc Cert.FwdReferenceIdeal.main_arg1) = m ((c.tc : Thread Cert.FwdReferenceIdeal.nD Cert.FwdReferenceIdeal.τ).loc Cert.FwdReferenceIdeal.main_arg1)
      ∧ r.2.mem ((c.tc : Thread Cert.FwdReferenceIdeal.nD Cert.FwdReferenceIdeal.τ).loc Cert.FwdReferenceIdeal.main_arg2) = m ((c.tc : Thread Cert.FwdReferenceIdeal.nD Cert.FwdReferenceIdeal.τ).loc Cert.FwdReferenceIdeal.main_arg2))
      ∧ r.2.sem = fun _ => 0) :=
  (θ_run Cert.FwdReferenceIdeal.defs _ _).mono (fun r h => ⟨fun c => (h c).2.2, sem_eq_zero_of_no_sems (by decide) r.2⟩) (Cert.FwdReferenceIdeal.Value.run (F := Ideal) m g)

theorem agree_Fwd : Cert.algebraic_FwdIdeal_FwdReferenceIdeal_pre_finite_fwd := fun m g m' g' hp hm =>
  ⟨fun c => goalO (realOf (argQ m c)) (realOf (argK m c)) (realOf (argV m c)), fun c => goalL (realOf (argQ m c)) (realOf (argK m c)),
    (θ_run Cert.FwdIdeal.defs _ _).mono (fun _ hr c =>
      have R := reals_Fwd m c hp
      ⟨((hr.1 c).1 3).trans (array_3 R), ((hr.1 c).1 4).trans (array_4 R), hr.2.1 c⟩)
      (θ_run_and (Cert.FwdIdeal.Gen.run_main m g) (Cert.FwdIdeal.Gen.frame m g)),
    (θ_run Cert.FwdReferenceIdeal.defs _ _).mono (fun _ h c =>
      have R := reals_Fwd m c hp
      have e0 := (hm c).1
      have e1 := (hm c).2.1
      have e2 := (hm c).2.2
      ⟨(h c).1.trans ((Cert.FwdReferenceIdeal.Read.val_main_v52_eq m' c).trans (by rw [e0, e1, e2]; exact Cert.FwdReferenceIdeal.Attn.result_o R.q R.k R.v)),
        (h c).2.1.trans ((Cert.FwdReferenceIdeal.Read.val_main_v55_eq _ _).trans (by rw [e0, e1]; exact Cert.FwdReferenceIdeal.Attn.result_l R.q R.k)), (h c).2.2⟩)
      (Cert.FwdReferenceIdeal.Value.run (F := Ideal) m' g')⟩

end Cert.Forward

end
-- ==== Proof.DownValues.lean ====
/- The feed-forward's last product and the gradient of its weights: what the calls and their references leave, as sums. -/
module

public import proofs.«01_k».proof.Proof.Gen.DownIdeal.Value
public import proofs.«01_k».proof.Proof.Gen.DownReferenceIdeal.Read
public import proofs.«01_k».proof.Proof.Gen.DownWIdeal.Value
public import proofs.«01_k».proof.Proof.Gen.DownWReferenceIdeal.Read
public import Idealize.ShloMosaic.Lib.Pipeline.ValueKit
public import Idealize.ShloMosaic.Lib.StableHlo.ReadAt
public import Idealize.ShloMosaic.Lib.Pointwise

@[expose] public section

set_option maxRecDepth 16384

noncomputable section

namespace Cert.DownIdeal.Product

open Idealize.ShloMosaic Idealize.ShloMosaic.TcCoe Cert.DownIdeal Cert.DownIdeal.Gen

/-! ## The feed-forward's last product. The body -/

variable (p : Vec Ideal S1024x2816 .bf16) (q : Vec Ideal S2816x1024 .bf16)

theorem dot_at (r : Fin 1024) (x : Fin 1024) : k0_pay1 (F := Ideal) p q (ix2 r x) = ∑ k : Fin 2816, p (ix2 r k) * q (ix2 k x) := by
  unfold k0_pay1
  pointwise

theorem out_2 : out0_2 (F := Ideal) p q = k0_pay1 p q := by
  unfold out0_2
  rw [View.canon_cons_unit_lit inb_S1024x1024_S1024x1024_0_0 _ _ (by decide), View.ld_unit_lit inb_S1024x2816_S1024x2816_0_0 p (by decide),
    View.ld_unit_lit inb_S2816x1024_S2816x1024_0_0 q (by decide)]

/-! ## The arrays and the blocks -/

variable (m : (ℓ : Loc nD τ sig) → Buf (Elt Ideal) ℓ) (c : Dev nD)

abbrev argA : FVec Ideal S4096x2816 .f32 := m (c, Proc.tc.devRef main_arg0)

theorem arr_a (i : S4096x2816.Idx) : (V m c main_v0 : FVec Ideal S4096x2816 .bf16) i = argA m c i := by
  unfold V hostOps0
  simp only [List.flatten_cons, List.flatten_nil, List.append_nil, List.cons_append, List.nil_append]
  after_reads_at

abbrev argB : FVec Ideal S2816x1024 .f32 := m (c, Proc.tc.devRef main_arg1)

theorem arr_b (i : S2816x1024.Idx) : (V m c main_v1 : FVec Ideal S2816x1024 .bf16) i = argB m c i := by
  unfold V hostOps0
  simp only [List.flatten_cons, List.flatten_nil, List.append_nil, List.cons_append, List.nil_append]
  after_reads_at

/-- Where each window's block stands at a point. -/
theorem places : ∀ t : Fin cfg0.N, win0_0.index t = ![t.val, 0] ∧ win0_1.index t = ![0, 0] ∧ win0_2.index t = ![t.val, 0] := by
  decide +kernel

/-- The row of the result that a place of a point's tile is. -/
def row (t : Fin cfg0.N) (r : Fin 1024) : Fin 4096 := ⟨t.val * 1024 + r.val, by have : t.val < 4 := t.isLt; omega⟩

theorem block_a (t : Fin cfg0.N) (k : Fin 2816) (r : Fin 1024) : (iblk m c 0 t : Vec Ideal S1024x2816 .bf16) (ix2 r k) = argA m c (ix2 (row t r) k) := by
  have e : ∀ A : FVec Ideal S4096x2816 .bf16, ((cfg0.win 0).blk t).view.read (Elt Ideal) A (ix2 r k) = A (ix2 (row t r) k) := fun A => by
    unfold row
    blk_ext [(places t).1]
  exact (e (V m c main_v0)).trans (arr_a m c _)

theorem block_b (t : Fin cfg0.N) (k : Fin 2816) (x : Fin 1024) : (iblk m c 1 t : Vec Ideal S2816x1024 .bf16) (ix2 k x) = argB m c (ix2 k x) := by
  have e : ∀ A : FVec Ideal S2816x1024 .bf16, ((cfg0.win 1).blk t).view.read (Elt Ideal) A (ix2 k x) = A (ix2 k x) := fun A => by
    blk_ext [(places t).2.1]
  exact (e (V m c main_v1)).trans (arr_b m c _)

/-! ## The result -/

/-- The product's entries as sums. -/
def entries (a : FVec Ideal S4096x2816 .f32) (b : FVec Ideal S2816x1024 .f32) : FVec Ideal S4096x1024 .bf16 :=
  fun i => ∑ k : Fin 2816, a (ix2 (i 0) k) * b (ix2 k (i 1))

theorem array_2 : (dats m 0 c).arrAt 2 cfg0.N = entries (argA m c) (argB m c) := by
  refine (dats m 0 c).arrAt_eq_of_covers 2 _ (by decide +kernel) fun t hf y => ?_
  blk_simp
  rw [after0_2]
  have e : ∀ y : S1024x1024.Idx, out0_2 (F := Ideal) (iblk m c 0 t) (iblk m c 1 t) y = entries (argA m c) (argB m c) ((win0_2.blk t).view.emb y) := fun y => by
    idx_vars y
    rw [out_2, dot_at]
    simp only [block_a, block_b]
    have e : (win0_2.blk t).view.emb (ix2 y0 y1) = ix2 (row t y0) y1 := by
      unfold row
      blk_ext [(places t).2.2]
    rw [e]
    rfl
  exact e y

end Cert.DownIdeal.Product

/-! ## Its reference -/

namespace Cert.DownReferenceIdeal.Product

open Idealize.ShloMosaic Idealize.ShloMosaic.TcCoe Cert.DownReferenceIdeal Cert.DownReferenceIdeal.Gen Cert.DownReferenceIdeal.Read

theorem result (x0 : FVec Ideal S4096x2816 .f32) (x1 : FVec Ideal S2816x1024 .f32) : val_main_v1 (F := Ideal) x0 x1 = Cert.DownIdeal.Product.entries x0 x1 := by
  funext i
  idx_vars i
  rw [val_main_v1_apply]
  refine (val_main_v0_apply x0 x1 _).trans (Finset.sum_congr rfl fun k _ => ?_)
  congr 2 <;> funext a <;> fin_cases a <;> rfl

end Cert.DownReferenceIdeal.Product

namespace Cert.DownWIdeal.Product

open Idealize.ShloMosaic Idealize.ShloMosaic.TcCoe Cert.DownWIdeal Cert.DownWIdeal.Gen

/-! ## The gradient of the last product's weights. The body -/

variable (p : Vec Ideal S4096x256 .bf16) (q : Vec Ideal S4096x1024 .bf16)

theorem dot_at (r : Fin 256) (x : Fin 1024) : k0_pay1 (F := Ideal) p q (ix2 r x) = ∑ k : Fin 4096, p (ix2 k r) * q (ix2 k x) := by
  unfold k0_pay1
  pointwise

theorem out_2 : out0_2 (F := Ideal) p q = k0_pay1 p q := by
  unfold out0_2
  rw [View.canon_cons_unit_lit inb_S256x1024_S256x1024_0_0 _ _ (by decide), View.ld_unit_lit inb_S4096x256_S4096x256_0_0 p (by decide),
    View.ld_unit_lit inb_S4096x1024_S4096x1024_0_0 q (by decide)]

/-! ## The arrays and the blocks -/

variable (m : (ℓ : Loc nD τ sig) → Buf (Elt Ideal) ℓ) (c : Dev nD)

abbrev argA : FVec Ideal S4096x2816 .f32 := m (c, Proc.tc.devRef main_arg0)

theorem arr_a (i : S4096x2816.Idx) : (V m c main_v0 : FVec Ideal S4096x2816 .bf16) i = argA m c i := by
  unfold V hostOps0
  simp only [List.flatten_cons, List.flatten_nil, List.append_nil, List.cons_append, List.nil_append]
  after_reads_at

abbrev argB : FVec Ideal S4096x1024 .f32 := m (c, Proc.tc.devRef main_arg1)

theorem arr_b (i : S4096x1024.Idx) : (V m c main_v1 : FVec Ideal S4096x1024 .bf16) i = argB m c i := by
  unfold V hostOps0
  simp only [List.flatten_cons, List.flatten_nil, List.append_nil, List.cons_append, List.nil_append]
  after_reads_at

/-- Where each window's block stands at a point. -/
theorem places : ∀ t : Fin cfg0.N, win0_0.index t = ![0, t.val] ∧ win0_1.index t = ![0, 0] ∧ win0_2.index t = ![t.val, 0] := by
  decide +kernel

/-- The row of the result that a place of a point's tile is. -/
def row (t : Fin cfg0.N) (r : Fin 256) : Fin 2816 := ⟨t.val * 256 + r.val, by have : t.val < 11 := t.isLt; omega⟩

theorem block_a (t : Fin cfg0.N) (k : Fin 4096) (r : Fin 256) : (iblk m c 0 t : Vec Ideal S4096x256 .bf16) (ix2 k r) = argA m c (ix2 k (row t r)) := by
  have e : ∀ A : FVec Ideal S4096x2816 .bf16, ((cfg0.win 0).blk t).view.read (Elt Ideal) A (ix2 k r) = A (ix2 k (row t r)) := fun A => by
    unfold row
    blk_ext [(places t).1]
  exact (e (V m c main_v0)).trans (arr_a m c _)

theorem block_b (t : Fin cfg0.N) (k : Fin 4096) (x : Fin 1024) : (iblk m c 1 t : Vec Ideal S4096x1024 .bf16) (ix2 k x) = argB m c (ix2 k x) := by
  have e : ∀ A : FVec Ideal S4096x1024 .bf16, ((cfg0.win 1).blk t).view.read (Elt Ideal) A (ix2 k x) = A (ix2 k x) := fun A => by
    blk_ext [(places t).2.1]
  exact (e (V m c main_v1)).trans (arr_b m c _)

/-! ## The result -/

/-- The product's entries as sums. -/
def entries (a : FVec Ideal S4096x2816 .f32) (b : FVec Ideal S4096x1024 .f32) : FVec Ideal S2816x1024 .bf16 :=
  fun i => ∑ k : Fin 4096, a (ix2 k (i 0)) * b (ix2 k (i 1))

theorem array_2 : (dats m 0 c).arrAt 2 cfg0.N = entries (argA m c) (argB m c) := by
  refine (dats m 0 c).arrAt_eq_of_covers 2 _ (by decide +kernel) fun t hf y => ?_
  blk_simp
  rw [after0_2]
  have e : ∀ y : S256x1024.Idx, out0_2 (F := Ideal) (iblk m c 0 t) (iblk m c 1 t) y = entries (argA m c) (argB m c) ((win0_2.blk t).view.emb y) := fun y => by
    idx_vars y
    rw [out_2, dot_at]
    simp only [block_a, block_b]
    have e : (win0_2.blk t).view.emb (ix2 y0 y1) = ix2 (row t y0) y1 := by
      unfold row
      blk_ext [(places t).2.2]
    rw [e]
    rfl
  exact e y

end Cert.DownWIdeal.Product

/-! ## Its reference -/

namespace Cert.DownWReferenceIdeal.Product

open Idealize.ShloMosaic Idealize.ShloMosaic.TcCoe Cert.DownWReferenceIdeal Cert.DownWReferenceIdeal.Gen Cert.DownWReferenceIdeal.Read

theorem result (x0 : FVec Ideal S4096x2816 .f32) (x1 : FVec Ideal S4096x1024 .f32) : val_main_v4 (F := Ideal) x0 x1 = Cert.DownWIdeal.Product.entries x0 x1 := by
  funext i
  idx_vars i
  rw [val_main_v4_apply, val_main_v3_apply]
  refine (val_main_v2_apply x0 x1 _).trans (Finset.sum_congr rfl fun k _ => (mul_comm _ _).trans ?_)
  congr 2 <;> funext a <;> fin_cases a <;> rfl

end Cert.DownWReferenceIdeal.Product

end
-- ==== Proof.OutValues.lean ====
/- The mixer's output projection and its two gradients: what the calls and their references leave, as sums. -/
module

public import proofs.«01_k».proof.Proof.Gen.OutIdeal.Value
public import proofs.«01_k».proof.Proof.Gen.OutReferenceIdeal.Read
public import proofs.«01_k».proof.Proof.Gen.OutXIdeal.Value
public import proofs.«01_k».proof.Proof.Gen.OutXReferenceIdeal.Read
public import proofs.«01_k».proof.Proof.Gen.OutWIdeal.Value
public import proofs.«01_k».proof.Proof.Gen.OutWReferenceIdeal.Read
public import Idealize.ShloMosaic.Lib.Pipeline.ValueKit
public import Idealize.ShloMosaic.Lib.StableHlo.ReadAt
public import Idealize.ShloMosaic.Lib.Pointwise

@[expose] public section

set_option maxRecDepth 16384

noncomputable section

namespace Cert.OutIdeal.Product

open Idealize.ShloMosaic Idealize.ShloMosaic.TcCoe Cert.OutIdeal Cert.OutIdeal.Gen

/-! ## The mixer's output projection. The body -/

variable (p : Vec Ideal S1024x1024 .bf16) (q : Vec Ideal S1024x1024 .bf16)

theorem dot_at (r : Fin 1024) (x : Fin 1024) : k0_pay1 (F := Ideal) p q (ix2 r x) = ∑ k : Fin 1024, p (ix2 r k) * q (ix2 k x) := by
  unfold k0_pay1
  pointwise

theorem out_2 : out0_2 (F := Ideal) p q = k0_pay1 p q := by
  unfold out0_2
  rw [View.canon_cons_unit_lit inb_S1024x1024_S1024x1024_0_0 _ _ (by decide), View.ld_unit_lit inb_S1024x1024_S1024x1024_0_0 p (by decide),
    View.ld_unit_lit inb_S1024x1024_S1024x1024_0_0 q (by decide)]

/-! ## The arrays and the blocks -/

variable (m : (ℓ : Loc nD τ sig) → Buf (Elt Ideal) ℓ) (c : Dev nD)

abbrev argA : FVec Ideal S4096x1024 .f32 := m (c, Proc.tc.devRef main_arg0)

theorem arr_a (i : S4096x1024.Idx) : (V m c main_v0 : FVec Ideal S4096x1024 .bf16) i = argA m c i := by
  unfold V hostOps0
  simp only [List.flatten_cons, List.flatten_nil, List.append_nil, List.cons_append, List.nil_append]
  after_reads_at

abbrev argB : FVec Ideal S1024x1024 .f32 := m (c, Proc.tc.devRef main_arg1)

theorem arr_b (i : S1024x1024.Idx) : (V m c main_v1 : FVec Ideal S1024x1024 .bf16) i = argB m c i := by
  unfold V hostOps0
  simp only [List.flatten_cons, List.flatten_nil, List.append_nil, List.cons_append, List.nil_append]
  after_reads_at

/-- Where each window's block stands at a point. -/
theorem places : ∀ t : Fin cfg0.N, win0_0.index t = ![t.val, 0] ∧ win0_1.index t = ![0, 0] ∧ win0_2.index t = ![t.val, 0] := by
  decide +kernel

/-- The row of the result that a place of a point's tile is. -/
def row (t : Fin cfg0.N) (r : Fin 1024) : Fin 4096 := ⟨t.val * 1024 + r.val, by have : t.val < 4 := t.isLt; omega⟩

theorem block_a (t : Fin cfg0.N) (k : Fin 1024) (r : Fin 1024) : (iblk m c 0 t : Vec Ideal S1024x1024 .bf16) (ix2 r k) = argA m c (ix2 (row t r) k) := by
  have e : ∀ A : FVec Ideal S4096x1024 .bf16, ((cfg0.win 0).blk t).view.read (Elt Ideal) A (ix2 r k) = A (ix2 (row t r) k) := fun A => by
    unfold row
    blk_ext [(places t).1]
  exact (e (V m c main_v0)).trans (arr_a m c _)

theorem block_b (t : Fin cfg0.N) (k : Fin 1024) (x : Fin 1024) : (iblk m c 1 t : Vec Ideal S1024x1024 .bf16) (ix2 k x) = argB m c (ix2 k x) := by
  have e : ∀ A : FVec Ideal S1024x1024 .bf16, ((cfg0.win 1).blk t).view.read (Elt Ideal) A (ix2 k x) = A (ix2 k x) := fun A => by
    blk_ext [(places t).2.1]
  exact (e (V m c main_v1)).trans (arr_b m c _)

/-! ## The result -/

/-- The product's entries as sums. -/
def entries (a : FVec Ideal S4096x1024 .f32) (b : FVec Ideal S1024x1024 .f32) : FVec Ideal S4096x1024 .bf16 :=
  fun i => ∑ k : Fin 1024, a (ix2 (i 0) k) * b (ix2 k (i 1))

theorem array_2 : (dats m 0 c).arrAt 2 cfg0.N = entries (argA m c) (argB m c) := by
  refine (dats m 0 c).arrAt_eq_of_covers 2 _ (by decide +kernel) fun t hf y => ?_
  blk_simp
  rw [after0_2]
  have e : ∀ y : S1024x1024.Idx, out0_2 (F := Ideal) (iblk m c 0 t) (iblk m c 1 t) y = entries (argA m c) (argB m c) ((win0_2.blk t).view.emb y) := fun y => by
    idx_vars y
    rw [out_2, dot_at]
    simp only [block_a, block_b]
    have e : (win0_2.blk t).view.emb (ix2 y0 y1) = ix2 (row t y0) y1 := by
      unfold row
      blk_ext [(places t).2.2]
    rw [e]
    rfl
  exact e y

end Cert.OutIdeal.Product

/-! ## Its reference -/

namespace Cert.OutReferenceIdeal.Product

open Idealize.ShloMosaic Idealize.ShloMosaic.TcCoe Cert.OutReferenceIdeal Cert.OutReferenceIdeal.Gen Cert.OutReferenceIdeal.Read

theorem result (x0 : FVec Ideal S4096x1024 .f32) (x1 : FVec Ideal S1024x1024 .f32) : val_main_v1 (F := Ideal) x0 x1 = Cert.OutIdeal.Product.entries x0 x1 := by
  funext i
  idx_vars i
  rw [val_main_v1_apply]
  refine (val_main_v0_apply x0 x1 _).trans (Finset.sum_congr rfl fun k _ => ?_)
  congr 2 <;> funext a <;> fin_cases a <;> rfl

end Cert.OutReferenceIdeal.Product

namespace Cert.OutXIdeal.Product

open Idealize.ShloMosaic Idealize.ShloMosaic.TcCoe Cert.OutXIdeal Cert.OutXIdeal.Gen

/-! ## Its gradient by the input. The body -/

variable (p : Vec Ideal S1024x1024 .bf16) (q : Vec Ideal S1024x1024 .bf16)

theorem dot_at (r : Fin 1024) (x : Fin 1024) : k0_pay1 (F := Ideal) p q (ix2 r x) = ∑ k : Fin 1024, p (ix2 r k) * q (ix2 x k) := by
  unfold k0_pay1
  pointwise

theorem out_2 : out0_2 (F := Ideal) p q = k0_pay1 p q := by
  unfold out0_2
  rw [View.canon_cons_unit_lit inb_S1024x1024_S1024x1024_0_0 _ _ (by decide), View.ld_unit_lit inb_S1024x1024_S1024x1024_0_0 p (by decide),
    View.ld_unit_lit inb_S1024x1024_S1024x1024_0_0 q (by decide)]

/-! ## The arrays and the blocks -/

variable (m : (ℓ : Loc nD τ sig) → Buf (Elt Ideal) ℓ) (c : Dev nD)

abbrev argA : FVec Ideal S4096x1024 .f32 := m (c, Proc.tc.devRef main_arg0)

theorem arr_a (i : S4096x1024.Idx) : (V m c main_v0 : FVec Ideal S4096x1024 .bf16) i = argA m c i := by
  unfold V hostOps0
  simp only [List.flatten_cons, List.flatten_nil, List.append_nil, List.cons_append, List.nil_append]
  after_reads_at

abbrev argB : FVec Ideal S1024x1024 .f32 := m (c, Proc.tc.devRef main_arg1)

theorem arr_b (i : S1024x1024.Idx) : (V m c main_v1 : FVec Ideal S1024x1024 .bf16) i = argB m c i := by
  unfold V hostOps0
  simp only [List.flatten_cons, List.flatten_nil, List.append_nil, List.cons_append, List.nil_append]
  after_reads_at

/-- Where each window's block stands at a point. -/
theorem places : ∀ t : Fin cfg0.N, win0_0.index t = ![t.val, 0] ∧ win0_1.index t = ![0, 0] ∧ win0_2.index t = ![t.val, 0] := by
  decide +kernel

/-- The row of the result that a place of a point's tile is. -/
def row (t : Fin cfg0.N) (r : Fin 1024) : Fin 4096 := ⟨t.val * 1024 + r.val, by have : t.val < 4 := t.isLt; omega⟩

theorem block_a (t : Fin cfg0.N) (k : Fin 1024) (r : Fin 1024) : (iblk m c 0 t : Vec Ideal S1024x1024 .bf16) (ix2 r k) = argA m c (ix2 (row t r) k) := by
  have e : ∀ A : FVec Ideal S4096x1024 .bf16, ((cfg0.win 0).blk t).view.read (Elt Ideal) A (ix2 r k) = A (ix2 (row t r) k) := fun A => by
    unfold row
    blk_ext [(places t).1]
  exact (e (V m c main_v0)).trans (arr_a m c _)

theorem block_b (t : Fin cfg0.N) (k : Fin 1024) (x : Fin 1024) : (iblk m c 1 t : Vec Ideal S1024x1024 .bf16) (ix2 x k) = argB m c (ix2 x k) := by
  have e : ∀ A : FVec Ideal S1024x1024 .bf16, ((cfg0.win 1).blk t).view.read (Elt Ideal) A (ix2 x k) = A (ix2 x k) := fun A => by
    blk_ext [(places t).2.1]
  exact (e (V m c main_v1)).trans (arr_b m c _)

/-! ## The result -/

/-- The product's entries as sums. -/
def entries (a : FVec Ideal S4096x1024 .f32) (b : FVec Ideal S1024x1024 .f32) : FVec Ideal S4096x1024 .bf16 :=
  fun i => ∑ k : Fin 1024, a (ix2 (i 0) k) * b (ix2 (i 1) k)

theorem array_2 : (dats m 0 c).arrAt 2 cfg0.N = entries (argA m c) (argB m c) := by
  refine (dats m 0 c).arrAt_eq_of_covers 2 _ (by decide +kernel) fun t hf y => ?_
  blk_simp
  rw [after0_2]
  have e : ∀ y : S1024x1024.Idx, out0_2 (F := Ideal) (iblk m c 0 t) (iblk m c 1 t) y = entries (argA m c) (argB m c) ((win0_2.blk t).view.emb y) := fun y => by
    idx_vars y
    rw [out_2, dot_at]
    simp only [block_a, block_b]
    have e : (win0_2.blk t).view.emb (ix2 y0 y1) = ix2 (row t y0) y1 := by
      unfold row
      blk_ext [(places t).2.2]
    rw [e]
    rfl
  exact e y

end Cert.OutXIdeal.Product

/-! ## Its reference -/

namespace Cert.OutXReferenceIdeal.Product

open Idealize.ShloMosaic Idealize.ShloMosaic.TcCoe Cert.OutXReferenceIdeal Cert.OutXReferenceIdeal.Gen Cert.OutXReferenceIdeal.Read

theorem result (x0 : FVec Ideal S4096x1024 .f32) (x1 : FVec Ideal S1024x1024 .f32) : val_main_v3 (F := Ideal) x0 x1 = Cert.OutXIdeal.Product.entries x0 x1 := by
  funext i
  idx_vars i
  rw [val_main_v3_apply]
  refine (val_main_v2_apply x0 x1 _).trans (Finset.sum_congr rfl fun k _ => ?_)
  congr 2 <;> funext a <;> fin_cases a <;> rfl

end Cert.OutXReferenceIdeal.Product

namespace Cert.OutWIdeal.Product

open Idealize.ShloMosaic Idealize.ShloMosaic.TcCoe Cert.OutWIdeal Cert.OutWIdeal.Gen

/-! ## Its gradient by the weights. The body -/

variable (p : Vec Ideal S4096x1024 .bf16) (q : Vec Ideal S4096x512 .bf16)

theorem dot_at (r : Fin 1024) (x : Fin 512) : k0_pay1 (F := Ideal) p q (ix2 r x) = ∑ k : Fin 4096, p (ix2 k r) * q (ix2 k x) := by
  unfold k0_pay1
  pointwise

theorem out_2 : out0_2 (F := Ideal) p q = k0_pay1 p q := by
  unfold out0_2
  rw [View.canon_cons_unit_lit inb_S1024x512_S1024x512_0_0 _ _ (by decide), View.ld_unit_lit inb_S4096x1024_S4096x1024_0_0 p (by decide),
    View.ld_unit_lit inb_S4096x512_S4096x512_0_0 q (by decide)]

/-! ## The arrays and the blocks -/

variable (m : (ℓ : Loc nD τ sig) → Buf (Elt Ideal) ℓ) (c : Dev nD)

abbrev argA : FVec Ideal S4096x1024 .f32 := m (c, Proc.tc.devRef main_arg0)

theorem arr_a (i : S4096x1024.Idx) : (V m c main_v0 : FVec Ideal S4096x1024 .bf16) i = argA m c i := by
  unfold V hostOps0
  simp only [List.flatten_cons, List.flatten_nil, List.append_nil, List.cons_append, List.nil_append]
  after_reads_at

abbrev argB : FVec Ideal S4096x1024 .f32 := m (c, Proc.tc.devRef main_arg1)

theorem arr_b (i : S4096x1024.Idx) : (V m c main_v1 : FVec Ideal S4096x1024 .bf16) i = argB m c i := by
  unfold V hostOps0
  simp only [List.flatten_cons, List.flatten_nil, List.append_nil, List.cons_append, List.nil_append]
  after_reads_at

/-- Where each window's block stands at a point. -/
theorem places : ∀ t : Fin cfg0.N, win0_0.index t = ![0, 0] ∧ win0_1.index t = ![0, t.val] ∧ win0_2.index t = ![0, t.val] := by
  decide +kernel

/-- The column of the result that a place of a point's tile is. -/
def col (t : Fin cfg0.N) (r : Fin 512) : Fin 1024 := ⟨t.val * 512 + r.val, by have : t.val < 2 := t.isLt; omega⟩

theorem block_a (t : Fin cfg0.N) (k : Fin 4096) (r : Fin 1024) : (iblk m c 0 t : Vec Ideal S4096x1024 .bf16) (ix2 k r) = argA m c (ix2 k r) := by
  have e : ∀ A : FVec Ideal S4096x1024 .bf16, ((cfg0.win 0).blk t).view.read (Elt Ideal) A (ix2 k r) = A (ix2 k r) := fun A => by
    blk_ext [(places t).1]
  exact (e (V m c main_v0)).trans (arr_a m c _)

theorem block_b (t : Fin cfg0.N) (k : Fin 4096) (x : Fin 512) : (iblk m c 1 t : Vec Ideal S4096x512 .bf16) (ix2 k x) = argB m c (ix2 k (col t x)) := by
  have e : ∀ A : FVec Ideal S4096x1024 .bf16, ((cfg0.win 1).blk t).view.read (Elt Ideal) A (ix2 k x) = A (ix2 k (col t x)) := fun A => by
    unfold col
    blk_ext [(places t).2.1]
  exact (e (V m c main_v1)).trans (arr_b m c _)

/-! ## The result -/

/-- The product's entries as sums. -/
def entries (a : FVec Ideal S4096x1024 .f32) (b : FVec Ideal S4096x1024 .f32) : FVec Ideal S1024x1024 .bf16 :=
  fun i => ∑ k : Fin 4096, a (ix2 k (i 0)) * b (ix2 k (i 1))

theorem array_2 : (dats m 0 c).arrAt 2 cfg0.N = entries (argA m c) (argB m c) := by
  refine (dats m 0 c).arrAt_eq_of_covers 2 _ (by decide +kernel) fun t hf y => ?_
  blk_simp
  rw [after0_2]
  have e : ∀ y : S1024x512.Idx, out0_2 (F := Ideal) (iblk m c 0 t) (iblk m c 1 t) y = entries (argA m c) (argB m c) ((win0_2.blk t).view.emb y) := fun y => by
    idx_vars y
    rw [out_2, dot_at]
    simp only [block_a, block_b]
    have e : (win0_2.blk t).view.emb (ix2 y0 y1) = ix2 y0 (col t y1) := by
      unfold col
      blk_ext [(places t).2.2]
    rw [e]
    rfl
  exact e y

end Cert.OutWIdeal.Product

/-! ## Its reference -/

namespace Cert.OutWReferenceIdeal.Product

open Idealize.ShloMosaic Idealize.ShloMosaic.TcCoe Cert.OutWReferenceIdeal Cert.OutWReferenceIdeal.Gen Cert.OutWReferenceIdeal.Read

theorem result (x0 : FVec Ideal S4096x1024 .f32) (x1 : FVec Ideal S4096x1024 .f32) : val_main_v4 (F := Ideal) x0 x1 = Cert.OutWIdeal.Product.entries x0 x1 := by
  funext i
  idx_vars i
  rw [val_main_v4_apply, val_main_v3_apply]
  refine (val_main_v2_apply x0 x1 _).trans (Finset.sum_congr rfl fun k _ => (mul_comm _ _).trans ?_)
  congr 2 <;> funext a <;> fin_cases a <;> rfl

end Cert.OutWReferenceIdeal.Product

end
-- ==== Proof.Wide.lean ====
/- The input projection's 2888 columns laid out in the 3072 that its calls hold. -/
module

public import proofs.«01_k».proof.Proof.Words

@[expose] public section

noncomputable section

namespace Cert.Wide

open Idealize.ShloMosaic

/-- The columns in the calls' order: the first 2048, the latents' 768, the gates' 8 and zeros, the rotary 64 and zeros. -/
def wide (f : Fin 2888 → EReal) (j : Fin 3072) : EReal :=
  if h : j.val < 2048 then f ⟨j.val, by omega⟩
  else if h : j.val < 2816 then f ⟨j.val + 8, by omega⟩
  else if h : j.val < 2824 then f ⟨j.val - 768, by omega⟩
  else if h : 2944 ≤ j.val ∧ j.val < 3008 then f ⟨j.val - 120, by omega⟩
  else 0

/-- The calls' place of a column. -/
def place (n : Fin 2888) : Fin 3072 :=
  if h : n.val < 2048 then ⟨n.val, by omega⟩
  else if h : n.val < 2056 then ⟨n.val + 768, by omega⟩
  else if h : n.val < 2824 then ⟨n.val - 8, by omega⟩
  else ⟨n.val + 120, by omega⟩

theorem place_val (n : Fin 2888) :
    (place n).val = if n.val < 2048 then n.val else if n.val < 2056 then n.val + 768 else if n.val < 2824 then n.val - 8 else n.val + 120 := by
  unfold place
  split_ifs <;> rfl

theorem place_injective : Function.Injective place := fun a b e => by
  have e := congrArg Fin.val e
  rw [place_val, place_val] at e
  apply Fin.ext
  split_ifs at e <;> omega

theorem wide_place (f : Fin 2888 → EReal) (n : Fin 2888) : wide f (place n) = f n := by
  have e := place_val n
  generalize place n = j at e
  have hn := n.isLt
  unfold wide
  split_ifs at e ⊢ <;> first
    | (exfalso; omega)
    | exact congrArg f (Fin.ext (by dsimp only; omega))

theorem wide_rest (f : Fin 2888 → EReal) (j : Fin 3072) (h : j ∉ Set.range place) : wide f j = 0 := by
  have no : ∀ n (hn : n < 2888), (if n < 2048 then n else if n < 2056 then n + 768 else if n < 2824 then n - 8 else n + 120) ≠ j.val :=
    fun n hn e => h ⟨⟨n, hn⟩, Fin.ext ((place_val ⟨n, hn⟩).trans e)⟩
  have hj := j.isLt
  unfold wide
  split_ifs with a b c d
  · exact absurd (by split_ifs <;> omega) (no j.val (by omega))
  · exact absurd (by split_ifs <;> omega) (no (j.val + 8) (by omega))
  · exact absurd (by split_ifs <;> omega) (no (j.val - 768) (by omega))
  · exact absurd (by split_ifs <;> omega) (no (j.val - 120) (by omega))
  · rfl

/-- A sum over the calls' places is the sum over the columns, -/
theorem sum_wide (f g : Fin 2888 → EReal) : ∑ j : Fin 3072, wide f j * wide g j = ∑ n : Fin 2888, f n * g n :=
  (Fintype.sum_of_injective place place_injective _ _ (fun j h => by rw [wide_rest f j h, zero_mul]) fun n => by rw [wide_place, wide_place]).symm

/-- and a sum of laid out columns lays out the sums. -/
theorem sum_mul_wide {K : ℕ} (a : Fin K → EReal) (f : Fin K → Fin 2888 → EReal) (j : Fin 3072) :
    ∑ k, a k * wide (f k) j = wide (fun n => ∑ k, a k * f k n) j := by
  unfold wide
  split_ifs <;> first | rfl | simp only [mul_zero, Finset.sum_const_zero]

theorem zero_word : FloatOps.sitofp (F := Ideal) .f32 (0#32) = (0 : EReal) := by
  show (((0#32 : BitVec 32).toInt : ℝ) : EReal) = 0
  simp

theorem wide_1 (f : Fin 2888 → EReal) (j : Fin 3072) (h : j.val < 2048) : wide f j = f ⟨j.val, by omega⟩ := by
  unfold wide
  rw [dif_pos h]

theorem wide_2 (f : Fin 2888 → EReal) (j : Fin 3072) (h : ¬ j.val < 2048) (i : j.val < 2816) : wide f j = f ⟨j.val + 8, by omega⟩ := by
  unfold wide
  rw [dif_neg h, dif_pos i]

theorem wide_3 (f : Fin 2888 → EReal) (j : Fin 3072) (h : ¬ j.val < 2816) (i : j.val < 2824) : wide f j = f ⟨j.val - 768, by omega⟩ := by
  unfold wide
  rw [dif_neg (by omega), dif_neg h, dif_pos i]

theorem wide_4 (f : Fin 2888 → EReal) (j : Fin 3072) (h : 2944 ≤ j.val) (i : j.val < 3008) : wide f j = f ⟨j.val - 120, by omega⟩ := by
  unfold wide
  rw [dif_neg (by omega), dif_neg (by omega), dif_neg (by omega), dif_pos ⟨h, i⟩]

theorem wide_0 (f : Fin 2888 → EReal) (j : Fin 3072) (h : 2824 ≤ j.val) (i : ¬ (2944 ≤ j.val ∧ j.val < 3008)) : wide f j = 0 := by
  unfold wide
  rw [dif_neg (by omega), dif_neg (by omega), dif_neg (by omega), dif_neg i]

end Cert.Wide

end
-- ==== Proof.ProjValues.lean ====
/- The mixer's input projection: what the call and its reference leave, as sums. -/
module

public import proofs.«01_k».proof.Proof.Gen.ProjIdeal.Value
public import proofs.«01_k».proof.Proof.Gen.ProjReferenceIdeal.Read
public import proofs.«01_k».proof.Proof.Wide
public import Idealize.ShloMosaic.Lib.Pipeline.ValueKit
public import Idealize.ShloMosaic.Lib.StableHlo.ReadAt
public import Idealize.ShloMosaic.Lib.Pointwise

@[expose] public section

set_option maxRecDepth 16384

noncomputable section

namespace Cert.ProjIdeal.Product

open Idealize.ShloMosaic Idealize.ShloMosaic.TcCoe Cert.ProjIdeal Cert.ProjIdeal.Gen

/-! ## The mixer's input projection. The body -/

variable (p : Vec Ideal S1024x1024 .bf16) (q : Vec Ideal S1536x1024 .bf16)

theorem dot_at (r : Fin 1024) (x : Fin 1536) : k0_pay1 (F := Ideal) p q (ix2 r x) = ∑ k : Fin 1024, p (ix2 r k) * q (ix2 x k) := by
  unfold k0_pay1
  pointwise

theorem out_2 : out0_2 (F := Ideal) p q = k0_pay1 p q := by
  unfold out0_2
  rw [View.canon_cons_unit_lit inb_S1024x1536_S1024x1536_0_0 _ _ (by decide), View.ld_unit_lit inb_S1024x1024_S1024x1024_0_0 p (by decide),
    View.ld_unit_lit inb_S1536x1024_S1536x1024_0_0 q (by decide)]

/-! ## The arrays and the blocks -/

variable (m : (ℓ : Loc nD τ sig) → Buf (Elt Ideal) ℓ) (c : Dev nD)

abbrev argA : FVec Ideal S4096x1024 .f32 := m (c, Proc.tc.devRef main_arg0)

theorem arr_a (i : S4096x1024.Idx) : (V m c main_v0 : FVec Ideal S4096x1024 .bf16) i = argA m c i := by
  unfold V hostOps0
  simp only [List.flatten_cons, List.flatten_nil, List.append_nil, List.cons_append, List.nil_append]
  after_reads_at

abbrev argB : FVec Ideal S1024x2888 .f32 := m (c, Proc.tc.devRef main_arg1)

/-- The argument's columns in the call's places, zeros between them. -/
def layB (x : FVec Ideal S1024x2888 .f32) : FVec Ideal S3072x1024 .f32 := fun i => Cert.Wide.wide (fun n => x (ix2 (i 1) n)) (i 0)

theorem arr_b (j : Fin 3072) (k : Fin 1024) : (V m c main_v9 : FVec Ideal S3072x1024 .bf16) (ix2 j k) = layB (argB m c) (ix2 j k) := by
  show _ = Cert.Wide.wide (fun n => argB m c (ix2 k n)) j
  unfold V hostOps0 hostOps0_1 hostOps0_2 hostOps0_3 hostOps0_4
  simp only [List.flatten_cons, List.flatten_nil, List.append_nil, List.cons_append, List.nil_append]
  after_reads_at
  have hj := j.isLt
  by_cases h1 : j.val < 2048
  · rw [Cert.Wide.wide_1 _ _ h1]
    simp only [h1, dite_true]
    after_reads_at
  by_cases h2 : j.val < 2816
  · have e : j.val - 2048 < 768 := by omega
    rw [Cert.Wide.wide_2 _ _ h1 h2]
    simp only [h1, e, dite_true, dite_false]
    after_reads_at
    exact congrArg (argB m c) (congrArg (ix2 k) (Fin.ext (by dsimp only; omega)))
  have e : ¬ j.val - 2048 < 768 := by omega
  by_cases h3 : j.val < 2944
  · have e3 : j.val - 2048 - 768 < 128 := by omega
    simp only [h1, e, e3, dite_true, dite_false]
    after_reads_at
    by_cases h4 : j.val < 2824
    · have e4 : j.val - 2048 - 768 < 8 := by omega
      refine Eq.trans ?_ (Cert.Wide.wide_3 _ _ h2 h4).symm
      simp only [e4, dite_true]
      exact congrArg (argB m c) (congrArg (ix2 k) (Fin.ext (by dsimp only; omega)))
    · have e4 : ¬ j.val - 2048 - 768 < 8 := by omega
      refine Eq.trans ?_ (Cert.Wide.wide_0 _ _ (by omega) (by omega)).symm
      simp only [e4, dite_false]
      exact Cert.Wide.zero_word
  · have e3 : ¬ j.val - 2048 - 768 < 128 := by omega
    simp only [h1, e, e3, dite_false]
    after_reads_at
    by_cases h4 : j.val < 3008
    · have e4 : j.val - 2048 - 768 - 128 < 64 := by omega
      refine Eq.trans ?_ (Cert.Wide.wide_4 _ _ (by omega) h4).symm
      simp only [e4, dite_true]
      exact congrArg (argB m c) (congrArg (ix2 k) (Fin.ext (by dsimp only; omega)))
    · have e4 : ¬ j.val - 2048 - 768 - 128 < 64 := by omega
      refine Eq.trans ?_ (Cert.Wide.wide_0 _ _ (by omega) (by omega)).symm
      simp only [e4, dite_false]
      exact Cert.Wide.zero_word

/-- Where each window's block stands at a point. -/
theorem places : ∀ t : Fin cfg0.N, win0_0.index t = ![t.val / 2, 0] ∧ win0_1.index t = ![t.val % 2, 0] ∧ win0_2.index t = ![t.val / 2, t.val % 2] := by
  decide +kernel

/-- The row of the result that a place of a point's tile is. -/
def row (t : Fin cfg0.N) (r : Fin 1024) : Fin 4096 := ⟨(t.val / 2) * 1024 + r.val, by have : t.val < 8 := t.isLt; omega⟩

/-- The column of the result that a place of a point's tile is. -/
def col (t : Fin cfg0.N) (r : Fin 1536) : Fin 3072 := ⟨(t.val % 2) * 1536 + r.val, by have : t.val < 8 := t.isLt; omega⟩

theorem block_a (t : Fin cfg0.N) (k : Fin 1024) (r : Fin 1024) : (iblk m c 0 t : Vec Ideal S1024x1024 .bf16) (ix2 r k) = argA m c (ix2 (row t r) k) := by
  have e : ∀ A : FVec Ideal S4096x1024 .bf16, ((cfg0.win 0).blk t).view.read (Elt Ideal) A (ix2 r k) = A (ix2 (row t r) k) := fun A => by
    unfold row
    blk_ext [(places t).1]
  exact (e (V m c main_v0)).trans (arr_a m c _)

theorem block_b (t : Fin cfg0.N) (k : Fin 1024) (x : Fin 1536) : (iblk m c 1 t : Vec Ideal S1536x1024 .bf16) (ix2 x k) = layB (argB m c) (ix2 (col t x) k) := by
  have e : ∀ A : FVec Ideal S3072x1024 .bf16, ((cfg0.win 1).blk t).view.read (Elt Ideal) A (ix2 x k) = A (ix2 (col t x) k) := fun A => by
    unfold col
    blk_ext [(places t).2.1]
  exact (e (V m c main_v9)).trans (arr_b m c _ _)

/-! ## The result -/

/-- The product's entries as sums. -/
def entries (a : FVec Ideal S4096x1024 .f32) (b : FVec Ideal S3072x1024 .f32) : FVec Ideal S4096x3072 .bf16 :=
  fun i => ∑ k : Fin 1024, a (ix2 (i 0) k) * b (ix2 (i 1) k)

theorem array_2 : (dats m 0 c).arrAt 2 cfg0.N = entries (argA m c) (layB (argB m c)) := by
  refine (dats m 0 c).arrAt_eq_of_covers 2 _ (by decide +kernel) fun t hf y => ?_
  blk_simp
  rw [after0_2]
  have e : ∀ y : S1024x1536.Idx, out0_2 (F := Ideal) (iblk m c 0 t) (iblk m c 1 t) y = entries (argA m c) (layB (argB m c)) ((win0_2.blk t).view.emb y) := fun y => by
    idx_vars y
    rw [out_2, dot_at]
    simp only [block_a, block_b]
    have e : (win0_2.blk t).view.emb (ix2 y0 y1) = ix2 (row t y0) (col t y1) := by
      unfold row
      unfold col
      blk_ext [(places t).2.2]
    rw [e]
    rfl
  exact e y

end Cert.ProjIdeal.Product

/-! ## Its reference -/

namespace Cert.ProjReferenceIdeal.Product

open Idealize.ShloMosaic Idealize.ShloMosaic.TcCoe Cert.ProjReferenceIdeal Cert.ProjReferenceIdeal.Gen Cert.ProjReferenceIdeal.Read

variable (x0 : FVec Ideal S4096x1024 .f32) (x1 : FVec Ideal S1024x2888 .f32)

theorem spread_at (r : Fin 4096) (j : Fin 3072) : val_main_v7 (F := Ideal) x0 x1 (ix2 r j) = Cert.Wide.wide (fun n => val_main_v0 (F := Ideal) x0 x1 (ix2 r n)) j := by
  have hj := j.isLt
  unfold val_main_v7
  generalize ha : val_main_v3 (F := Ideal) x0 x1 = a
  generalize hb : val_main_v4 (F := Ideal) x0 x1 = b
  generalize hg : val_main_v1 (F := Ideal) x0 x1 = g
  generalize hz : val_main_v5 (F := Ideal) = z
  generalize ht : val_main_v2 (F := Ideal) x0 x1 = t
  generalize hy : val_main_v6 (F := Ideal) = y
  have zero : ∀ i, z i = 0 := fun i => by rw [← hz, val_main_v5_apply]; exact Ideal.ofBits_zero .f32
  have zero' : ∀ i, y i = 0 := fun i => by rw [← hy, val_main_v6_apply]; exact Ideal.ofBits_zero .f32
  pointwise
  subst ha hb hg ht
  by_cases h1 : j.val < 2048
  · rw [Cert.Wide.wide_1 _ _ h1]
    simp only [h1, dite_true]
    rw [val_main_v3_apply]
    exact congrArg (val_main_v0 (F := Ideal) x0 x1) (funext fun d => by fin_cases d <;> rfl)
  by_cases h2 : j.val < 2816
  · have e : j.val - 2048 < 768 := by omega
    rw [Cert.Wide.wide_2 _ _ h1 h2]
    simp only [h1, e, dite_true, dite_false]
    rw [val_main_v4_apply]
    exact congrArg (val_main_v0 (F := Ideal) x0 x1) (funext fun d => match d with | ⟨0, _⟩ => rfl | ⟨1, _⟩ => Fin.ext (show 2056 + (j.val - 2048) = j.val + 8 by omega))
  have e : ¬ j.val - 2048 < 768 := by omega
  by_cases h3 : j.val < 2824
  · have e3 : j.val - 2048 - 768 < 8 := by omega
    rw [Cert.Wide.wide_3 _ _ h2 h3]
    simp only [h1, e, e3, dite_true, dite_false]
    rw [val_main_v1_apply]
    exact congrArg (val_main_v0 (F := Ideal) x0 x1) (funext fun d => match d with | ⟨0, _⟩ => rfl | ⟨1, _⟩ => Fin.ext (show 2048 + (j.val - 2048 - 768) = j.val - 768 by omega))
  have e3 : ¬ j.val - 2048 - 768 < 8 := by omega
  by_cases h4 : j.val < 2944
  · have e4 : j.val - 2048 - 768 - 8 < 120 := by omega
    rw [Cert.Wide.wide_0 _ _ (by omega) (by omega)]
    simp only [h1, e, e3, e4, dite_true, dite_false]
    exact zero _
  have e4 : ¬ j.val - 2048 - 768 - 8 < 120 := by omega
  by_cases h5 : j.val < 3008
  · have e5 : j.val - 2048 - 768 - 8 - 120 < 64 := by omega
    rw [Cert.Wide.wide_4 _ _ (by omega) h5]
    simp only [h1, e, e3, e4, e5, dite_true, dite_false]
    rw [val_main_v2_apply]
    exact congrArg (val_main_v0 (F := Ideal) x0 x1) (funext fun d => match d with | ⟨0, _⟩ => rfl | ⟨1, _⟩ => Fin.ext (show 2824 + (j.val - 2048 - 768 - 8 - 120) = j.val - 120 by omega))
  · have e5 : ¬ j.val - 2048 - 768 - 8 - 120 < 64 := by omega
    rw [Cert.Wide.wide_0 _ _ (by omega) (by omega)]
    simp only [h1, e, e3, e4, e5, dite_false]
    exact zero' _

theorem result : val_main_v8 (F := Ideal) x0 x1 = Cert.ProjIdeal.Product.entries x0 (Cert.ProjIdeal.Product.layB x1) := by
  funext i
  idx_vars i
  refine (spread_at x0 x1 i0 i1).trans (Eq.trans ?_ (Cert.Wide.sum_mul_wide (fun k => x0 (ix2 i0 k)) (fun k n => x1 (ix2 k n)) i1).symm)
  refine congrArg (Cert.Wide.wide · i1) (funext fun n => ?_)
  refine (val_main_v0_apply x0 x1 _).trans (Finset.sum_congr rfl fun k _ => ?_)
  congr 2 <;> funext a <;> fin_cases a <;> rfl

end Cert.ProjReferenceIdeal.Product

end
-- ==== Proof.ProjXValues.lean ====
/- The input projection's gradient by the input: what the call and its reference leave, as sums. -/
module

public import proofs.«01_k».proof.Proof.Gen.ProjXIdeal.Value
public import proofs.«01_k».proof.Proof.Gen.ProjXReferenceIdeal.Read
public import proofs.«01_k».proof.Proof.Wide
public import Idealize.ShloMosaic.Lib.Pipeline.ValueKit
public import Idealize.ShloMosaic.Lib.StableHlo.ReadAt
public import Idealize.ShloMosaic.Lib.Pointwise

@[expose] public section

set_option maxRecDepth 16384

noncomputable section

namespace Cert.ProjXIdeal.Product

open Idealize.ShloMosaic Idealize.ShloMosaic.TcCoe Cert.ProjXIdeal Cert.ProjXIdeal.Gen

/-! ## Its gradient by the input. The body -/

variable (p : Vec Ideal S1024x3072 .bf16) (q : Vec Ideal S3072x1024 .bf16)

theorem dot_at (r : Fin 1024) (x : Fin 1024) : k0_pay1 (F := Ideal) p q (ix2 r x) = ∑ k : Fin 3072, p (ix2 r k) * q (ix2 k x) := by
  unfold k0_pay1
  pointwise

theorem out_2 : out0_2 (F := Ideal) p q = k0_pay1 p q := by
  unfold out0_2
  rw [View.canon_cons_unit_lit inb_S1024x1024_S1024x1024_0_0 _ _ (by decide), View.ld_unit_lit inb_S1024x3072_S1024x3072_0_0 p (by decide),
    View.ld_unit_lit inb_S3072x1024_S3072x1024_0_0 q (by decide)]

/-! ## The arrays and the blocks -/

variable (m : (ℓ : Loc nD τ sig) → Buf (Elt Ideal) ℓ) (c : Dev nD)

abbrev argA : FVec Ideal S4096x2888 .f32 := m (c, Proc.tc.devRef main_arg0)

/-- The argument's columns in the call's places, zeros between them. -/
def layA (x : FVec Ideal S4096x2888 .f32) : FVec Ideal S4096x3072 .f32 := fun i => Cert.Wide.wide (fun n => x (ix2 (i 0) n)) (i 1)

theorem arr_a (j : Fin 3072) (k : Fin 4096) : (V m c main_v9 : FVec Ideal S4096x3072 .bf16) (ix2 k j) = layA (argA m c) (ix2 k j) := by
  show _ = Cert.Wide.wide (fun n => argA m c (ix2 k n)) j
  unfold V hostOps0 hostOps0_1 hostOps0_2 hostOps0_3 hostOps0_4 hostOps0_5 hostOps0_6 hostOps0_7 hostOps0_8
  simp only [List.flatten_cons, List.flatten_nil, List.append_nil, List.cons_append, List.nil_append]
  after_reads_at
  have hj := j.isLt
  by_cases h1 : j.val < 2048
  · rw [Cert.Wide.wide_1 _ _ h1]
    simp only [h1, dite_true]
    after_reads_at
  by_cases h2 : j.val < 2816
  · have e : j.val - 2048 < 768 := by omega
    rw [Cert.Wide.wide_2 _ _ h1 h2]
    simp only [h1, e, dite_true, dite_false]
    after_reads_at
    exact congrArg (argA m c) (congrArg (ix2 k) (Fin.ext (by dsimp only; omega)))
  have e : ¬ j.val - 2048 < 768 := by omega
  by_cases h3 : j.val < 2944
  · have e3 : j.val - 2048 - 768 < 128 := by omega
    simp only [h1, e, e3, dite_true, dite_false]
    after_reads_at
    by_cases h4 : j.val < 2824
    · have e4 : j.val - 2048 - 768 < 8 := by omega
      refine Eq.trans ?_ (Cert.Wide.wide_3 _ _ h2 h4).symm
      simp only [e4, dite_true]
      exact congrArg (argA m c) (congrArg (ix2 k) (Fin.ext (by dsimp only; omega)))
    · have e4 : ¬ j.val - 2048 - 768 < 8 := by omega
      refine Eq.trans ?_ (Cert.Wide.wide_0 _ _ (by omega) (by omega)).symm
      simp only [e4, dite_false]
      exact Cert.Wide.zero_word
  · have e3 : ¬ j.val - 2048 - 768 < 128 := by omega
    simp only [h1, e, e3, dite_false]
    after_reads_at
    by_cases h4 : j.val < 3008
    · have e4 : j.val - 2048 - 768 - 128 < 64 := by omega
      refine Eq.trans ?_ (Cert.Wide.wide_4 _ _ (by omega) h4).symm
      simp only [e4, dite_true]
      exact congrArg (argA m c) (congrArg (ix2 k) (Fin.ext (by dsimp only; omega)))
    · have e4 : ¬ j.val - 2048 - 768 - 128 < 64 := by omega
      refine Eq.trans ?_ (Cert.Wide.wide_0 _ _ (by omega) (by omega)).symm
      simp only [e4, dite_false]
      exact Cert.Wide.zero_word

abbrev argB : FVec Ideal S1024x2888 .f32 := m (c, Proc.tc.devRef main_arg1)

/-- The argument's columns in the call's places, zeros between them. -/
def layB (x : FVec Ideal S1024x2888 .f32) : FVec Ideal S3072x1024 .f32 := fun i => Cert.Wide.wide (fun n => x (ix2 (i 1) n)) (i 0)

theorem arr_b (j : Fin 3072) (k : Fin 1024) : (V m c main_v18 : FVec Ideal S3072x1024 .bf16) (ix2 j k) = layB (argB m c) (ix2 j k) := by
  show _ = Cert.Wide.wide (fun n => argB m c (ix2 k n)) j
  unfold V hostOps0 hostOps0_1 hostOps0_2 hostOps0_3 hostOps0_4 hostOps0_5 hostOps0_6 hostOps0_7 hostOps0_8
  simp only [List.flatten_cons, List.flatten_nil, List.append_nil, List.cons_append, List.nil_append]
  after_reads_at
  have hj := j.isLt
  by_cases h1 : j.val < 2048
  · rw [Cert.Wide.wide_1 _ _ h1]
    simp only [h1, dite_true]
    after_reads_at
  by_cases h2 : j.val < 2816
  · have e : j.val - 2048 < 768 := by omega
    rw [Cert.Wide.wide_2 _ _ h1 h2]
    simp only [h1, e, dite_true, dite_false]
    after_reads_at
    exact congrArg (argB m c) (congrArg (ix2 k) (Fin.ext (by dsimp only; omega)))
  have e : ¬ j.val - 2048 < 768 := by omega
  by_cases h3 : j.val < 2944
  · have e3 : j.val - 2048 - 768 < 128 := by omega
    simp only [h1, e, e3, dite_true, dite_false]
    after_reads_at
    by_cases h4 : j.val < 2824
    · have e4 : j.val - 2048 - 768 < 8 := by omega
      refine Eq.trans ?_ (Cert.Wide.wide_3 _ _ h2 h4).symm
      simp only [e4, dite_true]
      exact congrArg (argB m c) (congrArg (ix2 k) (Fin.ext (by dsimp only; omega)))
    · have e4 : ¬ j.val - 2048 - 768 < 8 := by omega
      refine Eq.trans ?_ (Cert.Wide.wide_0 _ _ (by omega) (by omega)).symm
      simp only [e4, dite_false]
      exact Cert.Wide.zero_word
  · have e3 : ¬ j.val - 2048 - 768 < 128 := by omega
    simp only [h1, e, e3, dite_false]
    after_reads_at
    by_cases h4 : j.val < 3008
    · have e4 : j.val - 2048 - 768 - 128 < 64 := by omega
      refine Eq.trans ?_ (Cert.Wide.wide_4 _ _ (by omega) h4).symm
      simp only [e4, dite_true]
      exact congrArg (argB m c) (congrArg (ix2 k) (Fin.ext (by dsimp only; omega)))
    · have e4 : ¬ j.val - 2048 - 768 - 128 < 64 := by omega
      refine Eq.trans ?_ (Cert.Wide.wide_0 _ _ (by omega) (by omega)).symm
      simp only [e4, dite_false]
      exact Cert.Wide.zero_word

/-- Where each window's block stands at a point. -/
theorem places : ∀ t : Fin cfg0.N, win0_0.index t = ![t.val, 0] ∧ win0_1.index t = ![0, 0] ∧ win0_2.index t = ![t.val, 0] := by
  decide +kernel

/-- The row of the result that a place of a point's tile is. -/
def row (t : Fin cfg0.N) (r : Fin 1024) : Fin 4096 := ⟨t.val * 1024 + r.val, by have : t.val < 4 := t.isLt; omega⟩

theorem block_a (t : Fin cfg0.N) (k : Fin 3072) (r : Fin 1024) : (iblk m c 0 t : Vec Ideal S1024x3072 .bf16) (ix2 r k) = layA (argA m c) (ix2 (row t r) k) := by
  have e : ∀ A : FVec Ideal S4096x3072 .bf16, ((cfg0.win 0).blk t).view.read (Elt Ideal) A (ix2 r k) = A (ix2 (row t r) k) := fun A => by
    unfold row
    blk_ext [(places t).1]
  exact (e (V m c main_v9)).trans (arr_a m c _ _)

theorem block_b (t : Fin cfg0.N) (k : Fin 3072) (x : Fin 1024) : (iblk m c 1 t : Vec Ideal S3072x1024 .bf16) (ix2 k x) = layB (argB m c) (ix2 k x) := by
  have e : ∀ A : FVec Ideal S3072x1024 .bf16, ((cfg0.win 1).blk t).view.read (Elt Ideal) A (ix2 k x) = A (ix2 k x) := fun A => by
    blk_ext [(places t).2.1]
  exact (e (V m c main_v18)).trans (arr_b m c _ _)

/-! ## The result -/

/-- The product's entries as sums. -/
def entries (a : FVec Ideal S4096x3072 .f32) (b : FVec Ideal S3072x1024 .f32) : FVec Ideal S4096x1024 .bf16 :=
  fun i => ∑ k : Fin 3072, a (ix2 (i 0) k) * b (ix2 k (i 1))

theorem array_2 : (dats m 0 c).arrAt 2 cfg0.N = entries (layA (argA m c)) (layB (argB m c)) := by
  refine (dats m 0 c).arrAt_eq_of_covers 2 _ (by decide +kernel) fun t hf y => ?_
  blk_simp
  rw [after0_2]
  have e : ∀ y : S1024x1024.Idx, out0_2 (F := Ideal) (iblk m c 0 t) (iblk m c 1 t) y = entries (layA (argA m c)) (layB (argB m c)) ((win0_2.blk t).view.emb y) := fun y => by
    idx_vars y
    rw [out_2, dot_at]
    simp only [block_a, block_b]
    have e : (win0_2.blk t).view.emb (ix2 y0 y1) = ix2 (row t y0) y1 := by
      unfold row
      blk_ext [(places t).2.2]
    rw [e]
    rfl
  exact e y

end Cert.ProjXIdeal.Product

/-! ## Its reference -/

namespace Cert.ProjXReferenceIdeal.Product

open Idealize.ShloMosaic Idealize.ShloMosaic.TcCoe Cert.ProjXReferenceIdeal Cert.ProjXReferenceIdeal.Gen Cert.ProjXReferenceIdeal.Read

theorem result (x0 : FVec Ideal S4096x2888 .f32) (x1 : FVec Ideal S1024x2888 .f32) :
    val_main_v3 (F := Ideal) x0 x1 = Cert.ProjXIdeal.Product.entries (Cert.ProjXIdeal.Product.layA x0) (Cert.ProjXIdeal.Product.layB x1) := by
  funext i
  idx_vars i
  rw [val_main_v3_apply]
  refine (val_main_v2_apply x0 x1 _).trans (Eq.trans (Finset.sum_congr rfl fun k _ => ?_) (Cert.Wide.sum_wide (fun n => x0 (ix2 i0 n)) (fun n => x1 (ix2 i1 n))).symm)
  congr 2 <;> funext a <;> fin_cases a <;> rfl

end Cert.ProjXReferenceIdeal.Product

end
-- ==== Proof.ProjWValues.lean ====
/- The input projection's gradient by the weights: what the call and its reference leave, as sums. -/
module

public import proofs.«01_k».proof.Proof.Gen.ProjWIdeal.Value
public import proofs.«01_k».proof.Proof.Gen.ProjWReferenceIdeal.Read
public import proofs.«01_k».proof.Proof.Wide
public import Idealize.ShloMosaic.Lib.Pipeline.ValueKit
public import Idealize.ShloMosaic.Lib.StableHlo.ReadAt
public import Idealize.ShloMosaic.Lib.Pointwise

@[expose] public section

set_option maxRecDepth 16384

noncomputable section

namespace Cert.ProjWIdeal.Product

open Idealize.ShloMosaic Idealize.ShloMosaic.TcCoe Cert.ProjWIdeal Cert.ProjWIdeal.Gen

/-! ## Its gradient by the weights. The body -/

variable (p : Vec Ideal S4096x1024 .bf16) (q : Vec Ideal S4096x512 .bf16)

theorem dot_at (r : Fin 1024) (x : Fin 512) : k0_pay1 (F := Ideal) p q (ix2 r x) = ∑ k : Fin 4096, p (ix2 k r) * q (ix2 k x) := by
  unfold k0_pay1
  pointwise

theorem out_2 : out0_2 (F := Ideal) p q = k0_pay1 p q := by
  unfold out0_2
  rw [View.canon_cons_unit_lit inb_S1024x512_S1024x512_0_0 _ _ (by decide), View.ld_unit_lit inb_S4096x1024_S4096x1024_0_0 p (by decide),
    View.ld_unit_lit inb_S4096x512_S4096x512_0_0 q (by decide)]

/-! ## The arrays and the blocks -/

variable (m : (ℓ : Loc nD τ sig) → Buf (Elt Ideal) ℓ) (c : Dev nD)

abbrev argA : FVec Ideal S4096x2888 .f32 := m (c, Proc.tc.devRef main_arg0)

/-- The argument's columns in the call's places, zeros between them. -/
def layA (x : FVec Ideal S4096x2888 .f32) : FVec Ideal S4096x3072 .f32 := fun i => Cert.Wide.wide (fun n => x (ix2 (i 0) n)) (i 1)

theorem arr_a (j : Fin 3072) (k : Fin 4096) : (V m c main_v9 : FVec Ideal S4096x3072 .bf16) (ix2 k j) = layA (argA m c) (ix2 k j) := by
  show _ = Cert.Wide.wide (fun n => argA m c (ix2 k n)) j
  unfold V hostOps0 hostOps0_1 hostOps0_2 hostOps0_3 hostOps0_4
  simp only [List.flatten_cons, List.flatten_nil, List.append_nil, List.cons_append, List.nil_append]
  after_reads_at
  have hj := j.isLt
  by_cases h1 : j.val < 2048
  · rw [Cert.Wide.wide_1 _ _ h1]
    simp only [h1, dite_true]
    after_reads_at
  by_cases h2 : j.val < 2816
  · have e : j.val - 2048 < 768 := by omega
    rw [Cert.Wide.wide_2 _ _ h1 h2]
    simp only [h1, e, dite_true, dite_false]
    after_reads_at
    exact congrArg (argA m c) (congrArg (ix2 k) (Fin.ext (by dsimp only; omega)))
  have e : ¬ j.val - 2048 < 768 := by omega
  by_cases h3 : j.val < 2944
  · have e3 : j.val - 2048 - 768 < 128 := by omega
    simp only [h1, e, e3, dite_true, dite_false]
    after_reads_at
    by_cases h4 : j.val < 2824
    · have e4 : j.val - 2048 - 768 < 8 := by omega
      refine Eq.trans ?_ (Cert.Wide.wide_3 _ _ h2 h4).symm
      simp only [e4, dite_true]
      exact congrArg (argA m c) (congrArg (ix2 k) (Fin.ext (by dsimp only; omega)))
    · have e4 : ¬ j.val - 2048 - 768 < 8 := by omega
      refine Eq.trans ?_ (Cert.Wide.wide_0 _ _ (by omega) (by omega)).symm
      simp only [e4, dite_false]
      exact Cert.Wide.zero_word
  · have e3 : ¬ j.val - 2048 - 768 < 128 := by omega
    simp only [h1, e, e3, dite_false]
    after_reads_at
    by_cases h4 : j.val < 3008
    · have e4 : j.val - 2048 - 768 - 128 < 64 := by omega
      refine Eq.trans ?_ (Cert.Wide.wide_4 _ _ (by omega) h4).symm
      simp only [e4, dite_true]
      exact congrArg (argA m c) (congrArg (ix2 k) (Fin.ext (by dsimp only; omega)))
    · have e4 : ¬ j.val - 2048 - 768 - 128 < 64 := by omega
      refine Eq.trans ?_ (Cert.Wide.wide_0 _ _ (by omega) (by omega)).symm
      simp only [e4, dite_false]
      exact Cert.Wide.zero_word

abbrev argB : FVec Ideal S4096x1024 .f32 := m (c, Proc.tc.devRef main_arg1)

theorem arr_b (i : S4096x1024.Idx) : (V m c main_v10 : FVec Ideal S4096x1024 .bf16) i = argB m c i := by
  unfold V hostOps0
  simp only [List.flatten_cons, List.flatten_nil, List.append_nil, List.cons_append, List.nil_append]
  after_reads_at

/-- Where each window's block stands at a point. -/
theorem places : ∀ t : Fin cfg0.N, win0_0.index t = ![0, t.val / 2] ∧ win0_1.index t = ![0, t.val % 2] ∧ win0_2.index t = ![t.val / 2, t.val % 2] := by
  decide +kernel

/-- The row of the result that a place of a point's tile is. -/
def row (t : Fin cfg0.N) (r : Fin 1024) : Fin 3072 := ⟨(t.val / 2) * 1024 + r.val, by have : t.val < 6 := t.isLt; omega⟩

/-- The column of the result that a place of a point's tile is. -/
def col (t : Fin cfg0.N) (r : Fin 512) : Fin 1024 := ⟨(t.val % 2) * 512 + r.val, by have : t.val < 6 := t.isLt; omega⟩

theorem block_a (t : Fin cfg0.N) (k : Fin 4096) (r : Fin 1024) : (iblk m c 0 t : Vec Ideal S4096x1024 .bf16) (ix2 k r) = layA (argA m c) (ix2 k (row t r)) := by
  have e : ∀ A : FVec Ideal S4096x3072 .bf16, ((cfg0.win 0).blk t).view.read (Elt Ideal) A (ix2 k r) = A (ix2 k (row t r)) := fun A => by
    unfold row
    blk_ext [(places t).1]
  exact (e (V m c main_v9)).trans (arr_a m c _ _)

theorem block_b (t : Fin cfg0.N) (k : Fin 4096) (x : Fin 512) : (iblk m c 1 t : Vec Ideal S4096x512 .bf16) (ix2 k x) = argB m c (ix2 k (col t x)) := by
  have e : ∀ A : FVec Ideal S4096x1024 .bf16, ((cfg0.win 1).blk t).view.read (Elt Ideal) A (ix2 k x) = A (ix2 k (col t x)) := fun A => by
    unfold col
    blk_ext [(places t).2.1]
  exact (e (V m c main_v10)).trans (arr_b m c _)

/-! ## The result -/

/-- The product's entries as sums. -/
def entries (a : FVec Ideal S4096x3072 .f32) (b : FVec Ideal S4096x1024 .f32) : FVec Ideal S3072x1024 .bf16 :=
  fun i => ∑ k : Fin 4096, a (ix2 k (i 0)) * b (ix2 k (i 1))

theorem array_2 : (dats m 0 c).arrAt 2 cfg0.N = entries (layA (argA m c)) (argB m c) := by
  refine (dats m 0 c).arrAt_eq_of_covers 2 _ (by decide +kernel) fun t hf y => ?_
  blk_simp
  rw [after0_2]
  have e : ∀ y : S1024x512.Idx, out0_2 (F := Ideal) (iblk m c 0 t) (iblk m c 1 t) y = entries (layA (argA m c)) (argB m c) ((win0_2.blk t).view.emb y) := fun y => by
    idx_vars y
    rw [out_2, dot_at]
    simp only [block_a, block_b]
    have e : (win0_2.blk t).view.emb (ix2 y0 y1) = ix2 (row t y0) (col t y1) := by
      unfold row
      unfold col
      blk_ext [(places t).2.2]
    rw [e]
    rfl
  exact e y

end Cert.ProjWIdeal.Product

/-! ## Its reference -/

namespace Cert.ProjWReferenceIdeal.Product

open Idealize.ShloMosaic Idealize.ShloMosaic.TcCoe Cert.ProjWReferenceIdeal Cert.ProjWReferenceIdeal.Gen Cert.ProjWReferenceIdeal.Read

variable (x0 : FVec Ideal S4096x2888 .f32) (x1 : FVec Ideal S4096x1024 .f32)

theorem spread_at (r : Fin 1024) (j : Fin 3072) : val_main_v11 (F := Ideal) x0 x1 (ix2 r j) = Cert.Wide.wide (fun n => val_main_v4 (F := Ideal) x0 x1 (ix2 r n)) j := by
  have hj := j.isLt
  unfold val_main_v11
  generalize ha : val_main_v7 (F := Ideal) x0 x1 = a
  generalize hb : val_main_v8 (F := Ideal) x0 x1 = b
  generalize hg : val_main_v5 (F := Ideal) x0 x1 = g
  generalize hz : val_main_v9 (F := Ideal) = z
  generalize ht : val_main_v6 (F := Ideal) x0 x1 = t
  generalize hy : val_main_v10 (F := Ideal) = y
  have zero : ∀ i, z i = 0 := fun i => by rw [← hz, val_main_v9_apply]; exact Ideal.ofBits_zero .bf16
  have zero' : ∀ i, y i = 0 := fun i => by rw [← hy, val_main_v10_apply]; exact Ideal.ofBits_zero .bf16
  pointwise
  subst ha hb hg ht
  by_cases h1 : j.val < 2048
  · rw [Cert.Wide.wide_1 _ _ h1]
    simp only [h1, dite_true]
    rw [val_main_v7_apply]
    exact congrArg (val_main_v4 (F := Ideal) x0 x1) (funext fun d => by fin_cases d <;> rfl)
  by_cases h2 : j.val < 2816
  · have e : j.val - 2048 < 768 := by omega
    rw [Cert.Wide.wide_2 _ _ h1 h2]
    simp only [h1, e, dite_true, dite_false]
    rw [val_main_v8_apply]
    exact congrArg (val_main_v4 (F := Ideal) x0 x1) (funext fun d => match d with | ⟨0, _⟩ => rfl | ⟨1, _⟩ => Fin.ext (show 2056 + (j.val - 2048) = j.val + 8 by omega))
  have e : ¬ j.val - 2048 < 768 := by omega
  by_cases h3 : j.val < 2824
  · have e3 : j.val - 2048 - 768 < 8 := by omega
    rw [Cert.Wide.wide_3 _ _ h2 h3]
    simp only [h1, e, e3, dite_true, dite_false]
    rw [val_main_v5_apply]
    exact congrArg (val_main_v4 (F := Ideal) x0 x1) (funext fun d => match d with | ⟨0, _⟩ => rfl | ⟨1, _⟩ => Fin.ext (show 2048 + (j.val - 2048 - 768) = j.val - 768 by omega))
  have e3 : ¬ j.val - 2048 - 768 < 8 := by omega
  by_cases h4 : j.val < 2944
  · have e4 : j.val - 2048 - 768 - 8 < 120 := by omega
    rw [Cert.Wide.wide_0 _ _ (by omega) (by omega)]
    simp only [h1, e, e3, e4, dite_true, dite_false]
    exact zero _
  have e4 : ¬ j.val - 2048 - 768 - 8 < 120 := by omega
  by_cases h5 : j.val < 3008
  · have e5 : j.val - 2048 - 768 - 8 - 120 < 64 := by omega
    rw [Cert.Wide.wide_4 _ _ (by omega) h5]
    simp only [h1, e, e3, e4, e5, dite_true, dite_false]
    rw [val_main_v6_apply]
    exact congrArg (val_main_v4 (F := Ideal) x0 x1) (funext fun d => match d with | ⟨0, _⟩ => rfl | ⟨1, _⟩ => Fin.ext (show 2824 + (j.val - 2048 - 768 - 8 - 120) = j.val - 120 by omega))
  · have e5 : ¬ j.val - 2048 - 768 - 8 - 120 < 64 := by omega
    rw [Cert.Wide.wide_0 _ _ (by omega) (by omega)]
    simp only [h1, e, e3, e4, e5, dite_false]
    exact zero' _

theorem result : val_main_v12 (F := Ideal) x0 x1 = Cert.ProjWIdeal.Product.entries (Cert.ProjWIdeal.Product.layA x0) x1 := by
  funext i
  idx_vars i
  have e : idx_main_v12 (ix2 i0 i1) = ix2 i1 i0 := funext fun d => by fin_cases d <;> rfl
  rw [val_main_v12_apply, e, spread_at]
  show _ = ∑ k : Fin 4096, Cert.ProjWIdeal.Product.layA x0 (ix2 k i0) * x1 (ix2 k i1)
  refine Eq.trans ?_ (Finset.sum_congr rfl fun k _ => mul_comm (x1 (ix2 k i1)) (Cert.ProjWIdeal.Product.layA x0 (ix2 k i0)))
  refine Eq.trans ?_ (Cert.Wide.sum_mul_wide (fun k => x1 (ix2 k i1)) (fun k n => x0 (ix2 k n)) i0).symm
  refine congrArg (Cert.Wide.wide · i0) (funext fun n => ?_)
  rw [val_main_v4_apply, val_main_v3_apply]
  refine (val_main_v2_apply x0 x1 _).trans (Finset.sum_congr rfl fun k _ => (mul_comm _ _).trans ?_)
  congr 2 <;> funext a <;> fin_cases a <;> rfl

end Cert.ProjWReferenceIdeal.Product

end
-- ==== Proof.Products.lean ====
/- The eight plain products: their frames as compiled, their references' frames, and that each call's result is its reference's. -/
module

public import proofs.«01_k».proof.Defs
public import proofs.«01_k».proof.Proof.DownValues
public import proofs.«01_k».proof.Proof.OutValues
public import proofs.«01_k».proof.Proof.ProjValues
public import proofs.«01_k».proof.Proof.ProjXValues
public import proofs.«01_k».proof.Proof.ProjWValues
public import proofs.«01_k».proof.Proof.Gen.Down.Frame
public import proofs.«01_k».proof.Proof.Gen.DownReferenceIdeal.Run
public import proofs.«01_k».proof.Proof.Gen.DownW.Frame
public import proofs.«01_k».proof.Proof.Gen.DownWReferenceIdeal.Run
public import proofs.«01_k».proof.Proof.Gen.Out.Frame
public import proofs.«01_k».proof.Proof.Gen.OutReferenceIdeal.Run
public import proofs.«01_k».proof.Proof.Gen.OutX.Frame
public import proofs.«01_k».proof.Proof.Gen.OutXReferenceIdeal.Run
public import proofs.«01_k».proof.Proof.Gen.OutW.Frame
public import proofs.«01_k».proof.Proof.Gen.OutWReferenceIdeal.Run
public import proofs.«01_k».proof.Proof.Gen.Proj.Frame
public import proofs.«01_k».proof.Proof.Gen.ProjReferenceIdeal.Run
public import proofs.«01_k».proof.Proof.Gen.ProjX.Frame
public import proofs.«01_k».proof.Proof.Gen.ProjXReferenceIdeal.Run
public import proofs.«01_k».proof.Proof.Gen.ProjW.Frame
public import proofs.«01_k».proof.Proof.Gen.ProjWReferenceIdeal.Run
public import Idealize.ShloMosaic.Lib.Claim
public import Idealize.ShloMosaic.Lib.Quiescent

@[expose] public section

set_option maxRecDepth 16384

noncomputable section

namespace Cert.Products

open Idealize.ShloMosaic Idealize.ShloMosaic.TcCoe Idealize.SL.Sem

/-! ## The feed-forward's last product -/

theorem frame_Down : Cert.quiescent_Down := fun m g _ => Cert.Down.Gen.frame m g

theorem frame_DownIdeal : Cert.quiescent_DownIdeal := fun m g _ => Cert.DownIdeal.Gen.frame m g

theorem frame_DownReferenceIdeal : Cert.quiescent_DownReferenceIdeal := fun m g _ =>
  (θ_run Cert.DownReferenceIdeal.defs _ _).mono (fun r h => ⟨fun c => (h c).2, sem_eq_zero_of_no_sems (by decide) r.2⟩) (Cert.DownReferenceIdeal.Value.run (F := Ideal) m g)

theorem agree_Down : Cert.algebraic_DownIdeal_DownReferenceIdeal := fun m g m' g' _ hm =>
  ⟨fun c => Cert.DownIdeal.Product.entries (Cert.DownIdeal.Product.argA m c) (Cert.DownIdeal.Product.argB m c),
    (θ_run Cert.DownIdeal.defs _ _).mono (fun _ h c => ⟨(h c).1.trans (Cert.DownIdeal.Product.array_2 m c), (h c).2⟩) (Cert.DownIdeal.Value.run_blocks m g),
    (θ_run Cert.DownReferenceIdeal.defs _ _).mono (fun _ h c =>
      have e0 := (hm c).1
      have e1 := (hm c).2
      ⟨(h c).1.trans ((Cert.DownReferenceIdeal.Read.val_main_v1_eq _ _).trans (by rw [e0, e1]; exact Cert.DownReferenceIdeal.Product.result _ _)), (h c).2⟩)
      (Cert.DownReferenceIdeal.Value.run (F := Ideal) m' g')⟩

/-! ## Its gradient by the weights -/

theorem frame_DownW : Cert.quiescent_DownW := fun m g _ => Cert.DownW.Gen.frame m g

theorem frame_DownWIdeal : Cert.quiescent_DownWIdeal := fun m g _ => Cert.DownWIdeal.Gen.frame m g

theorem frame_DownWReferenceIdeal : Cert.quiescent_DownWReferenceIdeal := fun m g _ =>
  (θ_run Cert.DownWReferenceIdeal.defs _ _).mono (fun r h => ⟨fun c => (h c).2, sem_eq_zero_of_no_sems (by decide) r.2⟩) (Cert.DownWReferenceIdeal.Value.run (F := Ideal) m g)

theorem agree_DownW : Cert.algebraic_DownWIdeal_DownWReferenceIdeal := fun m g m' g' _ hm =>
  ⟨fun c => Cert.DownWIdeal.Product.entries (Cert.DownWIdeal.Product.argA m c) (Cert.DownWIdeal.Product.argB m c),
    (θ_run Cert.DownWIdeal.defs _ _).mono (fun _ h c => ⟨(h c).1.trans (Cert.DownWIdeal.Product.array_2 m c), (h c).2⟩) (Cert.DownWIdeal.Value.run_blocks m g),
    (θ_run Cert.DownWReferenceIdeal.defs _ _).mono (fun _ h c =>
      have e0 := (hm c).1
      have e1 := (hm c).2
      ⟨(h c).1.trans ((Cert.DownWReferenceIdeal.Read.val_main_v4_eq _ _).trans (by rw [e0, e1]; exact Cert.DownWReferenceIdeal.Product.result _ _)), (h c).2⟩)
      (Cert.DownWReferenceIdeal.Value.run (F := Ideal) m' g')⟩

/-! ## The mixer's output projection -/

theorem frame_Out : Cert.quiescent_Out := fun m g _ => Cert.Out.Gen.frame m g

theorem frame_OutIdeal : Cert.quiescent_OutIdeal := fun m g _ => Cert.OutIdeal.Gen.frame m g

theorem frame_OutReferenceIdeal : Cert.quiescent_OutReferenceIdeal := fun m g _ =>
  (θ_run Cert.OutReferenceIdeal.defs _ _).mono (fun r h => ⟨fun c => (h c).2, sem_eq_zero_of_no_sems (by decide) r.2⟩) (Cert.OutReferenceIdeal.Value.run (F := Ideal) m g)

theorem agree_Out : Cert.algebraic_OutIdeal_OutReferenceIdeal := fun m g m' g' _ hm =>
  ⟨fun c => Cert.OutIdeal.Product.entries (Cert.OutIdeal.Product.argA m c) (Cert.OutIdeal.Product.argB m c),
    (θ_run Cert.OutIdeal.defs _ _).mono (fun _ h c => ⟨(h c).1.trans (Cert.OutIdeal.Product.array_2 m c), (h c).2⟩) (Cert.OutIdeal.Value.run_blocks m g),
    (θ_run Cert.OutReferenceIdeal.defs _ _).mono (fun _ h c =>
      have e0 := (hm c).1
      have e1 := (hm c).2
      ⟨(h c).1.trans ((Cert.OutReferenceIdeal.Read.val_main_v1_eq _ _).trans (by rw [e0, e1]; exact Cert.OutReferenceIdeal.Product.result _ _)), (h c).2⟩)
      (Cert.OutReferenceIdeal.Value.run (F := Ideal) m' g')⟩

/-! ## Its gradient by the input -/

theorem frame_OutX : Cert.quiescent_OutX := fun m g _ => Cert.OutX.Gen.frame m g

theorem frame_OutXIdeal : Cert.quiescent_OutXIdeal := fun m g _ => Cert.OutXIdeal.Gen.frame m g

theorem frame_OutXReferenceIdeal : Cert.quiescent_OutXReferenceIdeal := fun m g _ =>
  (θ_run Cert.OutXReferenceIdeal.defs _ _).mono (fun r h => ⟨fun c => (h c).2, sem_eq_zero_of_no_sems (by decide) r.2⟩) (Cert.OutXReferenceIdeal.Value.run (F := Ideal) m g)

theorem agree_OutX : Cert.algebraic_OutXIdeal_OutXReferenceIdeal := fun m g m' g' _ hm =>
  ⟨fun c => Cert.OutXIdeal.Product.entries (Cert.OutXIdeal.Product.argA m c) (Cert.OutXIdeal.Product.argB m c),
    (θ_run Cert.OutXIdeal.defs _ _).mono (fun _ h c => ⟨(h c).1.trans (Cert.OutXIdeal.Product.array_2 m c), (h c).2⟩) (Cert.OutXIdeal.Value.run_blocks m g),
    (θ_run Cert.OutXReferenceIdeal.defs _ _).mono (fun _ h c =>
      have e0 := (hm c).1
      have e1 := (hm c).2
      ⟨(h c).1.trans ((Cert.OutXReferenceIdeal.Read.val_main_v3_eq _ _).trans (by rw [e0, e1]; exact Cert.OutXReferenceIdeal.Product.result _ _)), (h c).2⟩)
      (Cert.OutXReferenceIdeal.Value.run (F := Ideal) m' g')⟩

/-! ## Its gradient by the weights -/

theorem frame_OutW : Cert.quiescent_OutW := fun m g _ => Cert.OutW.Gen.frame m g

theorem frame_OutWIdeal : Cert.quiescent_OutWIdeal := fun m g _ => Cert.OutWIdeal.Gen.frame m g

theorem frame_OutWReferenceIdeal : Cert.quiescent_OutWReferenceIdeal := fun m g _ =>
  (θ_run Cert.OutWReferenceIdeal.defs _ _).mono (fun r h => ⟨fun c => (h c).2, sem_eq_zero_of_no_sems (by decide) r.2⟩) (Cert.OutWReferenceIdeal.Value.run (F := Ideal) m g)

theorem agree_OutW : Cert.algebraic_OutWIdeal_OutWReferenceIdeal := fun m g m' g' _ hm =>
  ⟨fun c => Cert.OutWIdeal.Product.entries (Cert.OutWIdeal.Product.argA m c) (Cert.OutWIdeal.Product.argB m c),
    (θ_run Cert.OutWIdeal.defs _ _).mono (fun _ h c => ⟨(h c).1.trans (Cert.OutWIdeal.Product.array_2 m c), (h c).2⟩) (Cert.OutWIdeal.Value.run_blocks m g),
    (θ_run Cert.OutWReferenceIdeal.defs _ _).mono (fun _ h c =>
      have e0 := (hm c).1
      have e1 := (hm c).2
      ⟨(h c).1.trans ((Cert.OutWReferenceIdeal.Read.val_main_v4_eq _ _).trans (by rw [e0, e1]; exact Cert.OutWReferenceIdeal.Product.result _ _)), (h c).2⟩)
      (Cert.OutWReferenceIdeal.Value.run (F := Ideal) m' g')⟩

/-! ## The mixer's input projection -/

theorem frame_Proj : Cert.quiescent_Proj := fun m g _ => Cert.Proj.Gen.frame m g

theorem frame_ProjIdeal : Cert.quiescent_ProjIdeal := fun m g _ => Cert.ProjIdeal.Gen.frame m g

theorem frame_ProjReferenceIdeal : Cert.quiescent_ProjReferenceIdeal := fun m g _ =>
  (θ_run Cert.ProjReferenceIdeal.defs _ _).mono (fun r h => ⟨fun c => (h c).2, sem_eq_zero_of_no_sems (by decide) r.2⟩) (Cert.ProjReferenceIdeal.Value.run (F := Ideal) m g)

theorem agree_Proj : Cert.algebraic_ProjIdeal_ProjReferenceIdeal := fun m g m' g' _ hm =>
  ⟨fun c => Cert.ProjIdeal.Product.entries (Cert.ProjIdeal.Product.argA m c) (Cert.ProjIdeal.Product.layB (Cert.ProjIdeal.Product.argB m c)),
    (θ_run Cert.ProjIdeal.defs _ _).mono (fun _ h c => ⟨(h c).1.trans (Cert.ProjIdeal.Product.array_2 m c), (h c).2⟩) (Cert.ProjIdeal.Value.run_blocks m g),
    (θ_run Cert.ProjReferenceIdeal.defs _ _).mono (fun _ h c =>
      have e0 := (hm c).1
      have e1 := (hm c).2
      ⟨(h c).1.trans ((Cert.ProjReferenceIdeal.Read.val_main_v8_eq _ _).trans (by rw [e0, e1]; exact Cert.ProjReferenceIdeal.Product.result _ _)), (h c).2⟩)
      (Cert.ProjReferenceIdeal.Value.run (F := Ideal) m' g')⟩

/-! ## Its gradient by the input -/

theorem frame_ProjX : Cert.quiescent_ProjX := fun m g _ => Cert.ProjX.Gen.frame m g

theorem frame_ProjXIdeal : Cert.quiescent_ProjXIdeal := fun m g _ => Cert.ProjXIdeal.Gen.frame m g

theorem frame_ProjXReferenceIdeal : Cert.quiescent_ProjXReferenceIdeal := fun m g _ =>
  (θ_run Cert.ProjXReferenceIdeal.defs _ _).mono (fun r h => ⟨fun c => (h c).2, sem_eq_zero_of_no_sems (by decide) r.2⟩) (Cert.ProjXReferenceIdeal.Value.run (F := Ideal) m g)

theorem agree_ProjX : Cert.algebraic_ProjXIdeal_ProjXReferenceIdeal := fun m g m' g' _ hm =>
  ⟨fun c => Cert.ProjXIdeal.Product.entries (Cert.ProjXIdeal.Product.layA (Cert.ProjXIdeal.Product.argA m c)) (Cert.ProjXIdeal.Product.layB (Cert.ProjXIdeal.Product.argB m c)),
    (θ_run Cert.ProjXIdeal.defs _ _).mono (fun _ h c => ⟨(h c).1.trans (Cert.ProjXIdeal.Product.array_2 m c), (h c).2⟩) (Cert.ProjXIdeal.Value.run_blocks m g),
    (θ_run Cert.ProjXReferenceIdeal.defs _ _).mono (fun _ h c =>
      have e0 := (hm c).1
      have e1 := (hm c).2
      ⟨(h c).1.trans ((Cert.ProjXReferenceIdeal.Read.val_main_v3_eq _ _).trans (by rw [e0, e1]; exact Cert.ProjXReferenceIdeal.Product.result _ _)), (h c).2⟩)
      (Cert.ProjXReferenceIdeal.Value.run (F := Ideal) m' g')⟩

/-! ## Its gradient by the weights -/

theorem frame_ProjW : Cert.quiescent_ProjW := fun m g _ => Cert.ProjW.Gen.frame m g

theorem frame_ProjWIdeal : Cert.quiescent_ProjWIdeal := fun m g _ => Cert.ProjWIdeal.Gen.frame m g

theorem frame_ProjWReferenceIdeal : Cert.quiescent_ProjWReferenceIdeal := fun m g _ =>
  (θ_run Cert.ProjWReferenceIdeal.defs _ _).mono (fun r h => ⟨fun c => (h c).2, sem_eq_zero_of_no_sems (by decide) r.2⟩) (Cert.ProjWReferenceIdeal.Value.run (F := Ideal) m g)

theorem agree_ProjW : Cert.algebraic_ProjWIdeal_ProjWReferenceIdeal := fun m g m' g' _ hm =>
  ⟨fun c => Cert.ProjWIdeal.Product.entries (Cert.ProjWIdeal.Product.layA (Cert.ProjWIdeal.Product.argA m c)) (Cert.ProjWIdeal.Product.argB m c),
    (θ_run Cert.ProjWIdeal.defs _ _).mono (fun _ h c => ⟨(h c).1.trans (Cert.ProjWIdeal.Product.array_2 m c), (h c).2⟩) (Cert.ProjWIdeal.Value.run_blocks m g),
    (θ_run Cert.ProjWReferenceIdeal.defs _ _).mono (fun _ h c =>
      have e0 := (hm c).1
      have e1 := (hm c).2
      ⟨(h c).1.trans ((Cert.ProjWReferenceIdeal.Read.val_main_v12_eq _ _).trans (by rw [e0, e1]; exact Cert.ProjWReferenceIdeal.Product.result _ _)), (h c).2⟩)
      (Cert.ProjWReferenceIdeal.Value.run (F := Ideal) m' g')⟩

end Cert.Products

end
-- ==== Proof.lean ====
module

public import proofs.«01_k».proof.Proof.Gen.ReferenceIdeal.Run
public import proofs.«01_k».proof.Proof.Gen.ReferenceIdeal.Read
public import proofs.«01_k».proof.Defs
public import proofs.«01_k».proof.Proof.Gen.FwdIdeal
public import proofs.«01_k».proof.Proof.Gen.FwdIdeal.Skeleton
public import proofs.«01_k».proof.Proof.Gen.FwdIdeal.Loops
public import proofs.«01_k».proof.Proof.Gen.FwdIdeal.Launch
public import proofs.«01_k».proof.Proof.Gen.FwdIdeal.Points
public import proofs.«01_k».proof.Proof.Gen.FwdIdeal.Frame
public import proofs.«01_k».proof.Proof.Gen.Fwd
public import proofs.«01_k».proof.Proof.Gen.Fwd.Skeleton
public import proofs.«01_k».proof.Proof.Gen.Fwd.Loops
public import proofs.«01_k».proof.Proof.Gen.Fwd.Launch
public import proofs.«01_k».proof.Proof.Gen.Fwd.Points
public import proofs.«01_k».proof.Proof.Gen.Fwd.Frame
public import proofs.«01_k».proof.Proof.Gen.FwdReferenceIdeal
public import proofs.«01_k».proof.Proof.Gen.FwdReferenceIdeal.Run
public import proofs.«01_k».proof.Proof.Gen.FwdReferenceIdeal.Read
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnReferenceIdeal
public import proofs.«01_k».proof.Proof.Gen.FfnReferenceIdeal.Run
public import proofs.«01_k».proof.Proof.Gen.FfnReferenceIdeal.Read
public import proofs.«01_k».proof.Proof.Gen.PairIdeal
public import proofs.«01_k».proof.Proof.Gen.PairIdeal.Skeleton
public import proofs.«01_k».proof.Proof.Gen.PairIdeal.Launch
public import proofs.«01_k».proof.Proof.Gen.PairIdeal.Points
public import proofs.«01_k».proof.Proof.Gen.PairIdeal.Frame
public import proofs.«01_k».proof.Proof.Gen.PairIdeal.Value
public import proofs.«01_k».proof.Proof.Gen.Pair
public import proofs.«01_k».proof.Proof.Gen.Pair.Skeleton
public import proofs.«01_k».proof.Proof.Gen.Pair.Launch
public import proofs.«01_k».proof.Proof.Gen.Pair.Points
public import proofs.«01_k».proof.Proof.Gen.Pair.Frame
public import proofs.«01_k».proof.Proof.Gen.PairReferenceIdeal
public import proofs.«01_k».proof.Proof.Gen.PairReferenceIdeal.Run
public import proofs.«01_k».proof.Proof.Gen.PairReferenceIdeal.Read
public import proofs.«01_k».proof.Proof.Gen.InIdeal
public import proofs.«01_k».proof.Proof.Gen.InIdeal.Skeleton
public import proofs.«01_k».proof.Proof.Gen.InIdeal.Launch
public import proofs.«01_k».proof.Proof.Gen.InIdeal.Points
public import proofs.«01_k».proof.Proof.Gen.InIdeal.Frame
public import proofs.«01_k».proof.Proof.Gen.InIdeal.Value
public import proofs.«01_k».proof.Proof.Gen.In
public import proofs.«01_k».proof.Proof.Gen.In.Skeleton
public import proofs.«01_k».proof.Proof.Gen.In.Launch
public import proofs.«01_k».proof.Proof.Gen.In.Points
public import proofs.«01_k».proof.Proof.Gen.In.Frame
public import proofs.«01_k».proof.Proof.Gen.InReferenceIdeal
public import proofs.«01_k».proof.Proof.Gen.InReferenceIdeal.Run
public import proofs.«01_k».proof.Proof.Gen.InReferenceIdeal.Read
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Compiled
public import proofs.«01_k».proof.Proof.Values
public import proofs.«01_k».proof.Proof.Arrays
public import proofs.«01_k».proof.Proof.Agree
public import proofs.«01_k».proof.Proof.Gen.Down.Frame
public import proofs.«01_k».proof.Proof.Gen.Down
public import proofs.«01_k».proof.Proof.Gen.DownIdeal.Frame
public import proofs.«01_k».proof.Proof.Gen.DownIdeal.Value
public import proofs.«01_k».proof.Proof.Gen.DownIdeal
public import proofs.«01_k».proof.Proof.Gen.DownReferenceIdeal.Run
public import proofs.«01_k».proof.Proof.Gen.DownReferenceIdeal.Read
public import proofs.«01_k».proof.Proof.Gen.DownReferenceIdeal
public import proofs.«01_k».proof.Proof.Gen.DownW.Frame
public import proofs.«01_k».proof.Proof.Gen.DownW
public import proofs.«01_k».proof.Proof.Gen.DownWIdeal.Frame
public import proofs.«01_k».proof.Proof.Gen.DownWIdeal.Value
public import proofs.«01_k».proof.Proof.Gen.DownWIdeal
public import proofs.«01_k».proof.Proof.Gen.DownWReferenceIdeal.Run
public import proofs.«01_k».proof.Proof.Gen.DownWReferenceIdeal.Read
public import proofs.«01_k».proof.Proof.Gen.DownWReferenceIdeal
public import proofs.«01_k».proof.Proof.Gen.Out.Frame
public import proofs.«01_k».proof.Proof.Gen.Out
public import proofs.«01_k».proof.Proof.Gen.OutIdeal.Frame
public import proofs.«01_k».proof.Proof.Gen.OutIdeal.Value
public import proofs.«01_k».proof.Proof.Gen.OutIdeal
public import proofs.«01_k».proof.Proof.Gen.OutReferenceIdeal.Run
public import proofs.«01_k».proof.Proof.Gen.OutReferenceIdeal.Read
public import proofs.«01_k».proof.Proof.Gen.OutReferenceIdeal
public import proofs.«01_k».proof.Proof.Gen.OutX.Frame
public import proofs.«01_k».proof.Proof.Gen.OutX
public import proofs.«01_k».proof.Proof.Gen.OutXIdeal.Frame
public import proofs.«01_k».proof.Proof.Gen.OutXIdeal.Value
public import proofs.«01_k».proof.Proof.Gen.OutXIdeal
public import proofs.«01_k».proof.Proof.Gen.OutXReferenceIdeal.Run
public import proofs.«01_k».proof.Proof.Gen.OutXReferenceIdeal.Read
public import proofs.«01_k».proof.Proof.Gen.OutXReferenceIdeal
public import proofs.«01_k».proof.Proof.Gen.OutW.Frame
public import proofs.«01_k».proof.Proof.Gen.OutW
public import proofs.«01_k».proof.Proof.Gen.OutWIdeal.Frame
public import proofs.«01_k».proof.Proof.Gen.OutWIdeal.Value
public import proofs.«01_k».proof.Proof.Gen.OutWIdeal
public import proofs.«01_k».proof.Proof.Gen.OutWReferenceIdeal.Run
public import proofs.«01_k».proof.Proof.Gen.OutWReferenceIdeal.Read
public import proofs.«01_k».proof.Proof.Gen.OutWReferenceIdeal
public import proofs.«01_k».proof.Proof.Gen.Proj.Frame
public import proofs.«01_k».proof.Proof.Gen.Proj
public import proofs.«01_k».proof.Proof.Gen.ProjIdeal.Frame
public import proofs.«01_k».proof.Proof.Gen.ProjIdeal.Value
public import proofs.«01_k».proof.Proof.Gen.ProjIdeal
public import proofs.«01_k».proof.Proof.Gen.ProjReferenceIdeal.Run
public import proofs.«01_k».proof.Proof.Gen.ProjReferenceIdeal.Read
public import proofs.«01_k».proof.Proof.Gen.ProjReferenceIdeal
public import proofs.«01_k».proof.Proof.Gen.ProjX.Frame
public import proofs.«01_k».proof.Proof.Gen.ProjX
public import proofs.«01_k».proof.Proof.Gen.ProjXIdeal.Frame
public import proofs.«01_k».proof.Proof.Gen.ProjXIdeal.Value
public import proofs.«01_k».proof.Proof.Gen.ProjXIdeal
public import proofs.«01_k».proof.Proof.Gen.ProjXReferenceIdeal.Run
public import proofs.«01_k».proof.Proof.Gen.ProjXReferenceIdeal.Read
public import proofs.«01_k».proof.Proof.Gen.ProjXReferenceIdeal
public import proofs.«01_k».proof.Proof.Gen.ProjW.Frame
public import proofs.«01_k».proof.Proof.Gen.ProjW
public import proofs.«01_k».proof.Proof.Gen.ProjWIdeal.Frame
public import proofs.«01_k».proof.Proof.Gen.ProjWIdeal.Value
public import proofs.«01_k».proof.Proof.Gen.ProjWIdeal
public import proofs.«01_k».proof.Proof.Gen.ProjWReferenceIdeal.Run
public import proofs.«01_k».proof.Proof.Gen.ProjWReferenceIdeal.Read
public import proofs.«01_k».proof.Proof.Gen.ProjWReferenceIdeal
public import proofs.«01_k».proof.Proof.FeedForward
public import proofs.«01_k».proof.Proof.Forward
public import proofs.«01_k».proof.Proof.Products
public import Idealize.ShloMosaic.Adequacy
public import Idealize.ShloMosaic.Init
public import Idealize.ShloMosaic.Lib.Claim
public import Idealize.ShloMosaic.Lib.Quiescent

@[expose] public section

set_option maxRecDepth 16384

noncomputable section

namespace Cert.Proof

open Idealize.ShloMosaic Idealize.ShloMosaic.TcCoe Idealize.SL.Sem

/-- The reference ends, with its arguments unchanged and every semaphore at zero: it has no semaphore. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run Cert.ReferenceIdeal.defs _ _).mono (fun r h => ⟨fun c => (h c).2.2.2, sem_eq_zero_of_no_sems (by decide) r.2⟩) (Cert.ReferenceIdeal.Value.run (F := Ideal) m g)

/-- The real number an argument holds at a row, a head and a place. -/
def realAt {n : ℕ} (x : (Shape.mk 3 ![4096, 4, n]).Idx → EReal) (h : Fin 4) (r : Fin 4096) (y : Fin n) : ℝ := (x (ix3 r h y)).toReal

section Value

open Cert.KernelIdeal.Attn

variable (m : (ℓ : Loc Cert.KernelIdeal.nD Cert.KernelIdeal.τ Cert.KernelIdeal.sig) → Buf (Elt Ideal) ℓ) (c : Dev Cert.KernelIdeal.nD)

/-- The gradients of one device's queries, keys and values, of its arguments read as real numbers. -/
def resultQ : FVec Ideal Cert.KernelIdeal.S4096x1024 .f32 :=
  goalQ (realAt (argQ m c)) (realAt (argK m c)) (realAt (argV m c)) (realAt (argD m c))
def resultK : FVec Ideal Cert.KernelIdeal.S4096x1024 .f32 :=
  goalK (realAt (argQ m c)) (realAt (argK m c)) (realAt (argV m c)) (realAt (argD m c))
def resultV : FVec Ideal Cert.KernelIdeal.S4096x512 .f32 :=
  goalV (realAt (argQ m c)) (realAt (argK m c)) (realAt (argD m c))

/-- Under the precondition a device's arguments are real. -/
theorem reals (h : Cert.Pre_KernelIdeal_finite m) : Reals m c (realAt (argQ m c)) (realAt (argK m c)) (realAt (argV m c)) (realAt (argD m c)) :=
  have e := Cert.Attn.finite_real (argQ m c) (argK m c) (argV m c) (argD m c) (h c)
  ⟨fun _ _ _ => e.1 _, fun _ _ _ => e.2.1 _, fun _ _ _ => e.2.2.1 _, fun _ _ _ => e.2.2.2 _⟩

/-- The call's three results are the gradients. -/
theorem kernel_value (h : Cert.Pre_KernelIdeal_finite m) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v55_0) = resultQ m c
      ∧ r.2.mem ((c.tc : Thread Cert.KernelIdeal.nD Cert.KernelIdeal.τ).loc Cert.KernelIdeal.main_v55_1) = resultK m c
      ∧ r.2.mem ((c.tc : Thread Cert.KernelIdeal.nD Cert.KernelIdeal.τ).loc Cert.KernelIdeal.main_v55_2) = resultV m c) :=
  (θ_run Cert.KernelIdeal.defs _ _).mono (fun _ hr c =>
    ⟨((hr.1 c).1 6).trans (array_q (reals m c h)), ((hr.1 c).1 7).trans (array_k (reals m c h)), ((hr.1 c).1 8).trans (array_v (reals m c h))⟩)
    (launch m g)

/-- The reference's three results, of arguments equal to the kernel's, are the gradients. -/
theorem reference_value (m' : (ℓ : Loc Cert.ReferenceIdeal.nD Cert.ReferenceIdeal.τ Cert.ReferenceIdeal.sig) → Buf (Elt Ideal) ℓ)
    (h : Cert.Pre_KernelIdeal_finite m)
    (h0 : m' ((c.tc : Thread Cert.ReferenceIdeal.nD Cert.ReferenceIdeal.τ).loc Cert.ReferenceIdeal.main_arg0) = argQ m c)
    (h1 : m' ((c.tc : Thread Cert.ReferenceIdeal.nD Cert.ReferenceIdeal.τ).loc Cert.ReferenceIdeal.main_arg1) = argK m c)
    (h2 : m' ((c.tc : Thread Cert.ReferenceIdeal.nD Cert.ReferenceIdeal.τ).loc Cert.ReferenceIdeal.main_arg2) = argV m c)
    (h3 : m' ((c.tc : Thread Cert.ReferenceIdeal.nD Cert.ReferenceIdeal.τ).loc Cert.ReferenceIdeal.main_arg3) = argD m c) :
    Cert.ReferenceIdeal.Value.res_main_v66 m' c = resultQ m c ∧ Cert.ReferenceIdeal.Value.res_main_v68 m' c = resultK m c
      ∧ Cert.ReferenceIdeal.Value.res_main_v69 m' c = resultV m c := by
  have R := reals m c h
  refine ⟨(Cert.ReferenceIdeal.Read.val_main_v66_eq m' c).trans ?_, (Cert.ReferenceIdeal.Read.val_main_v68_eq m' c).trans ?_,
    (Cert.ReferenceIdeal.Read.val_main_v69_eq m' c).trans ?_⟩
  · rw [h0, h1, h2, h3]
    exact Cert.Attn.result_q R.q R.k R.v R.d
  · rw [h0, h1, h2, h3]
    exact Cert.Attn.result_k R.q R.k R.v R.d
  · rw [h0, h1, h3]
    exact Cert.Attn.result_v R.q R.k R.d

end Value

/-- The attention call's three arrays are the reference's. -/
theorem agree_attention : Cert.algebraic_KernelIdeal_ReferenceIdeal_pre_finite := fun m g m' g' h hm => ⟨resultQ m, resultK m, resultV m,
  (θ_run Cert.KernelIdeal.defs _ _).mono (fun _ hr c => ⟨(hr.1 c).1, (hr.1 c).2.1, (hr.1 c).2.2, hr.2.1 c⟩)
    (θ_run_and (kernel_value m h g) (Cert.KernelIdeal.Attn.frame m g)),
  (θ_run Cert.ReferenceIdeal.defs _ _).mono (fun _ hr c =>
    have e := reference_value m c m' h (hm c).1 (hm c).2.1 (hm c).2.2.1 (hm c).2.2.2
    ⟨(hr c).1.trans e.1, (hr c).2.1.trans e.2.1, (hr c).2.2.1.trans e.2.2, (hr c).2.2.2⟩)
    (Cert.ReferenceIdeal.Value.run (F := Ideal) m' g')⟩

open Cert.FeedForward Cert.Products in
theorem claim : Cert.Claim := ⟨Cert.Kernel.Gen.facts, Cert.KernelIdeal.Gen.facts, Cert.ReferenceIdeal.Gen.facts,
  Cert.Ffn.Gen.facts, Cert.FfnIdeal.Gen.facts, Cert.FfnReferenceIdeal.Gen.facts,
  Cert.Pair.Gen.facts, Cert.PairIdeal.Gen.facts, Cert.PairReferenceIdeal.Gen.facts,
  Cert.In.Gen.facts, Cert.InIdeal.Gen.facts, Cert.InReferenceIdeal.Gen.facts,
  Cert.Down.Gen.facts, Cert.DownIdeal.Gen.facts, Cert.DownReferenceIdeal.Gen.facts,
  Cert.DownW.Gen.facts, Cert.DownWIdeal.Gen.facts, Cert.DownWReferenceIdeal.Gen.facts,
  Cert.Out.Gen.facts, Cert.OutIdeal.Gen.facts, Cert.OutReferenceIdeal.Gen.facts,
  Cert.OutX.Gen.facts, Cert.OutXIdeal.Gen.facts, Cert.OutXReferenceIdeal.Gen.facts,
  Cert.OutW.Gen.facts, Cert.OutWIdeal.Gen.facts, Cert.OutWReferenceIdeal.Gen.facts,
  Cert.Proj.Gen.facts, Cert.ProjIdeal.Gen.facts, Cert.ProjReferenceIdeal.Gen.facts,
  Cert.ProjX.Gen.facts, Cert.ProjXIdeal.Gen.facts, Cert.ProjXReferenceIdeal.Gen.facts,
  Cert.ProjW.Gen.facts, Cert.ProjWIdeal.Gen.facts, Cert.ProjWReferenceIdeal.Gen.facts,
  Cert.Fwd.Gen.facts, Cert.FwdIdeal.Gen.facts, Cert.FwdReferenceIdeal.Gen.facts,
  Cert.Attn.facts_finite, facts_finite_ffn, facts_finite_in, Cert.Forward.facts_finite_fwd,
  fun m g _ => Cert.Kernel.Attn.frame m g,
  fun m g _ => Cert.KernelIdeal.Attn.frame m g,
  fun m g _ => Cert.KernelIdeal.Attn.frame m g,
  fun m g _ => reference_frame m g,
  fun m g _ => reference_frame m g,
  frame_Ffn,
  fun m g _ => Cert.FfnIdeal.Hidden.frame m g,
  fun m g _ => Cert.FfnIdeal.Hidden.frame m g,
  fun m g _ => frame_FfnReferenceIdeal m g,
  fun m g _ => frame_FfnReferenceIdeal m g,
  frame_Pair,
  fun m g _ => Cert.PairIdeal.Gen.frame m g,
  fun m g _ => frame_PairReferenceIdeal m g,
  frame_In,
  fun m g _ => Cert.InIdeal.Gen.frame m g,
  fun m g _ => Cert.InIdeal.Gen.frame m g,
  fun m g _ => frame_InReferenceIdeal m g,
  fun m g _ => frame_InReferenceIdeal m g,
  frame_Down, frame_DownIdeal, frame_DownReferenceIdeal,
  frame_DownW, frame_DownWIdeal, frame_DownWReferenceIdeal,
  frame_Out, frame_OutIdeal, frame_OutReferenceIdeal,
  frame_OutX, frame_OutXIdeal, frame_OutXReferenceIdeal,
  frame_OutW, frame_OutWIdeal, frame_OutWReferenceIdeal,
  frame_Proj, frame_ProjIdeal, frame_ProjReferenceIdeal,
  frame_ProjX, frame_ProjXIdeal, frame_ProjXReferenceIdeal,
  frame_ProjW, frame_ProjWIdeal, frame_ProjWReferenceIdeal,
  fun m g _ => Cert.Fwd.Gen.frame m g,
  fun m g _ => Cert.FwdIdeal.Gen.frame m g,
  fun m g _ => Cert.FwdIdeal.Gen.frame m g,
  fun m g _ => Cert.Forward.frame_FwdReferenceIdeal m g,
  fun m g _ => Cert.Forward.frame_FwdReferenceIdeal m g,
  ⟨IdealRules.named_const.statement _ "ln2" .f32 _ _ rfl, IdealRules.named_const.statement _ "qscale" .f32 _ _ rfl⟩,
  agree_attention,
  trivial, agree_Ffn,
  trivial, agree_Pair,
  trivial, agree_In,
  trivial, agree_Down,
  trivial, agree_DownW,
  trivial, agree_Out,
  trivial, agree_OutX,
  trivial, agree_OutW,
  trivial, agree_Proj,
  trivial, agree_ProjX,
  trivial, agree_ProjW,
  ⟨IdealRules.named_const.statement _ "mask" .f32 _ _ rfl, IdealRules.named_const.statement _ "invln2" .f32 _ _ rfl⟩,
  Cert.Forward.agree_Fwd⟩

end Cert.Proof

end
